-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v10)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v10) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v5) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v1) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v1_0)) (v1 : (c : Dev Cert.KvIdeal.nD) → Buf (Elt Ideal) ((c.tc : Thread Cert.KvIdeal.nD Cert.KvIdeal.τ).loc Cert.KvIdeal.main_v1_1)) (v2 : (c : Dev Cert.KvIdeal.nD) → Buf (Elt Ideal) ((c.tc : Thread Cert.KvIdeal.nD Cert.KvIdeal.τ).loc Cert.KvIdeal.main_v1_2)) (v3 : (c : Dev Cert.KvIdeal.nD) → Buf (Elt Ideal) ((c.tc : Thread Cert.KvIdeal.nD Cert.KvIdeal.τ).loc Cert.KvIdeal.main_v1_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1_0) = v0 c
          ∧ r.2.mem ((c.tc : Thread Cert.KvIdeal.nD Cert.KvIdeal.τ).loc Cert.KvIdeal.main_v1_1) = v1 c
          ∧ r.2.mem ((c.tc : Thread Cert.KvIdeal.nD Cert.KvIdeal.τ).loc Cert.KvIdeal.main_v1_2) = v2 c
          ∧ r.2.mem ((c.tc : Thread Cert.KvIdeal.nD Cert.KvIdeal.τ).loc Cert.KvIdeal.main_v1_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1_0) = v0 c
          ∧ r.2.mem ((c.tc : Thread Cert.KvRefIdeal.nD Cert.KvRefIdeal.τ).loc Cert.KvRefIdeal.main_v1_1) = v1 c
          ∧ r.2.mem ((c.tc : Thread Cert.KvRefIdeal.nD Cert.KvRefIdeal.τ).loc Cert.KvRefIdeal.main_v1_2) = v2 c
          ∧ r.2.mem ((c.tc : Thread Cert.KvRefIdeal.nD Cert.KvRefIdeal.τ).loc Cert.KvRefIdeal.main_v1_3) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def Claim : Prop :=
  ∃ (hHead : Cert.Head.Facts) (hHeadIdeal : Cert.HeadIdeal.Facts) (hHeadRefIdeal : Cert.HeadRefIdeal.Facts) (hMlp : Cert.Mlp.Facts) (hMlpIdeal : Cert.MlpIdeal.Facts) (hMlpRefIdeal : Cert.MlpRefIdeal.Facts) (hKv : Cert.Kv.Facts) (hKvIdeal : Cert.KvIdeal.Facts) (hKvRefIdeal : Cert.KvRefIdeal.Facts),
    quiescent_Head (hHead := hHead)
    ∧ quiescent_HeadIdeal (hHeadIdeal := hHeadIdeal)
    ∧ quiescent_HeadRefIdeal (hHeadRefIdeal := hHeadRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Kv (hKv := hKv)
    ∧ quiescent_KvIdeal (hKvIdeal := hKvIdeal)
    ∧ quiescent_KvRefIdeal (hKvRefIdeal := hKvRefIdeal)
    ∧ preserves_Head_HeadIdeal
    ∧ algebraic_HeadIdeal_HeadRefIdeal (hHeadIdeal := hHeadIdeal) (hHeadRefIdeal := hHeadRefIdeal)
    ∧ preserves_Mlp_MlpIdeal
    ∧ algebraic_MlpIdeal_MlpRefIdeal (hMlpIdeal := hMlpIdeal) (hMlpRefIdeal := hMlpRefIdeal)
    ∧ preserves_Kv_KvIdeal
    ∧ algebraic_KvIdeal_KvRefIdeal (hKvIdeal := hKvIdeal) (hKvRefIdeal := hKvRefIdeal)
-- ==== Head.lean ====
abbrev S2x5x1x1280 : Shape := ⟨4, ![2, 5, 1, 1280]⟩
abbrev S1280 : Shape := ⟨1, ![1280]⟩
abbrev S51866x1280 : Shape := ⟨2, ![51866, 1280]⟩
abbrev S51866 : Shape := ⟨1, ![51866]⟩
abbrev S10x1280 : Shape := ⟨2, ![10, 1280]⟩
abbrev S1x1280 : Shape := ⟨2, ![1, 1280]⟩
abbrev S26x1280 : Shape := ⟨2, ![26, 1280]⟩
abbrev S_ : Shape := ⟨0, ![]⟩
abbrev S32x1280 : Shape := ⟨2, ![32, 1280]⟩
abbrev S52480 : Shape := ⟨1, ![52480]⟩
abbrev S1x52480 : Shape := ⟨2, ![1, 52480]⟩
abbrev S10x52480 : Shape := ⟨2, ![10, 52480]⟩
abbrev S22x1280x1280 : Shape := ⟨3, ![22, 1280, 1280]⟩
abbrev S16x1280 : Shape := ⟨2, ![16, 1280]⟩
abbrev S22 : Shape := ⟨1, ![22]⟩
abbrev S1 : Shape := ⟨1, ![1]⟩
abbrev S1x1280x1280 : Shape := ⟨3, ![1, 1280, 1280]⟩
abbrev S1280x1280 : Shape := ⟨2, ![1280, 1280]⟩
abbrev S16 : Shape := ⟨1, ![16]⟩
abbrev S16x1 : Shape := ⟨2, ![16, 1]⟩
abbrev S1x640x1280 : Shape := ⟨3, ![1, 640, 1280]⟩
abbrev S640x1280 : Shape := ⟨2, ![640, 1280]⟩
abbrev S1x32x1280 : Shape := ⟨3, ![1, 32, 1280]⟩
abbrev S10x128 : Shape := ⟨2, ![10, 128]⟩
abbrev S10x51866 : Shape := ⟨2, ![10, 51866]⟩

abbrev nBuf : Space → Nat
  | .hbm => 23
  | .vmem => 9
  | .smem => 0
  | _ => 0

abbrev bufTy : (tb : Table) → Fin (tcTables nBuf tb) → BufTy
  | .hbm, ⟨0, _⟩ => ⟨S2x5x1x1280, .f32⟩
  | .hbm, ⟨1, _⟩ => ⟨S1280, .f32⟩
  | .hbm, ⟨2, _⟩ => ⟨S1280, .f32⟩
  | .hbm, ⟨3, _⟩ => ⟨S51866x1280, .i8⟩
  | .hbm, ⟨4, _⟩ => ⟨S51866, .f32⟩
  | .hbm, ⟨5, _⟩ => ⟨S51866, .f32⟩
  | .hbm, ⟨6, _⟩ => ⟨S10x1280, .f32⟩
  | .hbm, ⟨7, _⟩ => ⟨S1x1280, .f32⟩
  | .hbm, ⟨8, _⟩ => ⟨S1x1280, .f32⟩
  | .hbm, ⟨9, _⟩ => ⟨S26x1280, .i8⟩
  | .hbm, ⟨10, _⟩ => ⟨S_, .i32⟩
  | .hbm, ⟨11, _⟩ => ⟨S_, .i8⟩
  | .hbm, ⟨12, _⟩ => ⟨S32x1280, .i8⟩
  | .hbm, ⟨13, _⟩ => ⟨S_, .i32⟩
  | .hbm, ⟨14, _⟩ => ⟨S_, .f32⟩
  | .hbm, ⟨15, _⟩ => ⟨S52480, .f32⟩
  | .hbm, ⟨16, _⟩ => ⟨S1x52480, .f32⟩
  | .hbm, ⟨17, _⟩ => ⟨S_, .i32⟩
  | .hbm, ⟨18, _⟩ => ⟨S_, .f32⟩
  | .hbm, ⟨19, _⟩ => ⟨S52480, .f32⟩
  | .hbm, ⟨20, _⟩ => ⟨S1x52480, .f32⟩
  | .hbm, ⟨21, _⟩ => ⟨S10x52480, .f32⟩
  | .hbm, ⟨22, _⟩ => ⟨S10x51866, .f32⟩
  | .local _ .vmem, ⟨0, _⟩ => ⟨S10x1280, .f32⟩
  | .local _ .vmem, ⟨1, _⟩ => ⟨S1x1280, .f32⟩
  | .local _ .vmem, ⟨2, _⟩ => ⟨S1x1280, .f32⟩
  | .local _ .vmem, ⟨3, _⟩ => ⟨S32x1280, .i8⟩
  | .local _ .vmem, ⟨4, _⟩ => ⟨S1x52480, .f32⟩
  | .local _ .vmem, ⟨5, _⟩ => ⟨S1x52480, .f32⟩
  | .local _ .vmem, ⟨6, _⟩ => ⟨S10x52480, .f32⟩
  | .local _ .vmem, ⟨7, _⟩ => ⟨S22x1280x1280, .i8⟩
  | .local _ .vmem, ⟨8, _⟩ => ⟨S16x1280, .f32⟩
  | _, _ => ⟨S2x5x1x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_105 : BitVec 32 := 0#32
  let c41_i32 : BitVec 32 := 41#32
  let v145 : BitVec 32 := Scalar.addi c0_i32_105 c41_i32
  let c1_i32_106 : BitVec 32 := 1#32
  ⟨c0_i32_105, v145, c1_i32_106⟩
def k0_cond1 (k0_t1 : Fin k0_t1_loop.trips) : BitVec 1 :=
  let c0_i32_105 : BitVec 32 := 0#32
  let c1_i32_106 : BitVec 32 := 1#32
  let arg12 : BitVec 32 := Scf.iv c0_i32_105 c1_i32_106 k0_t1
  let c40_i32 : BitVec 32 := 40#32
  let v156 : BitVec 1 := Scalar.cmpi .slt arg12 c40_i32
  let v157 : BitVec 32 := Scalar.extui v156
  let c0_i32_113 : BitVec 32 := 0#32
  let v158 : BitVec 1 := Scalar.cmpi .ne v157 c0_i32_113
  v158

def k0_off1 (k0_t1 : Fin k0_t1_loop.trips) : Fin 1 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  ![v155.toNat]
def k0_off2 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  let c0_i32_129 : BitVec 32 := 0#32
  let c0_i32_130 : BitVec 32 := 0#32
  ![v155.toNat, 0, 0]
def k0_cond2 (k0_t1 : Fin k0_t1_loop.trips) : BitVec 1 :=
  let c0_i32_105 : BitVec 32 := 0#32
  let c1_i32_106 : BitVec 32 := 1#32
  let arg12 : BitVec 32 := Scf.iv c0_i32_105 c1_i32_106 k0_t1
  let c40_i32_114 : BitVec 32 := 40#32
  let v159 : BitVec 1 := Scalar.cmpi .eq arg12 c40_i32_114
  let v160 : BitVec 32 := Scalar.extui v159
  let c0_i32_115 : BitVec 32 := 0#32
  let v161 : BitVec 1 := Scalar.cmpi .ne v160 c0_i32_115
  v161

def k0_off3 (k0_t1 : Fin k0_t1_loop.trips) : Fin 1 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  ![v155.toNat]
def k0_off4 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  let c0_i32_129 : BitVec 32 := 0#32
  let c0_i32_130 : BitVec 32 := 0#32
  ![v155.toNat, 0, 0]
def k0_off5 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  let v197 : Index := Scalar.indexCast v155
  let c640 : Index := 640#32
  let c0_134 : Index := 0#32
  ![v197.toNat, 640, 0]
def k0_mult1 (k0_t1 : Fin k0_t1_loop.trips) : BitVec 32 :=
  let c0_i32_105 : BitVec 32 := 0#32
  let c1_i32_106 : BitVec 32 := 1#32
  let arg12 : BitVec 32 := Scf.iv c0_i32_105 c1_i32_106 k0_t1
  let c1280_i32_116 : BitVec 32 := 1280#32
  let v162 : BitVec 32 := Scalar.muli arg12 c1280_i32_116
  v162
def k0_off6 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  let v164 : Index := Scalar.indexCast v155
  let c0_117 : Index := 0#32
  let c0_118 : Index := 0#32
  ![v164.toNat, 0, 0]
def k0_off7 (k0_t1 : Fin k0_t1_loop.trips) : Fin 2 → Nat :=
  let c0_120 : Index := 0#32
  let c0_i32_105 : BitVec 32 := 0#32
  let c1_i32_106 : BitVec 32 := 1#32
  let arg12 : BitVec 32 := Scf.iv c0_i32_105 c1_i32_106 k0_t1
  let c1280_i32_116 : BitVec 32 := 1280#32
  let v162 : BitVec 32 := Scalar.muli arg12 c1280_i32_116
  let v163 : BitVec 32 := v162
  let v169 : Index := Scalar.indexCast v163
  ![0, v169.toNat]
def k0_off8 (k0_t1 : Fin k0_t1_loop.trips) : Fin 2 → Nat :=
  let c0_122 : Index := 0#32
  let c0_i32_105 : BitVec 32 := 0#32
  let c1_i32_106 : BitVec 32 := 1#32
  let arg12 : BitVec 32 := Scf.iv c0_i32_105 c1_i32_106 k0_t1
  let c1280_i32_116 : BitVec 32 := 1280#32
  let v162 : BitVec 32 := Scalar.muli arg12 c1280_i32_116
  let v163 : BitVec 32 := v162
  let v180 : Index := Scalar.indexCast v163
  ![0, v180.toNat]
def k0_cond3 (k0_t1 : Fin k0_t1_loop.trips) : BitVec 1 :=
  let c0_i32_105 : BitVec 32 := 0#32
  let c1_i32_106 : BitVec 32 := 1#32
  let arg12 : BitVec 32 := Scf.iv c0_i32_105 c1_i32_106 k0_t1
  let c22_i32_123 : BitVec 32 := 22#32
  let v182 : BitVec 32 := Scalar.addi arg12 c22_i32_123
  let c40_i32_124 : BitVec 32 := 40#32
  let v183 : BitVec 1 := Scalar.cmpi .slt v182 c40_i32_124
  let v184 : BitVec 32 := Scalar.extui v183
  let c0_i32_125 : BitVec 32 := 0#32
  let v185 : BitVec 1 := Scalar.cmpi .ne v184 c0_i32_125
  v185

def k0_off9 (k0_t1 : Fin k0_t1_loop.trips) : Fin 1 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  ![v155.toNat]
def k0_off10 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  let c0_i32_131 : BitVec 32 := 0#32
  let c0_i32_132 : BitVec 32 := 0#32
  ![v155.toNat, 0, 0]
def k0_off11 (k0_t1 : Fin k0_t1_loop.trips) : Fin 2 → Nat :=
  let c0_i32_105 : BitVec 32 := 0#32
  let c1_i32_106 : BitVec 32 := 1#32
  let arg12 : BitVec 32 := Scf.iv c0_i32_105 c1_i32_106 k0_t1
  let c22_i32_129 : BitVec 32 := 22#32
  let v190 : BitVec 32 := Scalar.addi arg12 c22_i32_129
  let c1280_i32_130 : BitVec 32 := 1280#32
  let v191 : BitVec 32 := Scalar.muli v190 c1280_i32_130
  let c0_i32_133 : BitVec 32 := 0#32
  ![v191.toNat, 0]
def k0_cond4 (k0_t1 : Fin k0_t1_loop.trips) : BitVec 1 :=
  let c0_i32_105 : BitVec 32 := 0#32
  let c1_i32_106 : BitVec 32 := 1#32
  let arg12 : BitVec 32 := Scf.iv c0_i32_105 c1_i32_106 k0_t1
  let c22_i32_126 : BitVec 32 := 22#32
  let v186 : BitVec 32 := Scalar.addi arg12 c22_i32_126
  let c40_i32_127 : BitVec 32 := 40#32
  let v187 : BitVec 1 := Scalar.cmpi .eq v186 c40_i32_127
  let v188 : BitVec 32 := Scalar.extui v187
  let c0_i32_128 : BitVec 32 := 0#32
  let v189 : BitVec 1 := Scalar.cmpi .ne v188 c0_i32_128
  v189

def k0_off12 (k0_t1 : Fin k0_t1_loop.trips) : Fin 1 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  ![v155.toNat]
def k0_off13 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let c14_i32_112 : BitVec 32 := 14#32
  let v154 : BitVec 32 := Scalar.addi arg12 c14_i32_112
  let c22_i32 : BitVec 32 := 22#32
  let v155 : BitVec 32 := Scalar.remsi v154 c22_i32
  let c0_i32_129 : BitVec 32 := 0#32
  let c0_i32_130 : BitVec 32 := 0#32
  ![v155.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x52480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x52480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x52480 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HeadRefIdeal.lean ====
abbrev S2x5x1x1280 : Shape := ⟨4, ![2, 5, 1, 1280]⟩
abbrev S1280 : Shape := ⟨1, ![1280]⟩
abbrev S51866x1280 : Shape := ⟨2, ![51866, 1280]⟩
abbrev S51866 : Shape := ⟨1, ![51866]⟩
abbrev S10x1280 : Shape := ⟨2, ![10, 1280]⟩
abbrev S1x1280 : Shape := ⟨2, ![1, 1280]⟩
abbrev S1x51866 : Shape := ⟨2, ![1, 51866]⟩
abbrev S10x51866 : Shape := ⟨2, ![10, 51866]⟩
abbrev S10 : Shape := ⟨1, ![10]⟩
abbrev S10x1 : Shape := ⟨2, ![10, 1]⟩

abbrev nBuf : Space → Nat
  | .hbm => 12
  | .vmem => 7
  | .smem => 0
  | _ => 0

abbrev bufTy : (tb : Table) → Fin (tcTables nBuf tb) → BufTy
  | .hbm, ⟨0, _⟩ => ⟨S2x5x1x1280, .f32⟩
  | .hbm, ⟨1, _⟩ => ⟨S1280, .f32⟩
  | .hbm, ⟨2, _⟩ => ⟨S1280, .f32⟩
  | .hbm, ⟨3, _⟩ => ⟨S51866x1280, .i8⟩
  | .hbm, ⟨4, _⟩ => ⟨S51866, .f32⟩
  | .hbm, ⟨5, _⟩ => ⟨S51866, .f32⟩
  | .hbm, ⟨6, _⟩ => ⟨S10x1280, .f32⟩
  | .hbm, ⟨7, _⟩ => ⟨S1x1280, .f32⟩
  | .hbm, ⟨8, _⟩ => ⟨S1x1280, .f32⟩
  | .hbm, ⟨9, _⟩ => ⟨S1x51866, .f32⟩
  | .hbm, ⟨10, _⟩ => ⟨S1x51866, .f32⟩
  | .hbm, ⟨11, _⟩ => ⟨S10x51866, .f32⟩
  | .local _ .vmem, ⟨0, _⟩ => ⟨S10x1280, .f32⟩
  | .local _ .vmem, ⟨1, _⟩ => ⟨S1x1280, .f32⟩
  | .local _ .vmem, ⟨2, _⟩ => ⟨S1x1280, .f32⟩
  | .local _ .vmem, ⟨3, _⟩ => ⟨S51866x1280, .i8⟩
  | .local _ .vmem, ⟨4, _⟩ => ⟨S1x51866, .f32⟩
  | .local _ .vmem, ⟨5, _⟩ => ⟨S1x51866, .f32⟩
  | .local _ .vmem, ⟨6, _⟩ => ⟨S10x51866, .f32⟩
  | _, _ => ⟨S2x5x1x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S10x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S51866x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x51866 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x51866 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x51866 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Mlp.lean ====
abbrev S4x2x5x1x1280 : Shape := ⟨5, ![4, 2, 5, 1, 1280]⟩
abbrev S4x1280 : Shape := ⟨2, ![4, 1280]⟩
abbrev S4x1280x5120 : Shape := ⟨3, ![4, 1280, 5120]⟩
abbrev S4x5120 : Shape := ⟨2, ![4, 5120]⟩
abbrev S4x5120x1280 : Shape := ⟨3, ![4, 5120, 1280]⟩
abbrev S4x10x1280 : Shape := ⟨3, ![4, 10, 1280]⟩
abbrev S22x1280x1280 : Shape := ⟨3, ![22, 1280, 1280]⟩
abbrev S16x1280 : Shape := ⟨2, ![16, 1280]⟩
abbrev S22 : Shape := ⟨1, ![22]⟩
abbrev S1 : Shape := ⟨1, ![1]⟩
abbrev S_ : Shape := ⟨0, ![]⟩
abbrev S1x1280x1280 : Shape := ⟨3, ![1, 1280, 1280]⟩
abbrev S1280x1280 : Shape := ⟨2, ![1280, 1280]⟩
abbrev S1x10x1280 : Shape := ⟨3, ![1, 10, 1280]⟩
abbrev S10x1280 : Shape := ⟨2, ![10, 1280]⟩
abbrev S1x1280 : Shape := ⟨2, ![1, 1280]⟩
abbrev S16 : Shape := ⟨1, ![16]⟩
abbrev S16x1 : Shape := ⟨2, ![16, 1]⟩
abbrev S1x5120 : Shape := ⟨2, ![1, 5120]⟩

abbrev nBuf : Space → Nat
  | .hbm => 11
  | .vmem => 10
  | .smem => 0
  | _ => 0

abbrev bufTy : (tb : Table) → Fin (tcTables nBuf tb) → BufTy
  | .hbm, ⟨0, _⟩ => ⟨S4x2x5x1x1280, .f32⟩
  | .hbm, ⟨1, _⟩ => ⟨S4x1280, .f32⟩
  | .hbm, ⟨2, _⟩ => ⟨S4x1280, .f32⟩
  | .hbm, ⟨3, _⟩ => ⟨S4x1280x5120, .i8⟩
  | .hbm, ⟨4, _⟩ => ⟨S4x5120, .f32⟩
  | .hbm, ⟨5, _⟩ => ⟨S4x5120, .f32⟩
  | .hbm, ⟨6, _⟩ => ⟨S4x5120x1280, .i8⟩
  | .hbm, ⟨7, _⟩ => ⟨S4x1280, .f32⟩
  | .hbm, ⟨8, _⟩ => ⟨S4x1280, .f32⟩
  | .hbm, ⟨9, _⟩ => ⟨S4x10x1280, .f32⟩
  | .hbm, ⟨10, _⟩ => ⟨S4x10x1280, .f32⟩
  | .local _ .vmem, ⟨0, _⟩ => ⟨S4x10x1280, .f32⟩
  | .local _ .vmem, ⟨1, _⟩ => ⟨S4x1280, .f32⟩
  | .local _ .vmem, ⟨2, _⟩ => ⟨S4x1280, .f32⟩
  | .local _ .vmem, ⟨3, _⟩ => ⟨S4x5120, .f32⟩
  | .local _ .vmem, ⟨4, _⟩ => ⟨S4x5120, .f32⟩
  | .local _ .vmem, ⟨5, _⟩ => ⟨S4x1280, .f32⟩
  | .local _ .vmem, ⟨6, _⟩ => ⟨S4x1280, .f32⟩
  | .local _ .vmem, ⟨7, _⟩ => ⟨S4x10x1280, .f32⟩
  | .local _ .vmem, ⟨8, _⟩ => ⟨S22x1280x1280, .i8⟩
  | .local _ .vmem, ⟨9, _⟩ => ⟨S16x1280, .f32⟩
  | _, _ => ⟨S4x2x5x1x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_45 : BitVec 32 := 0#32
  let c4_i32 : BitVec 32 := 4#32
  let v52 : BitVec 32 := Scalar.addi c0_i32_45 c4_i32
  let c1_i32 : BitVec 32 := 1#32
  ⟨c0_i32_45, v52, c1_i32⟩
def k0_off1 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let v53 : Index := Scalar.indexCast arg14
  let c0_47 : Index := 0#32
  let c0_48 : Index := 0#32
  ![v53.toNat, 0, 0]
def k0_off2 (k0_t1 : Fin k0_t1_loop.trips) : Fin 2 → Nat :=
  let c0_i32_45 : BitVec 32 := 0#32
  let c1_i32 : BitVec 32 := 1#32
  let arg14 : BitVec 32 := Scf.iv c0_i32_45 c1_i32 k0_t1
  let v60 : Index := Scalar.indexCast arg14
  let c0_53 : Index := 0#32
  ![v60.toNat, 0]
def k0_off3 (k0_t1 : Fin k0_t1_loop.trips) : Fin 2 → Nat :=
  let c0_i32_45 : BitVec 32 := 0#32
  let c1_i32 : BitVec 32 := 1#32
  let arg14 : BitVec 32 := Scf.iv c0_i32_45 c1_i32 k0_t1
  let v133 : Index := Scalar.indexCast arg14
  let c0_116 : Index := 0#32
  ![v133.toNat, 0]
def k0_cond1 (k0_t1 : Fin k0_t1_loop.trips) : BitVec 1 :=
  let c0_i32_45 : BitVec 32 := 0#32
  let c1_i32 : BitVec 32 := 1#32
  let arg14 : BitVec 32 := Scf.iv c0_i32_45 c1_i32 k0_t1
  let c3_i32 : BitVec 32 := 3#32
  let v252 : BitVec 1 := Scalar.cmpi .slt arg14 c3_i32
  let v253 : BitVec 32 := Scalar.extui v252
  let c0_i32_163 : BitVec 32 := 0#32
  let v254 : BitVec 1 := Scalar.cmpi .ne v253 c0_i32_163
  v254

def k0_off4 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_164 : BitVec 32 := 1#32
  let v255 : BitVec 32 := Scalar.addi arg14 c1_i32_164
  let c0_i32_169 : BitVec 32 := 0#32
  let c0_i32_170 : BitVec 32 := 0#32
  ![v255.toNat, 0, 0]
def k0_off5 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_171 : BitVec 32 := 1#32
  let v262 : BitVec 32 := Scalar.addi arg14 c1_i32_171
  let c0_i32_176 : BitVec 32 := 0#32
  let c1280_i32_177 : BitVec 32 := 1280#32
  ![v262.toNat, 0, 1280]
def k0_off6 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_178 : BitVec 32 := 1#32
  let v269 : BitVec 32 := Scalar.addi arg14 c1_i32_178
  let c0_i32_183 : BitVec 32 := 0#32
  let c2560_i32_184 : BitVec 32 := 2560#32
  ![v269.toNat, 0, 2560]
def k0_off7 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_185 : BitVec 32 := 1#32
  let v276 : BitVec 32 := Scalar.addi arg14 c1_i32_185
  let c0_i32_190 : BitVec 32 := 0#32
  let c3840_i32_191 : BitVec 32 := 3840#32
  ![v276.toNat, 0, 3840]
def k0_off8 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_192 : BitVec 32 := 1#32
  let v283 : BitVec 32 := Scalar.addi arg14 c1_i32_192
  let c0_i32_197 : BitVec 32 := 0#32
  let c0_i32_198 : BitVec 32 := 0#32
  ![v283.toNat, 0, 0]
def k0_off9 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_199 : BitVec 32 := 1#32
  let v290 : BitVec 32 := Scalar.addi arg14 c1_i32_199
  let c1280_i32_204 : BitVec 32 := 1280#32
  let c0_i32_205 : BitVec 32 := 0#32
  ![v290.toNat, 1280, 0]
def k0_off10 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_206 : BitVec 32 := 1#32
  let v297 : BitVec 32 := Scalar.addi arg14 c1_i32_206
  let c2560_i32_211 : BitVec 32 := 2560#32
  let c0_i32_212 : BitVec 32 := 0#32
  ![v297.toNat, 2560, 0]
def k0_off11 (k0_t1 : Fin k0_t1_loop.trips) : Fin 3 → Nat :=
  let c0_i32_45 : BitVec 32 := 0#32
  let c1_i32 : BitVec 32 := 1#32
  let arg14 : BitVec 32 := Scf.iv c0_i32_45 c1_i32 k0_t1
  let c1_i32_213 : BitVec 32 := 1#32
  let v304 : BitVec 32 := Scalar.addi arg14 c1_i32_213
  let c3840_i32_218 : BitVec 32 := 3840#32
  let c0_i32_219 : BitVec 32 := 0#32
  ![v304.toNat, 3840, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x10x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x10x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpRefIdeal.lean ====
abbrev S4x2x5x1x1280 : Shape := ⟨5, ![4, 2, 5, 1, 1280]⟩
abbrev S4x1280 : Shape := ⟨2, ![4, 1280]⟩
abbrev S4x1280x5120 : Shape := ⟨3, ![4, 1280, 5120]⟩
abbrev S4x5120 : Shape := ⟨2, ![4, 5120]⟩
abbrev S4x5120x1280 : Shape := ⟨3, ![4, 5120, 1280]⟩
abbrev S4x10x1280 : Shape := ⟨3, ![4, 10, 1280]⟩
abbrev S1x10x1280 : Shape := ⟨3, ![1, 10, 1280]⟩
abbrev S10x1280 : Shape := ⟨2, ![10, 1280]⟩
abbrev S10 : Shape := ⟨1, ![10]⟩
abbrev S10x1 : Shape := ⟨2, ![10, 1]⟩
abbrev S1x1280 : Shape := ⟨2, ![1, 1280]⟩
abbrev S1280 : Shape := ⟨1, ![1280]⟩
abbrev S1x1280x5120 : Shape := ⟨3, ![1, 1280, 5120]⟩
abbrev S1280x5120 : Shape := ⟨2, ![1280, 5120]⟩
abbrev S10x5120 : Shape := ⟨2, ![10, 5120]⟩
abbrev S1x5120 : Shape := ⟨2, ![1, 5120]⟩
abbrev S5120 : Shape := ⟨1, ![5120]⟩
abbrev S1x5120x1280 : Shape := ⟨3, ![1, 5120, 1280]⟩
abbrev S5120x1280 : Shape := ⟨2, ![5120, 1280]⟩

abbrev nBuf : Space → Nat
  | .hbm => 11
  | .vmem => 10
  | .smem => 0
  | _ => 0

abbrev bufTy : (tb : Table) → Fin (tcTables nBuf tb) → BufTy
  | .hbm, ⟨0, _⟩ => ⟨S4x2x5x1x1280, .f32⟩
  | .hbm, ⟨1, _⟩ => ⟨S4x1280, .f32⟩
  | .hbm, ⟨2, _⟩ => ⟨S4x1280, .f32⟩
  | .hbm, ⟨3, _⟩ => ⟨S4x1280x5120, .i8⟩
  | .hbm, ⟨4, _⟩ => ⟨S4x5120, .f32⟩
  | .hbm, ⟨5, _⟩ => ⟨S4x5120, .f32⟩
  | .hbm, ⟨6, _⟩ => ⟨S4x5120x1280, .i8⟩
  | .hbm, ⟨7, _⟩ => ⟨S4x1280, .f32⟩
  | .hbm, ⟨8, _⟩ => ⟨S4x1280, .f32⟩
  | .hbm, ⟨9, _⟩ => ⟨S4x10x1280, .f32⟩
  | .hbm, ⟨10, _⟩ => ⟨S4x10x1280, .f32⟩
  | .local _ .vmem, ⟨0, _⟩ => ⟨S4x10x1280, .f32⟩
  | .local _ .vmem, ⟨1, _⟩ => ⟨S4x1280, .f32⟩
  | .local _ .vmem, ⟨2, _⟩ => ⟨S4x1280, .f32⟩
  | .local _ .vmem, ⟨3, _⟩ => ⟨S4x1280x5120, .i8⟩
  | .local _ .vmem, ⟨4, _⟩ => ⟨S4x5120, .f32⟩
  | .local _ .vmem, ⟨5, _⟩ => ⟨S4x5120, .f32⟩
  | .local _ .vmem, ⟨6, _⟩ => ⟨S4x5120x1280, .i8⟩
  | .local _ .vmem, ⟨7, _⟩ => ⟨S4x1280, .f32⟩
  | .local _ .vmem, ⟨8, _⟩ => ⟨S4x1280, .f32⟩
  | .local _ .vmem, ⟨9, _⟩ => ⟨S4x10x1280, .f32⟩
  | _, _ => ⟨S4x2x5x1x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x10x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1280x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x5120x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x10x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Kv.lean ====
abbrev S4x2x5x1x1280 : Shape := ⟨5, ![4, 2, 5, 1, 1280]⟩
abbrev S4x1280 : Shape := ⟨2, ![4, 1280]⟩
abbrev S4x1280x3840 : Shape := ⟨3, ![4, 1280, 3840]⟩
abbrev S4x3840 : Shape := ⟨2, ![4, 3840]⟩
abbrev S4x10x1280 : Shape := ⟨3, ![4, 10, 1280]⟩
abbrev S4x10x20 : Shape := ⟨3, ![4, 10, 20]⟩
abbrev S22x1280x1280 : Shape := ⟨3, ![22, 1280, 1280]⟩
abbrev S16x1280 : Shape := ⟨2, ![16, 1280]⟩
abbrev S22 : Shape := ⟨1, ![22]⟩
abbrev S1 : Shape := ⟨1, ![1]⟩
abbrev S_ : Shape := ⟨0, ![]⟩
abbrev S1x1280x1280 : Shape := ⟨3, ![1, 1280, 1280]⟩
abbrev S1280x1280 : Shape := ⟨2, ![1280, 1280]⟩
abbrev S16x128 : Shape := ⟨2, ![16, 128]⟩
abbrev S16x20 : Shape := ⟨2, ![16, 20]⟩
abbrev S1x10x1280 : Shape := ⟨3, ![1, 10, 1280]⟩
abbrev S10x1280 : Shape := ⟨2, ![10, 1280]⟩
abbrev S1x1280 : Shape := ⟨2, ![1, 1280]⟩
abbrev S16 : Shape := ⟨1, ![16]⟩
abbrev S16x1 : Shape := ⟨2, ![16, 1]⟩
abbrev S1x3840 : Shape := ⟨2, ![1, 3840]⟩
abbrev S10x20 : Shape := ⟨2, ![10, 20]⟩
abbrev S1x10x20 : Shape := ⟨3, ![1, 10, 20]⟩

abbrev nBuf : Space → Nat
  | .hbm => 11
  | .vmem => 11
  | .smem => 0
  | _ => 0

abbrev bufTy : (tb : Table) → Fin (tcTables nBuf tb) → BufTy
  | .hbm, ⟨0, _⟩ => ⟨S4x2x5x1x1280, .f32⟩
  | .hbm, ⟨1, _⟩ => ⟨S4x1280, .f32⟩
  | .hbm, ⟨2, _⟩ => ⟨S4x1280, .f32⟩
  | .hbm, ⟨3, _⟩ => ⟨S4x1280x3840, .i8⟩
  | .hbm, ⟨4, _⟩ => ⟨S4x3840, .f32⟩
  | .hbm, ⟨5, _⟩ => ⟨S4x1280, .f32⟩
  | .hbm, ⟨6, _⟩ => ⟨S4x10x1280, .f32⟩
  | .hbm, ⟨7, _⟩ => ⟨S4x10x1280, .i8⟩
  | .hbm, ⟨8, _⟩ => ⟨S4x10x20, .f32⟩
  | .hbm, ⟨9, _⟩ => ⟨S4x10x1280, .i8⟩
  | .hbm, ⟨10, _⟩ => ⟨S4x10x20, .f32⟩
  | .local _ .vmem, ⟨0, _⟩ => ⟨S4x10x1280, .f32⟩
  | .local _ .vmem, ⟨1, _⟩ => ⟨S4x1280, .f32⟩
  | .local _ .vmem, ⟨2, _⟩ => ⟨S4x1280, .f32⟩
  | .local _ .vmem, ⟨3, _⟩ => ⟨S4x3840, .f32⟩
  | .local _ .vmem, ⟨4, _⟩ => ⟨S4x1280, .f32⟩
  | .local _ .vmem, ⟨5, _⟩ => ⟨S4x10x1280, .i8⟩
  | .local _ .vmem, ⟨6, _⟩ => ⟨S4x10x20, .f32⟩
  | .local _ .vmem, ⟨7, _⟩ => ⟨S4x10x1280, .i8⟩
  | .local _ .vmem, ⟨8, _⟩ => ⟨S4x10x20, .f32⟩
  | .local _ .vmem, ⟨9, _⟩ => ⟨S22x1280x1280, .i8⟩
  | .local _ .vmem, ⟨10, _⟩ => ⟨S16x1280, .f32⟩
  | _, _ => ⟨S4x2x5x1x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_17 : BitVec 32 := 0#32
  let c4_i32 : BitVec 32 := 4#32
  let v26 : BitVec 32 := Scalar.addi c0_i32_17 c4_i32
  let c1_i32_18 : BitVec 32 := 1#32
  ⟨c0_i32_17, v26, c1_i32_18⟩
def k0_off1 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let v27 : Index := Scalar.indexCast arg14
  let c0_20 : Index := 0#32
  let c0_21 : Index := 0#32
  ![v27.toNat, 0, 0]
def k0_off2 (k0_t1 : Fin k0_t1_loop.trips) : Fin 2 → Nat :=
  let c0_i32_17 : BitVec 32 := 0#32
  let c1_i32_18 : BitVec 32 := 1#32
  let arg14 : BitVec 32 := Scf.iv c0_i32_17 c1_i32_18 k0_t1
  let v34 : Index := Scalar.indexCast arg14
  let c0_26 : Index := 0#32
  ![v34.toNat, 0]
def k0_off3 (k0_t1 : Fin k0_t1_loop.trips) : Fin 2 → Nat :=
  let c0_i32_17 : BitVec 32 := 0#32
  let c1_i32_18 : BitVec 32 := 1#32
  let arg14 : BitVec 32 := Scf.iv c0_i32_17 c1_i32_18 k0_t1
  let v77 : Index := Scalar.indexCast arg14
  let c0_54 : Index := 0#32
  ![v77.toNat, 0]
def k0_off4 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let v1094 : Index := Scalar.indexCast arg14
  let c0_370 : Index := 0#32
  let c0_371 : Index := 0#32
  ![v1094.toNat, 0, 0]
def k0_cond1 (k0_t1 : Fin k0_t1_loop.trips) : BitVec 1 :=
  let c0_i32_17 : BitVec 32 := 0#32
  let c1_i32_18 : BitVec 32 := 1#32
  let arg14 : BitVec 32 := Scf.iv c0_i32_17 c1_i32_18 k0_t1
  let c3_i32_374 : BitVec 32 := 3#32
  let v1103 : BitVec 1 := Scalar.cmpi .slt arg14 c3_i32_374
  let v1104 : BitVec 32 := Scalar.extui v1103
  let c0_i32_375 : BitVec 32 := 0#32
  let v1105 : BitVec 1 := Scalar.cmpi .ne v1104 c0_i32_375
  v1105

def k0_off5 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let c1_i32_376 : BitVec 32 := 1#32
  let v1106 : BitVec 32 := Scalar.addi arg14 c1_i32_376
  let c0_i32_381 : BitVec 32 := 0#32
  let c0_i32_382 : BitVec 32 := 0#32
  ![v1106.toNat, 0, 0]
def k0_off6 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let c1_i32_383 : BitVec 32 := 1#32
  let v1113 : BitVec 32 := Scalar.addi arg14 c1_i32_383
  let c0_i32_388 : BitVec 32 := 0#32
  let c1280_i32_389 : BitVec 32 := 1280#32
  ![v1113.toNat, 0, 1280]
def k0_off7 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let c1_i32_390 : BitVec 32 := 1#32
  let v1120 : BitVec 32 := Scalar.addi arg14 c1_i32_390
  let c0_i32_395 : BitVec 32 := 0#32
  let c2560_i32_396 : BitVec 32 := 2560#32
  ![v1120.toNat, 0, 2560]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x10x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x10x1280 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x10x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x10x1280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x10x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KvRefIdeal.lean ====
abbrev S4x2x5x1x1280 : Shape := ⟨5, ![4, 2, 5, 1, 1280]⟩
abbrev S4x1280 : Shape := ⟨2, ![4, 1280]⟩
abbrev S4x1280x3840 : Shape := ⟨3, ![4, 1280, 3840]⟩
abbrev S4x3840 : Shape := ⟨2, ![4, 3840]⟩
abbrev S4x10x1280 : Shape := ⟨3, ![4, 10, 1280]⟩
abbrev S4x10x20 : Shape := ⟨3, ![4, 10, 20]⟩
abbrev S1x10x1280 : Shape := ⟨3, ![1, 10, 1280]⟩
abbrev S10x1280 : Shape := ⟨2, ![10, 1280]⟩
abbrev S10 : Shape := ⟨1, ![10]⟩
abbrev S10x1 : Shape := ⟨2, ![10, 1]⟩
abbrev S1x1280 : Shape := ⟨2, ![1, 1280]⟩
abbrev S1280 : Shape := ⟨1, ![1280]⟩
abbrev S1x1280x3840 : Shape := ⟨3, ![1, 1280, 3840]⟩
abbrev S1280x3840 : Shape := ⟨2, ![1280, 3840]⟩
abbrev S10x3840 : Shape := ⟨2, ![10, 3840]⟩
abbrev S1x3840 : Shape := ⟨2, ![1, 3840]⟩
abbrev S3840 : Shape := ⟨1, ![3840]⟩
abbrev S10x20x64 : Shape := ⟨3, ![10, 20, 64]⟩
abbrev S10x20 : Shape := ⟨2, ![10, 20]⟩
abbrev S10x20x1 : Shape := ⟨3, ![10, 20, 1]⟩
abbrev S1x10x20 : Shape := ⟨3, ![1, 10, 20]⟩

abbrev nBuf : Space → Nat
  | .hbm => 11
  | .vmem => 10
  | .smem => 0
  | _ => 0

abbrev bufTy : (tb : Table) → Fin (tcTables nBuf tb) → BufTy
  | .hbm, ⟨0, _⟩ => ⟨S4x2x5x1x1280, .f32⟩
  | .hbm, ⟨1, _⟩ => ⟨S4x1280, .f32⟩
  | .hbm, ⟨2, _⟩ => ⟨S4x1280, .f32⟩
  | .hbm, ⟨3, _⟩ => ⟨S4x1280x3840, .i8⟩
  | .hbm, ⟨4, _⟩ => ⟨S4x3840, .f32⟩
  | .hbm, ⟨5, _⟩ => ⟨S4x1280, .f32⟩
  | .hbm, ⟨6, _⟩ => ⟨S4x10x1280, .f32⟩
  | .hbm, ⟨7, _⟩ => ⟨S4x10x1280, .i8⟩
  | .hbm, ⟨8, _⟩ => ⟨S4x10x20, .f32⟩
  | .hbm, ⟨9, _⟩ => ⟨S4x10x1280, .i8⟩
  | .hbm, ⟨10, _⟩ => ⟨S4x10x20, .f32⟩
  | .local _ .vmem, ⟨0, _⟩ => ⟨S4x10x1280, .f32⟩
  | .local _ .vmem, ⟨1, _⟩ => ⟨S4x1280, .f32⟩
  | .local _ .vmem, ⟨2, _⟩ => ⟨S4x1280, .f32⟩
  | .local _ .vmem, ⟨3, _⟩ => ⟨S4x1280x3840, .i8⟩
  | .local _ .vmem, ⟨4, _⟩ => ⟨S4x3840, .f32⟩
  | .local _ .vmem, ⟨5, _⟩ => ⟨S4x1280, .f32⟩
  | .local _ .vmem, ⟨6, _⟩ => ⟨S4x10x1280, .i8⟩
  | .local _ .vmem, ⟨7, _⟩ => ⟨S4x10x20, .f32⟩
  | .local _ .vmem, ⟨8, _⟩ => ⟨S4x10x1280, .i8⟩
  | .local _ .vmem, ⟨9, _⟩ => ⟨S4x10x20, .f32⟩
  | _, _ => ⟨S4x2x5x1x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x10x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1280x3840 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x10x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x10x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x10x1280 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x10x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Hd.Names.lean ====
/-
  The names the head's body goes by: slot `n` of the ring (`rslot n`, `n` read modulo 22), its DMA semaphore (`csm n`), the
  1280 rows of the table from row `o` on (`rows o`), the last 640 rows the ring carries (`tailM`) and the part of a slot
  they land in (`tslot n`). Every slice the printed body takes, at a literal or at a loop trip, is one of these
  (`@[sl_canon]` equations), so that one proof of a trip serves all trips.
-/
module

public import proofs.«01_k».proof.Proof.Gen.Head.Launch
public import proofs.«01_k».proof.Proof.Gen.Head.Skeleton
public import proofs.«01_k».proof.Proof.Gen.Head.Loops
public import proofs.«01_k».proof.Proof.Gen.Head.Points
public import proofs.«01_k».proof.Proof.Gen.Head.Frame
public import Idealize.ShloMosaic.Lib.Pipeline.FrameSuffix
public import Idealize.ShloMosaic.Lib.Ring
public import Idealize.ShloMosaic.Lib.Tactic

@[expose] public section

set_option maxRecDepth 16384

noncomputable section

namespace Cert.Head.Ring

open Cert.Head Cert.Head.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev embM : Memref sig .tc .hbm S51866x1280 .i8 := Memref.whole main_arg3
abbrev ringM : Memref sig .tc .vmem S22x1280x1280 .i8 := Memref.whole cc0_scratch0

abbrev slotOff (n : ℕ) : Fin 3 → ℕ := ![n % 22, 0, 0]
theorem slotOff_inb (n : ℕ) : ∀ a, slotOff n a + S1x1280x1280.size a ≤ S22x1280x1280.size a := by
  have h : n % 22 < 22 := Nat.mod_lt _ (by decide)
  intro a; fin_cases a
  · show n % 22 + 1 ≤ 22; omega
  · show 0 + 1280 ≤ 1280; omega
  · show 0 + 1280 ≤ 1280; omega
theorem tslotOff_inb (n : ℕ) : ∀ a, slotOff n a + S1x640x1280.size a ≤ S22x1280x1280.size a := by
  have h : n % 22 < 22 := Nat.mod_lt _ (by decide)
  intro a; fin_cases a
  · show n % 22 + 1 ≤ 22; omega
  · show 0 + 640 ≤ 1280; omega
  · show 0 + 1280 ≤ 1280; omega
abbrev semOff (n : ℕ) : Fin 1 → ℕ := ![n % 22]
theorem semOff_inb (n : ℕ) : ∀ a, semOff n a + S1.size a ≤ S22.size a := by
  have h : n % 22 < 22 := Nat.mod_lt _ (by decide)
  intro a; fin_cases a; show n % 22 + 1 ≤ 22; omega
abbrev rowOff (o : ℕ) : Fin 2 → ℕ := ![min o 50586, 0]
theorem rowOff_inb (o : ℕ) : ∀ a, rowOff o a + S1280x1280.size a ≤ S51866x1280.size a := by
  intro a; fin_cases a
  · show min o 50586 + 1280 ≤ 51866; omega
  · show 0 + 1280 ≤ 1280; omega

/-- Slot `n` (modulo 22) of the ring. -/
def rslot (n : ℕ) : Memref sig .tc .vmem S1280x1280 .i8 :=
  (ringM.slice (Rect.unit (s := S22x1280x1280) (slotOff n) S1x1280x1280.size (slotOff_inb n)) (fun _ => rfl)).squeeze S1280x1280 squeezes_S1x1280x1280_S1280x1280
/-- The first 640 rows of slot `n` (modulo 22). -/
def tslot (n : ℕ) : Memref sig .tc .vmem S640x1280 .i8 :=
  (ringM.slice (Rect.unit (s := S22x1280x1280) (slotOff n) S1x640x1280.size (tslotOff_inb n)) (fun _ => rfl)).squeeze S640x1280 squeezes_S1x640x1280_S640x1280
/-- Slot `n`'s DMA semaphore. -/
def csm (n : ℕ) : DmaSems sig S_ := (cc0_scratch2.slice (Rect.unit (s := S22) (semOff n) S1.size (semOff_inb n))).squeeze S_ squeezes_S1_S_
/-- The table's 1280 rows from row `o` on. -/
def rows (o : ℕ) : Memref sig .tc .hbm S1280x1280 .i8 :=
  embM.slice (Rect.unit (s := S51866x1280) (rowOff o) S1280x1280.size (rowOff_inb o)) (fun _ => rfl)
/-- The table's 640 rows from row 51200 on. -/
def tailM : Memref sig .tc .hbm S640x1280 .i8 :=
  embM.slice (Rect.unit (s := S51866x1280) ![51200, 0] S640x1280.size inb_S51866x1280_S640x1280_51200_0) (fun _ => rfl)

instance (n : ℕ) : ClosedOff (slotOff n) := ⟨slotOff n, rfl⟩
instance (o : ℕ) : ClosedOff (rowOff o) := ⟨rowOff o, rfl⟩

theorem csm_congr {off : Fin 1 → ℕ} {n : ℕ} (e : off = semOff n) (hh) :
    (cc0_scratch2.slice (Rect.unit (s := S22) off S1.size hh)).squeeze S_ squeezes_S1_S_ = csm n :=
  congrArg (fun A : DmaSems sig S1 => A.squeeze S_ squeezes_S1_S_) (SemArray.slice_unit_congr _ e _ _)
theorem rslot_congr {off : Fin 3 → ℕ} {n : ℕ} (e : off = slotOff n) (hh hs) :
    (ringM.slice (Rect.unit (s := S22x1280x1280) off S1x1280x1280.size hh) hs).squeeze S1280x1280 squeezes_S1x1280x1280_S1280x1280 = rslot n :=
  congrArg (fun M : Memref sig .tc .vmem S1x1280x1280 .i8 => M.squeeze S1280x1280 squeezes_S1x1280x1280_S1280x1280) (Memref.slice_unit_congr _ e _ _ _ _)
theorem tslot_congr {off : Fin 3 → ℕ} {n : ℕ} (e : off = slotOff n) (hh hs) :
    (ringM.slice (Rect.unit (s := S22x1280x1280) off S1x640x1280.size hh) hs).squeeze S640x1280 squeezes_S1x640x1280_S640x1280 = tslot n :=
  congrArg (fun M : Memref sig .tc .vmem S1x640x1280 .i8 => M.squeeze S640x1280 squeezes_S1x640x1280_S640x1280) (Memref.slice_unit_congr _ e _ _ _ _)
theorem rows_congr {off : Fin 2 → ℕ} {o : ℕ} (e : off = rowOff o) (hh hs) :
    embM.slice (Rect.unit (s := S51866x1280) off S1280x1280.size hh) hs = rows o := Memref.slice_unit_congr _ e _ _ _ (fun _ => rfl)

theorem rslot_add (n : ℕ) : rslot (n + 22) = rslot n := rslot_congr (by show ![(n + 22) % 22, 0, 0] = ![n % 22, 0, 0]; rw [Nat.add_mod_right]) _ _
theorem tslot_add (n : ℕ) : tslot (n + 22) = tslot n := tslot_congr (by show ![(n + 22) % 22, 0, 0] = ![n % 22, 0, 0]; rw [Nat.add_mod_right]) _ _
theorem csm_add (n : ℕ) : csm (n + 22) = csm n := csm_congr (by show ![(n + 22) % 22] = ![n % 22]; rw [Nat.add_mod_right]) _

/-- The literal slices of the first transfers. -/
@[sl_canon] theorem semL (n : ℕ) (hh) : (cc0_scratch2.slice (Rect.unit (s := S22) ![n] S1.size hh)).squeeze S_ squeezes_S1_S_ = csm n :=
  csm_congr (by have h : n + 1 ≤ 22 := hh 0; show ![n] = ![n % 22]; rw [Nat.mod_eq_of_lt (by omega)]) _
@[sl_canon] theorem slotL (n : ℕ) (hh hs) : (ringM.slice (Rect.unit (s := S22x1280x1280) ![n, 0, 0] S1x1280x1280.size hh) hs).squeeze S1280x1280 squeezes_S1x1280x1280_S1280x1280 = rslot n :=
  rslot_congr (by have h : n + 1 ≤ 22 := hh 0; show ![n, 0, 0] = ![n % 22, 0, 0]; rw [Nat.mod_eq_of_lt (by omega)]) _ _
@[sl_canon] theorem rowsL (o : ℕ) (hh hs) : embM.slice (Rect.unit (s := S51866x1280) ![o, 0] S1280x1280.size hh) hs = rows o :=
  rows_congr (by have h : o + 1280 ≤ 51866 := hh 0; show ![o, 0] = ![min o 50586, 0]; rw [Nat.min_eq_left (by omega)]) _ _
@[sl_canon] theorem tailL (hh hs) : embM.slice (Rect.unit (s := S51866x1280) ![51200, 0] S640x1280.size hh) hs = tailM := rfl

/-- A trip's slices. -/
@[sl_canon] theorem semK1 (k : Fin k0_t1_loop.trips) (hh) : (cc0_scratch2.slice (Rect.unit (s := S22) (k0_off1 k) S1.size hh)).squeeze S_ squeezes_S1_S_ = csm (k.val + 14) := csm_congr (k0_off1_eq k) _
@[sl_canon] theorem semK3 (k : Fin k0_t1_loop.trips) (hh) : (cc0_scratch2.slice (Rect.unit (s := S22) (k0_off3 k) S1.size hh)).squeeze S_ squeezes_S1_S_ = csm (k.val + 14) := csm_congr (k0_off3_eq k) _
@[sl_canon] theorem semK9 (k : Fin k0_t1_loop.trips) (hh) : (cc0_scratch2.slice (Rect.unit (s := S22) (k0_off9 k) S1.size hh)).squeeze S_ squeezes_S1_S_ = csm (k.val + 14) := csm_congr (k0_off9_eq k) _
@[sl_canon] theorem semK12 (k : Fin k0_t1_loop.trips) (hh) : (cc0_scratch2.slice (Rect.unit (s := S22) (k0_off12 k) S1.size hh)).squeeze S_ squeezes_S1_S_ = csm (k.val + 14) := csm_congr (k0_off12_eq k) _
@[sl_canon] theorem slotK2 (k : Fin k0_t1_loop.trips) (hh hs) : (ringM.slice (Rect.unit (s := S22x1280x1280) (k0_off2 k) S1x1280x1280.size hh) hs).squeeze S1280x1280 squeezes_S1x1280x1280_S1280x1280 = rslot (k.val + 14) := rslot_congr (k0_off2_eq k) _ _
@[sl_canon] theorem slotK10 (k : Fin k0_t1_loop.trips) (hh hs) : (ringM.slice (Rect.unit (s := S22x1280x1280) (k0_off10 k) S1x1280x1280.size hh) hs).squeeze S1280x1280 squeezes_S1x1280x1280_S1280x1280 = rslot (k.val + 14) := rslot_congr (k0_off10_eq k) _ _
@[sl_canon] theorem tslotK4 (k : Fin k0_t1_loop.trips) (hh hs) : (ringM.slice (Rect.unit (s := S22x1280x1280) (k0_off4 k) S1x640x1280.size hh) hs).squeeze S640x1280 squeezes_S1x640x1280_S640x1280 = tslot (k.val + 14) := tslot_congr (k0_off4_eq k) _ _
@[sl_canon] theorem tslotK13 (k : Fin k0_t1_loop.trips) (hh hs) : (ringM.slice (Rect.unit (s := S22x1280x1280) (k0_off13 k) S1x640x1280.size hh) hs).squeeze S640x1280 squeezes_S1x640x1280_S640x1280 = tslot (k.val + 14) := tslot_congr (k0_off13_eq k) _ _
@[sl_canon] theorem rowsK11 (k : Fin k0_t1_loop.trips) (hk : k.val < 18) (hh hs) : embM.slice (Rect.unit (s := S51866x1280) (k0_off11 k) S1280x1280.size hh) hs = rows (1280 * (k.val + 22)) :=
  rows_congr ((k0_off11_eq k).trans (by show ![1280 * k.val + 28160, 0] = ![min (1280 * (k.val + 22)) 50586, 0]; rw [Nat.min_eq_left (by omega)]; congr 1)) _ _

/-- The body's branches over the trip. -/
theorem cond1_iff : ∀ k : Fin k0_t1_loop.trips, k0_cond1 k = 1#1 ↔ k.val < 40 := by decide +kernel
theorem cond2_iff : ∀ k : Fin k0_t1_loop.trips, k0_cond2 k = 1#1 ↔ k.val = 40 := by decide +kernel
theorem cond3_iff : ∀ k : Fin k0_t1_loop.trips, k0_cond3 k = 1#1 ↔ k.val < 18 := by decide +kernel
theorem cond4_iff : ∀ k : Fin k0_t1_loop.trips, k0_cond4 k = 1#1 ↔ k.val = 18 := by decide +kernel
theorem trips_eq : k0_t1_loop.trips = 41 := by decide +kernel

end Cert.Head.Ring

end
-- ==== Proof.Hd.Trip.lean ====
/-
  One trip of the head's loop.
-/
module

public import proofs.«01_k».proof.Proof.Hd.Names

@[expose] public section

set_option maxRecDepth 16384

noncomputable section

namespace Cert.Head.Ring

open Cert.Head Cert.Head.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev 𝒱₀ : Variants := Variants.none

theorem entails_of_eq {P Q : sProp 𝕄} (e : P = Q) : P ⊢ Q := e ▸ .rfl

section Pieces
variable (c : Dev nD) (XA : Buf (Elt F) (embM.view.loc (c : Thread nD τ)))

/-- What a slot of the ring may hold. -/
abbrev SB (n : ℕ) : Type := Buf (Elt F) ((rslot n).view.loc (c : Thread nD τ))
abbrev cellP (n : ℕ) : sProp 𝕄 := semVal ((c : Thread nD τ), SemLoc.dma (csm n).sem) 0
abbrev slotP (n : ℕ) (f : SB (F := F) c n) : sProp 𝕄 := (rslot n).view.loc (c : Thread nD τ) ↦[(rslot n).view.set]{fullShare} f
/-- The table's rows from `o` on at home. -/
abbrev homeR (o : ℕ) : sProp 𝕄 := (rows o).view.loc (c : Thread nD τ) ↦[(rows o).view.set]{fullShare} XA
/-- Block `b` of the table at home. -/
abbrev homeP (b : ℕ) : sProp 𝕄 := homeR c XA (1280 * b)
abbrev tailP : sProp 𝕄 := tailM.view.loc (c : Thread nD τ) ↦[tailM.view.set]{fullShare} XA
/-- The words of the 1280 rows from row `o` on. -/
abbrev payR (o : ℕ) : S1280x1280.Idx → Elt F .i8 := ReadAs.same.apply ((rows o).view.read (Elt F) XA)
/-- What the transfer of the rows from `o` on leaves in slot `n`. -/
abbrev landed (n o : ℕ) (f : SB (F := F) c n) : SB (F := F) c n :=
  (rslot n).view.writes (Elt F) f [⟨Rect.whole S1280x1280, payR c XA o⟩]
/-- The rows from `o` on in flight into slot `n`. -/
abbrev flightR (n o : ℕ) (f : SB (F := F) c n) : sProp 𝕄 :=
  Transfers.Flight countersEmb (c : Thread nD τ) (SemLoc.dma (csm n).sem) () 51200 iprop(slotP c n (landed c XA n o f) ∗ homeR c XA o)
/-- A flight issued over what an earlier one left, as the run of a trip states it. -/
theorem flightR_after (n o o' : ℕ) :
    flightR c XA n o' (landed c XA n o (rslot n).view.junk)
      = Transfers.Flight countersEmb (c : Thread nD τ) (SemLoc.dma (csm n).sem) () 51200
          iprop(((rslot n).view.loc (c : Thread nD τ) ↦[(rslot n).view.set]{fullShare}
                  (rslot n).view.writes (Elt F) (rslot n).view.junk [⟨Rect.whole S1280x1280, payR c XA o'⟩, ⟨Rect.whole S1280x1280, payR c XA o⟩])
                ∗ homeR c XA o') := by
  simp only [flightR, landed, slotP, View.writes]
/-- The same, over whatever the slot held. -/
def flightE (n o : ℕ) : sProp 𝕄 := iprop(∃ f, flightR c XA n o f)
/-- The last 640 rows in flight into the first 640 rows of slot `n`. -/
abbrev landedT (n : ℕ) (f : SB (F := F) c n) : SB (F := F) c n :=
  (tslot n).view.writes (Elt F) f [⟨Rect.whole S640x1280, ReadAs.same.apply (tailM.view.read (Elt F) XA)⟩]
abbrev flightT (n : ℕ) (f : SB (F := F) c n) : sProp 𝕄 :=
  Transfers.Flight countersEmb (c : Thread nD τ) (SemLoc.dma (csm n).sem) () 25600 iprop(slotP c n (landedT c XA n f) ∗ tailP c XA)
/-- The slot after block 18's rows have been read out of it: what the last transfer is issued over. -/
abbrev under (n : ℕ) : SB (F := F) c n := landed c XA n (1280 * 18) (rslot n).view.junk
theorem flightT_after (n : ℕ) (f : SB (F := F) c n) :
    (Transfers.Flight countersEmb (c : Thread nD τ) (SemLoc.dma (csm n).sem) () 25600
        iprop(((tslot n).view.loc (c : Thread nD τ) ↦[(rslot n).view.set]{fullShare} (tslot n).view.write (Elt F) f (ReadAs.same.apply (tailM.view.read (Elt F) XA)) Finset.univ) ∗ tailP c XA) : sProp 𝕄)
      = flightT c XA n f :=
  congrArg (fun g : SB (F := F) c n => (Transfers.Flight countersEmb (c : Thread nD τ) (SemLoc.dma (csm n).sem) () 25600 iprop(slotP c n g ∗ tailP c XA) : sProp 𝕄))
    (View.write_univ_eq_writes_whole (tslot n).view f [] _)
def flightL (n : ℕ) : sProp 𝕄 := flightT c XA n (under c XA n)
/-- Slot `n` free: held at anything, its semaphore at zero. -/
def freeP (n : ℕ) : sProp 𝕄 := iprop((∃ f, slotP c n f) ∗ cellP c n)

theorem flightE_add (n o : ℕ) : flightE c XA (n + 22) o = flightE c XA n o := by
  unfold flightE flightR slotP landed SB; rw [rslot_add, csm_add]
/-- The last transfer's flight over the slot's offset itself. -/
def flightO (o : ℕ) (h : ∀ a, (![o, 0, 0] : Fin 3 → ℕ) a + S1x1280x1280.size a ≤ S22x1280x1280.size a) (h' : ∀ a, (![o, 0, 0] : Fin 3 → ℕ) a + S1x640x1280.size a ≤ S22x1280x1280.size a)
    (h'' : ∀ a, (![o] : Fin 1 → ℕ) a + S1.size a ≤ S22.size a) : sProp 𝕄 :=
  let r : Memref sig .tc .vmem S1280x1280 .i8 := (ringM.slice (Rect.unit (s := S22x1280x1280) ![o, 0, 0] S1x1280x1280.size h) (fun _ => rfl)).squeeze S1280x1280 squeezes_S1x1280x1280_S1280x1280
  let t : Memref sig .tc .vmem S640x1280 .i8 := (ringM.slice (Rect.unit (s := S22x1280x1280) ![o, 0, 0] S1x640x1280.size h') (fun _ => rfl)).squeeze S640x1280 squeezes_S1x640x1280_S640x1280
  Transfers.Flight countersEmb (c : Thread nD τ) (SemLoc.dma ((cc0_scratch2.slice (Rect.unit (s := S22) ![o] S1.size h'')).squeeze S_ squeezes_S1_S_).sem) () 25600
    iprop((r.view.loc (c : Thread nD τ) ↦[r.view.set]{fullShare} t.view.writes (Elt F) (r.view.writes (Elt F) r.view.junk [⟨Rect.whole S1280x1280, payR c XA (1280 * 18)⟩]) [⟨Rect.whole S640x1280, ReadAs.same.apply (tailM.view.read (Elt F) XA)⟩]) ∗ tailP c XA)
theorem flightO_congr {o o' : ℕ} (e : o = o') (h h' h'') (k k' k'') : flightO c XA o h h' h'' = flightO c XA o' k k' k'' := by subst e; rfl
theorem flightL_add (n : ℕ) : flightL c XA (n + 22) = flightL c XA n :=
  flightO_congr c XA (Nat.add_mod_right n 22) (slotOff_inb (n + 22)) (tslotOff_inb (n + 22)) (semOff_inb (n + 22)) (slotOff_inb n) (tslotOff_inb n) (semOff_inb n)
theorem freeP_add (n : ℕ) : (freeP c (n + 22) : sProp 𝕄) = freeP c n := by
  unfold freeP slotP cellP SB; rw [rslot_add, csm_add]

/-- The share of the ring and of the table that trip `b` takes (`b ≤ 40`) and, from `b = 22` on, that trip `b - 22` has left. -/
def SlotP (b : ℕ) : sProp 𝕄 :=
  if b < 18 then iprop(flightE c XA (b + 14) (1280 * b) ∗ homeP c XA (b + 22))
  else if b = 18 then iprop(flightE c XA (b + 14) (1280 * b) ∗ tailP c XA)
  else if b < 22 then flightE c XA (b + 14) (1280 * b)
  else if b < 40 then iprop(flightE c XA (b + 14) (1280 * b) ∗ homeP c XA (b - 22))
  else if b = 40 then iprop(flightL c XA (b + 14) ∗ homeP c XA (b - 22))
  else if b < 44 then iprop(freeP c (b + 14) ∗ homeP c XA (b - 22))
  else if b < 62 then iprop(freeP c (b + 14) ∗ homeP c XA (b - 22) ∗ homeP c XA (b - 44))
  else iprop(freeP c (b + 14) ∗ tailP c XA ∗ homeP c XA (b - 44))
end Pieces

theorem mem_slotSet (n : ℕ) (y : S22x1280x1280.Idx) :
    y ∈ (Rect.unit (s := S22x1280x1280) (slotOff n) S1x1280x1280.size (slotOff_inb n)).set ↔ (y 0).val = n % 22 := by
  rw [Rect.mem_set_unit]
  have h1 : (y 1).val < 1280 := (y 1).isLt
  have h2 : (y 2).val < 1280 := (y 2).isLt
  constructor
  · intro H; have a0 : n % 22 ≤ (y 0).val ∧ (y 0).val < n % 22 + 1 := H 0; omega
  · intro H i; fin_cases i
    · show n % 22 ≤ (y 0).val ∧ (y 0).val < n % 22 + 1; omega
    · show 0 ≤ (y 1).val ∧ (y 1).val < 0 + 1280; omega
    · show 0 ≤ (y 2).val ∧ (y 2).val < 0 + 1280; omega
theorem rslot_set (n : ℕ) : (rslot n : Memref sig .tc .vmem _ _).view.set = (Rect.unit (s := S22x1280x1280) (slotOff n) S1x1280x1280.size (slotOff_inb n)).set :=
  (View.set_reshape _ _).trans (View.set_slice_whole _ _)
theorem tslot_set (n : ℕ) : (tslot n : Memref sig .tc .vmem _ _).view.set = (Rect.unit (s := S22x1280x1280) (slotOff n) S1x640x1280.size (tslotOff_inb n)).set :=
  (View.set_reshape _ _).trans (View.set_slice_whole _ _)
theorem tset_sub (n : ℕ) : (Rect.unit (s := S22x1280x1280) (slotOff n) S1x640x1280.size (tslotOff_inb n)).set ⊆ (Rect.unit (s := S22x1280x1280) (slotOff n) S1x1280x1280.size (slotOff_inb n)).set := by
  intro y hy
  have a0 : n % 22 ≤ (y 0).val ∧ (y 0).val < n % 22 + 1 := Rect.mem_set_unit.1 hy 0
  exact (mem_slotSet n y).2 (by omega)
theorem tslot_sub (n : ℕ) : (tslot n : Memref sig .tc .vmem _ _).view.set ⊆ (rslot n : Memref sig .tc .vmem _ _).view.set := by
  rw [tslot_set, rslot_set]
  exact tset_sub n

section Trip
variable (c : Dev nD) (XA : Buf (Elt F) (embM.view.loc (c : Thread nD τ)))
  (i : grid0.Coords) (arg1 : Memref sig .tc .vmem S10x1280 .f32) (harg1 : arg1.IsWhole) (arg2 : Memref sig .tc .vmem S1x1280 .f32) (harg2 : arg2.IsWhole) (arg3 : Memref sig .tc .vmem S1x1280 .f32) (harg3 : arg3.IsWhole) (arg5 : Memref sig .tc .vmem S32x1280 .i8) (harg5 : arg5.IsWhole) (arg6 : Memref sig .tc .vmem S1x52480 .f32) (harg6 : arg6.IsWhole) (arg7 : Memref sig .tc .vmem S1x52480 .f32) (harg7 : arg7.IsWhole) (arg8 : Memref sig .tc .vmem S10x52480 .f32) (harg8 : arg8.IsWhole) (arg10 : Memref sig .tc .vmem S16x1280 .f32) (harg10 : arg10.IsWhole)
  (v119 : Vec F S16x1280 .f32) (v121 : FVec F S1x1280 .f32) (v123 : FVec F S1x1280 .f32) (v127 : FVec F S16x1 .f32)

abbrev tripG (k : Fin k0_t1_loop.trips) : Prog (TpuEff nD τ sig (Elt F) Λ₀ .tc) Unit :=
  k0_t1_body (F := F) i arg1 harg1 arg2 harg2 arg3 harg3 embM (Memref.isWhole_whole _) arg5 harg5 arg6 harg6 arg7 harg7 arg8 harg8 ringM (Memref.isWhole_whole _) arg10 harg10 cc0_scratch2 v119 v121 v123 v127 k ()

variable (g5 : Buf (Elt F) (arg5.view.loc (c : Thread nD τ))) (g6 : Buf (Elt F) (arg6.view.loc (c : Thread nD τ))) (g7 : Buf (Elt F) (arg7.view.loc (c : Thread nD τ)))

/-- The inputs the loop reads. -/
abbrev insP : sProp 𝕄 :=
  iprop((arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7))
/-- The block of the logits the loop writes. -/
abbrev oP (fo : Buf (Elt F) (arg8.view.loc (c : Thread nD τ))) : sProp 𝕄 := arg8.view.loc (c : Thread nD τ) ↦[arg8.view.set]{fullShare} fo

/-- The rectangles a trip reads and writes: its slot, its columns of the scale and of the suppress row, its columns of the logits. -/
abbrev R6 (k : Fin k0_t1_loop.trips) : Rect S22x1280x1280 := Rect.unit (s := S22x1280x1280) (k0_off6 k) S1x1280x1280.size (k0_off6_inb k)
abbrev R7 (k : Fin k0_t1_loop.trips) : Rect S1x52480 := Rect.unit (s := S1x52480) (k0_off7 k) S1x1280.size (k0_off7_inb k)
abbrev R8 (k : Fin k0_t1_loop.trips) : Rect S10x52480 := Rect.unit (s := S10x52480) (k0_off8 k) S10x1280.size (k0_off8_inb k)

/-- The slot trip `k < 40` reads: block `k` of the table. -/
def landV (k : Fin k0_t1_loop.trips) : (R6 k).shape.Idx → Elt F .i8 :=
  ringM.view.readAt (Elt F) (R6 k).toLoadRect (landed c XA (k.val + 14) (1280 * k.val) (rslot (k.val + 14)).view.junk)
/-- The slot the last trip reads: the table's last rows and, below them, the 32 rows the kernel stores from its edge operand. -/
def lastV (k : Fin k0_t1_loop.trips) (h2 : k0_cond2 k = 1#1) : (R6 k).shape.Idx → Elt F .i8 :=
  ringM.view.readAt (Elt F) (R6 k).toLoadRect
    ((ringM.access (Rect.unit (s := S22x1280x1280) (k0_off5 k) S1x32x1280.size (k0_off5_inb k h2))).write (Elt F) (landedT c XA (k.val + 14) (under c XA (k.val + 14)))
      (k0_pay3 (arg5.view.readAt (Elt F) (Rect.unit (s := S32x1280) ![0, 0] S32x1280.size inb_S32x1280_S32x1280_0_0).toLoadRect g5)) Finset.univ)
def slotV (k : Fin k0_t1_loop.trips) : (R6 k).shape.Idx → Elt F .i8 :=
  if h2 : k0_cond2 k = 1#1 then lastV c XA arg5 g5 k h2 else landV c XA k
/-- What trip `k` stores into its columns of the logits. -/
def payOf (k : Fin k0_t1_loop.trips) : (R8 k).shape.Idx → Elt F .f32 :=
  k0_pay4 (k0_pay1 v119 v121 v123 v127) (slotV c XA arg5 g5 k) (arg6.view.readAt (Elt F) (R7 k).toLoadRect g6) (arg7.view.readAt (Elt F) (R7 k).toLoadRect g7)
/-- The columns of the trips before `k` are stored. -/
def Done (k : ℕ) (fo : Buf (Elt F) (arg8.view.loc (c : Thread nD τ))) : Prop :=
  ∀ b : Fin k0_t1_loop.trips, b.val < k → ∀ x, arg8.view.read (Elt F) fo ((R8 b).emb x) = payOf c XA arg5 arg6 arg7 v119 v121 v123 v127 g5 g6 g7 b x

theorem done_succ (k : Fin k0_t1_loop.trips) (fo : Buf (Elt F) (arg8.view.loc (c : Thread nD τ)))
    (h : Done c XA arg5 arg6 arg7 arg8 v119 v121 v123 v127 g5 g6 g7 k.val fo) (w : (R8 k).shape.Idx → Elt F .f32)
    (hw : w = payOf c XA arg5 arg6 arg7 v119 v121 v123 v127 g5 g6 g7 k) :
    Done c XA arg5 arg6 arg7 arg8 v119 v121 v123 v127 g5 g6 g7 (k.val + 1) (arg8.view.writes (Elt F) fo [⟨R8 k, w⟩]) := by
  subst hw
  intro b hb x
  by_cases e : b = k
  · subst e; exact View.read_writes_cons_emb _ _ _ _ _ _
  · have hlt : b.val < k.val := by
      have : b.val ≠ k.val := fun h => e (Fin.ext h)
      omega
    refine (View.read_writes_cons_miss_of_axis _ _ _ _ _ 1 (1280 * k.val) 1280 ?_ rfl rfl (Or.inl ?_)).trans (h b hlt x)
    · show k0_off8 k 1 = _; rw [k0_off8_eq k]; rfl
    · have hx : (x 1).val < 1280 := (x 1).isLt
      show k0_off8 b 1 + 1 * (x 1).val < _
      rw [k0_off8_eq b]; show 1280 * b.val + 1 * (x 1).val < _; omega

/-- The resources before trip `k`. -/
def invAt (k : ℕ) : sProp 𝕄 :=
  iprop(insP c arg5 arg6 arg7 g5 g6 g7 ∗ (∃ fo, oP c arg8 fo ∗ ⌜Done c XA arg5 arg6 arg7 arg8 v119 v121 v123 v127 g5 g6 g7 k fo⌝)
    ∗ (∃ W, owes (c : Thread nD τ) 0 W) ∗ bigSep (Finset.Ico k (k + 22)) (SlotP c XA))
/-- What trip `k` works on: the invariant with the other trips' shares left out. -/
abbrev tripP (k b : ℕ) : sProp 𝕄 :=
  iprop(insP c arg5 arg6 arg7 g5 g6 g7 ∗ (∃ fo, oP c arg8 fo ∗ ⌜Done c XA arg5 arg6 arg7 arg8 v119 v121 v123 v127 g5 g6 g7 k fo⌝)
    ∗ (∃ W, owes (c : Thread nD τ) 0 W) ∗ SlotP c XA b)

/-- A trip that issues the transfer of the block 22 further on. -/
theorem trip_lt (k : Fin k0_t1_loop.trips) (hk : k.val < 18) :
    tripP c XA arg5 arg6 arg7 arg8 v119 v121 v123 v127 g5 g6 g7 k.val k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => tripP c XA arg5 arg6 arg7 arg8 v119 v121 v123 v127 g5 g6 g7 (k.val + 1) (k.val + 22)) := by
  have h1 : k0_cond1 k = 1#1 := (cond1_iff k).2 (by omega)
  have h2 : ¬ k0_cond2 k = 1#1 := fun h => by have := (cond2_iff k).1 h; omega
  have h3 : k0_cond3 k = 1#1 := (cond3_iff k).2 (by omega)
  have h4 : ¬ k0_cond4 k = 1#1 := fun h => by have := (cond4_iff k).1 h; omega
  have hv : slotV c XA arg5 g5 k = landV c XA k := by unfold slotV; rw [dif_neg h2]
  have eA : SlotP c XA k.val = iprop(flightE c XA (k.val + 14) (1280 * k.val) ∗ homeP c XA (k.val + 22)) := by unfold SlotP; rw [if_pos (by omega)]
  have eB : SlotP c XA (k.val + 22) = iprop(flightE c XA (k.val + 14) (1280 * (k.val + 22)) ∗ homeP c XA k.val) := by
    unfold SlotP; rw [if_neg (by omega), if_neg (by omega), if_neg (by omega), if_pos (by omega), show k.val + 22 + 14 = k.val + 14 + 22 by omega, flightE_add, show k.val + 22 - 22 = k.val by omega]
  unfold tripP; rw [eA, eB]
  unfold flightE
  iintro ⟨⟨H5, H6, H7⟩, ⟨%fo, HO, %hd⟩, ⟨%W, HW⟩, HF⟩
  icases HF with ⟨⟨%f0, HF⟩, HH⟩
  dsimp only [tripG]
  sl_unfold [k0_t1_body]
  sl_exec
  sl_step
  isplitl [H5 H6 H7]
  · isplitl [H5]; · iexact H5
    isplitl [H6]; · iexact H6
    iexact H7
  isplitl [HO]
  · iexists _
    isplitl [HO]; · iexact HO
    ipureintro
    exact done_succ c XA arg5 arg6 arg7 arg8 v119 v121 v123 v127 g5 g6 g7 k fo hd _ (by unfold payOf; rw [hv]; rfl)
  isplitl [HW]; · iexists _; iexact HW
  isplitl [HF]
  · iexists landed c XA (k.val + 14) (1280 * k.val) (rslot (k.val + 14)).view.junk
    irw [flightR_after]
    iexact HF
  iexact HF_src

/-- Trip 18: it issues the last transfer. -/
theorem trip_18 (k : Fin k0_t1_loop.trips) (hk : k.val = 18) :
    tripP c XA arg5 arg6 arg7 arg8 v119 v121 v123 v127 g5 g6 g7 k.val k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => tripP c XA arg5 arg6 arg7 arg8 v119 v121 v123 v127 g5 g6 g7 (k.val + 1) (k.val + 22)) := by
  have h1 : k0_cond1 k = 1#1 := (cond1_iff k).2 (by omega)
  have h2 : ¬ k0_cond2 k = 1#1 := fun h => by have := (cond2_iff k).1 h; omega
  have h3 : ¬ k0_cond3 k = 1#1 := fun h => by have := (cond3_iff k).1 h; omega
  have h4 : k0_cond4 k = 1#1 := (cond4_iff k).2 (by omega)
  have hv : slotV c XA arg5 g5 k = landV c XA k := by unfold slotV; rw [dif_neg h2]
  have eA : SlotP c XA k.val = iprop(flightE c XA (k.val + 14) (1280 * k.val) ∗ tailP c XA) := by unfold SlotP; rw [if_neg (by omega), if_pos (by omega)]
  have eB : SlotP c XA (k.val + 22) = iprop(flightL c XA (k.val + 14) ∗ homeP c XA k.val) := by
    unfold SlotP; rw [if_neg (by omega), if_neg (by omega), if_neg (by omega), if_neg (by omega), if_pos (by omega), show k.val + 22 + 14 = k.val + 14 + 22 by omega, flightL_add, show k.val + 22 - 22 = k.val by omega]
  unfold tripP; rw [eA, eB]
  unfold flightE flightL
  iintro ⟨⟨H5, H6, H7⟩, ⟨%fo, HO, %hd⟩, ⟨%W, HW⟩, HF⟩
  icases HF with ⟨⟨%f0, HF⟩, HH⟩
  dsimp only [tripG]
  sl_unfold [k0_t1_body]
  sl_exec
  have e18 : slotP c (k.val + 14) (landed c XA (k.val + 14) (1280 * k.val) (rslot (k.val + 14)).view.junk) = (slotP c (k.val + 14) (under c XA (k.val + 14)) : sProp 𝕄) := by
    rw [hk]
  ihave HD := (entails_of_eq e18) $$ HF_dst
  iapply (Transfers.wp_dmaLocal countersEmb 𝒱₀ (c : Thread nD τ) none () 25600 rfl (by decide) (tslot_sub (k.val + 14))) $$ [HH HD HF]
  · isplitl [HH]; · iexact HH
    isplitl [HD]; · iexact HD
    iexact HF
  iintro HF
  sl_step
  isplitl [H5 H6 H7]
  · isplitl [H5]; · iexact H5
    isplitl [H6]; · iexact H6
    iexact H7
  isplitl [HO]
  · iexists _
    isplitl [HO]; · iexact HO
    ipureintro
    exact done_succ c XA arg5 arg6 arg7 arg8 v119 v121 v123 v127 g5 g6 g7 k fo hd _ (by unfold payOf; rw [hv]; rfl)
  isplitl [HW]; · iexists _; iexact HW
  isplitl [HF]
  · iapply (entails_of_eq (flightT_after c XA (k.val + 14) (under c XA (k.val + 14)))); iexact HF
  iexact HF_src

/-- A trip between: nothing is issued any more. -/
theorem trip_mid (k : Fin k0_t1_loop.trips) (hk : 18 < k.val) (hk' : k.val < 22) :
    tripP c XA arg5 arg6 arg7 arg8 v119 v121 v123 v127 g5 g6 g7 k.val k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => tripP c XA arg5 arg6 arg7 arg8 v119 v121 v123 v127 g5 g6 g7 (k.val + 1) (k.val + 22)) := by
  have h1 : k0_cond1 k = 1#1 := (cond1_iff k).2 (by omega)
  have h2 : ¬ k0_cond2 k = 1#1 := fun h => by have := (cond2_iff k).1 h; omega
  have h3 : ¬ k0_cond3 k = 1#1 := fun h => by have := (cond3_iff k).1 h; omega
  have h4 : ¬ k0_cond4 k = 1#1 := fun h => by have := (cond4_iff k).1 h; omega
  have hv : slotV c XA arg5 g5 k = landV c XA k := by unfold slotV; rw [dif_neg h2]
  have eA : SlotP c XA k.val = flightE c XA (k.val + 14) (1280 * k.val) := by unfold SlotP; rw [if_neg (by omega), if_neg (by omega), if_pos (by omega)]
  have eB : SlotP c XA (k.val + 22) = iprop(freeP c (k.val + 14) ∗ homeP c XA k.val) := by
    unfold SlotP; rw [if_neg (by omega), if_neg (by omega), if_neg (by omega), if_neg (by omega), if_neg (by omega), if_pos (by omega), show k.val + 22 + 14 = k.val + 14 + 22 by omega, freeP_add, show k.val + 22 - 22 = k.val by omega]
  unfold tripP; rw [eA, eB]
  unfold flightE freeP
  iintro ⟨⟨H5, H6, H7⟩, ⟨%fo, HO, %hd⟩, ⟨%W, HW⟩, HF⟩
  icases HF with ⟨%f0, HF⟩
  dsimp only [tripG]
  sl_unfold [k0_t1_body]
  sl_exec
  sl_step
  isplitl [H5 H6 H7]
  · isplitl [H5]; · iexact H5
    isplitl [H6]; · iexact H6
    iexact H7
  isplitl [HO]
  · iexists _
    isplitl [HO]; · iexact HO
    ipureintro
    exact done_succ c XA arg5 arg6 arg7 arg8 v119 v121 v123 v127 g5 g6 g7 k fo hd _ (by unfold payOf; rw [hv]; rfl)
  isplitl [HW]; · iexists _; iexact HW
  isplitl [HF_dst HF]
  · isplitl [HF_dst]; · iexists _; iexact HF_dst
    iexact HF
  iexact HF_src

/-- A trip of the blocks issued in the loop. -/
theorem trip_late (k : Fin k0_t1_loop.trips) (hk : 22 ≤ k.val) (hk' : k.val < 40) :
    tripP c XA arg5 arg6 arg7 arg8 v119 v121 v123 v127 g5 g6 g7 k.val k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => tripP c XA arg5 arg6 arg7 arg8 v119 v121 v123 v127 g5 g6 g7 (k.val + 1) (k.val + 22)) := by
  have h1 : k0_cond1 k = 1#1 := (cond1_iff k).2 (by omega)
  have h2 : ¬ k0_cond2 k = 1#1 := fun h => by have := (cond2_iff k).1 h; omega
  have h3 : ¬ k0_cond3 k = 1#1 := fun h => by have := (cond3_iff k).1 h; omega
  have h4 : ¬ k0_cond4 k = 1#1 := fun h => by have := (cond4_iff k).1 h; omega
  have hv : slotV c XA arg5 g5 k = landV c XA k := by unfold slotV; rw [dif_neg h2]
  have eA : SlotP c XA k.val = iprop(flightE c XA (k.val + 14) (1280 * k.val) ∗ homeP c XA (k.val - 22)) := by unfold SlotP; rw [if_neg (by omega), if_neg (by omega), if_neg (by omega), if_pos (by omega)]
  have eB : SlotP c XA (k.val + 22) = iprop(freeP c (k.val + 14) ∗ homeP c XA k.val ∗ homeP c XA (k.val - 22)) := by
    unfold SlotP; rw [if_neg (by omega), if_neg (by omega), if_neg (by omega), if_neg (by omega), if_neg (by omega), if_neg (by omega), if_pos (by omega), show k.val + 22 + 14 = k.val + 14 + 22 by omega, freeP_add, show k.val + 22 - 22 = k.val by omega, show k.val + 22 - 44 = k.val - 22 by omega]
  unfold tripP; rw [eA, eB]
  unfold flightE freeP
  iintro ⟨⟨H5, H6, H7⟩, ⟨%fo, HO, %hd⟩, ⟨%W, HW⟩, HF⟩
  icases HF with ⟨⟨%f0, HF⟩, HH⟩
  dsimp only [tripG]
  sl_unfold [k0_t1_body]
  sl_exec
  sl_step
  isplitl [H5 H6 H7]
  · isplitl [H5]; · iexact H5
    isplitl [H6]; · iexact H6
    iexact H7
  isplitl [HO]
  · iexists _
    isplitl [HO]; · iexact HO
    ipureintro
    exact done_succ c XA arg5 arg6 arg7 arg8 v119 v121 v123 v127 g5 g6 g7 k fo hd _ (by unfold payOf; rw [hv]; rfl)
  isplitl [HW]; · iexists _; iexact HW
  isplitl [HF_dst HF]
  · isplitl [HF_dst]; · iexists _; iexact HF_dst
    iexact HF
  isplitl [HF_src]; · iexact HF_src
  iexact HH

/-- The last trip. -/
theorem trip_40 (k : Fin k0_t1_loop.trips) (hk : k.val = 40) :
    tripP c XA arg5 arg6 arg7 arg8 v119 v121 v123 v127 g5 g6 g7 k.val k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => tripP c XA arg5 arg6 arg7 arg8 v119 v121 v123 v127 g5 g6 g7 (k.val + 1) (k.val + 22)) := by
  have h1 : ¬ k0_cond1 k = 1#1 := fun h => by have := (cond1_iff k).1 h; omega
  have h2 : k0_cond2 k = 1#1 := (cond2_iff k).2 (by omega)
  have h3 : ¬ k0_cond3 k = 1#1 := fun h => by have := (cond3_iff k).1 h; omega
  have h4 : ¬ k0_cond4 k = 1#1 := fun h => by have := (cond4_iff k).1 h; omega
  have hv : slotV c XA arg5 g5 k = lastV c XA arg5 g5 k h2 := by unfold slotV; rw [dif_pos h2]
  have eA : SlotP c XA k.val = iprop(flightL c XA (k.val + 14) ∗ homeP c XA (k.val - 22)) := by unfold SlotP; rw [if_neg (by omega), if_neg (by omega), if_neg (by omega), if_neg (by omega), if_pos (by omega)]
  have eB : SlotP c XA (k.val + 22) = iprop(freeP c (k.val + 14) ∗ tailP c XA ∗ homeP c XA (k.val - 22)) := by
    unfold SlotP; rw [if_neg (by omega), if_neg (by omega), if_neg (by omega), if_neg (by omega), if_neg (by omega), if_neg (by omega), if_neg (by omega), show k.val + 22 + 14 = k.val + 14 + 22 by omega, freeP_add, show k.val + 22 - 44 = k.val - 22 by omega]
  unfold tripP; rw [eA, eB]
  unfold flightL freeP
  iintro ⟨⟨H5, H6, H7⟩, ⟨%fo, HO, %hd⟩, ⟨%W, HW⟩, HF⟩
  icases HF with ⟨HF, HH⟩
  dsimp only [tripG]
  sl_unfold [k0_t1_body]
  sl_exec
  sl_step
  isplitl [H5 H6 H7]
  · isplitl [H5]; · iexact H5
    isplitl [H6]; · iexact H6
    iexact H7
  isplitl [HO]
  · iexists _
    isplitl [HO]; · iexact HO
    ipureintro
    exact done_succ c XA arg5 arg6 arg7 arg8 v119 v121 v123 v127 g5 g6 g7 k fo hd _ (by unfold payOf; rw [hv]; rfl)
  isplitl [HW]; · iexists _; iexact HW
  isplitl [HF_dst HF]
  · isplitl [HF_dst]; · iexists _; iexact HF_dst
    iexact HF
  isplitl [HF_src]; · iexact HF_src
  iexact HH
end Trip

end Cert.Head.Ring

end
-- ==== Proof.Hd.Slots.lean ====
/-
  The 22 shares the loop starts with, from the first transfers and the rows still at home; and what the 22 shares it ends with
  hold: all of the table's blocks at home, every slot free.
-/
module

public import proofs.«01_k».proof.Proof.Hd.Trip
public import Idealize.SL.BI.BigOpNat
public import Mathlib.Algebra.Order.Interval.Finset.Basic

@[expose] public section

set_option maxRecDepth 16384

noncomputable section

namespace Cert.Head.Ring

open Cert.Head Cert.Head.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Slots
variable (c : Dev nD) (XA : Buf (Elt F) (embM.view.loc (c : Thread nD τ)))

theorem bigSep_shift (A B : ℕ → sProp 𝕄) (a b k : ℕ) (h : ∀ g, A (g + k) = B g) : bigSep (Finset.Ico (a + k) (b + k)) A = bigSep (Finset.Ico a b) B := by
  rw [← Finset.map_add_right_Ico a b k, bigSep_map]; exact bigSep_congr fun g _ => h g
/-- Equal terms over a run of numbers, by the run's bounds. -/
theorem bigSep_Ico_congr {A B : ℕ → sProp 𝕄} {a b : ℕ} (h : ∀ g, a ≤ g → g < b → A g = B g) : bigSep (Finset.Ico a b) A = bigSep (Finset.Ico a b) B :=
  bigSep_congr fun g hg => h g (Finset.mem_Ico.mp hg).1 (Finset.mem_Ico.mp hg).2

theorem bigSep_both (s : Finset ℕ) (Φ Ψ : ℕ → sProp 𝕄) : iprop(bigSep s Φ ∗ bigSep s Ψ) = bigSep s (fun i => iprop(Φ i ∗ Ψ i)) := (bigSep_sep s Φ Ψ).symm
theorem bigSep_Ico_consecutive {a b d : ℕ} (hab : a ≤ b) (hbd : b ≤ d) (A : ℕ → sProp 𝕄) :
    bigSep (Finset.Ico a d) A = iprop(bigSep (Finset.Ico a b) A ∗ bigSep (Finset.Ico b d) A) := by
  rw [← Finset.Ico_union_Ico_eq_Ico hab hbd, bigSep_union (Finset.Ico_disjoint_Ico_consecutive a b d)]; rfl
theorem bigSep_runs {a b d : ℕ} (hab : a ≤ b) (hbd : b ≤ d) (A : ℕ → sProp 𝕄) :
    iprop(bigSep (Finset.Ico a b) A ∗ bigSep (Finset.Ico b d) A) = bigSep (Finset.Ico a d) A := (bigSep_Ico_consecutive hab hbd A).symm
theorem bigSep_ins {s : Finset ℕ} {i : ℕ} (h : i ∉ s) (A : ℕ → sProp 𝕄) : bigSep (insert i s) A = iprop(A i ∗ bigSep s A) := bigSep_insert h

/-- Under a function of period 22, any 22 numbers in a row give what the numbers below 22 give. -/
theorem bigSep_period {A : ℕ → sProp 𝕄} (h : ∀ k, A (k + 22) = A k) (n : ℕ) : bigSep (Finset.Ico n (n + 22)) A = bigSep (Finset.Ico 0 22) A := by
  induction n with
  | zero => rfl
  | succ n ih =>
    rw [← ih, show Finset.Ico n (n + 22) = insert n (Finset.Ico (n + 1) (n + 22)) by ext x; simp only [Finset.mem_Ico, Finset.mem_insert]; omega,
      show Finset.Ico (n + 1) (n + 1 + 22) = insert (n + 22) (Finset.Ico (n + 1) (n + 22)) by ext x; simp only [Finset.mem_Ico, Finset.mem_insert]; omega,
      bigSep_ins (by simp), bigSep_ins (by simp), h]

theorem slots_start :
    iprop(bigSep (Finset.Ico 0 22) (fun b => flightE c XA (b + 14) (1280 * b)) ∗ bigSep (Finset.Ico 22 40) (homeP c XA) ∗ tailP c XA)
      ⊢ bigSep (Finset.Ico 0 22) (SlotP c XA) := by
  have e1 : bigSep (Finset.Ico 0 18) (SlotP c XA) = iprop(bigSep (Finset.Ico 0 18) (fun b => flightE c XA (b + 14) (1280 * b)) ∗ bigSep (Finset.Ico 22 40) (homeP c XA)) := by
    rw [bigSep_shift (homeP c XA) (fun b => homeP c XA (b + 22)) 0 18 22 fun _ => rfl, bigSep_both]
    exact bigSep_Ico_congr fun g _ h => by unfold SlotP; rw [if_pos h]
  have e2 : SlotP c XA 18 = iprop(flightE c XA (18 + 14) (1280 * 18) ∗ tailP c XA) := by unfold SlotP; rw [if_neg (by omega), if_pos rfl]
  have e3 : bigSep (Finset.Ico 19 22) (SlotP c XA) = bigSep (Finset.Ico 19 22) (fun b => flightE c XA (b + 14) (1280 * b)) :=
    bigSep_Ico_congr fun g h h' => by unfold SlotP; rw [if_neg (by omega), if_neg (by omega), if_pos (by omega)]
  have s (Φ : ℕ → sProp 𝕄) : bigSep (Finset.Ico 0 22) Φ = iprop(bigSep (Finset.Ico 0 18) Φ ∗ Φ 18 ∗ bigSep (Finset.Ico 19 22) Φ) := by
    rw [bigSep_Ico_consecutive (show 0 ≤ 18 by omega) (show 18 ≤ 22 by omega), bigSep_Ico_consecutive (show 18 ≤ 19 by omega) (show 19 ≤ 22 by omega), bigSep_Ico_one 18]
  rw [s, s, e1, e2, e3]
  iintro ⟨⟨A, B, C⟩, D, E⟩
  isplitl [A D]
  · isplitl [A]; · iexact A
    iexact D
  isplitl [B E]
  · isplitl [B]; · iexact B
    iexact E
  iexact C

theorem slots_end :
    bigSep (Finset.Ico 41 63) (SlotP c XA)
      ⊢ iprop(bigSep (Finset.Ico 0 22) (freeP c) ∗ bigSep (Finset.Ico 0 40) (homeP c XA) ∗ tailP c XA) := by
  have f (a b : ℕ) : bigSep (Finset.Ico a b) (fun b => freeP c (b + 14)) = (bigSep (Finset.Ico (a + 14) (b + 14)) (freeP c) : sProp 𝕄) :=
    (bigSep_shift (freeP c) _ a b 14 fun _ => rfl).symm
  have e1 : bigSep (Finset.Ico 41 44) (SlotP c XA) = iprop(bigSep (Finset.Ico 55 58) (freeP c) ∗ bigSep (Finset.Ico 19 22) (homeP c XA)) := by
    rw [← f 41 44, ← bigSep_shift (fun b => homeP c XA (b - 22)) (homeP c XA) 19 22 22 fun g => by rw [Nat.add_sub_cancel], bigSep_both]
    exact bigSep_Ico_congr fun g h h' => by
      unfold SlotP; rw [if_neg (by omega), if_neg (by omega), if_neg (by omega), if_neg (by omega), if_neg (by omega), if_pos (by omega)]
  have e2 : bigSep (Finset.Ico 44 62) (SlotP c XA) = iprop(bigSep (Finset.Ico 58 76) (freeP c) ∗ bigSep (Finset.Ico 22 40) (homeP c XA) ∗ bigSep (Finset.Ico 0 18) (homeP c XA)) := by
    rw [← f 44 62, ← bigSep_shift (fun b => homeP c XA (b - 22)) (homeP c XA) 22 40 22 fun g => by rw [Nat.add_sub_cancel],
      ← bigSep_shift (fun b => homeP c XA (b - 44)) (homeP c XA) 0 18 44 fun g => by rw [Nat.add_sub_cancel], bigSep_both, bigSep_both]
    exact bigSep_Ico_congr fun g h h' => by
      unfold SlotP; rw [if_neg (by omega), if_neg (by omega), if_neg (by omega), if_neg (by omega), if_neg (by omega), if_neg (by omega), if_pos (by omega)]
  have e3 : SlotP c XA 62 = iprop(freeP c 76 ∗ tailP c XA ∗ homeP c XA 18) := by
    unfold SlotP; rw [if_neg (by omega), if_neg (by omega), if_neg (by omega), if_neg (by omega), if_neg (by omega), if_neg (by omega), if_neg (by omega)]
  have s : bigSep (Finset.Ico 41 63) (SlotP c XA) = iprop(bigSep (Finset.Ico 41 44) (SlotP c XA) ∗ bigSep (Finset.Ico 44 62) (SlotP c XA) ∗ SlotP c XA 62) := by
    rw [bigSep_Ico_consecutive (show 41 ≤ 44 by omega) (show 44 ≤ 63 by omega), bigSep_Ico_consecutive (show 44 ≤ 62 by omega) (show 62 ≤ 63 by omega), bigSep_Ico_one 62]
  have h : bigSep (Finset.Ico 0 40) (homeP c XA) = iprop(bigSep (Finset.Ico 0 18) (homeP c XA) ∗ homeP c XA 18 ∗ bigSep (Finset.Ico 19 22) (homeP c XA) ∗ bigSep (Finset.Ico 22 40) (homeP c XA)) := by
    rw [bigSep_Ico_consecutive (show 0 ≤ 18 by omega) (show 18 ≤ 40 by omega), bigSep_Ico_consecutive (show 18 ≤ 19 by omega) (show 19 ≤ 40 by omega),
      bigSep_Ico_consecutive (show 19 ≤ 22 by omega) (show 22 ≤ 40 by omega), bigSep_Ico_one 18]
  have p : (bigSep (Finset.Ico 0 22) (freeP c) : sProp 𝕄) = iprop(bigSep (Finset.Ico 55 58) (freeP c) ∗ bigSep (Finset.Ico 58 76) (freeP c) ∗ freeP c 76) := by
    rw [← bigSep_Ico_one 76 (freeP c), bigSep_runs (show 58 ≤ 76 by omega) (show 76 ≤ 77 by omega), bigSep_runs (show 55 ≤ 58 by omega) (show 58 ≤ 77 by omega)]
    exact (bigSep_period (freeP_add c) 55).symm
  rw [s, e1, e2, e3, h, p]
  iintro ⟨⟨A, B⟩, ⟨C, D, E⟩, G, H, I⟩
  isplitl [A C G]
  · isplitl [A]; · iexact A
    isplitl [C]; · iexact C
    iexact G
  isplitl [B D E I]
  · isplitl [E]; · iexact E
    isplitl [I]; · iexact I
    isplitl [B]; · iexact B
    iexact D
  iexact H
end Slots

end Cert.Head.Ring

end
-- ==== Proof.Hd.Body.lean ====
/-
  The head's body: the first 22 transfers, the loop over its trips (`trip_*`), the store over the edge columns. What it leaves
  in the logits block is a function of the table, the residual, the layer norm's rows, the scale and the suppress row (`outV`).
-/
module

public import proofs.«01_k».proof.Proof.Hd.Slots
public import Idealize.ShloMosaic.Lib.Pointwise.Index

@[expose] public section

set_option maxRecDepth 16384

noncomputable section

namespace Cert.Head.Ring

open Cert.Head Cert.Head.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Start
variable (c : Dev nD) (XA : Buf (Elt F) (embM.view.loc (c : Thread nD τ)))

/-- What a first transfer needs: the rows from `o` on at home, slot `n` at anything, its semaphore at zero. -/
def startP (o n : ℕ) : sProp 𝕄 := iprop(homeR c XA o ∗ (∃ f, slotP c n f) ∗ cellP c n)
theorem startP_add (o n : ℕ) : startP c XA o (n + 22) = startP c XA o n := by
  unfold startP slotP cellP SB; rw [rslot_add, csm_add]

theorem bigSep22 (Φ : ℕ → sProp 𝕄) : bigSep (Finset.Ico 0 22) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  BI.bigSep_eq_bigSepL_of_eq [0, 1, 2, 3, 4, 5, 6, 7, 8, 9, 10, 11, 12, 13, 14, 15, 16, 17, 18, 19, 20, 21] (by decide) (by decide) Φ
/-- The 22 first transfers, slot by slot. -/
theorem starts_eq : bigSep (Finset.Ico 0 22) (fun b => startP c XA (1280 * b) (b + 14)) = iprop(startP c XA 0 14 ∗ startP c XA 1280 15 ∗ startP c XA 2560 16 ∗ startP c XA 3840 17 ∗ startP c XA 5120 18 ∗ startP c XA 6400 19 ∗ startP c XA 7680 20 ∗ startP c XA 8960 21 ∗ startP c XA 10240 0 ∗ startP c XA 11520 1 ∗ startP c XA 12800 2 ∗ startP c XA 14080 3 ∗ startP c XA 15360 4 ∗ startP c XA 16640 5 ∗ startP c XA 17920 6 ∗ startP c XA 19200 7 ∗ startP c XA 20480 8 ∗ startP c XA 21760 9 ∗ startP c XA 23040 10 ∗ startP c XA 24320 11 ∗ startP c XA 25600 12 ∗ startP c XA 26880 13) := by
  rw [bigSep22]
  simp only [startP_add c XA 10240 0, startP_add c XA 11520 1, startP_add c XA 12800 2, startP_add c XA 14080 3, startP_add c XA 15360 4, startP_add c XA 16640 5, startP_add c XA 17920 6, startP_add c XA 19200 7, startP_add c XA 20480 8, startP_add c XA 21760 9, startP_add c XA 23040 10, startP_add c XA 24320 11, startP_add c XA 25600 12, startP_add c XA 26880 13, Nat.reduceMul, Nat.reduceAdd]
theorem flights_eq : bigSep (Finset.Ico 0 22) (fun b => flightE c XA (b + 14) (1280 * b)) = iprop(flightE c XA 14 0 ∗ flightE c XA 15 1280 ∗ flightE c XA 16 2560 ∗ flightE c XA 17 3840 ∗ flightE c XA 18 5120 ∗ flightE c XA 19 6400 ∗ flightE c XA 20 7680 ∗ flightE c XA 21 8960 ∗ flightE c XA 0 10240 ∗ flightE c XA 1 11520 ∗ flightE c XA 2 12800 ∗ flightE c XA 3 14080 ∗ flightE c XA 4 15360 ∗ flightE c XA 5 16640 ∗ flightE c XA 6 17920 ∗ flightE c XA 7 19200 ∗ flightE c XA 8 20480 ∗ flightE c XA 9 21760 ∗ flightE c XA 10 23040 ∗ flightE c XA 11 24320 ∗ flightE c XA 12 25600 ∗ flightE c XA 13 26880) := by
  rw [bigSep22]
  simp only [flightE_add c XA 0 10240, flightE_add c XA 1 11520, flightE_add c XA 2 12800, flightE_add c XA 3 14080, flightE_add c XA 4 15360, flightE_add c XA 5 16640, flightE_add c XA 6 17920, flightE_add c XA 7 19200, flightE_add c XA 8 20480, flightE_add c XA 9 21760, flightE_add c XA 10 23040, flightE_add c XA 11 24320, flightE_add c XA 12 25600, flightE_add c XA 13 26880, Nat.reduceMul, Nat.reduceAdd]
end Start
section Body
variable (c : Dev nD) (XA : Buf (Elt F) (embM.view.loc (c : Thread nD τ)))
  (i : grid0.Coords) (arg1 : Memref sig .tc .vmem S10x1280 .f32) (harg1 : arg1.IsWhole) (arg2 : Memref sig .tc .vmem S1x1280 .f32) (harg2 : arg2.IsWhole) (arg3 : Memref sig .tc .vmem S1x1280 .f32) (harg3 : arg3.IsWhole) (arg5 : Memref sig .tc .vmem S32x1280 .i8) (harg5 : arg5.IsWhole) (arg6 : Memref sig .tc .vmem S1x52480 .f32) (harg6 : arg6.IsWhole) (arg7 : Memref sig .tc .vmem S1x52480 .f32) (harg7 : arg7.IsWhole) (arg8 : Memref sig .tc .vmem S10x52480 .f32) (harg8 : arg8.IsWhole) (arg10 : Memref sig .tc .vmem S16x1280 .f32) (harg10 : arg10.IsWhole)
  (v119 : Vec F S16x1280 .f32) (v121 : FVec F S1x1280 .f32) (v123 : FVec F S1x1280 .f32) (v127 : FVec F S16x1 .f32)

variable (g5 : Buf (Elt F) (arg5.view.loc (c : Thread nD τ))) (g6 : Buf (Elt F) (arg6.view.loc (c : Thread nD τ))) (g7 : Buf (Elt F) (arg7.view.loc (c : Thread nD τ)))

set_option maxHeartbeats 1000000 in
/-- A trip of the loop: from the resources before it to those before the next. -/
theorem trip_step (k : Fin k0_t1_loop.trips) :
    invAt c XA arg5 arg6 arg7 arg8 v119 v121 v123 v127 g5 g6 g7 k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => invAt c XA arg5 arg6 arg7 arg8 v119 v121 v123 v127 g5 g6 g7 (k.val + 1)) := by
  have hb : k.val < 41 := lt_of_lt_of_eq k.isLt trips_eq
  have hT : tripP c XA arg5 arg6 arg7 arg8 v119 v121 v123 v127 g5 g6 g7 k.val k.val
      ⊢ wp frame (wpE (defs₀ (F := F)) 𝒱₀ (c : Thread nD τ) none) Set.univ (tripG i arg1 harg1 arg2 harg2 arg3 harg3 arg5 harg5 arg6 harg6 arg7 harg7 arg8 harg8 arg10 harg10 v119 v121 v123 v127 k)
        (fun _ => tripP c XA arg5 arg6 arg7 arg8 v119 v121 v123 v127 g5 g6 g7 (k.val + 1) (k.val + 22)) := by
    rcases (by omega : k.val < 18 ∨ k.val = 18 ∨ (18 < k.val ∧ k.val < 22) ∨ (22 ≤ k.val ∧ k.val < 40) ∨ k.val = 40) with h | h | h | h | h
    · exact trip_lt c XA i arg1 harg1 arg2 harg2 arg3 harg3 arg5 harg5 arg6 harg6 arg7 harg7 arg8 harg8 arg10 harg10 v119 v121 v123 v127 g5 g6 g7 k h
    · exact trip_18 c XA i arg1 harg1 arg2 harg2 arg3 harg3 arg5 harg5 arg6 harg6 arg7 harg7 arg8 harg8 arg10 harg10 v119 v121 v123 v127 g5 g6 g7 k h
    · exact trip_mid c XA i arg1 harg1 arg2 harg2 arg3 harg3 arg5 harg5 arg6 harg6 arg7 harg7 arg8 harg8 arg10 harg10 v119 v121 v123 v127 g5 g6 g7 k h.1 h.2
    · exact trip_late c XA i arg1 harg1 arg2 harg2 arg3 harg3 arg5 harg5 arg6 harg6 arg7 harg7 arg8 harg8 arg10 harg10 v119 v121 v123 v127 g5 g6 g7 k h.1 h.2
    · exact trip_40 c XA i arg1 harg1 arg2 harg2 arg3 harg3 arg5 harg5 arg6 harg6 arg7 harg7 arg8 harg8 arg10 harg10 v119 v121 v123 v127 g5 g6 g7 k h
  have e1 : Finset.Ico k.val (k.val + 22) = insert k.val (Finset.Ico (k.val + 1) (k.val + 22)) := by
    ext x; simp only [Finset.mem_Ico, Finset.mem_insert]; omega
  have e2 : Finset.Ico (k.val + 1) (k.val + 1 + 22) = insert (k.val + 22) (Finset.Ico (k.val + 1) (k.val + 22)) := by
    ext x; simp only [Finset.mem_Ico, Finset.mem_insert]; omega
  unfold invAt
  rw [e1, e2, bigSep_ins (by simp), bigSep_ins (by simp)]
  iintro ⟨HI, HO, HW, HS, HR⟩
  iapply wp_wand_r
  isplitl [HI HO HW HS]
  · iapply hT
    isplitl [HI]; · iexact HI
    isplitl [HO]; · iexact HO
    isplitl [HW]; · iexact HW
    iexact HS
  iintro %_ ⟨HI, HO, HW, HS⟩
  isplitl [HI]; · iexact HI
  isplitl [HO]; · iexact HO
  isplitl [HW]; · iexact HW
  isplitl [HS]; · iexact HS
  iexact HR
end Body

/-- The residual's rows, padded to 16. -/
abbrev rowM : Memref sig .tc .vmem S16x1280 .f32 := Memref.whole cc0_scratch1
abbrev R10 : Rect S16x1280 := Rect.unit (s := S16x1280) ![0, 0] S10x1280.size inb_S16x1280_S10x1280_0_0
abbrev R16 : Rect S16x1280 := Rect.unit (s := S16x1280) ![0, 0] S16x1280.size inb_S16x1280_S16x1280_0_0
abbrev R1 : Rect S1x1280 := Rect.unit (s := S1x1280) ![0, 0] S1x1280.size inb_S1x1280_S1x1280_0_0
abbrev RX : Rect S10x1280 := Rect.unit (s := S10x1280) ![0, 0] S10x1280.size inb_S10x1280_S10x1280_0_0
theorem flight_intro (c : Dev nD) (XA : Buf (Elt F) (embM.view.loc (c : Thread nD τ))) (n o : ℕ) (f : SB (F := F) c n) :
    Transfers.Flight countersEmb (c : Thread nD τ) (SemLoc.dma (csm n).sem) () 51200
          iprop(((rslot n).view.loc (c : Thread nD τ) ↦[(rslot n).view.set]{fullShare}
                  (rslot n).view.writes (Elt F) f [⟨Rect.whole S1280x1280, payR c XA o⟩])
                ∗ homeR c XA o) ⊢ flightE c XA n o := by
  unfold flightE
  iintro H
  iexists f
  iexact H
section Run
variable (c : Dev nD) (XA : Buf (Elt F) (embM.view.loc (c : Thread nD τ)))
  (i : grid0.Coords) (arg1 : Memref sig .tc .vmem S10x1280 .f32) (harg1 : arg1.IsWhole) (arg2 : Memref sig .tc .vmem S1x1280 .f32) (harg2 : arg2.IsWhole) (arg3 : Memref sig .tc .vmem S1x1280 .f32) (harg3 : arg3.IsWhole) (arg5 : Memref sig .tc .vmem S32x1280 .i8) (harg5 : arg5.IsWhole) (arg6 : Memref sig .tc .vmem S1x52480 .f32) (harg6 : arg6.IsWhole) (arg7 : Memref sig .tc .vmem S1x52480 .f32) (harg7 : arg7.IsWhole) (arg8 : Memref sig .tc .vmem S10x52480 .f32) (harg8 : arg8.IsWhole)

variable (g5 : Buf (Elt F) (arg5.view.loc (c : Thread nD τ))) (g6 : Buf (Elt F) (arg6.view.loc (c : Thread nD τ))) (g7 : Buf (Elt F) (arg7.view.loc (c : Thread nD τ)))

variable (g1 : Buf (Elt F) (arg1.view.loc (c : Thread nD τ))) (g2 : Buf (Elt F) (arg2.view.loc (c : Thread nD τ))) (g3 : Buf (Elt F) (arg3.view.loc (c : Thread nD τ)))

/-- The 16 rows the layer norm reads: the residual's 10, and zeros. -/
def v119 : Vec F S16x1280 .f32 :=
  rowM.view.readCov [⟨R10, k0_pay6 (arg1.view.readAt (Elt F) RX.toLoadRect g1)⟩, ⟨R16, k0_pay5⟩] R16.toLoadRect
/-- The logits before the edge columns are masked: trip `y / 1280`'s columns. -/
def rawV (y : S10x52480.Idx) : Elt F .f32 :=
  payOf c XA arg5 arg6 arg7 (v119 c arg1 g1) (k0_pay7 (arg2.view.readAt (Elt F) R1.toLoadRect g2)) (k0_pay8 (arg3.view.readAt (Elt F) R1.toLoadRect g3)) (k0_pay9 (v119 c arg1 g1)) g5 g6 g7 ⟨(y 1).val / 1280, by have h : (y 1).val < 52480 := (y 1).isLt; rw [trips_eq]; omega⟩
    (ix2 (n0 := 10) (n1 := 1280) (y 0) ⟨(y 1).val % 1280, Nat.mod_lt _ (by omega)⟩)
abbrev RM : Rect S10x52480 := Rect.unit (s := S10x52480) ![0, 51840] S10x128.size inb_S10x52480_S10x128_0_51840
/-- The logits: the columns from 51840 to 51968 as the last store leaves them. -/
def outV (y : S10x52480.Idx) : Elt F .f32 :=
  if h : 51840 ≤ (y 1).val ∧ (y 1).val < 51968 then
    k0_pay2 (fun x => rawV c XA arg1 arg2 arg3 arg5 arg6 arg7 g5 g6 g7 g1 g2 g3 (RM.emb x)) (ix2 (n0 := 10) (n1 := 128) (y 0) ⟨(y 1).val - 51840, by omega⟩)
  else rawV c XA arg1 arg2 arg3 arg5 arg6 arg7 g5 g6 g7 g1 g2 g3 y

theorem read_of_done (fo : Buf (Elt F) (arg8.view.loc (c : Thread nD τ))) (h : Done c XA arg5 arg6 arg7 arg8 (v119 c arg1 g1) (k0_pay7 (arg2.view.readAt (Elt F) R1.toLoadRect g2)) (k0_pay8 (arg3.view.readAt (Elt F) R1.toLoadRect g3)) (k0_pay9 (v119 c arg1 g1)) g5 g6 g7 41 fo) :
    arg8.view.read (Elt F) fo = rawV c XA arg1 arg2 arg3 arg5 arg6 arg7 g5 g6 g7 g1 g2 g3 := by
  funext y
  have hy : (y 1).val < 52480 := (y 1).isLt
  have hb := h ⟨(y 1).val / 1280, by rw [trips_eq]; omega⟩ (show (y 1).val / 1280 < 41 by omega)
    (ix2 (n0 := 10) (n1 := 1280) (y 0) ⟨(y 1).val % 1280, Nat.mod_lt _ (by omega)⟩)
  unfold rawV
  rw [← hb]
  congr 1
  funext a
  apply Fin.ext
  refine a.cases ?_ (fun b => ?_)
  · show (y 0).val = k0_off8 ⟨(y 1).val / 1280, by rw [trips_eq]; omega⟩ 0 + 1 * (y 0).val
    rw [k0_off8_eq]; simp
  · obtain rfl : b = 0 := Subsingleton.elim _ _
    show (y 1).val = k0_off8 ⟨(y 1).val / 1280, by rw [trips_eq]; omega⟩ 1 + 1 * ((y 1).val % 1280)
    rw [k0_off8_eq]
    show (y 1).val = 1280 * ((y 1).val / 1280) + 1 * ((y 1).val % 1280)
    omega

theorem read_after (fo : Buf (Elt F) (arg8.view.loc (c : Thread nD τ))) (h : Done c XA arg5 arg6 arg7 arg8 (v119 c arg1 g1) (k0_pay7 (arg2.view.readAt (Elt F) R1.toLoadRect g2)) (k0_pay8 (arg3.view.readAt (Elt F) R1.toLoadRect g3)) (k0_pay9 (v119 c arg1 g1)) g5 g6 g7 41 fo) :
    arg8.view.read (Elt F) (arg8.view.writes (Elt F) fo [⟨RM, k0_pay2 (arg8.view.readAt (Elt F) RM.toLoadRect fo)⟩])
      = outV c XA arg1 arg2 arg3 arg5 arg6 arg7 g5 g6 g7 g1 g2 g3 := by
  have e : arg8.view.readAt (Elt F) RM.toLoadRect fo = fun x => rawV c XA arg1 arg2 arg3 arg5 arg6 arg7 g5 g6 g7 g1 g2 g3 (RM.emb x) := by
    rw [← read_of_done (h := h)]; rfl
  funext y
  have hy : (y 1).val < 52480 := (y 1).isLt
  rw [e]
  unfold outV
  split
  · next hm =>
    have he : y = RM.emb (ix2 (n0 := 10) (n1 := 128) (y 0) ⟨(y 1).val - 51840, by omega⟩) := by
      funext a
      apply Fin.ext
      refine a.cases ?_ (fun b => ?_)
      · show (y 0).val = 0 + 1 * (y 0).val
        omega
      · obtain rfl : b = 0 := Subsingleton.elim _ _
        show (y 1).val = 51840 + 1 * ((y 1).val - 51840)
        omega
    conv_lhs => rw [he]
    exact View.read_writes_cons_emb _ _ _ _ _ _
  · next hm =>
    refine (View.read_writes_cons_miss_of_axis _ _ _ _ _ 1 51840 128 rfl rfl rfl ?_).trans ?_
    · by_contra hc; exact hm (by omega)
    · exact congrFun (read_of_done (h := h) ..) y

set_option maxHeartbeats 2000000 in
theorem bodyRun (gO : Buf (Elt F) (arg8.view.loc (c : Thread nD τ))) (gR : Buf (Elt F) (rowM.view.loc (c : Thread nD τ))) :
    iprop((arg1.view.loc (c : Thread nD τ) ↦[arg1.view.set]{fullShare} g1) ∗ (arg2.view.loc (c : Thread nD τ) ↦[arg2.view.set]{fullShare} g2)
      ∗ (arg3.view.loc (c : Thread nD τ) ↦[arg3.view.set]{fullShare} g3) ∗ insP c arg5 arg6 arg7 g5 g6 g7 ∗ oP c arg8 gO
      ∗ (rowM.view.loc (c : Thread nD τ) ↦[rowM.view.set]{fullShare} gR) ∗ (∃ W, owes (c : Thread nD τ) 0 W)
      ∗ bigSep (Finset.Ico 0 22) (fun b => startP c XA (1280 * b) (b + 14))
      ∗ bigSep (Finset.Ico 22 40) (homeP c XA) ∗ tailP c XA)
      ⊢ wp frame (wpE (defs₀ (F := F)) 𝒱₀ (c : Thread nD τ) none) Set.univ
          (cc0_decoder_step (F := F) i arg1 harg1 arg2 harg2 arg3 harg3 embM (Memref.isWhole_whole _) arg5 harg5 arg6 harg6 arg7 harg7 arg8 harg8 ringM (Memref.isWhole_whole _) rowM (Memref.isWhole_whole _) cc0_scratch2)
          (fun _ => iprop((arg1.view.loc (c : Thread nD τ) ↦[arg1.view.set]{fullShare} g1) ∗ (arg2.view.loc (c : Thread nD τ) ↦[arg2.view.set]{fullShare} g2)
            ∗ (arg3.view.loc (c : Thread nD τ) ↦[arg3.view.set]{fullShare} g3) ∗ insP c arg5 arg6 arg7 g5 g6 g7
            ∗ (∃ fo, oP c arg8 fo ∗ ⌜arg8.view.read (Elt F) fo = outV c XA arg1 arg2 arg3 arg5 arg6 arg7 g5 g6 g7 g1 g2 g3⌝)
            ∗ (∃ f, rowM.view.loc (c : Thread nD τ) ↦[rowM.view.set]{fullShare} f) ∗ (∃ W, owes (c : Thread nD τ) 0 W)
            ∗ bigSep (Finset.Ico 0 22) (freeP c) ∗ bigSep (Finset.Ico 0 40) (homeP c XA) ∗ tailP c XA)) := by
  rw [starts_eq]
  unfold startP
  iintro ⟨H1, H2, H3, ⟨H5, H6, H7⟩, HO, HR, ⟨%W, HW⟩, ⟨⟨A0, ⟨%f0, B0⟩, C0⟩, ⟨A1, ⟨%f1, B1⟩, C1⟩, ⟨A2, ⟨%f2, B2⟩, C2⟩, ⟨A3, ⟨%f3, B3⟩, C3⟩, ⟨A4, ⟨%f4, B4⟩, C4⟩, ⟨A5, ⟨%f5, B5⟩, C5⟩, ⟨A6, ⟨%f6, B6⟩, C6⟩, ⟨A7, ⟨%f7, B7⟩, C7⟩, ⟨A8, ⟨%f8, B8⟩, C8⟩, ⟨A9, ⟨%f9, B9⟩, C9⟩, ⟨A10, ⟨%f10, B10⟩, C10⟩, ⟨A11, ⟨%f11, B11⟩, C11⟩, ⟨A12, ⟨%f12, B12⟩, C12⟩, ⟨A13, ⟨%f13, B13⟩, C13⟩, ⟨A14, ⟨%f14, B14⟩, C14⟩, ⟨A15, ⟨%f15, B15⟩, C15⟩, ⟨A16, ⟨%f16, B16⟩, C16⟩, ⟨A17, ⟨%f17, B17⟩, C17⟩, ⟨A18, ⟨%f18, B18⟩, C18⟩, ⟨A19, ⟨%f19, B19⟩, C19⟩, ⟨A20, ⟨%f20, B20⟩, C20⟩, ⟨A21, ⟨%f21, B21⟩, C21⟩⟩, HH, HT⟩
  sl_unfold [cc0_decoder_step]
  sl_exec
  have hd : Done c XA arg5 arg6 arg7 arg8 (v119 c arg1 g1) (k0_pay7 (arg2.view.readAt (Elt F) R1.toLoadRect g2)) (k0_pay8 (arg3.view.readAt (Elt F) R1.toLoadRect g3)) (k0_pay9 (v119 c arg1 g1)) g5 g6 g7 0 gO := fun b hb => absurd hb (Nat.not_lt_zero _)
  sl_for (fun k _ => invAt c XA arg5 arg6 arg7 arg8 (v119 c arg1 g1) (k0_pay7 (arg2.view.readAt (Elt F) R1.toLoadRect g2)) (k0_pay8 (arg3.view.readAt (Elt F) R1.toLoadRect g3)) (k0_pay9 (v119 c arg1 g1)) g5 g6 g7 k) $$ [H5 H6 H7 HO HW HH HT C0 C1 C2 C3 C4 C5 C6 C7 C8 C9 C10 C11 C12 C13 C14 C15 C16 C17 C18 C19 C20 C21]
  case region => exact fun k acc => trip_step c XA i arg1 harg1 arg2 harg2 arg3 harg3 arg5 harg5 arg6 harg6 arg7 harg7 arg8 harg8 rowM (Memref.isWhole_whole _) _ _ _ _ g5 g6 g7 k
  · unfold invAt
    isplitl [H5 H6 H7]
    · isplitl [H5]; · iexact H5
      isplitl [H6]; · iexact H6
      iexact H7
    isplitl [HO]
    · iexists gO
      isplitl [HO]; · iexact HO
      ipureintro; exact hd
    isplitl [HW]; · iexists _; iexact HW
    iapply (slots_start c XA)
    isplitr [HH HT]
    · irw [flights_eq]
      isplitl [C0]; · iapply flight_intro; iexact C0
      isplitl [C1]; · iapply flight_intro; iexact C1
      isplitl [C2]; · iapply flight_intro; iexact C2
      isplitl [C3]; · iapply flight_intro; iexact C3
      isplitl [C4]; · iapply flight_intro; iexact C4
      isplitl [C5]; · iapply flight_intro; iexact C5
      isplitl [C6]; · iapply flight_intro; iexact C6
      isplitl [C7]; · iapply flight_intro; iexact C7
      isplitl [C8]; · iapply flight_intro; iexact C8
      isplitl [C9]; · iapply flight_intro; iexact C9
      isplitl [C10]; · iapply flight_intro; iexact C10
      isplitl [C11]; · iapply flight_intro; iexact C11
      isplitl [C12]; · iapply flight_intro; iexact C12
      isplitl [C13]; · iapply flight_intro; iexact C13
      isplitl [C14]; · iapply flight_intro; iexact C14
      isplitl [C15]; · iapply flight_intro; iexact C15
      isplitl [C16]; · iapply flight_intro; iexact C16
      isplitl [C17]; · iapply flight_intro; iexact C17
      isplitl [C18]; · iapply flight_intro; iexact C18
      isplitl [C19]; · iapply flight_intro; iexact C19
      isplitl [C20]; · iapply flight_intro; iexact C20
      iapply flight_intro; iexact C21
    isplitl [HH]; · iexact HH
    iexact HT
  iintro %acc HI
  unfold invAt
  icases HI with ⟨⟨H5, H6, H7⟩, ⟨%fo, HO, %hD⟩, ⟨%W', HW⟩, HS⟩
  have hT : Scf.trips k0_t1_loop.lb k0_t1_loop.ub k0_t1_loop.st = 41 := trips_eq
  have hD' : Done c XA arg5 arg6 arg7 arg8 (v119 c arg1 g1) (k0_pay7 (arg2.view.readAt (Elt F) R1.toLoadRect g2)) (k0_pay8 (arg3.view.readAt (Elt F) R1.toLoadRect g3)) (k0_pay9 (v119 c arg1 g1)) g5 g6 g7 41 fo := hT ▸ hD
  sl_exec
  sl_step
  isplitl [H1]; · iexact H1
  isplitl [H2]; · iexact H2
  isplitl [H3]; · iexact H3
  isplitl [H5 H6 H7]
  · isplitl [H5]; · iexact H5
    isplitl [H6]; · iexact H6
    iexact H7
  isplitl [HO]
  · iexists _
    isplitl [HO]; · iexact HO
    ipureintro
    exact read_after (h := hD') ..
  isplitl [HR]; · iexists _; iexact HR
  isplitl [HW]; · iexists _; iexact HW
  iapply (slots_end c XA)
  irw [show Finset.Ico 41 63 = Finset.Ico (Scf.trips k0_t1_loop.lb k0_t1_loop.ub k0_t1_loop.st) (Scf.trips k0_t1_loop.lb k0_t1_loop.ub k0_t1_loop.st + 22) by rw [hT]]
  iexact HS
end Run

end Cert.Head.Ring

end
-- ==== Proof.Hd.Bufs.lean ====
/-
  The ring's buffer as its 22 slots, the table as its 40 blocks, its last 640 whole rows and the rows the transfers leave alone.
-/
module

public import proofs.«01_k».proof.Proof.Hd.Body

@[expose] public section

set_option maxRecDepth 16384

noncomputable section

namespace Cert.Head.Ring

open Cert.Head Cert.Head.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Bufs
variable (c : Dev nD) (XA : Buf (Elt F) (embM.view.loc (c : Thread nD τ)))

theorem bigSep_fin (n : ℕ) (Ψ : ℕ → sProp 𝕄) : bigSep (Finset.univ : Finset (Fin n)) (fun b => Ψ b.val) = bigSep (Finset.Ico 0 n) Ψ := by
  have e : Finset.Ico 0 n = (Finset.univ : Finset (Fin n)).map Fin.valEmbedding := by
    ext x
    simp only [Finset.mem_Ico, Finset.mem_map, Finset.mem_univ, true_and, Fin.valEmbedding_apply]
    exact ⟨fun h => ⟨⟨x, h.2⟩, rfl⟩, fun ⟨b, hb⟩ => ⟨Nat.zero_le _, hb ▸ b.isLt⟩⟩
  rw [e, bigSep_map]; rfl

/-! ## The ring -/

def ringPart (b : Fin 22) : Finset (Idx (ringM.view.loc (c : Thread nD τ))) := Finset.univ.filter fun y : S22x1280x1280.Idx => (y 0).val = b.val
theorem ringPart_disj (b b' : Fin 22) (h : b ≠ b') : Disjoint (ringPart c b) (ringPart c b') := by
  rw [Finset.disjoint_left]; intro y hy hy'
  exact h (Fin.ext ((Finset.mem_filter.1 hy).2.symm.trans (Finset.mem_filter.1 hy').2))
theorem ringPart_cover : Finset.univ.biUnion (ringPart c) = Finset.univ := by
  ext y
  simp only [Finset.mem_biUnion, Finset.mem_univ, true_and, iff_true]
  exact ⟨⟨((y : S22x1280x1280.Idx) 0).val, ((y : S22x1280x1280.Idx) 0).isLt⟩, Finset.mem_filter.2 ⟨Finset.mem_univ _, rfl⟩⟩
theorem ringPart_eq (b : Fin 22) : ringPart c b = (rslot b.val : Memref sig .tc .vmem _ _).view.set := by
  rw [rslot_set]
  ext y
  refine Iff.trans ?_ (mem_slotSet b.val y).symm
  rw [Nat.mod_eq_of_lt b.isLt]
  exact Finset.mem_filter.trans (and_iff_right (Finset.mem_univ _))
/-- The ring's buffer at anything is its slots at anything, -/
theorem ring_split (f : Buf (Elt F) (ringM.view.loc (c : Thread nD τ))) :
    ((ringM.view.loc (c : Thread nD τ) ↦{fullShare} f) : sProp 𝕄) ⊢ bigSep (Finset.Ico 0 22) (fun n => iprop(∃ f, slotP c n f)) := by
  rw [Ring.pointsTo_blocks (ringPart c) (ringPart_disj c) (ringPart_cover c) f, ← bigSep_fin 22 (fun n => iprop(∃ f, slotP c n f))]
  refine bigSep_mono fun b _ => ?_
  rw [ringPart_eq]
  show _ ⊢ (iprop(∃ f, slotP c b.val f) : sProp 𝕄)
  iintro H; iexists f; iexact H
/-- and back. -/
theorem ring_join : bigSep (Finset.Ico 0 22) (fun n => iprop(∃ f, slotP c n f)) ⊢ (iprop(∃ f, ringM.view.loc (c : Thread nD τ) ↦{fullShare} f) : sProp 𝕄) := by
  rw [← bigSep_fin 22 (fun n => iprop(∃ f, slotP c n f))]
  refine BIBase.Entails.trans (bigSep_mono fun b _ => ?_) (Ring.pointsTo_blocks_join_exists (ringPart c) (ringPart_disj c) (ringPart_cover c) ringM.view.junk)
  rw [ringPart_eq]
  show (iprop(∃ f, slotP c b.val f) : sProp 𝕄) ⊢ _
  exact .rfl

/-! ## The table -/

def tabPart (b : Fin 42) : Finset (Idx (embM.view.loc (c : Thread nD τ))) :=
  Finset.univ.filter fun y : S51866x1280.Idx => (if (y 0).val < 51200 then (y 0).val / 1280 else if (y 0).val < 51840 then 40 else 41) = b.val
theorem tabPart_disj (b b' : Fin 42) (h : b ≠ b') : Disjoint (tabPart c b) (tabPart c b') := by
  rw [Finset.disjoint_left]; intro y hy hy'
  exact h (Fin.ext ((Finset.mem_filter.1 hy).2.symm.trans (Finset.mem_filter.1 hy').2))
theorem tabPart_cover : Finset.univ.biUnion (tabPart c) = Finset.univ := by
  ext y
  simp only [Finset.mem_biUnion, Finset.mem_univ, true_and, iff_true]
  refine ⟨⟨if ((y : S51866x1280.Idx) 0).val < 51200 then ((y : S51866x1280.Idx) 0).val / 1280 else if ((y : S51866x1280.Idx) 0).val < 51840 then 40 else 41, ?_⟩,
    Finset.mem_filter.2 ⟨Finset.mem_univ _, rfl⟩⟩
  split
  · omega
  · split <;> omega
/-- The rows past the last whole 640 stay whole. -/
abbrev restP : sProp 𝕄 := embM.view.loc (c : Thread nD τ) ↦[tabPart c 41]{fullShare} XA
theorem tabPart_home (b : ℕ) (h : b < 40) : tabPart c ⟨b, by omega⟩ = (rows (1280 * b) : Memref sig .tc .hbm _ _).view.set := by
  have e : (rows (1280 * b) : Memref sig .tc .hbm _ _).view.set = (Rect.unit (s := S51866x1280) (rowOff (1280 * b)) S1280x1280.size (rowOff_inb (1280 * b))).set := View.set_slice_whole _ _
  rw [e]
  ext y
  refine Iff.trans (Finset.mem_filter.trans (and_iff_right (Finset.mem_univ _))) (Iff.trans ?_ Rect.mem_set_unit.symm)
  have h0 : ((y : S51866x1280.Idx) 0).val < 51866 := ((y : S51866x1280.Idx) 0).isLt
  have h1 : ((y : S51866x1280.Idx) 1).val < 1280 := ((y : S51866x1280.Idx) 1).isLt
  constructor
  · intro H a
    split at H <;> [skip; (split at H <;> (exfalso; simp only at H; omega))]
    simp only at H
    fin_cases a
    · show min (1280 * b) 50586 ≤ ((y : S51866x1280.Idx) 0).val ∧ ((y : S51866x1280.Idx) 0).val < min (1280 * b) 50586 + 1280; omega
    · show 0 ≤ ((y : S51866x1280.Idx) 1).val ∧ ((y : S51866x1280.Idx) 1).val < 0 + 1280; omega
  · intro H
    have a0 : min (1280 * b) 50586 ≤ ((y : S51866x1280.Idx) 0).val ∧ ((y : S51866x1280.Idx) 0).val < min (1280 * b) 50586 + 1280 := H 0
    rw [if_pos (by omega)]
    show _ = b
    omega
theorem tabPart_tail : tabPart c 40 = (tailM : Memref sig .tc .hbm _ _).view.set := by
  have e : (tailM : Memref sig .tc .hbm _ _).view.set = (Rect.unit (s := S51866x1280) ![51200, 0] S640x1280.size inb_S51866x1280_S640x1280_51200_0).set := View.set_slice_whole _ _
  rw [e]
  ext y
  refine Iff.trans (Finset.mem_filter.trans (and_iff_right (Finset.mem_univ _))) (Iff.trans ?_ Rect.mem_set_unit.symm)
  have h0 : ((y : S51866x1280.Idx) 0).val < 51866 := ((y : S51866x1280.Idx) 0).isLt
  have h1 : ((y : S51866x1280.Idx) 1).val < 1280 := ((y : S51866x1280.Idx) 1).isLt
  constructor
  · intro H a
    have H' : (if ((y : S51866x1280.Idx) 0).val < 51200 then ((y : S51866x1280.Idx) 0).val / 1280 else if ((y : S51866x1280.Idx) 0).val < 51840 then 40 else 41) = 40 := H
    have H'' : 51200 ≤ ((y : S51866x1280.Idx) 0).val ∧ ((y : S51866x1280.Idx) 0).val < 51840 := by split at H' <;> [omega; (split at H' <;> omega)]
    fin_cases a
    · show 51200 ≤ ((y : S51866x1280.Idx) 0).val ∧ ((y : S51866x1280.Idx) 0).val < 51200 + 640; omega
    · show 0 ≤ ((y : S51866x1280.Idx) 1).val ∧ ((y : S51866x1280.Idx) 1).val < 0 + 1280; omega
  · intro H
    have a0 : 51200 ≤ ((y : S51866x1280.Idx) 0).val ∧ ((y : S51866x1280.Idx) 0).val < 51200 + 640 := H 0
    rw [if_neg (by omega), if_pos (by omega)]
    rfl
/-- The table whole is its blocks, the tail and the rest. -/
theorem tab_eq : ((embM.view.loc (c : Thread nD τ) ↦{fullShare} XA) : sProp 𝕄) = iprop(bigSep (Finset.Ico 0 40) (homeP c XA) ∗ tailP c XA ∗ restP c XA) := by
  let Ψ : ℕ → sProp 𝕄 := fun b => if b < 40 then homeP c XA b else if b = 40 then tailP c XA else restP c XA
  have e (b : Fin 42) : (embM.view.loc (c : Thread nD τ) ↦[tabPart c b]{fullShare} XA : sProp 𝕄) = Ψ b.val := by
    rcases (by omega : b.val < 40 ∨ b.val = 40 ∨ b.val = 41) with h | h | h
    · rw [show Ψ b.val = homeP c XA b.val from if_pos h, show b = ⟨b.val, by omega⟩ from rfl, tabPart_home c b.val h]; rfl
    · rw [show Ψ b.val = tailP c XA from (if_neg (by omega)).trans (if_pos h), show b = 40 from Fin.ext h, tabPart_tail]; rfl
    · rw [show Ψ b.val = restP c XA from (if_neg (by omega)).trans (if_neg (by omega)), show b = 41 from Fin.ext h]
  rw [Ring.pointsTo_blocks (tabPart c) (tabPart_disj c) (tabPart_cover c) XA, bigSep_congr (fun b _ => e b), bigSep_fin 42 Ψ,
    bigSep_Ico_consecutive (show 0 ≤ 40 by omega) (show 40 ≤ 42 by omega), bigSep_Ico_consecutive (show 40 ≤ 41 by omega) (show 41 ≤ 42 by omega), bigSep_Ico_one 40, bigSep_Ico_one 41,
    bigSep_Ico_congr (A := Ψ) (B := homeP c XA) fun g _ h => if_pos h]
  rfl

/-! ## What the body starts with and ends with -/

theorem starts_of :
    iprop(bigSep (Finset.Ico 0 22) (homeP c XA) ∗ bigSep (Finset.Ico 0 22) (fun n => iprop(∃ f, slotP c n f)) ∗ bigSep (Finset.Ico 0 22) (cellP c))
      ⊢ bigSep (Finset.Ico 0 22) (fun b => startP c XA (1280 * b) (b + 14)) := by
  have e1 : (bigSep (Finset.Ico 0 22) (fun n => iprop(∃ f, slotP c n f)) : sProp 𝕄) = bigSep (Finset.Ico 0 22) (fun b => iprop(∃ f, slotP c (b + 14) f)) :=
    (bigSep_period (A := fun n => iprop(∃ f, slotP c n f)) (fun k => by unfold slotP SB; rw [rslot_add]) 14).symm.trans
      (bigSep_shift (fun n => iprop(∃ f, slotP c n f)) (fun b => iprop(∃ f, slotP c (b + 14) f)) 0 22 14 fun _ => rfl)
  have e2 : (bigSep (Finset.Ico 0 22) (cellP c) : sProp 𝕄) = bigSep (Finset.Ico 0 22) (fun b => cellP c (b + 14)) :=
    (bigSep_period (A := cellP c) (fun k => by unfold cellP; rw [csm_add]) 14).symm.trans (bigSep_shift (cellP c) (fun b => cellP c (b + 14)) 0 22 14 fun _ => rfl)
  rw [e1, e2, bigSep_both, bigSep_both]
  exact .rfl
theorem free_end : (bigSep (Finset.Ico 0 22) (freeP c) : sProp 𝕄) = iprop(bigSep (Finset.Ico 0 22) (fun n => iprop(∃ f, slotP c n f)) ∗ bigSep (Finset.Ico 0 22) (cellP c)) := by
  rw [bigSep_both]; rfl
/-- The ring's 22 semaphores. -/
abbrev osem0 : Fin 22 → SemLoc sig := fun j => SemLoc.dma (csm j.val).sem
theorem ownSemFacts0 : Pipeline.OwnSemFacts spec0 osem0 := by decide
theorem ownSems_eq : (Pipeline.ownSems0 (Ix := Unit) (Name := ℕ) (U := Pipeline.UD sig nD τ) (Lvl := ℕ) (Val := Elt F) (τ := τ) osem0 c : sProp 𝕄) = bigSep (Finset.Ico 0 22) (cellP c) :=
  bigSep_fin 22 (cellP c)
end Bufs

end Cert.Head.Ring

end
-- ==== Proof.Hd.Run.lean ====
/-
  The launch: what the region finds and leaves, the body's obligation at its one grid point, the run of the program, its frame,
  and the result as a function of the arguments.
-/
module

public import proofs.«01_k».proof.Proof.Hd.Bufs
public import Idealize.ShloMosaic.Lib.Pipeline.FrameBody
public import Idealize.ShloMosaic.Lib.Pipeline.FrameSuffix
public import Idealize.ShloMosaic.Lib.Pipeline.Value

@[expose] public section

set_option maxRecDepth 16384

noncomputable section

namespace Cert.Head.Ring

open Cert.Head Cert.Head.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (Pipeline.UD sig nD τ) ℕ

section Pure
variable (c : Dev nD) (XA : Buf (Elt F) (embM.view.loc (c : Thread nD τ)))
variable (x1 : Vec F S10x1280 .f32) (x2 x3 : Vec F S1x1280 .f32) (x5 : Vec F S32x1280 .i8) (x6 x7 : Vec F S1x52480 .f32)

/-- The 16 rows the kernel normalises: the ten given ones above six rows of zeros. -/
def rowsF : Vec F S16x1280 .f32 :=
  rowM.view.readCov [⟨R10, k0_pay6 (fun x => x1 (RX.toLoadRect.idx x))⟩, ⟨R16, k0_pay5⟩] R16.toLoadRect
/-- The normalised rows. -/
def normF : FVec F S16x1280 .bf16 :=
  k0_pay1 (rowsF x1) (k0_pay7 fun x => x2 (R1.toLoadRect.idx x)) (k0_pay8 fun x => x3 (R1.toLoadRect.idx x)) (k0_pay9 (rowsF x1))
/-- The slot the last trip reads. -/
def lastF (k : Fin k0_t1_loop.trips) (h2 : k0_cond2 k = 1#1) : (R6 k).shape.Idx → Elt F .i8 :=
  ringM.view.readAt (Elt F) (R6 k).toLoadRect
    ((ringM.access (Rect.unit (s := S22x1280x1280) (k0_off5 k) S1x32x1280.size (k0_off5_inb k h2))).write (Elt F) (landedT c XA (k.val + 14) (under c XA (k.val + 14)))
      (k0_pay3 fun x => x5 ((Rect.unit (s := S32x1280) ![0, 0] S32x1280.size inb_S32x1280_S32x1280_0_0).toLoadRect.idx x)) Finset.univ)
/-- The slot trip `k` reads. -/
def slotF (k : Fin k0_t1_loop.trips) : (R6 k).shape.Idx → Elt F .i8 :=
  if h2 : k0_cond2 k = 1#1 then lastF c XA x5 k h2 else landV c XA k
/-- What trip `k` stores. -/
def payF (k : Fin k0_t1_loop.trips) : (R8 k).shape.Idx → Elt F .f32 :=
  k0_pay4 (normF x1 x2 x3) (slotF c XA x5 k) (fun x => x6 ((R7 k).toLoadRect.idx x)) (fun x => x7 ((R7 k).toLoadRect.idx x))
def rawF (y : S10x52480.Idx) : Elt F .f32 :=
  payF c XA x1 x2 x3 x5 x6 x7 ⟨(y 1).val / 1280, by have h : (y 1).val < 52480 := (y 1).isLt; rw [trips_eq]; omega⟩
    (ix2 (n0 := 10) (n1 := 1280) (y 0) ⟨(y 1).val % 1280, Nat.mod_lt _ (by omega)⟩)
/-- The region's result, of the table and of the six staged operands. -/
def outF (y : S10x52480.Idx) : Elt F .f32 :=
  if h : 51840 ≤ (y 1).val ∧ (y 1).val < 51968 then
    k0_pay2 (fun x => rawF c XA x1 x2 x3 x5 x6 x7 (RM.emb x)) (ix2 (n0 := 10) (n1 := 128) (y 0) ⟨(y 1).val - 51840, by omega⟩)
  else rawF c XA x1 x2 x3 x5 x6 x7 y
end Pure

section PureEq
variable (c : Dev nD) (XA : Buf (Elt F) (embM.view.loc (c : Thread nD τ)))
variable (arg1 : Memref sig .tc .vmem S10x1280 .f32) (arg2 arg3 : Memref sig .tc .vmem S1x1280 .f32) (arg5 : Memref sig .tc .vmem S32x1280 .i8)
  (arg6 arg7 : Memref sig .tc .vmem S1x52480 .f32)
variable (g5 : Buf (Elt F) (arg5.view.loc (c : Thread nD τ))) (g6 : Buf (Elt F) (arg6.view.loc (c : Thread nD τ))) (g7 : Buf (Elt F) (arg7.view.loc (c : Thread nD τ)))
variable (g1 : Buf (Elt F) (arg1.view.loc (c : Thread nD τ))) (g2 : Buf (Elt F) (arg2.view.loc (c : Thread nD τ))) (g3 : Buf (Elt F) (arg3.view.loc (c : Thread nD τ)))
theorem slotV_eq (k : Fin k0_t1_loop.trips) : slotV c XA arg5 g5 k = slotF c XA (arg5.view.read (Elt F) g5) k := by
  unfold slotV slotF lastV lastF
  rfl
theorem rawV_eq : rawV c XA arg1 arg2 arg3 arg5 arg6 arg7 g5 g6 g7 g1 g2 g3
    = rawF c XA (arg1.view.read (Elt F) g1) (arg2.view.read (Elt F) g2) (arg3.view.read (Elt F) g3) (arg5.view.read (Elt F) g5) (arg6.view.read (Elt F) g6) (arg7.view.read (Elt F) g7) := by
  funext y
  unfold rawV rawF payOf payF
  rw [slotV_eq]
  rfl
theorem outV_eq : outV c XA arg1 arg2 arg3 arg5 arg6 arg7 g5 g6 g7 g1 g2 g3
    = outF c XA (arg1.view.read (Elt F) g1) (arg2.view.read (Elt F) g2) (arg3.view.read (Elt F) g3) (arg5.view.read (Elt F) g5) (arg6.view.read (Elt F) g6) (arg7.view.read (Elt F) g7) := by
  funext y
  unfold outV outF
  rw [rawV_eq]
end PureEq

variable (m : (ℓ : Loc nD τ sig) → Buf (Elt F) ℓ) (ρ : Dev nD → PrngReg)

set_option maxHeartbeats 800000 in
/-- The host lines before the region reduce to the region continued by the line after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The array the kernel moves itself: the table. -/
def H0 : Finset (Ref sig .tc) := {main_arg3}
theorem H0_sub : H0 ⊆ Pipeline.restRefs sig spec0 := by decide

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) fun b hb => ?_
  obtain rfl := Finset.mem_singleton.1 hb
  simp only [hostOps1, List.mem_cons, List.mem_nil_iff, or_false] at hop
  subst hop
  simp only [StableHlo.unary_bufs, Finset.mem_insert, Finset.mem_singleton, not_or]
  exact ⟨StableHlo.devRef_ne_of_ne (by decide), StableHlo.devRef_ne_of_ne (by decide)⟩

/-- The contents the body leaves in its result's staging buffer. -/
def resAt (c : Dev nD) (t : Fin cfg0.N) : Vec F S10x52480 .f32 :=
  outF c (V m c main_arg3) (iblk m c 0 t) (iblk m c 1 t) (iblk m c 2 t) (iblk m c 3 t) (iblk m c 4 t) (iblk m c 5 t)

/-- The pipeline's proof data: the operands as the host lines leave them, the result as the kernel computes it, the table and
    the ring the kernel's own. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = resAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ bigSep (Finset.Ico 0 22) (cellP c) ∗ (((c : Thread nD τ).loc main_arg3) ↦{fullShare} V m c main_arg3)) := by
  rw [← ownSems_eq, ← scopedRest0_eq (Ix := Unit) (Val := Elt F) (Name := ℕ) (U := Pipeline.UD sig nD τ) (Lvl := ℕ) c, ← bigSep_singleton (i := main_arg3) (Φ := fun b => (((c : Thread nD τ).loc b) ↦{fullShare} V m c b : sProp 𝕄))]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The table's blocks and last rows in place are the table. -/
theorem tab_join (c : Dev nD) (XA : Buf (Elt F) (embM.view.loc (c : Thread nD τ))) :
    iprop(bigSep (Finset.Ico 0 40) (homeP c XA) ∗ tailP c XA ∗ restP c XA) ⊢ ((embM.view.loc (c : Thread nD τ) ↦{fullShare} XA) : sProp 𝕄) := by
  rw [tab_eq]
theorem tab_open (c : Dev nD) (XA : Buf (Elt F) (embM.view.loc (c : Thread nD τ))) :
    ((embM.view.loc (c : Thread nD τ) ↦{fullShare} XA) : sProp 𝕄)
      ⊢ iprop((bigSep (Finset.Ico 0 22) (homeP c XA) ∗ bigSep (Finset.Ico 22 40) (homeP c XA)) ∗ tailP c XA ∗ restP c XA) := by
  rw [tab_eq, bigSep_Ico_consecutive (a := 0) (b := 22) (d := 40) (by omega) (by omega) (homeP c XA)]
theorem free_open (c : Dev nD) : (bigSep (Finset.Ico 0 22) (freeP c) : sProp 𝕄) ⊢ iprop(bigSep (Finset.Ico 0 22) (fun n => iprop(∃ f, slotP c n f)) ∗ bigSep (Finset.Ico 0 22) (cellP c)) := by
  rw [free_end]
theorem rowM_set (c : Dev nD) (f : Buf (Elt F) (rowM.view.loc (c : Thread nD τ))) :
    ((rowM.view.loc (c : Thread nD τ) ↦[rowM.view.set]{fullShare} f) : sProp 𝕄) = (((c : Thread nD τ).loc cc0_scratch1) ↦{fullShare} f) := by
  rw [show (rowM : Memref sig .tc .vmem _ _).view.set = Finset.univ from (Memref.isWhole_whole cc0_scratch1).set_eq_univ]

set_option maxHeartbeats 1000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Pipeline.ΦD osem0 spec0 H0 (V m) c from rfl, show (dats m 0 c).Φ t.castSucc = Pipeline.ΦD osem0 spec0 H0 (V m) c from rfl, PhiD0_eq,
    after0_0, after0_1, after0_2, after0_3, after0_4, after0_5, after0_6]
  simp only [before0_0, before0_1, before0_2, before0_3, before0_4, before0_5]
  unfold Dat.owesAt Pipeline.owesWithin
  rw [show (dats m 0 c).owed t.castSucc = 0 from rfl, show (dats m 0 c).owed t.succ = 0 from rfl]
  unfold owns
  iintro ⟨⟨⟨⟨%fS, HS⟩, %fR, HR⟩, Hg, HC, HA⟩, ⟨%W, -, HW⟩, ⟨%d1, %g1, %e1, H1⟩, ⟨%d2, %g2, %e2, H2⟩, ⟨%d3, %g3, %e3, H3⟩, ⟨%d5, %g5, %e5, H5⟩, ⟨%d6, %g6, %e6, H6⟩, ⟨%d7, %g7, %e7, H7⟩, ⟨%dO, %gO, -, HO⟩⟩
  ihave HS := (ring_split c fS) $$ HS
  ihave HA := (tab_open c (V m c main_arg3)) $$ HA
  icases HA with ⟨⟨HA1, HA2⟩, HT, HX⟩
  ihave Hst := (starts_of c (V m c main_arg3)) $$ [HA1 HS HC]
  · isplitl [HA1]; · iexact HA1
    isplitl [HS]; · iexact HS
    iexact HC
  iapply wp_wand_r
  isplitr [Hg HX]
  · iapply (bodyRun c (V m c main_arg3) (grid0.coords t) (st0_0 t) _ (st0_1 t) _ (st0_2 t) _ (st0_3 t) _ (st0_4 t) _ (st0_5 t) _ (st0_6 t) _ g5 g6 g7 g1 g2 g3 gO fR)
    isplitl [H1]; · iexact H1
    isplitl [H2]; · iexact H2
    isplitl [H3]; · iexact H3
    isplitl [H5 H6 H7]
    · isplitl [H5]; · iexact H5
      isplitl [H6]; · iexact H6
      iexact H7
    isplitl [HO]; · iexact HO
    isplitl [HR]; · irw [rowM_set]; iexact HR
    isplitl [HW]; · iexists W; iexact HW
    isplitl [Hst]; · iexact Hst
    isplitl [HA2]; · iexact HA2
    iexact HT
  iintro %_ ⟨H1, H2, H3, ⟨H5, H6, H7⟩, ⟨%fo, HO, %eo⟩, ⟨%fR', HR⟩, ⟨%W', HW⟩, HF, HH, HT⟩
  ihave HF := (free_open c) $$ HF
  icases HF with ⟨HS, HC⟩
  ihave HS := (ring_join c) $$ HS
  isplitl [HS HR Hg HC HH HT HX]
  · isplitl [HS HR]
    · isplitl [HS]; · iexact HS
      iexists fR'
      irw [← rowM_set]
      iexact HR
    isplitl [Hg]; · iexact Hg
    isplitl [HC]; · iexact HC
    iapply (tab_join c (V m c main_arg3))
    isplitl [HH]; · iexact HH
    isplitl [HT]; · iexact HT
    iexact HX
  isplitl [HW]
  · iexists W'; isplitr; · ipureintro; exact fun _ _ => Or.inl trivial
    iexact HW
  isplitl [H1]; · iexists g1; isplitr; · ipureintro; exact e1
                  iexact H1
  isplitl [H2]; · iexists g2; isplitr; · ipureintro; exact e2
                  iexact H2
  isplitl [H3]; · iexists g3; isplitr; · ipureintro; exact e3
                  iexact H3
  isplitl [H5]; · iexists g5; isplitr; · ipureintro; exact e5
                  iexact H5
  isplitl [H6]; · iexists g6; isplitr; · ipureintro; exact e6
                  iexact H6
  isplitl [H7]; · iexists g7; isplitr; · ipureintro; exact e7
                  iexact H7
  iexists fo
  isplitr; swap; · iexact HO
  ipureintro
  rw [eo, outV_eq, e1, e2, e3, e5, e6, e7]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, in the arrays the region and the host lines leave, with every semaphore counter back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m Variants.none) (hA := A_eq m) (hin := fun _ => .rfl) (hout := fun _ => .rfl)

/-- The host line after the region writes the result alone: any other buffer the region does not stage ends as the region finds it. -/
theorem W_of (c : Dev nD) (b : Ref sig .tc) (hb : b ≠ main_v10) (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne hb)),
    Pipeline.withArrays_of_ne _ c (V0 m c) _ b ha]

theorem kept (r : PUnit × MemSt nD τ sig (Elt F)) (h : Pipeline.FramePost cfgs (dats m) 0 (Pipeline.afterTail₀ cfgs (dats m) 0 (V0 m) [hostOps1]) r) (c : Dev nD)
    (b : Ref sig .tc) (hr : b ∈ Pipeline.restRefs sig spec0) (hb : b ≠ main_v10) (ha : ∀ w, Pipeline.arrRef spec0 w ≠ b)
    (hV : V m c b = m ((c : Thread nD τ).loc b)) : r.2.mem ((c : Thread nD τ).loc b) = m ((c : Thread nD τ).loc b) :=
  ((h c).2 b hr).trans ((W_of m c b hb ha).trans hV)

/-- The windows are whole arrays: an index of a block is the same index of its array. -/
theorem idx_zero : ∀ t : Fin cfg0.N, (win0_0.index t (0 : Fin 2) = 0 ∧ win0_0.index t (1 : Fin 2) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)
theorem emb0_0 (t : Fin cfg0.N) (y : S10x1280.Idx) : ((cfg0.win 0).blk t).view.emb y = y := by
  obtain ⟨h0, h1, h2, h3, h4, h5, h6⟩ := idx_zero t
  funext a; apply Fin.ext
  match a with
  | ⟨0, _⟩ => show win0_0.index t (0 : Fin 2) * 10 + 1 * (y 0).val = (y 0).val; omega
  | ⟨1, _⟩ => show win0_0.index t (1 : Fin 2) * 1280 + 1 * (y 1).val = (y 1).val; omega
theorem emb0_1 (t : Fin cfg0.N) (y : S1x1280.Idx) : ((cfg0.win 1).blk t).view.emb y = y := by
  obtain ⟨h0, h1, h2, h3, h4, h5, h6⟩ := idx_zero t
  funext a; apply Fin.ext
  match a with
  | ⟨0, _⟩ => show win0_1.index t (0 : Fin 2) * 1 + 1 * (y 0).val = (y 0).val; omega
  | ⟨1, _⟩ => show win0_1.index t (1 : Fin 2) * 1280 + 1 * (y 1).val = (y 1).val; omega
theorem emb0_2 (t : Fin cfg0.N) (y : S1x1280.Idx) : ((cfg0.win 2).blk t).view.emb y = y := by
  obtain ⟨h0, h1, h2, h3, h4, h5, h6⟩ := idx_zero t
  funext a; apply Fin.ext
  match a with
  | ⟨0, _⟩ => show win0_2.index t (0 : Fin 2) * 1 + 1 * (y 0).val = (y 0).val; omega
  | ⟨1, _⟩ => show win0_2.index t (1 : Fin 2) * 1280 + 1 * (y 1).val = (y 1).val; omega
theorem emb0_3 (t : Fin cfg0.N) (y : S32x1280.Idx) : ((cfg0.win 3).blk t).view.emb y = y := by
  obtain ⟨h0, h1, h2, h3, h4, h5, h6⟩ := idx_zero t
  funext a; apply Fin.ext
  match a with
  | ⟨0, _⟩ => show win0_3.index t (0 : Fin 2) * 32 + 1 * (y 0).val = (y 0).val; omega
  | ⟨1, _⟩ => show win0_3.index t (1 : Fin 2) * 1280 + 1 * (y 1).val = (y 1).val; omega
theorem emb0_4 (t : Fin cfg0.N) (y : S1x52480.Idx) : ((cfg0.win 4).blk t).view.emb y = y := by
  obtain ⟨h0, h1, h2, h3, h4, h5, h6⟩ := idx_zero t
  funext a; apply Fin.ext
  match a with
  | ⟨0, _⟩ => show win0_4.index t (0 : Fin 2) * 1 + 1 * (y 0).val = (y 0).val; omega
  | ⟨1, _⟩ => show win0_4.index t (1 : Fin 2) * 52480 + 1 * (y 1).val = (y 1).val; omega
theorem emb0_5 (t : Fin cfg0.N) (y : S1x52480.Idx) : ((cfg0.win 5).blk t).view.emb y = y := by
  obtain ⟨h0, h1, h2, h3, h4, h5, h6⟩ := idx_zero t
  funext a; apply Fin.ext
  match a with
  | ⟨0, _⟩ => show win0_5.index t (0 : Fin 2) * 1 + 1 * (y 0).val = (y 0).val; omega
  | ⟨1, _⟩ => show win0_5.index t (1 : Fin 2) * 52480 + 1 * (y 1).val = (y 1).val; omega
theorem emb0_6 (t : Fin cfg0.N) (y : S10x52480.Idx) : ((cfg0.win 6).blk t).view.emb y = y := by
  obtain ⟨h0, h1, h2, h3, h4, h5, h6⟩ := idx_zero t
  funext a; apply Fin.ext
  match a with
  | ⟨0, _⟩ => show win0_6.index t (0 : Fin 2) * 10 + 1 * (y 0).val = (y 0).val; omega
  | ⟨1, _⟩ => show win0_6.index t (1 : Fin 2) * 52480 + 1 * (y 1).val = (y 1).val; omega
theorem iblk_eq0 (c : Dev nD) (t : Fin cfg0.N) : iblk m c 0 t = V m c main_v0 := by
  funext y; show V m c main_v0 (((cfg0.win 0).blk t).view.emb y) = V m c main_v0 y; rw [emb0_0]
theorem iblk_eq1 (c : Dev nD) (t : Fin cfg0.N) : iblk m c 1 t = V m c main_v1 := by
  funext y; show V m c main_v1 (((cfg0.win 1).blk t).view.emb y) = V m c main_v1 y; rw [emb0_1]
theorem iblk_eq2 (c : Dev nD) (t : Fin cfg0.N) : iblk m c 2 t = V m c main_v2 := by
  funext y; show V m c main_v2 (((cfg0.win 2).blk t).view.emb y) = V m c main_v2 y; rw [emb0_2]
theorem iblk_eq3 (c : Dev nD) (t : Fin cfg0.N) : iblk m c 3 t = V m c main_v4 := by
  funext y; show V m c main_v4 (((cfg0.win 3).blk t).view.emb y) = V m c main_v4 y; rw [emb0_3]
theorem iblk_eq4 (c : Dev nD) (t : Fin cfg0.N) : iblk m c 4 t = V m c main_v6 := by
  funext y; show V m c main_v6 (((cfg0.win 4).blk t).view.emb y) = V m c main_v6 y; rw [emb0_4]
theorem iblk_eq5 (c : Dev nD) (t : Fin cfg0.N) : iblk m c 5 t = V m c main_v8 := by
  funext y; show V m c main_v8 (((cfg0.win 5).blk t).view.emb y) = V m c main_v8 y; rw [emb0_5]

theorem idx_inj6 : ∀ t t' : Fin cfg0.N, win0_6.index t = win0_6.index t' → t = t' :=
  (by decide +kernel : ∀ t t' : Fin grid0.N, win0_6.index t = win0_6.index t' → t = t')

/-- The region's result array ends as its one grid point writes it. -/
theorem arr6 (c : Dev nD) : (dats m 0 c).arrAt 6 cfg0.N = resAt m c t0_0 := by
  have h := (dats m 0 c).read_blk_arrAt_eq_flushed 6
    (fun t t' _ _ hne => (cfg0.win 6).disjoint_blk fun h => hne (idx_inj6 t t' h)) cfg0.N t0_0 t0_0.isLt (flush0_6 t0_0)
  have hf : (dats m 0 c).flushed 6 t0_0 = (cfg0.win 6).cut (grid0.coords t0_0) (resAt m c t0_0) := by
    show (cfg0.win 6).cut (grid0.coords t0_0) ((dats m 0 c).after 6 t0_0) = _
    rw [after0_6]
  rw [hf] at h
  generalize (dats m 0 c).arrAt 6 cfg0.N = A at h ⊢
  generalize resAt m c t0_0 = B at h ⊢
  clear hf
  funext y
  have hy : A (((cfg0.win 6).blk t0_0).view.emb y) = B y := congrFun h y
  rw [emb0_6] at hy
  exact hy

/-- The result: the columns of the region's result that are entries of the vocabulary. -/
def resF (c : Dev nD) : Vec F S10x51866 .f32 :=
  extractStridedSlice S10x51866 ![0, 0] (resAt m c t0_0) slices_S10x52480_S10x51866_0_0

theorem W_res (c : Dev nD) : Pipeline.afterTail₀ cfgs (dats m) 0 (V0 m) [hostOps1] c main_v10 = resF m c := by
  unfold Pipeline.afterTail₀
  show StableHlo.after hostOps1 _ (Proc.devRef .tc main_v10) = _
  rw [StableHlo.after_cons, StableHlo.after_nil, StableHlo.unary_result]
  exact congrArg (fun f : Vec F S10x52480 .f32 => extractStridedSlice S10x51866 ![0, 0] f slices_S10x52480_S10x51866_0_0)
    ((Pipeline.withArrays_arr spec0 launch0.win.arr_inj c (V0 m c) (fun w => (dats m 0 c).arrAt w cfg0.N) 6).trans (arr6 m c))

/-- The run: the result of the arguments, the arguments as launched, the counters at zero. -/
theorem run : θ_run defs (onTc (τ := τ) (main (F := F))) ⟨m, fun _ => 0, ρ⟩ (fun r => (∀ c : Dev nD,
      r.2.mem ((c.tc : Thread nD τ).loc main_v10) = resF (F := F) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_v10 (Pipeline.mem_restRefs_of main_v10 (by decide) (by decide))).trans (W_res m c),
    kept m r h.1 c main_arg0 (Pipeline.mem_restRefs_of main_arg0 (by decide) (by decide)) (by decide) (by decide) (V_main_arg0 m c),
    kept m r h.1 c main_arg1 (Pipeline.mem_restRefs_of main_arg1 (by decide) (by decide)) (by decide) (by decide) (V_main_arg1 m c),
    kept m r h.1 c main_arg2 (Pipeline.mem_restRefs_of main_arg2 (by decide) (by decide)) (by decide) (by decide) (V_main_arg2 m c),
    kept m r h.1 c main_arg3 (Pipeline.mem_restRefs_of main_arg3 (by decide) (by decide)) (by decide) (by decide) (V_main_arg3 m c),
    kept m r h.1 c main_arg4 (Pipeline.mem_restRefs_of main_arg4 (by decide) (by decide)) (by decide) (by decide) (V_main_arg4 m c),
    kept m r h.1 c main_arg5 (Pipeline.mem_restRefs_of main_arg5 (by decide) (by decide)) (by decide) (by decide) (V_main_arg5 m c)⟩, h.2⟩) (run_main m ρ)

end Cert.Head.Ring

end
-- ==== Proof.HdI.Twin.lean ====
/-
  The idealized program is the program itself at the extended reals: no operation of it is rewritten. So what is proved of the
  program's run, for every kind of numbers, is proved of it.
-/
module

public import proofs.«01_k».proof.Proof.Hd.Run
public import proofs.«01_k».proof.Proof.Gen.HeadIdeal.Launch
public import Idealize.ShloMosaic.PureOps.Ideal

@[expose] public section

set_option maxRecDepth 16384

noncomputable section

namespace Cert.HeadIdeal.Twin
open Cert.HeadIdeal
open Idealize.ShloMosaic Idealize.ShloMosaic.TcCoe Idealize.SL.Sem

theorem defs0_eq : (Cert.HeadIdeal.defs₀ (F := Ideal)) = Cert.Head.defs₀ (F := Ideal) := by
  unfold Cert.HeadIdeal.defs₀ Cert.Head.defs₀
  refine congrArg Defs.onTc ?_
  funext p x
  match p, x with
  | 0, (t, s) => rfl
theorem defs_eq : (Cert.HeadIdeal.defs (F := Ideal)) = Cert.Head.defs (F := Ideal) :=
  (congrArg (Pipeline.defs (Cert.Head.pcfgs (F := Ideal))) defs0_eq : Pipeline.defs (Cert.Head.pcfgs (F := Ideal)) Cert.HeadIdeal.defs₀ = _)

variable (m : (ℓ : Loc nD τ sig) → Buf (Elt Ideal) ℓ) (ρ : Dev nD → PrngReg)

/-- What the result holds. -/
def logits (c : Dev nD) : Vec Ideal S10x51866 .f32 := Cert.Head.Ring.resF (F := Ideal) m c

theorem run : θ_run defs (onTc (τ := τ) (main (F := Ideal))) ⟨m, fun _ => 0, ρ⟩ (fun r => (∀ c : Dev nD,
      r.2.mem ((c.tc : Thread nD τ).loc main_v10) = logits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.Head.Ring.run (F := Ideal) m ρ

end Cert.HeadIdeal.Twin

end
-- ==== Proof.HdI.Slot.lean ====
/-
  What a trip reads in its slot, entry by entry: a row of the table, or of the edge operand below the table's last whole rows.
-/
module

public import proofs.«01_k».proof.Proof.Hd.Run
public import Idealize.ShloMosaic.Lib.ValueLayout

@[expose] public section

set_option maxRecDepth 16384

noncomputable section

namespace Cert.Head.Ring

open Cert.Head Cert.Head.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig Unit (Elt F) ℕ (Pipeline.UD sig nD τ) ℕ

variable (c : Dev nD) (XA : Buf (Elt F) (embM.view.loc (c : Thread nD τ)))

theorem rslot_read (n : ℕ) (f : ringM.view.ty.Contents (Elt F)) (r d : Fin 1280) :
    (rslot n).view.read (Elt F) f (ix2 r d) = ringM.view.read (Elt F) f (ix3 (⟨n % 22, Nat.mod_lt _ (by decide)⟩ : Fin 22) r d) := by
  show ringM.view.read (Elt F) f ((Rect.unit (s := S22x1280x1280) (slotOff n) S1x1280x1280.size (slotOff_inb n)).emb (Shape.reshapeEquiv _ (ix2 r d))) = _
  rw [reshapeEquiv_ix2_1ab]
  refine congrArg (ringM.view.read (Elt F) f) ?_
  funext a; apply Fin.ext
  match a with
  | ⟨0, _⟩ => show n % 22 + 1 * 0 = n % 22; omega
  | ⟨1, _⟩ => show 0 + 1 * r.val = r.val; omega
  | ⟨2, _⟩ => show 0 + 1 * d.val = d.val; omega
theorem tslot_read (n : ℕ) (f : ringM.view.ty.Contents (Elt F)) (r : Fin 640) (d : Fin 1280) :
    (tslot n).view.read (Elt F) f (ix2 r d) = ringM.view.read (Elt F) f (ix3 (⟨n % 22, Nat.mod_lt _ (by decide)⟩ : Fin 22) (⟨r.val, by omega⟩ : Fin 1280) d) := by
  show ringM.view.read (Elt F) f ((Rect.unit (s := S22x1280x1280) (slotOff n) S1x640x1280.size (tslotOff_inb n)).emb (Shape.reshapeEquiv _ (ix2 r d))) = _
  rw [reshapeEquiv_ix2_1ab]
  refine congrArg (ringM.view.read (Elt F) f) ?_
  funext a; apply Fin.ext
  match a with
  | ⟨0, _⟩ => show n % 22 + 1 * 0 = n % 22; omega
  | ⟨1, _⟩ => show 0 + 1 * r.val = r.val; omega
  | ⟨2, _⟩ => show 0 + 1 * d.val = d.val; omega

theorem payR_at (o : ℕ) (ho : o ≤ 50586) (r d : Fin 1280) : payR c XA o (ix2 r d) = XA (ix2 (⟨o + r.val, by omega⟩ : Fin 51866) d) := by
  show XA ((Rect.unit (s := S51866x1280) (rowOff o) S1280x1280.size (rowOff_inb o)).emb (ix2 r d)) = _
  congr 1
  funext a; apply Fin.ext
  match a with
  | ⟨0, _⟩ => show min o 50586 + 1 * r.val = o + r.val; omega
  | ⟨1, _⟩ => show 0 + 1 * d.val = d.val; omega
theorem payT_at (r : Fin 640) (d : Fin 1280) :
    (ReadAs.same.apply (tailM.view.read (Elt F) XA) : S640x1280.Idx → Elt F .i8) (ix2 r d) = XA (ix2 (⟨51200 + r.val, by omega⟩ : Fin 51866) d) := by
  show XA ((Rect.unit (s := S51866x1280) ![51200, 0] S640x1280.size inb_S51866x1280_S640x1280_51200_0).emb (ix2 r d)) = _
  congr 1
  funext a; apply Fin.ext
  match a with
  | ⟨0, _⟩ => show 51200 + 1 * r.val = 51200 + r.val; omega
  | ⟨1, _⟩ => show 0 + 1 * d.val = d.val; omega

/-- A landed block, entry by entry. -/
theorem landed_at (n o : ℕ) (ho : o ≤ 50586) (f : SB (F := F) c n) (r d : Fin 1280) :
    ringM.view.read (Elt F) (landed c XA n o f) (ix3 (⟨n % 22, Nat.mod_lt _ (by decide)⟩ : Fin 22) r d) = XA (ix2 (⟨o + r.val, by omega⟩ : Fin 51866) d) :=
  (rslot_read n _ r d).symm.trans ((congrFun (View.read_writes_whole (rslot n).view f (payR c XA o)) (ix2 r d)).trans (payR_at c XA o ho r d))
/-- The landed last rows, entry by entry. -/
theorem landedT_at (n : ℕ) (f : SB (F := F) c n) (r : Fin 640) (d : Fin 1280) :
    ringM.view.read (Elt F) (landedT c XA n f) (ix3 (⟨n % 22, Nat.mod_lt _ (by decide)⟩ : Fin 22) (⟨r.val, by omega⟩ : Fin 1280) d) = XA (ix2 (⟨51200 + r.val, by omega⟩ : Fin 51866) d) :=
  (tslot_read n _ r d).symm.trans ((congrFun (View.read_writes_whole (tslot n).view f (ReadAs.same.apply (tailM.view.read (Elt F) XA))) (ix2 r d)).trans (payT_at c XA r d))

theorem R6_ix (k : Fin k0_t1_loop.trips) (r d : Fin 1280) :
    (R6 k).toLoadRect.idx (ix3 (0 : Fin 1) r d) = ix3 (⟨(k.val + 14) % 22, Nat.mod_lt _ (by decide)⟩ : Fin 22) r d := by
  have h := k0_off6_eq k
  funext a; apply Fin.ext
  match a with
  | ⟨0, _⟩ => show k0_off6 k 0 + 1 * 0 = (k.val + 14) % 22; rw [h]; rfl
  | ⟨1, _⟩ => show k0_off6 k 1 + 1 * r.val = r.val; rw [h]; show 0 + 1 * r.val = r.val; omega
  | ⟨2, _⟩ => show k0_off6 k 2 + 1 * d.val = d.val; rw [h]; show 0 + 1 * d.val = d.val; omega

theorem landV_at (k : Fin k0_t1_loop.trips) (hk : k.val < 40) (r d : Fin 1280) :
    landV c XA k (ix3 (0 : Fin 1) r d) = XA (ix2 (⟨1280 * k.val + r.val, by omega⟩ : Fin 51866) d) := by
  unfold landV
  refine (congrArg (ringM.view.read (Elt F) _) (R6_ix k r d)).trans ?_
  exact landed_at c XA _ _ (by omega) _ r d

abbrev R5 (k : Fin k0_t1_loop.trips) (h2 : k0_cond2 k = 1#1) : Rect S22x1280x1280 := Rect.unit (s := S22x1280x1280) (k0_off5 k) S1x32x1280.size (k0_off5_inb k h2)
theorem R5_ix (k : Fin k0_t1_loop.trips) (h2 : k0_cond2 k = 1#1) (e : Fin 32) (d : Fin 1280) :
    (R5 k h2).emb (ix3 (0 : Fin 1) e d) = ix3 (⟨(k.val + 14) % 22, Nat.mod_lt _ (by decide)⟩ : Fin 22) (⟨640 + e.val, by omega⟩ : Fin 1280) d := by
  have h := k0_off5_eq k
  funext a; apply Fin.ext
  match a with
  | ⟨0, _⟩ => show k0_off5 k 0 + 1 * 0 = (k.val + 14) % 22; rw [h]; rfl
  | ⟨1, _⟩ => show k0_off5 k 1 + 1 * e.val = 640 + e.val; rw [h]; show 640 + 1 * e.val = 640 + e.val; omega
  | ⟨2, _⟩ => show k0_off5 k 2 + 1 * d.val = d.val; rw [h]; show 0 + 1 * d.val = d.val; omega

/-- The last trip's slot, in the rows the table fills. -/
theorem lastF_top (x5 : Vec F S32x1280 .i8) (k : Fin k0_t1_loop.trips) (h2 : k0_cond2 k = 1#1) (r : Fin 640) (d : Fin 1280) :
    lastF c XA x5 k h2 (ix3 (0 : Fin 1) (⟨r.val, by omega⟩ : Fin 1280) d) = XA (ix2 (⟨51200 + r.val, by omega⟩ : Fin 51866) d) := by
  unfold lastF
  rw [View.readAt_apply, R6_ix]
  refine (View.read_slice_write_of_not_mem (v := ringM.view) (R5 k h2) _ _ _ ?_).trans (landedT_at c XA (k.val + 14) (under c XA (k.val + 14)) r d)
  intro hm
  obtain ⟨x, -, hx⟩ := Finset.mem_map.1 hm
  have hx1 : k0_off5 k 1 + 1 * (x 1).val = r.val := congrArg Fin.val (congrFun hx (1 : Fin 3))
  rw [k0_off5_eq] at hx1
  have h1' : 640 + 1 * (x 1).val = r.val := hx1
  omega
/-- The last trip's slot, in the rows of the edge operand. -/
theorem lastF_edge (x5 : Vec F S32x1280 .i8) (k : Fin k0_t1_loop.trips) (h2 : k0_cond2 k = 1#1) (e : Fin 32) (d : Fin 1280) :
    lastF c XA x5 k h2 (ix3 (0 : Fin 1) (⟨640 + e.val, by omega⟩ : Fin 1280) d) = x5 (ix2 e d) := by
  unfold lastF
  rw [View.readAt_apply, R6_ix, ← R5_ix k h2]
  refine (View.read_slice_write_emb (v := ringM.view) (R5 k h2) _ _ (Finset.mem_univ (ix3 (0 : Fin 1) e d))).trans ?_
  show k0_pay3 (fun x => x5 ((Rect.unit (s := S32x1280) ![0, 0] S32x1280.size inb_S32x1280_S32x1280_0_0).toLoadRect.idx x)) (ix3 (0 : Fin 1) e d) = _
  unfold k0_pay3
  refine (shapeCast_ab_1ab_apply _ _ (0 : Fin 1) e d).trans ?_
  rw [shapeCast_self]
  show x5 ((Rect.unit (s := S32x1280) ![0, 0] S32x1280.size inb_S32x1280_S32x1280_0_0).emb (ix2 e d)) = _
  congr 1
  funext a; apply Fin.ext
  match a with
  | ⟨0, _⟩ => show 0 + 1 * e.val = e.val; omega
  | ⟨1, _⟩ => show 0 + 1 * d.val = d.val; omega

/-- Trip `k`'s slot holds the table's rows from `1280 k` on, if the edge operand's first rows are the table's last 26. -/
theorem slotF_at (x5 : Vec F S32x1280 .i8) (h5 : ∀ (e : Fin 26) (d : Fin 1280), x5 (ix2 (⟨e.val, by omega⟩ : Fin 32) d) = XA (ix2 (⟨51840 + e.val, by omega⟩ : Fin 51866) d))
    (k : Fin k0_t1_loop.trips) (r d : Fin 1280) (h : 1280 * k.val + r.val < 51866) :
    slotF c XA x5 k (ix3 (0 : Fin 1) r d) = XA (ix2 (⟨1280 * k.val + r.val, h⟩ : Fin 51866) d) := by
  have hk : k.val < 41 := trips_eq ▸ k.isLt
  unfold slotF
  split
  · next h2 =>
    have hk' := (cond2_iff k).1 h2
    by_cases hr : r.val < 640
    · refine (lastF_top c XA x5 k h2 ⟨r.val, hr⟩ d).trans ?_
      congr 2; apply Fin.ext; show 51200 + r.val = 1280 * k.val + r.val; omega
    · have e : r = (⟨640 + (r.val - 640), by omega⟩ : Fin 1280) := Fin.ext (by show r.val = 640 + (r.val - 640); omega)
      conv_lhs => rw [e]
      refine (lastF_edge c XA x5 k h2 ⟨r.val - 640, by omega⟩ d).trans ?_
      refine (h5 ⟨r.val - 640, by omega⟩ d).trans ?_
      congr 2; apply Fin.ext; show 51840 + (r.val - 640) = 1280 * k.val + r.val; omega
  · next h2 =>
    have hk' : k.val ≠ 40 := fun e => h2 ((cond2_iff k).2 e)
    exact landV_at c XA k (by omega) r d

end Cert.Head.Ring

end
-- ==== Proof.HdI.Host.lean ====
/-
  What the host lines before the region leave in its operands, entry by entry over the entry point's arguments.
-/
module

public import proofs.«01_k».proof.Proof.HdI.Slot
public import Idealize.ShloMosaic.Lib.StableHlo.RunRead
public import Idealize.ShloMosaic.Lib.KernelVsHost
public import Idealize.ShloMosaic.Lib.ValueLayout

@[expose] public section

set_option maxRecDepth 16384

noncomputable section

namespace Cert.Head.Ring

open Cert.Head Cert.Head.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (c : Dev nD)

theorem V_v0 : V m c main_v0 = shapeCast S10x1280 (m ((c : Thread nD τ).loc main_arg0)) shapeCasts_S2x5x1x1280_S10x1280 := by
  show StableHlo.after _ _ (Proc.devRef .tc main_v0) = _
  after_reads_simp
  rfl
theorem V_v1 : V m c main_v1 = shapeCast S1x1280 (m ((c : Thread nD τ).loc main_arg1)) shapeCasts_S1280_S1x1280 := by
  show StableHlo.after _ _ (Proc.devRef .tc main_v1) = _
  after_reads_simp
  rfl
theorem V_v2 : V m c main_v2 = shapeCast S1x1280 (m ((c : Thread nD τ).loc main_arg2)) shapeCasts_S1280_S1x1280 := by
  show StableHlo.after _ _ (Proc.devRef .tc main_v2) = _
  after_reads_simp
  rfl

/-- The edge operand's first 26 rows are the table's last ones. -/
theorem V_v4_at (e : Fin 26) (d : Fin 1280) :
    V m c main_v4 (ix2 (⟨e.val, by omega⟩ : Fin 32) d) = m ((c : Thread nD τ).loc main_arg3) (ix2 (⟨51840 + e.val, by omega⟩ : Fin 51866) d) := by
  have h : V m c main_v4 = pad S32x1280 ![0, 0] ![6, 0] ![0, 0] (extractStridedSlice S26x1280 ![51840, 0] (m ((c : Thread nD τ).loc main_arg3)) slices_S51866x1280_S26x1280_51840_0)
      (trunci 8 (constantI S_ 32 0#32) natLt_8_32) pads_S26x1280_S32x1280_060_000 h_S_ := by
    show StableHlo.after _ _ (Proc.devRef .tc main_v4) = _
    after_reads_simp
    rfl
  rw [h]
  refine (pad_apply_of_inside _ _ _ _ _ _ _ _ (ix2 e d) ?_).trans ?_
  · intro a
    match a with
    | ⟨0, _⟩ => show e.val = 0 + e.val * (0 + 1); omega
    | ⟨1, _⟩ => show d.val = 0 + d.val * (0 + 1); omega
  · show m ((c : Thread nD τ).loc main_arg3) _ = _
    congr 1
    funext a; apply Fin.ext
    match a with
    | ⟨0, _⟩ => rfl
    | ⟨1, _⟩ => show 0 + d.val = d.val; omega

/-- The padded scales, in the columns of the table. -/
theorem V_v6_at (j : Fin 51866) :
    V m c main_v6 (ix2 (0 : Fin 1) (⟨j.val, by omega⟩ : Fin 52480)) = m ((c : Thread nD τ).loc main_arg4) (ix1 j) := by
  have h : V m c main_v6 = shapeCast S1x52480 (pad S52480 ![0] ![614] ![0] (m ((c : Thread nD τ).loc main_arg4)) (sitofp (F := F) .f32 (constantI S_ 32 0#32)) pads_S51866_S52480_06140 h_S_) shapeCasts_S52480_S1x52480 := by
    show StableHlo.after _ _ (Proc.devRef .tc main_v6) = _
    after_reads_simp
    rfl
  rw [h]
  refine (shapeCast_a_1a_apply _ _ _ _).trans ?_
  refine pad_apply_of_inside _ _ _ _ _ _ _ _ (ix1 j) ?_
  intro a
  match a with
  | ⟨0, _⟩ => show j.val = 0 + j.val * (0 + 1); omega
/-- The padded mask, in the columns of the table. -/
theorem V_v8_at (j : Fin 51866) :
    V m c main_v8 (ix2 (0 : Fin 1) (⟨j.val, by omega⟩ : Fin 52480)) = m ((c : Thread nD τ).loc main_arg5) (ix1 j) := by
  have h : V m c main_v8 = shapeCast S1x52480 (pad S52480 ![0] ![614] ![0] (m ((c : Thread nD τ).loc main_arg5)) (sitofp (F := F) .f32 (constantI S_ 32 0#32)) pads_S51866_S52480_06140 h_S_) shapeCasts_S52480_S1x52480 := by
    show StableHlo.after _ _ (Proc.devRef .tc main_v8) = _
    after_reads_simp
    rfl
  rw [h]
  refine (shapeCast_a_1a_apply _ _ _ _).trans ?_
  refine pad_apply_of_inside _ _ _ _ _ _ _ _ (ix1 j) ?_
  intro a
  match a with
  | ⟨0, _⟩ => show j.val = 0 + j.val * (0 + 1); omega

end Cert.Head.Ring

end
-- ==== Proof.HdI.Pure.lean ====
/-
  The kernel's payloads and the reference's, entry by entry over the extended reals: a layer norm of one row, and a column of
  the product with the table.
-/
module

public import proofs.«01_k».proof.Proof.Gen.Head.Skeleton
public import proofs.«01_k».proof.Proof.Gen.HeadRefIdeal.Skeleton
public import Idealize.ShloMosaic.Lib.Pointwise

@[expose] public section

set_option maxRecDepth 16384

noncomputable section

namespace Cert.HeadPure
open Idealize.ShloMosaic

/-- The layer norm of a row `x` with gain `g` and bias `b`, at column `d`. -/
def lnRow (x g b : Fin 1280 → Ideal .f32) (d : Fin 1280) : EReal :=
  Ideal.div (x d - Ideal.div (∑ e, x e) (Ideal.ofBits .f32 0x44A00000#32))
      (Ideal.sqrt (Ideal.div (∑ e, (x e - Ideal.div (∑ e, x e) (Ideal.ofBits .f32 0x44A00000#32)) * (x e - Ideal.div (∑ e, x e) (Ideal.ofBits .f32 0x44A00000#32)))
          (Ideal.ofBits .f32 0x44A00000#32) + Ideal.ofBits .f32 0x3727C5AC#32)) * g d + b d

/-- One logit: the normalised row against a row of the table, scaled and masked. -/
def logit (f : Fin 1280 → EReal) (w : Fin 1280 → BitVec 8) (s t : EReal) : EReal :=
  (∑ d, f d * (FloatOps.sitofp .bf16 (w d) : Ideal .bf16)) * s + t

section Kernel
open Cert.Head Cert.Head.Gen

theorem norm_at (X : FVec Ideal S16x1280 .f32) (g b : FVec Ideal S1x1280 .f32) (i : Fin 16) (d : Fin 1280) :
    k0_pay1 X g b (k0_pay9 X) (ix2 i d) = lnRow (fun e => X (ix2 i e)) (fun e => g (ix2 0 e)) (fun e => b (ix2 0 e)) d := by
  pointwise [k0_pay1, k0_pay9, lnRow]
theorem pay7_at (g : Vec Ideal S1x1280 .f32) : k0_pay7 (F := Ideal) g = g := shapeCast_self _ _
theorem pay8_at (g : Vec Ideal S1x1280 .f32) : k0_pay8 (F := Ideal) g = g := shapeCast_self _ _
theorem pay6_at (x : Vec Ideal S10x1280 .f32) : k0_pay6 (F := Ideal) x = x := (shapeCast_self _ _).trans (shapeCast_self _ _)
theorem pay4_at (f : FVec Ideal S16x1280 .bf16) (S : Vec Ideal S1x1280x1280 .i8) (s t : Vec Ideal S1x1280 .f32) (i : Fin 10) (j : Fin 1280) :
    k0_pay4 f S s t (ix2 i j) = logit (fun d => f (ix2 (⟨i.val, by omega⟩ : Fin 16) d)) (fun d => S (ix3 0 j d)) (s (ix2 0 j)) (t (ix2 0 j)) := by
  pointwise [k0_pay4, logit]
theorem pay2_at (x : Vec Ideal S10x128 .f32) (i : Fin 10) (j : Fin 128) (h : j.val < 26) :
    k0_pay2 (F := Ideal) x (ix2 i j) = x (ix2 i j) := by
  have e : ∀ j : Fin 26, IntOp.cmpi .slt (BitVec.ofNat 32 j.val) 26#32 = 1#1 := by decide
  pointwise [k0_pay2]
  rw [e ⟨j.val, h⟩]
  rfl
end Kernel

section Reference
open Cert.HeadRefIdeal Cert.HeadRefIdeal.Gen

theorem ref_at (x : Vec Ideal S10x1280 .f32) (g b : Vec Ideal S1x1280 .f32) (w : Vec Ideal S51866x1280 .i8) (s t : Vec Ideal S1x51866 .f32) (i : Fin 10) (j : Fin 51866) :
    k0_pay1 x x g b w s t (ix2 i j)
      = logit (lnRow (fun e => x (ix2 i e)) (fun e => g (ix2 0 e)) (fun e => b (ix2 0 e))) (fun d => w (ix2 j d)) (s (ix2 0 j)) (t (ix2 0 j)) := by
  pointwise [k0_pay1, lnRow, logit]
end Reference

end Cert.HeadPure

end
-- ==== Proof.HdI.Final.lean ====
/-
  What the region leaves in its result over the extended reals, entry by entry: the logit of the entry's row and vocabulary entry.
-/
module

public import proofs.«01_k».proof.Proof.HdI.Host
public import proofs.«01_k».proof.Proof.HdI.Pure
public import Idealize.ShloMosaic.Lib.StableHlo.RunRead
public import Idealize.ShloMosaic.Lib.KernelVsHost
public import Idealize.ShloMosaic.Lib.ValueLayout

@[expose] public section

set_option maxRecDepth 16384

noncomputable section

namespace Cert.Head.Ring

open Cert.Head Cert.Head.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

open Cert.HeadPure

section Pure
variable (c : Dev nD) (XA : Buf (Elt Ideal) (embM.view.loc (c : Thread nD τ)))
variable (x1 : Vec Ideal S10x1280 .f32) (x2 x3 : Vec Ideal S1x1280 .f32) (x5 : Vec Ideal S32x1280 .i8) (x6 x7 : Vec Ideal S1x52480 .f32)

theorem R1_ix (d : Fin 1280) : R1.toLoadRect.idx (ix2 (0 : Fin 1) d) = ix2 (0 : Fin 1) d := by
  funext a; apply Fin.ext
  match a with
  | ⟨0, _⟩ => rfl
  | ⟨1, _⟩ => show 0 + 1 * d.val = d.val; omega
theorem R7_ix (k : Fin k0_t1_loop.trips) (j : Fin 1280) (h : 1280 * k.val + j.val < 52480) :
    (R7 k).toLoadRect.idx (ix2 (0 : Fin 1) j) = ix2 (0 : Fin 1) (⟨1280 * k.val + j.val, h⟩ : Fin 52480) := by
  have e := k0_off7_eq k
  funext a; apply Fin.ext
  match a with
  | ⟨0, _⟩ => show k0_off7 k 0 + 1 * 0 = 0; rw [e]; rfl
  | ⟨1, _⟩ => show k0_off7 k 1 + 1 * j.val = 1280 * k.val + j.val; rw [e]; show 1280 * k.val + 1 * j.val = 1280 * k.val + j.val; omega
theorem RM_ix (i : Fin 10) (l : Fin 128) : RM.emb (ix2 i l) = ix2 i (⟨51840 + l.val, by omega⟩ : Fin 52480) := by
  funext a; apply Fin.ext
  match a with
  | ⟨0, _⟩ => show 0 + 1 * i.val = i.val; omega
  | ⟨1, _⟩ => show 51840 + 1 * l.val = 51840 + l.val; omega

/-- The first ten of the sixteen rows are the given ones. -/
theorem rowsF_at (i : Fin 10) (d : Fin 1280) : rowsF x1 (ix2 (⟨i.val, by omega⟩ : Fin 16) d) = x1 (ix2 i d) := by
  have e : R16.toLoadRect.idx (ix2 (⟨i.val, by omega⟩ : Fin 16) d) = R10.emb (ix2 i d) := by
    funext a; apply Fin.ext
    match a with
    | ⟨0, _⟩ => show 0 + 1 * i.val = 0 + 1 * i.val; rfl
    | ⟨1, _⟩ => show 0 + 1 * d.val = 0 + 1 * d.val; rfl
  unfold rowsF View.readCov
  refine (congrArg (rowM.view.read (Elt Ideal) _) e).trans ?_
  refine (View.read_writes_cons_emb _ _ _ _ _ _).trans ?_
  rw [pay6_at]
  show x1 (RX.emb (ix2 i d)) = _
  congr 1
  funext a; apply Fin.ext
  match a with
  | ⟨0, _⟩ => show 0 + 1 * i.val = i.val; omega
  | ⟨1, _⟩ => show 0 + 1 * d.val = d.val; omega

theorem normF_at (i : Fin 10) (d : Fin 1280) :
    normF x1 x2 x3 (ix2 (⟨i.val, by omega⟩ : Fin 16) d) = lnRow (fun e => x1 (ix2 i e)) (fun e => x2 (ix2 (0 : Fin 1) e)) (fun e => x3 (ix2 (0 : Fin 1) e)) d := by
  unfold normF
  refine (norm_at _ _ _ _ _).trans ?_
  rw [pay7_at, pay8_at]
  have h1 : (fun e => rowsF x1 (ix2 (⟨i.val, by omega⟩ : Fin 16) e)) = fun e => x1 (ix2 i e) := funext fun e => rowsF_at x1 i e
  have h2 : (fun e => (fun x => x2 (R1.toLoadRect.idx x)) (ix2 (0 : Fin 1) e)) = fun e => x2 (ix2 (0 : Fin 1) e) := funext fun e => congrArg x2 (R1_ix e)
  have h3 : (fun e => (fun x => x3 (R1.toLoadRect.idx x)) (ix2 (0 : Fin 1) e)) = fun e => x3 (ix2 (0 : Fin 1) e) := funext fun e => congrArg x3 (R1_ix e)
  exact congr (congr (congr (congrArg lnRow h1) h2) h3) rfl

variable (h5 : ∀ (e : Fin 26) (d : Fin 1280), x5 (ix2 (⟨e.val, by omega⟩ : Fin 32) d) = XA (ix2 (⟨51840 + e.val, by omega⟩ : Fin 51866) d))
include h5

/-- The logit the kernel computes of row `i` and vocabulary entry `j`. -/
abbrev lgt (i : Fin 10) (j : Fin 51866) : EReal :=
  logit (lnRow (fun e => x1 (ix2 i e)) (fun e => x2 (ix2 (0 : Fin 1) e)) (fun e => x3 (ix2 (0 : Fin 1) e))) (fun d => XA (ix2 j d))
    (x6 (ix2 (0 : Fin 1) (⟨j.val, by omega⟩ : Fin 52480))) (x7 (ix2 (0 : Fin 1) (⟨j.val, by omega⟩ : Fin 52480)))

theorem payF_at (k : Fin k0_t1_loop.trips) (i : Fin 10) (j : Fin 1280) (h : 1280 * k.val + j.val < 51866) :
    payF c XA x1 x2 x3 x5 x6 x7 k (ix2 i j) = lgt c XA x1 x2 x3 x6 x7 i ⟨1280 * k.val + j.val, h⟩ := by
  unfold payF
  refine (pay4_at _ _ _ _ i j).trans ?_
  have h1 : (fun d => normF x1 x2 x3 (ix2 (⟨i.val, by omega⟩ : Fin 16) d)) = lnRow (fun e => x1 (ix2 i e)) (fun e => x2 (ix2 (0 : Fin 1) e)) (fun e => x3 (ix2 (0 : Fin 1) e)) :=
    funext fun d => normF_at x1 x2 x3 i d
  have h2 : (fun d => slotF c XA x5 k (ix3 (0 : Fin 1) j d)) = fun d => XA (ix2 (⟨1280 * k.val + j.val, h⟩ : Fin 51866) d) := funext fun d => slotF_at c XA x5 h5 k j d h
  exact congr (congr (congr (congrArg logit h1) h2) (congrArg x6 (R7_ix k j (by omega)))) (congrArg x7 (R7_ix k j (by omega)))

theorem rawF_at (i : Fin 10) (j : Fin 51866) (y : S10x52480.Idx) (hy : y = ix2 i (⟨j.val, by omega⟩ : Fin 52480)) :
    rawF c XA x1 x2 x3 x5 x6 x7 y = lgt c XA x1 x2 x3 x6 x7 i j := by
  subst hy
  have hj : 1280 * (j.val / 1280) + j.val % 1280 = j.val := by omega
  have ej : (⟨1280 * (j.val / 1280) + j.val % 1280, by omega⟩ : Fin 51866) = j := Fin.ext hj
  unfold rawF
  refine (payF_at c XA x1 x2 x3 x5 x6 x7 h5 ⟨j.val / 1280, by rw [trips_eq]; omega⟩ i ⟨j.val % 1280, by omega⟩ (by show 1280 * (j.val / 1280) + j.val % 1280 < 51866; omega)).trans ?_
  exact congrArg (lgt c XA x1 x2 x3 x6 x7 i) ej

theorem outF_at (i : Fin 10) (j : Fin 51866) :
    outF c XA x1 x2 x3 x5 x6 x7 (ix2 i (⟨j.val, by omega⟩ : Fin 52480)) = lgt c XA x1 x2 x3 x6 x7 i j := by
  unfold outF
  split
  · next h =>
    have h' : 51840 ≤ j.val ∧ j.val < 51968 := h
    refine (pay2_at _ i ⟨j.val - 51840, by omega⟩ (by show j.val - 51840 < 26; omega)).trans ?_
    refine rawF_at c XA x1 x2 x3 x5 x6 x7 h5 i j _ ?_
    refine (RM_ix i ⟨j.val - 51840, by omega⟩).trans ?_
    exact congrArg (ix2 i) (Fin.ext (show 51840 + (j.val - 51840) = j.val by omega))
  · exact rawF_at c XA x1 x2 x3 x5 x6 x7 h5 i j _ rfl
end Pure

variable (m : (ℓ : Loc nD τ sig) → Buf (Elt Ideal) ℓ)

/-- The result, entry by entry over the arguments. -/
theorem resF_at (c : Dev nD) (i : Fin 10) (j : Fin 51866) :
    resF (F := Ideal) m c (ix2 i j)
      = logit (lnRow (fun e => shapeCast S10x1280 (m ((c : Thread nD τ).loc main_arg0)) shapeCasts_S2x5x1x1280_S10x1280 (ix2 i e))
            (fun e => m ((c : Thread nD τ).loc main_arg1) (ix1 e)) (fun e => m ((c : Thread nD τ).loc main_arg2) (ix1 e)))
          (fun d => m ((c : Thread nD τ).loc main_arg3) (ix2 j d)) (m ((c : Thread nD τ).loc main_arg4) (ix1 j)) (m ((c : Thread nD τ).loc main_arg5) (ix1 j)) := by
  have e : resF (F := Ideal) m c (ix2 i j) = resAt m c t0_0 (ix2 i (⟨j.val, by omega⟩ : Fin 52480)) := by
    unfold resF
    show resAt m c t0_0 _ = _
    congr 1
    funext a; apply Fin.ext
    match a with
    | ⟨0, _⟩ => show 0 + i.val = i.val; omega
    | ⟨1, _⟩ => show 0 + j.val = j.val; omega
  rw [e]
  unfold resAt
  rw [iblk_eq0, iblk_eq1, iblk_eq2, iblk_eq3, iblk_eq4, iblk_eq5]
  refine (outF_at c _ _ _ _ _ _ _ (fun e d => (V_v4_at m c e d).trans (congrFun (V_main_arg3 m c).symm _)) i j).trans ?_
  unfold lgt
  rw [V_v6_at, V_v8_at, V_v0, V_v1, V_v2, V_main_arg3]
  have g1 : (fun e => shapeCast S1x1280 (m ((c : Thread nD τ).loc main_arg1)) shapeCasts_S1280_S1x1280 (ix2 (0 : Fin 1) e)) = fun e => m ((c : Thread nD τ).loc main_arg1) (ix1 e) :=
    funext fun e => shapeCast_a_1a_apply _ _ _ _
  have g2 : (fun e => shapeCast S1x1280 (m ((c : Thread nD τ).loc main_arg2)) shapeCasts_S1280_S1x1280 (ix2 (0 : Fin 1) e)) = fun e => m ((c : Thread nD τ).loc main_arg2) (ix1 e) :=
    funext fun e => shapeCast_a_1a_apply _ _ _ _
  rw [g1, g2]

end Cert.Head.Ring

end
-- ==== Proof.HdI.Ref.lean ====
/-
  What the reference leaves in its result over the extended reals, entry by entry.
-/
module

public import proofs.«01_k».proof.Proof.Gen.HeadRefIdeal.Value
public import proofs.«01_k».proof.Proof.HdI.Pure
public import Idealize.ShloMosaic.Lib.ValueLayout
public import Idealize.ShloMosaic.Lib.StableHlo.RunRead

@[expose] public section

set_option maxRecDepth 16384

noncomputable section

namespace Cert.HeadRefIdeal.Ref

open Cert.HeadRefIdeal Cert.HeadRefIdeal.Gen Cert.HeadPure
open Idealize.ShloMosaic hiding ix1 ix2 ix3
open Idealize.ShloMosaic.TcCoe Idealize.ShloMosaic.ValueIdx
open Idealize.ShloMosaic.Pipeline (Dat Cfg Window)

abbrev t0 : Fin cfg0.N := ⟨0, by decide⟩

variable {F : FTy → Type} [FloatOps F]

theorem out_eq (x0 : Vec F S10x1280 .f32) (x1 x2 : Vec F S1x1280 .f32) (x3 : Vec F S51866x1280 .i8) (x4 x5 : Vec F S1x51866 .f32) :
    out0_6 x0 x1 x2 x3 x4 x5 = k0_pay1 x0 x0 x1 x2 x3 x4 x5 := by
  have h6 : (![0, 0] : Fin S10x51866.rank → Nat) = fun _ => 0 := funext fun a => by fin_cases a <;> rfl
  have h0 : (![0, 0] : Fin S10x1280.rank → Nat) = fun _ => 0 := funext fun a => by fin_cases a <;> rfl
  have h1 : (![0, 0] : Fin S1x1280.rank → Nat) = fun _ => 0 := funext fun a => by fin_cases a <;> rfl
  have h3 : (![0, 0] : Fin S51866x1280.rank → Nat) = fun _ => 0 := funext fun a => by fin_cases a <;> rfl
  have h4 : (![0, 0] : Fin S1x51866.rank → Nat) = fun _ => 0 := funext fun a => by fin_cases a <;> rfl
  unfold out0_6
  rw [View.canon_unit_zero h6, View.ld_unit_zero h0, View.ld_unit_zero h1, View.ld_unit_zero h1, View.ld_unit_zero h3, View.ld_unit_zero h4, View.ld_unit_zero h4]

variable (m : (ℓ : Loc nD τ sig) → Buf (Elt F) ℓ) (c : Dev nD)

/-- The windows are whole arrays: a block's index is placed at itself. -/
theorem idx_facts : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

theorem emb0 (y : S10x1280.Idx) : ((cfg0.win 0).blk t0).view.emb y = y := by
  obtain ⟨e0, e1, _, _, _, _, _, _, _, _, _, _, _, _⟩ := idx_facts t0
  funext a; apply Fin.ext
  match a with
  | ⟨0, _⟩ => show win0_0.index t0 (0 : Fin 2) * 10 + 1 * (y 0).val = (y 0).val; omega
  | ⟨1, _⟩ => show win0_0.index t0 (1 : Fin 2) * 1280 + 1 * (y 1).val = (y 1).val; omega
theorem iblk_eq0 : iblk m c 0 t0 = V m c main_v0 := by
  funext y; show V m c main_v0 (((cfg0.win 0).blk t0).view.emb y) = V m c main_v0 y; rw [emb0]

theorem emb1 (y : S1x1280.Idx) : ((cfg0.win 1).blk t0).view.emb y = y := by
  obtain ⟨_, _, e0, e1, _, _, _, _, _, _, _, _, _, _⟩ := idx_facts t0
  funext a; apply Fin.ext
  match a with
  | ⟨0, _⟩ => show win0_1.index t0 (0 : Fin 2) * 1 + 1 * (y 0).val = (y 0).val; omega
  | ⟨1, _⟩ => show win0_1.index t0 (1 : Fin 2) * 1280 + 1 * (y 1).val = (y 1).val; omega
theorem iblk_eq1 : iblk m c 1 t0 = V m c main_v1 := by
  funext y; show V m c main_v1 (((cfg0.win 1).blk t0).view.emb y) = V m c main_v1 y; rw [emb1]

theorem emb2 (y : S1x1280.Idx) : ((cfg0.win 2).blk t0).view.emb y = y := by
  obtain ⟨_, _, _, _, e0, e1, _, _, _, _, _, _, _, _⟩ := idx_facts t0
  funext a; apply Fin.ext
  match a with
  | ⟨0, _⟩ => show win0_2.index t0 (0 : Fin 2) * 1 + 1 * (y 0).val = (y 0).val; omega
  | ⟨1, _⟩ => show win0_2.index t0 (1 : Fin 2) * 1280 + 1 * (y 1).val = (y 1).val; omega
theorem iblk_eq2 : iblk m c 2 t0 = V m c main_v2 := by
  funext y; show V m c main_v2 (((cfg0.win 2).blk t0).view.emb y) = V m c main_v2 y; rw [emb2]

theorem emb3 (y : S51866x1280.Idx) : ((cfg0.win 3).blk t0).view.emb y = y := by
  obtain ⟨_, _, _, _, _, _, e0, e1, _, _, _, _, _, _⟩ := idx_facts t0
  funext a; apply Fin.ext
  match a with
  | ⟨0, _⟩ => show win0_3.index t0 (0 : Fin 2) * 51866 + 1 * (y 0).val = (y 0).val; omega
  | ⟨1, _⟩ => show win0_3.index t0 (1 : Fin 2) * 1280 + 1 * (y 1).val = (y 1).val; omega
theorem iblk_eq3 : iblk m c 3 t0 = V m c main_arg3 := by
  funext y; show V m c main_arg3 (((cfg0.win 3).blk t0).view.emb y) = V m c main_arg3 y; rw [emb3]

theorem emb4 (y : S1x51866.Idx) : ((cfg0.win 4).blk t0).view.emb y = y := by
  obtain ⟨_, _, _, _, _, _, _, _, e0, e1, _, _, _, _⟩ := idx_facts t0
  funext a; apply Fin.ext
  match a with
  | ⟨0, _⟩ => show win0_4.index t0 (0 : Fin 2) * 1 + 1 * (y 0).val = (y 0).val; omega
  | ⟨1, _⟩ => show win0_4.index t0 (1 : Fin 2) * 51866 + 1 * (y 1).val = (y 1).val; omega
theorem iblk_eq4 : iblk m c 4 t0 = V m c main_v3 := by
  funext y; show V m c main_v3 (((cfg0.win 4).blk t0).view.emb y) = V m c main_v3 y; rw [emb4]

theorem emb5 (y : S1x51866.Idx) : ((cfg0.win 5).blk t0).view.emb y = y := by
  obtain ⟨_, _, _, _, _, _, _, _, _, _, e0, e1, _, _⟩ := idx_facts t0
  funext a; apply Fin.ext
  match a with
  | ⟨0, _⟩ => show win0_5.index t0 (0 : Fin 2) * 1 + 1 * (y 0).val = (y 0).val; omega
  | ⟨1, _⟩ => show win0_5.index t0 (1 : Fin 2) * 51866 + 1 * (y 1).val = (y 1).val; omega
theorem iblk_eq5 : iblk m c 5 t0 = V m c main_v4 := by
  funext y; show V m c main_v4 (((cfg0.win 5).blk t0).view.emb y) = V m c main_v4 y; rw [emb5]

theorem emb6 (y : S10x51866.Idx) : ((cfg0.win 6).blk t0).view.emb y = y := by
  obtain ⟨_, _, _, _, _, _, _, _, _, _, _, _, e0, e1⟩ := idx_facts t0
  funext a; apply Fin.ext
  match a with
  | ⟨0, _⟩ => show win0_6.index t0 (0 : Fin 2) * 10 + 1 * (y 0).val = (y 0).val; omega
  | ⟨1, _⟩ => show win0_6.index t0 (1 : Fin 2) * 51866 + 1 * (y 1).val = (y 1).val; omega

theorem V_v0 : V m c main_v0 = shapeCast S10x1280 (m ((c : Thread nD τ).loc main_arg0)) shapeCasts_S2x5x1x1280_S10x1280 := by
  show StableHlo.after _ _ (Proc.devRef .tc main_v0) = _
  after_reads_simp
  rfl
theorem V_v1 : V m c main_v1 = shapeCast S1x1280 (m ((c : Thread nD τ).loc main_arg1)) shapeCasts_S1280_S1x1280 := by
  show StableHlo.after _ _ (Proc.devRef .tc main_v1) = _
  after_reads_simp
  rfl
theorem V_v2 : V m c main_v2 = shapeCast S1x1280 (m ((c : Thread nD τ).loc main_arg2)) shapeCasts_S1280_S1x1280 := by
  show StableHlo.after _ _ (Proc.devRef .tc main_v2) = _
  after_reads_simp
  rfl
theorem V_v3 : V m c main_v3 = shapeCast S1x51866 (m ((c : Thread nD τ).loc main_arg4)) shapeCasts_S51866_S1x51866 := by
  show StableHlo.after _ _ (Proc.devRef .tc main_v3) = _
  after_reads_simp
  rfl
theorem V_v4 : V m c main_v4 = shapeCast S1x51866 (m ((c : Thread nD τ).loc main_arg5)) shapeCasts_S51866_S1x51866 := by
  show StableHlo.after _ _ (Proc.devRef .tc main_v4) = _
  after_reads_simp
  rfl

/-- The array after the run. -/
theorem final_eq : (dats m 0 c).arrAt 6 cfg0.N = k0_pay1 (V m c main_v0) (V m c main_v0) (V m c main_v1) (V m c main_v2) (V m c main_arg3) (V m c main_v3) (V m c main_v4) := by
  have h := Cert.HeadRefIdeal.Value.blocks6 m c t0 rfl
  rw [Cert.HeadRefIdeal.Value.flushed6, iblk_eq0, iblk_eq1, iblk_eq2, iblk_eq3, iblk_eq4, iblk_eq5, out_eq] at h
  generalize (dats m 0 c).arrAt 6 cfg0.N = A at h ⊢
  generalize k0_pay1 (V m c main_v0) (V m c main_v0) (V m c main_v1) (V m c main_v2) (V m c main_arg3) (V m c main_v3) (V m c main_v4) = B at h ⊢
  funext y
  have hy : A (((cfg0.win 6).blk t0).view.emb y) = B y := congrFun h y
  rw [emb6] at hy
  exact hy

/-- The result, entry by entry over the arguments. -/
theorem final_at (m : (ℓ : Loc nD τ sig) → Buf (Elt Ideal) ℓ) (c : Dev nD) (i : Fin 10) (j : Fin 51866) :
    (dats m 0 c).arrAt 6 cfg0.N (ix2 i j)
      = logit (lnRow (fun e => shapeCast S10x1280 (m ((c : Thread nD τ).loc main_arg0)) shapeCasts_S2x5x1x1280_S10x1280 (ix2 i e))
            (fun e => m ((c : Thread nD τ).loc main_arg1) (ix1 e)) (fun e => m ((c : Thread nD τ).loc main_arg2) (ix1 e)))
          (fun d => m ((c : Thread nD τ).loc main_arg3) (ix2 j d)) (m ((c : Thread nD τ).loc main_arg4) (ix1 j)) (m ((c : Thread nD τ).loc main_arg5) (ix1 j)) := by
  refine (congrFun (final_eq m c) (ix2 i j)).trans ?_
  refine (ref_at _ _ _ _ _ _ i j).trans ?_
  rw [V_v0, V_v1, V_v2, V_v3, V_v4, V_main_arg3]
  have g1 : (fun e => shapeCast S1x1280 (m ((c : Thread nD τ).loc main_arg1)) shapeCasts_S1280_S1x1280 (ix2 (0 : Fin 1) e)) = fun e => m ((c : Thread nD τ).loc main_arg1) (ix1 e) :=
    funext fun e => shapeCast_a_1a_apply _ _ _ _
  have g2 : (fun e => shapeCast S1x1280 (m ((c : Thread nD τ).loc main_arg2)) shapeCasts_S1280_S1x1280 (ix2 (0 : Fin 1) e)) = fun e => m ((c : Thread nD τ).loc main_arg2) (ix1 e) :=
    funext fun e => shapeCast_a_1a_apply _ _ _ _
  exact congr (congr (congr (congrArg logit (congr (congr (congrArg lnRow rfl) g1) g2)) rfl) (shapeCast_a_1a_apply _ _ _ _)) (shapeCast_a_1a_apply _ _ _ _)

end Cert.HeadRefIdeal.Ref

end
-- ==== Proof.Mp.Names.lean ====
/-
  The names the MLP's body goes by: slot `n` of the ring (`rslot n`, `n` read modulo 22), its DMA semaphore (`csm n`), the
  1280 columns `1280 i` on of layer `l`'s first weight (`w1p l i`) and the 1280 rows `1280 i` on of its second (`w2p l i`).
  Every slice the printed body takes, at a literal or at a loop trip, is one of these (`@[sl_canon]` equations), so that one
  proof of a trip serves all trips.
-/
module

public import proofs.«01_k».proof.Proof.Gen.Mlp.Launch
public import proofs.«01_k».proof.Proof.Gen.Mlp.Skeleton
public import proofs.«01_k».proof.Proof.Gen.Mlp.Loops
public import proofs.«01_k».proof.Proof.Gen.Mlp.Points
public import proofs.«01_k».proof.Proof.Gen.Mlp.Frame
public import Idealize.ShloMosaic.Lib.Pipeline.FrameSuffix
public import Idealize.ShloMosaic.Lib.Ring
public import Idealize.ShloMosaic.Lib.Tactic

@[expose] public section

set_option maxRecDepth 16384

noncomputable section

namespace Cert.Mlp.Ring

open Cert.Mlp Cert.Mlp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev w1M : Memref sig .tc .hbm S4x1280x5120 .i8 := Memref.whole main_arg3
abbrev w2M : Memref sig .tc .hbm S4x5120x1280 .i8 := Memref.whole main_arg6
abbrev ringM : Memref sig .tc .vmem S22x1280x1280 .i8 := Memref.whole cc0_scratch0

abbrev slotOff (n : ℕ) : Fin 3 → ℕ := ![n % 22, 0, 0]
theorem slotOff_inb (n : ℕ) : ∀ a, slotOff n a + S1x1280x1280.size a ≤ S22x1280x1280.size a := by
  have h : n % 22 < 22 := Nat.mod_lt _ (by decide)
  intro a; fin_cases a
  · show n % 22 + 1 ≤ 22; omega
  · show 0 + 1280 ≤ 1280; omega
  · show 0 + 1280 ≤ 1280; omega
abbrev semOff (n : ℕ) : Fin 1 → ℕ := ![n % 22]
theorem semOff_inb (n : ℕ) : ∀ a, semOff n a + S1.size a ≤ S22.size a := by
  have h : n % 22 < 22 := Nat.mod_lt _ (by decide)
  intro a; fin_cases a; show n % 22 + 1 ≤ 22; omega
abbrev w1Off (l i : ℕ) : Fin 3 → ℕ := ![l % 4, 0, 1280 * (i % 4)]
theorem w1Off_inb (l i : ℕ) : ∀ a, w1Off l i a + S1x1280x1280.size a ≤ S4x1280x5120.size a := by
  have h : l % 4 < 4 := Nat.mod_lt _ (by decide)
  have h' : i % 4 < 4 := Nat.mod_lt _ (by decide)
  intro a; fin_cases a
  · show l % 4 + 1 ≤ 4; omega
  · show 0 + 1280 ≤ 1280; omega
  · show 1280 * (i % 4) + 1280 ≤ 5120; omega
abbrev w2Off (l i : ℕ) : Fin 3 → ℕ := ![l % 4, 1280 * (i % 4), 0]
theorem w2Off_inb (l i : ℕ) : ∀ a, w2Off l i a + S1x1280x1280.size a ≤ S4x5120x1280.size a := by
  have h : l % 4 < 4 := Nat.mod_lt _ (by decide)
  have h' : i % 4 < 4 := Nat.mod_lt _ (by decide)
  intro a; fin_cases a
  · show l % 4 + 1 ≤ 4; omega
  · show 1280 * (i % 4) + 1280 ≤ 5120; omega
  · show 0 + 1280 ≤ 1280; omega

/-- Slot `n` (modulo 22) of the ring. -/
def rslot (n : ℕ) : Memref sig .tc .vmem S1280x1280 .i8 :=
  (ringM.slice (Rect.unit (s := S22x1280x1280) (slotOff n) S1x1280x1280.size (slotOff_inb n)) (fun _ => rfl)).squeeze S1280x1280 squeezes_S1x1280x1280_S1280x1280
/-- Slot `n`'s DMA semaphore. -/
def csm (n : ℕ) : DmaSems sig S_ := (cc0_scratch2.slice (Rect.unit (s := S22) (semOff n) S1.size (semOff_inb n))).squeeze S_ squeezes_S1_S_
/-- Layer `l`'s first weight, its 1280 columns from `1280 i` on. -/
def w1p (l i : ℕ) : Memref sig .tc .hbm S1280x1280 .i8 :=
  (w1M.slice (Rect.unit (s := S4x1280x5120) (w1Off l i) S1x1280x1280.size (w1Off_inb l i)) (fun _ => rfl)).squeeze S1280x1280 squeezes_S1x1280x1280_S1280x1280
/-- Layer `l`'s second weight, its 1280 rows from `1280 i` on. -/
def w2p (l i : ℕ) : Memref sig .tc .hbm S1280x1280 .i8 :=
  (w2M.slice (Rect.unit (s := S4x5120x1280) (w2Off l i) S1x1280x1280.size (w2Off_inb l i)) (fun _ => rfl)).squeeze S1280x1280 squeezes_S1x1280x1280_S1280x1280

instance (n : ℕ) : ClosedOff (slotOff n) := ⟨slotOff n, rfl⟩
instance (l i : ℕ) : ClosedOff (w1Off l i) := ⟨w1Off l i, rfl⟩
instance (l i : ℕ) : ClosedOff (w2Off l i) := ⟨w2Off l i, rfl⟩

theorem csm_congr {off : Fin 1 → ℕ} {n : ℕ} (e : off = semOff n) (hh) :
    (cc0_scratch2.slice (Rect.unit (s := S22) off S1.size hh)).squeeze S_ squeezes_S1_S_ = csm n :=
  congrArg (fun A : DmaSems sig S1 => A.squeeze S_ squeezes_S1_S_) (SemArray.slice_unit_congr _ e _ _)
theorem rslot_congr {off : Fin 3 → ℕ} {n : ℕ} (e : off = slotOff n) (hh hs) :
    (ringM.slice (Rect.unit (s := S22x1280x1280) off S1x1280x1280.size hh) hs).squeeze S1280x1280 squeezes_S1x1280x1280_S1280x1280 = rslot n :=
  congrArg (fun M : Memref sig .tc .vmem S1x1280x1280 .i8 => M.squeeze S1280x1280 squeezes_S1x1280x1280_S1280x1280) (Memref.slice_unit_congr _ e _ _ _ _)
theorem w1p_congr {off : Fin 3 → ℕ} {l i : ℕ} (e : off = w1Off l i) (hh hs) :
    (w1M.slice (Rect.unit (s := S4x1280x5120) off S1x1280x1280.size hh) hs).squeeze S1280x1280 squeezes_S1x1280x1280_S1280x1280 = w1p l i :=
  congrArg (fun M : Memref sig .tc .hbm S1x1280x1280 .i8 => M.squeeze S1280x1280 squeezes_S1x1280x1280_S1280x1280) (Memref.slice_unit_congr _ e _ _ _ _)
theorem w2p_congr {off : Fin 3 → ℕ} {l i : ℕ} (e : off = w2Off l i) (hh hs) :
    (w2M.slice (Rect.unit (s := S4x5120x1280) off S1x1280x1280.size hh) hs).squeeze S1280x1280 squeezes_S1x1280x1280_S1280x1280 = w2p l i :=
  congrArg (fun M : Memref sig .tc .hbm S1x1280x1280 .i8 => M.squeeze S1280x1280 squeezes_S1x1280x1280_S1280x1280) (Memref.slice_unit_congr _ e _ _ _ _)

/-- The literal slices: the ring's slots and semaphores, and layer 0's pieces. -/
@[sl_canon] theorem semL (n : ℕ) (hh) : (cc0_scratch2.slice (Rect.unit (s := S22) ![n] S1.size hh)).squeeze S_ squeezes_S1_S_ = csm n :=
  csm_congr (by have h : n + 1 ≤ 22 := hh 0; show ![n] = ![n % 22]; rw [Nat.mod_eq_of_lt (by omega)]) _
@[sl_canon] theorem slotL (n : ℕ) (hh hs) : (ringM.slice (Rect.unit (s := S22x1280x1280) ![n, 0, 0] S1x1280x1280.size hh) hs).squeeze S1280x1280 squeezes_S1x1280x1280_S1280x1280 = rslot n :=
  rslot_congr (by have h : n + 1 ≤ 22 := hh 0; show ![n, 0, 0] = ![n % 22, 0, 0]; rw [Nat.mod_eq_of_lt (by omega)]) _ _
theorem w1Off_zero (i o : ℕ) (ho : o = 1280 * (i % 4)) : ![0, 0, o] = w1Off 0 i := by subst ho; rfl
theorem w2Off_zero (i o : ℕ) (ho : o = 1280 * (i % 4)) : ![0, o, 0] = w2Off 0 i := by subst ho; rfl
@[sl_canon] theorem w1L0 (hh hs) : (w1M.slice (Rect.unit (s := S4x1280x5120) ![0, 0, 0] S1x1280x1280.size hh) hs).squeeze S1280x1280 squeezes_S1x1280x1280_S1280x1280 = w1p 0 0 := w1p_congr (w1Off_zero 0 0 rfl) _ _
@[sl_canon] theorem w2L0 (hh hs) : (w2M.slice (Rect.unit (s := S4x5120x1280) ![0, 0, 0] S1x1280x1280.size hh) hs).squeeze S1280x1280 squeezes_S1x1280x1280_S1280x1280 = w2p 0 0 := w2p_congr (w2Off_zero 0 0 rfl) _ _
@[sl_canon] theorem w1L1 (hh hs) : (w1M.slice (Rect.unit (s := S4x1280x5120) ![0, 0, 1280] S1x1280x1280.size hh) hs).squeeze S1280x1280 squeezes_S1x1280x1280_S1280x1280 = w1p 0 1 := w1p_congr (w1Off_zero 1 1280 rfl) _ _
@[sl_canon] theorem w2L1 (hh hs) : (w2M.slice (Rect.unit (s := S4x5120x1280) ![0, 1280, 0] S1x1280x1280.size hh) hs).squeeze S1280x1280 squeezes_S1x1280x1280_S1280x1280 = w2p 0 1 := w2p_congr (w2Off_zero 1 1280 rfl) _ _
@[sl_canon] theorem w1L2 (hh hs) : (w1M.slice (Rect.unit (s := S4x1280x5120) ![0, 0, 2560] S1x1280x1280.size hh) hs).squeeze S1280x1280 squeezes_S1x1280x1280_S1280x1280 = w1p 0 2 := w1p_congr (w1Off_zero 2 2560 rfl) _ _
@[sl_canon] theorem w2L2 (hh hs) : (w2M.slice (Rect.unit (s := S4x5120x1280) ![0, 2560, 0] S1x1280x1280.size hh) hs).squeeze S1280x1280 squeezes_S1x1280x1280_S1280x1280 = w2p 0 2 := w2p_congr (w2Off_zero 2 2560 rfl) _ _
@[sl_canon] theorem w1L3 (hh hs) : (w1M.slice (Rect.unit (s := S4x1280x5120) ![0, 0, 3840] S1x1280x1280.size hh) hs).squeeze S1280x1280 squeezes_S1x1280x1280_S1280x1280 = w1p 0 3 := w1p_congr (w1Off_zero 3 3840 rfl) _ _
@[sl_canon] theorem w2L3 (hh hs) : (w2M.slice (Rect.unit (s := S4x5120x1280) ![0, 3840, 0] S1x1280x1280.size hh) hs).squeeze S1280x1280 squeezes_S1x1280x1280_S1280x1280 = w2p 0 3 := w2p_congr (w2Off_zero 3 3840 rfl) _ _

/-- A trip's slices: the next layer's pieces. -/
theorem w1Off_succ (k i o : ℕ) (hk : k + 1 + 1 ≤ 4) (ho : o = 1280 * (i % 4)) : ![k + 1, 0, o] = w1Off (k + 1) i := by
  subst ho; show ![k + 1, 0, _] = ![(k + 1) % 4, 0, _]; rw [Nat.mod_eq_of_lt (show k + 1 < 4 by omega)]
theorem w2Off_succ (k i o : ℕ) (hk : k + 1 + 1 ≤ 4) (ho : o = 1280 * (i % 4)) : ![k + 1, o, 0] = w2Off (k + 1) i := by
  subst ho; show ![k + 1, _, 0] = ![(k + 1) % 4, _, 0]; rw [Nat.mod_eq_of_lt (show k + 1 < 4 by omega)]
@[sl_canon] theorem w1K0 (k : Fin k0_t1_loop.trips) (hh hs) : (w1M.slice (Rect.unit (s := S4x1280x5120) (k0_off4 k) S1x1280x1280.size hh) hs).squeeze S1280x1280 squeezes_S1x1280x1280_S1280x1280 = w1p (k.val + 1) 0 :=
  w1p_congr ((k0_off4_eq k).trans (w1Off_succ k.val 0 _ (by have h := hh 0; rw [k0_off4_eq k] at h; exact h) rfl)) _ _
@[sl_canon] theorem w2K0 (k : Fin k0_t1_loop.trips) (hh hs) : (w2M.slice (Rect.unit (s := S4x5120x1280) (k0_off8 k) S1x1280x1280.size hh) hs).squeeze S1280x1280 squeezes_S1x1280x1280_S1280x1280 = w2p (k.val + 1) 0 :=
  w2p_congr ((k0_off8_eq k).trans (w2Off_succ k.val 0 _ (by have h := hh 0; rw [k0_off8_eq k] at h; exact h) rfl)) _ _
@[sl_canon] theorem w1K1 (k : Fin k0_t1_loop.trips) (hh hs) : (w1M.slice (Rect.unit (s := S4x1280x5120) (k0_off5 k) S1x1280x1280.size hh) hs).squeeze S1280x1280 squeezes_S1x1280x1280_S1280x1280 = w1p (k.val + 1) 1 :=
  w1p_congr ((k0_off5_eq k).trans (w1Off_succ k.val 1 _ (by have h := hh 0; rw [k0_off5_eq k] at h; exact h) rfl)) _ _
@[sl_canon] theorem w2K1 (k : Fin k0_t1_loop.trips) (hh hs) : (w2M.slice (Rect.unit (s := S4x5120x1280) (k0_off9 k) S1x1280x1280.size hh) hs).squeeze S1280x1280 squeezes_S1x1280x1280_S1280x1280 = w2p (k.val + 1) 1 :=
  w2p_congr ((k0_off9_eq k).trans (w2Off_succ k.val 1 _ (by have h := hh 0; rw [k0_off9_eq k] at h; exact h) rfl)) _ _
@[sl_canon] theorem w1K2 (k : Fin k0_t1_loop.trips) (hh hs) : (w1M.slice (Rect.unit (s := S4x1280x5120) (k0_off6 k) S1x1280x1280.size hh) hs).squeeze S1280x1280 squeezes_S1x1280x1280_S1280x1280 = w1p (k.val + 1) 2 :=
  w1p_congr ((k0_off6_eq k).trans (w1Off_succ k.val 2 _ (by have h := hh 0; rw [k0_off6_eq k] at h; exact h) rfl)) _ _
@[sl_canon] theorem w2K2 (k : Fin k0_t1_loop.trips) (hh hs) : (w2M.slice (Rect.unit (s := S4x5120x1280) (k0_off10 k) S1x1280x1280.size hh) hs).squeeze S1280x1280 squeezes_S1x1280x1280_S1280x1280 = w2p (k.val + 1) 2 :=
  w2p_congr ((k0_off10_eq k).trans (w2Off_succ k.val 2 _ (by have h := hh 0; rw [k0_off10_eq k] at h; exact h) rfl)) _ _
@[sl_canon] theorem w1K3 (k : Fin k0_t1_loop.trips) (hh hs) : (w1M.slice (Rect.unit (s := S4x1280x5120) (k0_off7 k) S1x1280x1280.size hh) hs).squeeze S1280x1280 squeezes_S1x1280x1280_S1280x1280 = w1p (k.val + 1) 3 :=
  w1p_congr ((k0_off7_eq k).trans (w1Off_succ k.val 3 _ (by have h := hh 0; rw [k0_off7_eq k] at h; exact h) rfl)) _ _
@[sl_canon] theorem w2K3 (k : Fin k0_t1_loop.trips) (hh hs) : (w2M.slice (Rect.unit (s := S4x5120x1280) (k0_off11 k) S1x1280x1280.size hh) hs).squeeze S1280x1280 squeezes_S1x1280x1280_S1280x1280 = w2p (k.val + 1) 3 :=
  w2p_congr ((k0_off11_eq k).trans (w2Off_succ k.val 3 _ (by have h := hh 0; rw [k0_off11_eq k] at h; exact h) rfl)) _ _

/-- The body's branch over the trip. -/
theorem cond1_iff : ∀ k : Fin k0_t1_loop.trips, k0_cond1 k = 1#1 ↔ k.val < 3 := by decide +kernel
theorem trips_eq : k0_t1_loop.trips = 4 := by decide +kernel

end Cert.Mlp.Ring

end
-- ==== Proof.Mp.Trip.lean ====
/-
  One trip of the MLP's loop: layer `k`. Before it the layer's eight pieces of weights are in flight into slots 6 to 13; it
  waits for them, computes the layer, and issues the next layer's eight pieces into the same slots.
-/
module

public import proofs.«01_k».proof.Proof.Mp.Names
public import Idealize.ShloMosaic.Lib.Pointwise.Index
public import Idealize.SL.BI.BigOpNat
public import Mathlib.Algebra.Order.Interval.Finset.Basic

@[expose] public section

set_option maxRecDepth 16384

noncomputable section

namespace Cert.Mlp.Ring

open Cert.Mlp Cert.Mlp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev 𝒱₀ : Variants := Variants.none

section Pieces
variable (c : Dev nD)

/-- What a slot of the ring may hold. -/
abbrev SB (n : ℕ) : Type := Buf (Elt F) ((rslot n).view.loc (c : Thread nD τ))
abbrev cellP (n : ℕ) : sProp 𝕄 := semVal ((c : Thread nD τ), SemLoc.dma (csm n).sem) 0
abbrev slotP (n : ℕ) (f : SB (F := F) c n) : sProp 𝕄 := (rslot n).view.loc (c : Thread nD τ) ↦[(rslot n).view.set]{fullShare} f
/-- Slot `n` free: held at anything, its semaphore at zero. -/
def freeP (n : ℕ) : sProp 𝕄 := iprop((∃ f, slotP c n f) ∗ cellP c n)

section One
variable (M : Memref sig .tc .hbm S1280x1280 .i8) (X : Buf (Elt F) (M.view.loc (c : Thread nD τ)))
/-- A piece of a weight at home. -/
abbrev homeP : sProp 𝕄 := M.view.loc (c : Thread nD τ) ↦[M.view.set]{fullShare} X
/-- The words of a piece. -/
abbrev payM : S1280x1280.Idx → Elt F .i8 := ReadAs.same.apply (M.view.read (Elt F) X)
/-- What the transfer of a piece leaves in slot `n`. -/
abbrev landed (n : ℕ) (f : SB (F := F) c n) : SB (F := F) c n := (rslot n).view.writes (Elt F) f [⟨Rect.whole S1280x1280, payM c M X⟩]
/-- A piece in flight into slot `n`. -/
abbrev flightR (n : ℕ) (f : SB (F := F) c n) : sProp 𝕄 :=
  Transfers.Flight countersEmb (c : Thread nD τ) (SemLoc.dma (csm n).sem) () 51200 iprop(slotP c n (landed c M X n f) ∗ homeP c M X)
/-- The same, over whatever the slot held. -/
def flightE (n : ℕ) : sProp 𝕄 := iprop(∃ f, flightR c M X n f)
theorem flight_intro (n : ℕ) (f : SB (F := F) c n) : flightR c M X n f ⊢ flightE c M X n := by
  unfold flightE
  iintro H
  iexists f
  iexact H
/-- A flight issued over what an earlier one left, as the run of a trip states it. -/
theorem flight_after (n : ℕ) (w : S1280x1280.Idx → Elt F .i8) :
    Transfers.Flight countersEmb (c : Thread nD τ) (SemLoc.dma (csm n).sem) () 51200
          iprop(((rslot n).view.loc (c : Thread nD τ) ↦[(rslot n).view.set]{fullShare}
                  (rslot n).view.writes (Elt F) (rslot n).view.junk [⟨Rect.whole S1280x1280, payM c M X⟩, ⟨Rect.whole S1280x1280, w⟩])
                ∗ homeP c M X) ⊢ flightE c M X n := by
  unfold flightE
  iintro H
  iexists (rslot n).view.writes (Elt F) (rslot n).view.junk [⟨Rect.whole S1280x1280, w⟩]
  simp only [flightR, landed, slotP, View.writes]
  iexact H
/-- A slot as a trip reads it. -/
def landV (R : Rect S22x1280x1280) (n : ℕ) : R.shape.Idx → Elt F .i8 :=
  ringM.view.readAt (Elt F) R.toLoadRect (landed c M X n (rslot n).view.junk)
end One

variable (X1 : Buf (Elt F) (w1M.view.loc (c : Thread nD τ))) (X2 : Buf (Elt F) (w2M.view.loc (c : Thread nD τ)))

/-- Layer `l`'s eight pieces in flight. -/
def flightsP (l : ℕ) : sProp 𝕄 :=
  iprop(flightE c (w1p l 0) X1 6 ∗ flightE c (w1p l 1) X1 7 ∗ flightE c (w1p l 2) X1 8 ∗ flightE c (w1p l 3) X1 9 ∗ flightE c (w2p l 0) X2 10 ∗ flightE c (w2p l 1) X2 11 ∗ flightE c (w2p l 2) X2 12 ∗ flightE c (w2p l 3) X2 13)
/-- Layer `l`'s eight pieces at home. -/
def homesP (l : ℕ) : sProp 𝕄 :=
  iprop(homeP c (w1p l 0) X1 ∗ homeP c (w1p l 1) X1 ∗ homeP c (w1p l 2) X1 ∗ homeP c (w1p l 3) X1 ∗ homeP c (w2p l 0) X2 ∗ homeP c (w2p l 1) X2 ∗ homeP c (w2p l 2) X2 ∗ homeP c (w2p l 3) X2)
theorem flightsP_eq (l : ℕ) : flightsP c X1 X2 l = iprop(flightE c (w1p l 0) X1 6 ∗ flightE c (w1p l 1) X1 7 ∗ flightE c (w1p l 2) X1 8 ∗ flightE c (w1p l 3) X1 9 ∗ flightE c (w2p l 0) X2 10 ∗ flightE c (w2p l 1) X2 11 ∗ flightE c (w2p l 2) X2 12 ∗ flightE c (w2p l 3) X2 13) := rfl
theorem flightsP_open (l : ℕ) : flightsP c X1 X2 l = iprop((∃ f, flightR c (w1p l 0) X1 6 f) ∗ (∃ f, flightR c (w1p l 1) X1 7 f) ∗ (∃ f, flightR c (w1p l 2) X1 8 f) ∗ (∃ f, flightR c (w1p l 3) X1 9 f) ∗ (∃ f, flightR c (w2p l 0) X2 10 f) ∗ (∃ f, flightR c (w2p l 1) X2 11 f) ∗ (∃ f, flightR c (w2p l 2) X2 12 f) ∗ (∃ f, flightR c (w2p l 3) X2 13 f)) := rfl
theorem homesP_eq (l : ℕ) : homesP c X1 X2 l = iprop(homeP c (w1p l 0) X1 ∗ homeP c (w1p l 1) X1 ∗ homeP c (w1p l 2) X1 ∗ homeP c (w1p l 3) X1 ∗ homeP c (w2p l 0) X2 ∗ homeP c (w2p l 1) X2 ∗ homeP c (w2p l 2) X2 ∗ homeP c (w2p l 3) X2) := rfl
/-- The eight slots free. -/
def freesP : sProp 𝕄 := iprop(freeP c 6 ∗ freeP c 7 ∗ freeP c 8 ∗ freeP c 9 ∗ freeP c 10 ∗ freeP c 11 ∗ freeP c 12 ∗ freeP c 13)
/-- The eight slots before trip `k`. -/
def slotsP (k : ℕ) : sProp 𝕄 := if k < 4 then flightsP c X1 X2 k else freesP c
/-- The layers at home before trip `k`: all but layer `k`. -/
def restP (k : ℕ) : sProp 𝕄 := iprop(bigSep (Finset.Ico 0 k) (homesP c X1 X2) ∗ bigSep (Finset.Ico (k + 1) 4) (homesP c X1 X2))
end Pieces

/-- The residual's rows, padded to 16. -/
abbrev rowM : Memref sig .tc .vmem S16x1280 .f32 := Memref.whole cc0_scratch1
abbrev R10 : Rect S16x1280 := Rect.unit (s := S16x1280) ![0, 0] S10x1280.size inb_S16x1280_S10x1280_0_0
abbrev R16 : Rect S16x1280 := Rect.unit (s := S16x1280) ![0, 0] S16x1280.size inb_S16x1280_S16x1280_0_0
/-- The rectangles a trip reads and writes: layer `k`'s rows of the residual, of the four rows of 1280, of the two rows of 5120. -/
abbrev R1 (k : Fin k0_t1_loop.trips) : Rect S4x10x1280 := Rect.unit (s := S4x10x1280) (k0_off1 k) S1x10x1280.size (k0_off1_inb k)
abbrev R2 (k : Fin k0_t1_loop.trips) : Rect S4x1280 := Rect.unit (s := S4x1280) (k0_off2 k) S1x1280.size (k0_off2_inb k)
abbrev R3 (k : Fin k0_t1_loop.trips) : Rect S4x5120 := Rect.unit (s := S4x5120) (k0_off3 k) S1x5120.size (k0_off3_inb k)
/-- The ring's slots a trip reads. -/
abbrev RS6 : Rect S22x1280x1280 := Rect.unit (s := S22x1280x1280) ![6, 0, 0] S1x1280x1280.size inb_S22x1280x1280_S1x1280x1280_6_0_0
abbrev RS7 : Rect S22x1280x1280 := Rect.unit (s := S22x1280x1280) ![7, 0, 0] S1x1280x1280.size inb_S22x1280x1280_S1x1280x1280_7_0_0
abbrev RS8 : Rect S22x1280x1280 := Rect.unit (s := S22x1280x1280) ![8, 0, 0] S1x1280x1280.size inb_S22x1280x1280_S1x1280x1280_8_0_0
abbrev RS9 : Rect S22x1280x1280 := Rect.unit (s := S22x1280x1280) ![9, 0, 0] S1x1280x1280.size inb_S22x1280x1280_S1x1280x1280_9_0_0
abbrev RS10 : Rect S22x1280x1280 := Rect.unit (s := S22x1280x1280) ![10, 0, 0] S1x1280x1280.size inb_S22x1280x1280_S1x1280x1280_10_0_0
abbrev RS11 : Rect S22x1280x1280 := Rect.unit (s := S22x1280x1280) ![11, 0, 0] S1x1280x1280.size inb_S22x1280x1280_S1x1280x1280_11_0_0
abbrev RS12 : Rect S22x1280x1280 := Rect.unit (s := S22x1280x1280) ![12, 0, 0] S1x1280x1280.size inb_S22x1280x1280_S1x1280x1280_12_0_0
abbrev RS13 : Rect S22x1280x1280 := Rect.unit (s := S22x1280x1280) ![13, 0, 0] S1x1280x1280.size inb_S22x1280x1280_S1x1280x1280_13_0_0

section Pure
variable (c : Dev nD) (X1 : Buf (Elt F) (w1M.view.loc (c : Thread nD τ))) (X2 : Buf (Elt F) (w2M.view.loc (c : Thread nD τ)))
variable (x : Vec F S4x10x1280 .f32) (g b : Vec F S4x1280 .f32) (s1 b1 : Vec F S4x5120 .f32) (s2 b2 : Vec F S4x1280 .f32)

/-- The 16 rows a layer works on: its ten rows of the residual above what the rows held before. -/
def rowsF (p : Vec F S10x1280 .f32) (r : Vec F S16x1280 .f32) : Vec F S16x1280 .f32 :=
  fun y => if h : (y 0).val < 10 then p (ix2 (n0 := 10) (n1 := 1280) ⟨(y 0).val, h⟩ (y 1)) else r y

variable (k : Fin k0_t1_loop.trips) (w : Vec F S16x1280 .f32)

/-- The normalised rows of layer `k`. -/
def normF : FVec F S16x1280 .bf16 := k0_pay5 w (fun y => g ((R2 k).toLoadRect.idx y)) (fun y => b ((R2 k).toLoadRect.idx y))
/-- The sum over the hidden columns, of the first chunk and the second, -/
def acc2F : FVec F S16x1280 .f32 :=
  k0_pay9 (normF g b k w) (fun y => s1 ((R3 k).toLoadRect.idx y)) (fun y => b1 ((R3 k).toLoadRect.idx y)) k0_pay6
    (k0_pay7 (normF g b k w) (fun y => s1 ((R3 k).toLoadRect.idx y)) (landV c (w1p k.val 0) X1 RS6 6))
    (k0_pay8 (fun y => b1 ((R3 k).toLoadRect.idx y))) (landV c (w2p k.val 0) X2 RS10 10) (landV c (w1p k.val 1) X1 RS7 7) (landV c (w2p k.val 1) X2 RS11 11)
/-- with the third. -/
def acc3F : FVec F S16x1280 .f32 :=
  k0_pay10 (normF g b k w) (fun y => s1 ((R3 k).toLoadRect.idx y)) (fun y => b1 ((R3 k).toLoadRect.idx y)) (acc2F c X1 X2 g b s1 b1 k w)
    (landV c (w1p k.val 2) X1 RS8 8) (landV c (w2p k.val 2) X2 RS12 12)
/-- The fourth chunk of the hidden columns. -/
def hid4F : FVec F S16x1280 .bf16 :=
  k0_pay11 (normF g b k w) (fun y => s1 ((R3 k).toLoadRect.idx y)) (fun y => b1 ((R3 k).toLoadRect.idx y)) (landV c (w1p k.val 3) X1 RS9 9)
/-- The 16 rows after the layer, -/
def nextF : Vec F S16x1280 .f32 :=
  k0_pay2 (acc3F c X1 X2 g b s1 b1 k w) (hid4F c X1 g b s1 b1 k w) (landV c (w2p k.val 3) X2 RS13 13) w
    (fun y => s2 ((R2 k).toLoadRect.idx y)) (fun y => b2 ((R2 k).toLoadRect.idx y))
/-- and the ten rows stored. -/
def layF : Vec F S1x10x1280 .f32 :=
  k0_pay3 (acc3F c X1 X2 g b s1 b1 k w) (hid4F c X1 g b s1 b1 k w) (landV c (w2p k.val 3) X2 RS13 13) w
    (fun y => s2 ((R2 k).toLoadRect.idx y)) (fun y => b2 ((R2 k).toLoadRect.idx y))

/-- The rows layer `k` works on, over what they held before. -/
def inF (r : Vec F S16x1280 .f32) : Vec F S16x1280 .f32 := rowsF (k0_pay4 (fun y => x ((R1 k).toLoadRect.idx y))) r
/-- The 16 rows before trip `n`: zeros before the first. -/
def stF : ℕ → Vec F S16x1280 .f32
  | 0 => k0_pay12
  | n + 1 => if h : n < k0_t1_loop.trips then nextF c X1 X2 g b s1 b1 s2 b2 ⟨n, h⟩ (inF x ⟨n, h⟩ (stF n)) else stF n
/-- What trip `k` stores. -/
def outK : Vec F S1x10x1280 .f32 := layF c X1 X2 g b s1 b1 s2 b2 k (inF x k (stF c X1 X2 x g b s1 b1 s2 b2 k.val))
theorem stF_succ : stF c X1 X2 x g b s1 b1 s2 b2 (k.val + 1) = nextF c X1 X2 g b s1 b1 s2 b2 k (inF x k (stF c X1 X2 x g b s1 b1 s2 b2 k.val)) := by
  show (if h : k.val < k0_t1_loop.trips then _ else _) = _
  rw [dif_pos k.isLt]
end Pure

/-- Reading the 16 rows after ten of them are stored. -/
theorem read_rows (c : Dev nD) (f : Buf (Elt F) (rowM.view.loc (c : Thread nD τ))) (p : Vec F S10x1280 .f32) :
    rowM.view.readAt (Elt F) R16.toLoadRect (rowM.view.writes (Elt F) f [⟨R10, p⟩]) = rowsF p (rowM.view.read (Elt F) f) := by
  funext y
  have hi : R16.toLoadRect.idx y = y := by
    funext a; apply Fin.ext
    refine a.cases ?_ (fun b => ?_)
    · show 0 + 1 * (y 0).val = (y 0).val; omega
    · obtain rfl : b = 0 := Subsingleton.elim _ _
      show 0 + 1 * (y 1).val = (y 1).val; omega
  show rowM.view.read (Elt F) (rowM.view.writes (Elt F) f [⟨R10, p⟩]) (R16.toLoadRect.idx y) = _
  rw [hi]
  unfold rowsF
  split
  · next h =>
    have he : y = R10.emb (ix2 (n0 := 10) (n1 := 1280) ⟨(y 0).val, h⟩ (y 1)) := by
      funext a; apply Fin.ext
      refine a.cases ?_ (fun b => ?_)
      · show (y 0).val = 0 + 1 * (y 0).val; omega
      · obtain rfl : b = 0 := Subsingleton.elim _ _
        show (y 1).val = 0 + 1 * (y 1).val; omega
    conv_lhs => rw [he]
    exact View.read_writes_cons_emb _ _ _ _ _ _
  · next h =>
    exact View.read_writes_cons_miss_of_axis _ _ _ _ _ 0 0 10 rfl rfl rfl (Or.inr (by omega))
/-- Reading them after all 16 are stored. -/
theorem read_all (c : Dev nD) (f : Buf (Elt F) (rowM.view.loc (c : Thread nD τ))) (w : Vec F S16x1280 .f32) (L) :
    rowM.view.read (Elt F) (rowM.view.writes (Elt F) f (⟨R16, w⟩ :: L)) = w := by
  funext y
  have he : y = R16.emb y := by
    funext a; apply Fin.ext
    refine a.cases ?_ (fun b => ?_)
    · show (y 0).val = 0 + 1 * (y 0).val; omega
    · obtain rfl : b = 0 := Subsingleton.elim _ _
      show (y 1).val = 0 + 1 * (y 1).val; omega
  conv_lhs => rw [he]
  exact View.read_writes_cons_emb _ _ _ _ _ _

section Trip
variable (c : Dev nD) (X1 : Buf (Elt F) (w1M.view.loc (c : Thread nD τ))) (X2 : Buf (Elt F) (w2M.view.loc (c : Thread nD τ)))
  (i : grid0.Coords) (arg1 : Memref sig .tc .vmem S4x10x1280 .f32) (harg1 : arg1.IsWhole) (arg2 : Memref sig .tc .vmem S4x1280 .f32) (harg2 : arg2.IsWhole) (arg3 : Memref sig .tc .vmem S4x1280 .f32) (harg3 : arg3.IsWhole)
  (arg5 : Memref sig .tc .vmem S4x5120 .f32) (harg5 : arg5.IsWhole) (arg6 : Memref sig .tc .vmem S4x5120 .f32) (harg6 : arg6.IsWhole)
  (arg8 : Memref sig .tc .vmem S4x1280 .f32) (harg8 : arg8.IsWhole) (arg9 : Memref sig .tc .vmem S4x1280 .f32) (harg9 : arg9.IsWhole) (arg10 : Memref sig .tc .vmem S4x10x1280 .f32) (harg10 : arg10.IsWhole)

abbrev tripG (k : Fin k0_t1_loop.trips) : Prog (TpuEff nD τ sig (Elt F) Λ₀ .tc) Unit :=
  k0_t1_body (F := F) i arg1 harg1 arg2 harg2 arg3 harg3 w1M (Memref.isWhole_whole _) arg5 harg5 arg6 harg6 w2M (Memref.isWhole_whole _) arg8 harg8 arg9 harg9 arg10 harg10 ringM (Memref.isWhole_whole _) rowM (Memref.isWhole_whole _) cc0_scratch2 k ()

variable (g1 : Buf (Elt F) (arg1.view.loc (c : Thread nD τ))) (g2 : Buf (Elt F) (arg2.view.loc (c : Thread nD τ))) (g3 : Buf (Elt F) (arg3.view.loc (c : Thread nD τ)))
  (g5 : Buf (Elt F) (arg5.view.loc (c : Thread nD τ))) (g6 : Buf (Elt F) (arg6.view.loc (c : Thread nD τ))) (g8 : Buf (Elt F) (arg8.view.loc (c : Thread nD τ))) (g9 : Buf (Elt F) (arg9.view.loc (c : Thread nD τ)))

/-- The inputs the loop reads. -/
abbrev insP : sProp 𝕄 :=
  iprop((arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3)
    ∗ (arg5.view.loc (c : Thread nD τ) ↦[arg5.view.set]{fullShare} g5) ∗ (arg6.view.loc (c : Thread nD τ) ↦[arg6.view.set]{fullShare} g6)
    ∗ (arg8.view.loc (c : Thread nD τ) ↦[arg8.view.set]{fullShare} g8) ∗ (arg9.view.loc (c : Thread nD τ) ↦[arg9.view.set]{fullShare} g9))
/-- The block of the result the loop writes. -/
abbrev oP (fo : Buf (Elt F) (arg10.view.loc (c : Thread nD τ))) : sProp 𝕄 := arg10.view.loc (c : Thread nD τ) ↦[arg10.view.set]{fullShare} fo
/-- The 16 rows. -/
abbrev rP (fr : Buf (Elt F) (rowM.view.loc (c : Thread nD τ))) : sProp 𝕄 := rowM.view.loc (c : Thread nD τ) ↦[rowM.view.set]{fullShare} fr

/-- The 16 rows before trip `n`, of the operands as staged, and what trip `k` stores. -/
abbrev stV (n : ℕ) : Vec F S16x1280 .f32 := stF c X1 X2 (arg1.view.read (Elt F) g1) (arg2.view.read (Elt F) g2) (arg3.view.read (Elt F) g3) (arg5.view.read (Elt F) g5) (arg6.view.read (Elt F) g6) (arg8.view.read (Elt F) g8) (arg9.view.read (Elt F) g9) n
abbrev outV (k : Fin k0_t1_loop.trips) : Vec F S1x10x1280 .f32 := outK c X1 X2 (arg1.view.read (Elt F) g1) (arg2.view.read (Elt F) g2) (arg3.view.read (Elt F) g3) (arg5.view.read (Elt F) g5) (arg6.view.read (Elt F) g6) (arg8.view.read (Elt F) g8) (arg9.view.read (Elt F) g9) k
/-- The layers before `k` are stored. -/
def Done (k : ℕ) (fo : Buf (Elt F) (arg10.view.loc (c : Thread nD τ))) : Prop :=
  ∀ b : Fin k0_t1_loop.trips, b.val < k → ∀ x, arg10.view.read (Elt F) fo ((R1 b).emb x) = outV c X1 X2 arg1 arg2 arg3 arg5 arg6 arg8 arg9 g1 g2 g3 g5 g6 g8 g9 b x

theorem done_succ (k : Fin k0_t1_loop.trips) (fo : Buf (Elt F) (arg10.view.loc (c : Thread nD τ)))
    (h : Done c X1 X2 arg1 arg2 arg3 arg5 arg6 arg8 arg9 arg10 g1 g2 g3 g5 g6 g8 g9 k.val fo) (w : (R1 k).shape.Idx → Elt F .f32)
    (hw : w = outV c X1 X2 arg1 arg2 arg3 arg5 arg6 arg8 arg9 g1 g2 g3 g5 g6 g8 g9 k) :
    Done c X1 X2 arg1 arg2 arg3 arg5 arg6 arg8 arg9 arg10 g1 g2 g3 g5 g6 g8 g9 (k.val + 1) (arg10.view.writes (Elt F) fo [⟨R1 k, w⟩]) := by
  subst hw
  intro b hb x
  by_cases e : b = k
  · subst e; exact View.read_writes_cons_emb _ _ _ _ _ _
  · have hlt : b.val < k.val := by
      have : b.val ≠ k.val := fun h => e (Fin.ext h)
      omega
    refine (View.read_writes_cons_miss_of_axis _ _ _ _ _ 0 k.val 1 ?_ rfl rfl (Or.inl ?_)).trans (h b hlt x)
    · show k0_off1 k 0 = _; rw [k0_off1_eq k]; rfl
    · have hx : (x 0).val < 1 := (x 0).isLt
      show k0_off1 b 0 + 1 * (x 0).val < _
      rw [k0_off1_eq b]; show b.val + 1 * (x 0).val < _; omega

/-- The rows trip `k` reads. -/
theorem in_eq (k : Fin k0_t1_loop.trips) (fr : Buf (Elt F) (rowM.view.loc (c : Thread nD τ))) (hr : rowM.view.read (Elt F) fr = stV c X1 X2 arg1 arg2 arg3 arg5 arg6 arg8 arg9 g1 g2 g3 g5 g6 g8 g9 k.val) :
    rowM.view.readAt (Elt F) R16.toLoadRect (rowM.view.writes (Elt F) fr [⟨R10, k0_pay4 (arg1.view.readAt (Elt F) (R1 k).toLoadRect g1)⟩])
      = inF (arg1.view.read (Elt F) g1) k (stV c X1 X2 arg1 arg2 arg3 arg5 arg6 arg8 arg9 g1 g2 g3 g5 g6 g8 g9 k.val) := by
  rw [read_rows, hr]; rfl

/-- The resources before trip `k`. -/
def invAt (k : ℕ) : sProp 𝕄 :=
  iprop(insP c arg1 arg2 arg3 arg5 arg6 arg8 arg9 g1 g2 g3 g5 g6 g8 g9 ∗ (∃ fo, oP c arg10 fo ∗ ⌜Done c X1 X2 arg1 arg2 arg3 arg5 arg6 arg8 arg9 arg10 g1 g2 g3 g5 g6 g8 g9 k fo⌝)
    ∗ (∃ fr, rP c fr ∗ ⌜rowM.view.read (Elt F) fr = stV c X1 X2 arg1 arg2 arg3 arg5 arg6 arg8 arg9 g1 g2 g3 g5 g6 g8 g9 k⌝)
    ∗ (∃ W, owes (c : Thread nD τ) 0 W) ∗ slotsP c X1 X2 k ∗ restP c X1 X2 k)

theorem restP_out (k : ℕ) (hk : k < 3) : restP c X1 X2 k = (iprop(bigSep (Finset.Ico 0 k) (homesP c X1 X2) ∗ homesP c X1 X2 (k + 1) ∗ bigSep (Finset.Ico (k + 1 + 1) 4) (homesP c X1 X2)) : sProp 𝕄) := by
  unfold restP
  rw [show Finset.Ico (k + 1) 4 = insert (k + 1) (Finset.Ico (k + 1 + 1) 4) by ext x; simp only [Finset.mem_Ico, Finset.mem_insert]; omega, bigSep_insert (by simp)]
  rfl
theorem restP_in (k : ℕ) : restP c X1 X2 (k + 1) = (iprop((homesP c X1 X2 k ∗ bigSep (Finset.Ico 0 k) (homesP c X1 X2)) ∗ bigSep (Finset.Ico (k + 1 + 1) 4) (homesP c X1 X2)) : sProp 𝕄) := by
  unfold restP
  rw [show Finset.Ico 0 (k + 1) = insert k (Finset.Ico 0 k) by ext x; simp only [Finset.mem_Ico, Finset.mem_insert]; omega, bigSep_insert (by simp)]
  rfl

set_option maxHeartbeats 2000000 in
/-- A trip that issues the next layer's transfers. -/
theorem trip_lt (k : Fin k0_t1_loop.trips) (hk : k.val < 3) :
    invAt c X1 X2 arg1 arg2 arg3 arg5 arg6 arg8 arg9 arg10 g1 g2 g3 g5 g6 g8 g9 k.val
      ⊢ wp frame (wpE (defs₀ (F := F)) 𝒱₀ (c : Thread nD τ) none) Set.univ (tripG i arg1 harg1 arg2 harg2 arg3 harg3 arg5 harg5 arg6 harg6 arg8 harg8 arg9 harg9 arg10 harg10 k)
        (fun _ => invAt c X1 X2 arg1 arg2 arg3 arg5 arg6 arg8 arg9 arg10 g1 g2 g3 g5 g6 g8 g9 (k.val + 1)) := by
  have h1 : k0_cond1 k = 1#1 := (cond1_iff k).2 hk
  unfold invAt
  rw [restP_out c X1 X2 k.val hk, restP_in c X1 X2 k.val, show slotsP c X1 X2 k.val = (flightsP c X1 X2 k.val : sProp 𝕄) from if_pos (by omega),
    show slotsP c X1 X2 (k.val + 1) = (flightsP c X1 X2 (k.val + 1) : sProp 𝕄) from if_pos (by omega)]
  rw [flightsP_open c X1 X2 k.val, homesP_eq c X1 X2 k.val, homesP_eq c X1 X2 (k.val + 1), flightsP_eq c X1 X2 (k.val + 1)]
  iintro ⟨⟨H1, H2, H3, H5, H6, H8, H9⟩, ⟨%fo, HO, %hd⟩, ⟨%fr, HR, %hr⟩, ⟨%W, HW⟩, HF, HB, HH, HE⟩
  icases HF with ⟨⟨%f6, F6⟩, ⟨%f7, F7⟩, ⟨%f8, F8⟩, ⟨%f9, F9⟩, ⟨%f10, F10⟩, ⟨%f11, F11⟩, ⟨%f12, F12⟩, ⟨%f13, F13⟩⟩
  icases HH with ⟨A6, A7, A8, A9, A10, A11, A12, A13⟩
  dsimp only [tripG]
  sl_unfold [k0_t1_body]
  sl_exec

  sl_step
  isplitl [H1 H2 H3 H5 H6 H8 H9]
  · isplitl [H1]; · iexact H1
    isplitl [H2]; · iexact H2
    isplitl [H3]; · iexact H3
    isplitl [H5]; · iexact H5
    isplitl [H6]; · iexact H6
    isplitl [H8]; · iexact H8
    iexact H9
  isplitl [HO]
  · iexists _
    isplitl [HO]; · iexact HO
    ipureintro
    exact done_succ c X1 X2 arg1 arg2 arg3 arg5 arg6 arg8 arg9 arg10 g1 g2 g3 g5 g6 g8 g9 k fo hd _ (congrArg (layF c X1 X2 (arg2.view.read (Elt F) g2) (arg3.view.read (Elt F) g3) (arg5.view.read (Elt F) g5) (arg6.view.read (Elt F) g6) (arg8.view.read (Elt F) g8) (arg9.view.read (Elt F) g9) k) (in_eq c X1 X2 arg1 arg2 arg3 arg5 arg6 arg8 arg9 g1 g2 g3 g5 g6 g8 g9 k fr hr))
  isplitl [HR]
  · iexists _
    isplitl [HR]; · iexact HR
    ipureintro
    exact (read_all c _ _ _).trans ((congrArg (nextF c X1 X2 (arg2.view.read (Elt F) g2) (arg3.view.read (Elt F) g3) (arg5.view.read (Elt F) g5) (arg6.view.read (Elt F) g6) (arg8.view.read (Elt F) g8) (arg9.view.read (Elt F) g9) k) (in_eq c X1 X2 arg1 arg2 arg3 arg5 arg6 arg8 arg9 g1 g2 g3 g5 g6 g8 g9 k fr hr)).trans (stF_succ c X1 X2 (arg1.view.read (Elt F) g1) (arg2.view.read (Elt F) g2) (arg3.view.read (Elt F) g3) (arg5.view.read (Elt F) g5) (arg6.view.read (Elt F) g6) (arg8.view.read (Elt F) g8) (arg9.view.read (Elt F) g9) k).symm)
  isplitl [HW]; · iexists _; iexact HW
  isplitl [F6 F7 F8 F9 F10 F11 F12 F13]
  · isplitl [F6]; · iapply flight_after; iexact F6
    isplitl [F7]; · iapply flight_after; iexact F7
    isplitl [F8]; · iapply flight_after; iexact F8
    isplitl [F9]; · iapply flight_after; iexact F9
    isplitl [F10]; · iapply flight_after; iexact F10
    isplitl [F11]; · iapply flight_after; iexact F11
    isplitl [F12]; · iapply flight_after; iexact F12
    iapply flight_after; iexact F13
  isplitr [HE]
  · isplitr [HB]
    · isplitl [F6_src]; · iexact F6_src
      isplitl [F7_src]; · iexact F7_src
      isplitl [F8_src]; · iexact F8_src
      isplitl [F9_src]; · iexact F9_src
      isplitl [F10_src]; · iexact F10_src
      isplitl [F11_src]; · iexact F11_src
      isplitl [F12_src]; · iexact F12_src
      iexact F13_src
    iexact HB
  iexact HE

set_option maxHeartbeats 2000000 in
/-- The last trip: nothing is issued any more. -/
theorem trip_3 (k : Fin k0_t1_loop.trips) (hk : k.val = 3) :
    invAt c X1 X2 arg1 arg2 arg3 arg5 arg6 arg8 arg9 arg10 g1 g2 g3 g5 g6 g8 g9 k.val
      ⊢ wp frame (wpE (defs₀ (F := F)) 𝒱₀ (c : Thread nD τ) none) Set.univ (tripG i arg1 harg1 arg2 harg2 arg3 harg3 arg5 harg5 arg6 harg6 arg8 harg8 arg9 harg9 arg10 harg10 k)
        (fun _ => invAt c X1 X2 arg1 arg2 arg3 arg5 arg6 arg8 arg9 arg10 g1 g2 g3 g5 g6 g8 g9 (k.val + 1)) := by
  have h1 : ¬ k0_cond1 k = 1#1 := fun h => by have := (cond1_iff k).1 h; omega
  unfold invAt
  rw [restP_in c X1 X2 k.val, show slotsP c X1 X2 k.val = (flightsP c X1 X2 k.val : sProp 𝕄) from if_pos (by omega),
    show slotsP c X1 X2 (k.val + 1) = (freesP c : sProp 𝕄) from if_neg (by omega), show restP c X1 X2 k.val = (iprop(bigSep (Finset.Ico 0 k.val) (homesP c X1 X2) ∗ bigSep (Finset.Ico (k.val + 1) 4) (homesP c X1 X2)) : sProp 𝕄) from rfl,
    show Finset.Ico (k.val + 1 + 1) 4 = Finset.Ico (k.val + 1) 4 by rw [Finset.Ico_eq_empty_of_le (by omega), Finset.Ico_eq_empty_of_le (by omega)],
    flightsP_open c X1 X2 k.val, homesP_eq c X1 X2 k.val]
  unfold freesP freeP
  iintro ⟨⟨H1, H2, H3, H5, H6, H8, H9⟩, ⟨%fo, HO, %hd⟩, ⟨%fr, HR, %hr⟩, ⟨%W, HW⟩, HF, HB, HE⟩
  icases HF with ⟨⟨%f6, F6⟩, ⟨%f7, F7⟩, ⟨%f8, F8⟩, ⟨%f9, F9⟩, ⟨%f10, F10⟩, ⟨%f11, F11⟩, ⟨%f12, F12⟩, ⟨%f13, F13⟩⟩
  dsimp only [tripG]
  sl_unfold [k0_t1_body]
  sl_exec
  sl_step
  isplitl [H1 H2 H3 H5 H6 H8 H9]
  · isplitl [H1]; · iexact H1
    isplitl [H2]; · iexact H2
    isplitl [H3]; · iexact H3
    isplitl [H5]; · iexact H5
    isplitl [H6]; · iexact H6
    isplitl [H8]; · iexact H8
    iexact H9
  isplitl [HO]
  · iexists _
    isplitl [HO]; · iexact HO
    ipureintro
    exact done_succ c X1 X2 arg1 arg2 arg3 arg5 arg6 arg8 arg9 arg10 g1 g2 g3 g5 g6 g8 g9 k fo hd _ (congrArg (layF c X1 X2 (arg2.view.read (Elt F) g2) (arg3.view.read (Elt F) g3) (arg5.view.read (Elt F) g5) (arg6.view.read (Elt F) g6) (arg8.view.read (Elt F) g8) (arg9.view.read (Elt F) g9) k) (in_eq c X1 X2 arg1 arg2 arg3 arg5 arg6 arg8 arg9 g1 g2 g3 g5 g6 g8 g9 k fr hr))
  isplitl [HR]
  · iexists _
    isplitl [HR]; · iexact HR
    ipureintro
    exact (read_all c _ _ _).trans ((congrArg (nextF c X1 X2 (arg2.view.read (Elt F) g2) (arg3.view.read (Elt F) g3) (arg5.view.read (Elt F) g5) (arg6.view.read (Elt F) g6) (arg8.view.read (Elt F) g8) (arg9.view.read (Elt F) g9) k) (in_eq c X1 X2 arg1 arg2 arg3 arg5 arg6 arg8 arg9 g1 g2 g3 g5 g6 g8 g9 k fr hr)).trans (stF_succ c X1 X2 (arg1.view.read (Elt F) g1) (arg2.view.read (Elt F) g2) (arg3.view.read (Elt F) g3) (arg5.view.read (Elt F) g5) (arg6.view.read (Elt F) g6) (arg8.view.read (Elt F) g8) (arg9.view.read (Elt F) g9) k).symm)
  isplitl [HW]; · iexists _; iexact HW
  isplitl [F6_dst F6 F7_dst F7 F8_dst F8 F9_dst F9 F10_dst F10 F11_dst F11 F12_dst F12 F13_dst F13]
  · isplitl [F6_dst F6]
    · isplitl [F6_dst]; · iexists _; iexact F6_dst
      iexact F6
    isplitl [F7_dst F7]
    · isplitl [F7_dst]; · iexists _; iexact F7_dst
      iexact F7
    isplitl [F8_dst F8]
    · isplitl [F8_dst]; · iexists _; iexact F8_dst
      iexact F8
    isplitl [F9_dst F9]
    · isplitl [F9_dst]; · iexists _; iexact F9_dst
      iexact F9
    isplitl [F10_dst F10]
    · isplitl [F10_dst]; · iexists _; iexact F10_dst
      iexact F10
    isplitl [F11_dst F11]
    · isplitl [F11_dst]; · iexists _; iexact F11_dst
      iexact F11
    isplitl [F12_dst F12]
    · isplitl [F12_dst]; · iexists _; iexact F12_dst
      iexact F12
    isplitl [F13_dst]; · iexists _; iexact F13_dst
    iexact F13
  isplitr [HE]
  · isplitr [HB]
    · isplitl [F6_src]; · iexact F6_src
      isplitl [F7_src]; · iexact F7_src
      isplitl [F8_src]; · iexact F8_src
      isplitl [F9_src]; · iexact F9_src
      isplitl [F10_src]; · iexact F10_src
      isplitl [F11_src]; · iexact F11_src
      isplitl [F12_src]; · iexact F12_src
      iexact F13_src
    iexact HB
  iexact HE

/-- A trip of the loop: from the resources before it to those before the next. -/
theorem trip_step (k : Fin k0_t1_loop.trips) :
    invAt c X1 X2 arg1 arg2 arg3 arg5 arg6 arg8 arg9 arg10 g1 g2 g3 g5 g6 g8 g9 k.val
      ⊢ wp frame (wpE (defs₀ (F := F)) 𝒱₀ (c : Thread nD τ) none) Set.univ (tripG i arg1 harg1 arg2 harg2 arg3 harg3 arg5 harg5 arg6 harg6 arg8 harg8 arg9 harg9 arg10 harg10 k)
        (fun _ => invAt c X1 X2 arg1 arg2 arg3 arg5 arg6 arg8 arg9 arg10 g1 g2 g3 g5 g6 g8 g9 (k.val + 1)) := by
  have hb : k.val < 4 := lt_of_lt_of_eq k.isLt trips_eq
  rcases (by omega : k.val < 3 ∨ k.val = 3) with h | h
  · exact trip_lt c X1 X2 i arg1 harg1 arg2 harg2 arg3 harg3 arg5 harg5 arg6 harg6 arg8 harg8 arg9 harg9 arg10 harg10 g1 g2 g3 g5 g6 g8 g9 k h
  · exact trip_3 c X1 X2 i arg1 harg1 arg2 harg2 arg3 harg3 arg5 harg5 arg6 harg6 arg8 harg8 arg9 harg9 arg10 harg10 g1 g2 g3 g5 g6 g8 g9 k h
end Trip

end Cert.Mlp.Ring

end
-- ==== Proof.Mp.Body.lean ====
/-
  The MLP's body: the first eight transfers, the zeros, the loop over the layers (`trip_step`). What it leaves in the result's
  block is a function of the weights and of the staged operands (`outF`).
-/
module

public import proofs.«01_k».proof.Proof.Mp.Trip
public import Idealize.ShloMosaic.Lib.Pointwise.Index
public import Idealize.SL.BI.BigOpNat
public import Mathlib.Algebra.Order.Interval.Finset.Basic

@[expose] public section

set_option maxRecDepth 16384

noncomputable section

namespace Cert.Mlp.Ring

open Cert.Mlp Cert.Mlp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Run
variable (c : Dev nD) (X1 : Buf (Elt F) (w1M.view.loc (c : Thread nD τ))) (X2 : Buf (Elt F) (w2M.view.loc (c : Thread nD τ)))

/-- The result's block: layer `y 0`'s ten rows. -/
def outF (x : Vec F S4x10x1280 .f32) (g b : Vec F S4x1280 .f32) (s1 b1 : Vec F S4x5120 .f32) (s2 b2 : Vec F S4x1280 .f32) (y : S4x10x1280.Idx) : Elt F .f32 :=
  outK c X1 X2 x g b s1 b1 s2 b2 ⟨(y 0).val, lt_of_lt_of_eq (y 0).isLt trips_eq.symm⟩ (ix3 (n0 := 1) (n1 := 10) (n2 := 1280) 0 (y 1) (y 2))

variable
  (i : grid0.Coords) (arg1 : Memref sig .tc .vmem S4x10x1280 .f32) (harg1 : arg1.IsWhole) (arg2 : Memref sig .tc .vmem S4x1280 .f32) (harg2 : arg2.IsWhole) (arg3 : Memref sig .tc .vmem S4x1280 .f32) (harg3 : arg3.IsWhole)
  (arg5 : Memref sig .tc .vmem S4x5120 .f32) (harg5 : arg5.IsWhole) (arg6 : Memref sig .tc .vmem S4x5120 .f32) (harg6 : arg6.IsWhole)
  (arg8 : Memref sig .tc .vmem S4x1280 .f32) (harg8 : arg8.IsWhole) (arg9 : Memref sig .tc .vmem S4x1280 .f32) (harg9 : arg9.IsWhole) (arg10 : Memref sig .tc .vmem S4x10x1280 .f32) (harg10 : arg10.IsWhole)
variable (g1 : Buf (Elt F) (arg1.view.loc (c : Thread nD τ))) (g2 : Buf (Elt F) (arg2.view.loc (c : Thread nD τ))) (g3 : Buf (Elt F) (arg3.view.loc (c : Thread nD τ)))
  (g5 : Buf (Elt F) (arg5.view.loc (c : Thread nD τ))) (g6 : Buf (Elt F) (arg6.view.loc (c : Thread nD τ))) (g8 : Buf (Elt F) (arg8.view.loc (c : Thread nD τ))) (g9 : Buf (Elt F) (arg9.view.loc (c : Thread nD τ)))

theorem read_of_done (fo : Buf (Elt F) (arg10.view.loc (c : Thread nD τ))) (h : Done c X1 X2 arg1 arg2 arg3 arg5 arg6 arg8 arg9 arg10 g1 g2 g3 g5 g6 g8 g9 4 fo) :
    arg10.view.read (Elt F) fo = outF c X1 X2 (arg1.view.read (Elt F) g1) (arg2.view.read (Elt F) g2) (arg3.view.read (Elt F) g3) (arg5.view.read (Elt F) g5) (arg6.view.read (Elt F) g6) (arg8.view.read (Elt F) g8) (arg9.view.read (Elt F) g9) := by
  funext y
  have hy : (y 0).val < 4 := (y 0).isLt
  have hb := h ⟨(y 0).val, lt_of_lt_of_eq (y 0).isLt trips_eq.symm⟩ hy (ix3 (n0 := 1) (n1 := 10) (n2 := 1280) 0 (y 1) (y 2))
  refine Eq.trans (congrArg (arg10.view.read (Elt F) fo) ?_) hb
  funext a
  apply Fin.ext
  match a with
  | ⟨0, _⟩ => show (y 0).val = k0_off1 (⟨(y 0).val, lt_of_lt_of_eq (y 0).isLt trips_eq.symm⟩ : Fin k0_t1_loop.trips) 0 + 1 * 0; rw [k0_off1_eq]; rfl
  | ⟨1, _⟩ => show (y 1).val = k0_off1 (⟨(y 0).val, lt_of_lt_of_eq (y 0).isLt trips_eq.symm⟩ : Fin k0_t1_loop.trips) 1 + 1 * (y 1).val; rw [k0_off1_eq]; show (y 1).val = 0 + 1 * (y 1).val; omega
  | ⟨2, _⟩ => show (y 2).val = k0_off1 (⟨(y 0).val, lt_of_lt_of_eq (y 0).isLt trips_eq.symm⟩ : Fin k0_t1_loop.trips) 2 + 1 * (y 2).val; rw [k0_off1_eq]; show (y 2).val = 0 + 1 * (y 2).val; omega

theorem entails_of_eq {P Q : sProp 𝕄} (e : P = Q) : P ⊢ Q := e ▸ .rfl
theorem frees_end (n : ℕ) (hn : n = 4) : (slotsP c X1 X2 n : sProp 𝕄) ⊢ iprop(((∃ f, slotP c 6 f) ∗ cellP c 6) ∗ ((∃ f, slotP c 7 f) ∗ cellP c 7) ∗ ((∃ f, slotP c 8 f) ∗ cellP c 8) ∗ ((∃ f, slotP c 9 f) ∗ cellP c 9) ∗ ((∃ f, slotP c 10 f) ∗ cellP c 10) ∗ ((∃ f, slotP c 11 f) ∗ cellP c 11) ∗ ((∃ f, slotP c 12 f) ∗ cellP c 12) ∗ ((∃ f, slotP c 13 f) ∗ cellP c 13)) := by
  subst hn
  exact entails_of_eq (if_neg (by omega))
theorem homes_start : (bigSep (Finset.Ico 1 4) (homesP c X1 X2) : sProp 𝕄) ⊢ restP c X1 X2 0 := by
  unfold restP
  rw [Finset.Ico_self, bigSep_empty]
  exact entails_of_eq (emp_sep_eq'' _).symm
theorem homes_end (n : ℕ) (hn : n = 4) : (restP c X1 X2 n : sProp 𝕄) ⊢ bigSep (Finset.Ico 0 4) (homesP c X1 X2) := by
  subst hn
  unfold restP
  iintro ⟨H, _⟩
  iexact H

set_option maxHeartbeats 2000000 in
theorem bodyRun (gO : Buf (Elt F) (arg10.view.loc (c : Thread nD τ))) (gR : Buf (Elt F) (rowM.view.loc (c : Thread nD τ))) :
    iprop(insP c arg1 arg2 arg3 arg5 arg6 arg8 arg9 g1 g2 g3 g5 g6 g8 g9 ∗ oP c arg10 gO ∗ rP c gR ∗ (∃ W, owes (c : Thread nD τ) 0 W)
      ∗ homesP c X1 X2 0 ∗ freesP c ∗ bigSep (Finset.Ico 1 4) (homesP c X1 X2))
      ⊢ wp frame (wpE (defs₀ (F := F)) 𝒱₀ (c : Thread nD τ) none) Set.univ
          (cc0_decoder_step (F := F) i arg1 harg1 arg2 harg2 arg3 harg3 w1M (Memref.isWhole_whole _) arg5 harg5 arg6 harg6 w2M (Memref.isWhole_whole _) arg8 harg8 arg9 harg9 arg10 harg10 ringM (Memref.isWhole_whole _) rowM (Memref.isWhole_whole _) cc0_scratch2)
          (fun _ => iprop(insP c arg1 arg2 arg3 arg5 arg6 arg8 arg9 g1 g2 g3 g5 g6 g8 g9
            ∗ (∃ fo, oP c arg10 fo ∗ ⌜arg10.view.read (Elt F) fo = outF c X1 X2 (arg1.view.read (Elt F) g1) (arg2.view.read (Elt F) g2) (arg3.view.read (Elt F) g3) (arg5.view.read (Elt F) g5) (arg6.view.read (Elt F) g6) (arg8.view.read (Elt F) g8) (arg9.view.read (Elt F) g9)⌝)
            ∗ (∃ f, rP c f) ∗ (∃ W, owes (c : Thread nD τ) 0 W) ∗ freesP c ∗ bigSep (Finset.Ico 0 4) (homesP c X1 X2))) := by
  rw [homesP_eq c X1 X2 0]
  unfold freesP freeP
  iintro ⟨⟨H1, H2, H3, H5, H6, H8, H9⟩, HO, HR, ⟨%W, HW⟩, ⟨A6, A7, A8, A9, A10, A11, A12, A13⟩, ⟨⟨⟨%f6, B6⟩, C6⟩, ⟨⟨%f7, B7⟩, C7⟩, ⟨⟨%f8, B8⟩, C8⟩, ⟨⟨%f9, B9⟩, C9⟩, ⟨⟨%f10, B10⟩, C10⟩, ⟨⟨%f11, B11⟩, C11⟩, ⟨⟨%f12, B12⟩, C12⟩, ⟨⟨%f13, B13⟩, C13⟩⟩, HE⟩
  sl_unfold [cc0_decoder_step]
  sl_exec
  have hd : Done c X1 X2 arg1 arg2 arg3 arg5 arg6 arg8 arg9 arg10 g1 g2 g3 g5 g6 g8 g9 0 gO := fun b hb => absurd hb (Nat.not_lt_zero _)
  sl_for (fun k _ => invAt c X1 X2 arg1 arg2 arg3 arg5 arg6 arg8 arg9 arg10 g1 g2 g3 g5 g6 g8 g9 k) $$ [H1 H2 H3 H5 H6 H8 H9 HO HR HW HE C6 C7 C8 C9 C10 C11 C12 C13]
  case region => exact fun k acc => trip_step c X1 X2 i arg1 harg1 arg2 harg2 arg3 harg3 arg5 harg5 arg6 harg6 arg8 harg8 arg9 harg9 arg10 harg10 g1 g2 g3 g5 g6 g8 g9 k
  · unfold invAt
    isplitl [H1 H2 H3 H5 H6 H8 H9]
    · isplitl [H1]; · iexact H1
      isplitl [H2]; · iexact H2
      isplitl [H3]; · iexact H3
      isplitl [H5]; · iexact H5
      isplitl [H6]; · iexact H6
      isplitl [H8]; · iexact H8
      iexact H9
    isplitl [HO]
    · iexists gO
      isplitl [HO]; · iexact HO
      ipureintro; exact hd
    isplitl [HR]
    · iexists _
      isplitl [HR]; · iexact HR
      ipureintro; exact read_all c _ _ _
    isplitl [HW]; · iexists _; iexact HW
    irw [show slotsP c X1 X2 0 = (flightsP c X1 X2 0 : sProp 𝕄) from if_pos (by omega), flightsP_eq c X1 X2 0]
    isplitl [C6 C7 C8 C9 C10 C11 C12 C13]
    · isplitl [C6]; · iapply flight_intro; iexact C6
      isplitl [C7]; · iapply flight_intro; iexact C7
      isplitl [C8]; · iapply flight_intro; iexact C8
      isplitl [C9]; · iapply flight_intro; iexact C9
      isplitl [C10]; · iapply flight_intro; iexact C10
      isplitl [C11]; · iapply flight_intro; iexact C11
      isplitl [C12]; · iapply flight_intro; iexact C12
      iapply flight_intro; iexact C13
    iapply (homes_start c X1 X2)
    iexact HE
  iintro %acc HI
  unfold invAt
  icases HI with ⟨⟨H1, H2, H3, H5, H6, H8, H9⟩, ⟨%fo, HO, %hD⟩, ⟨%fr, HR, %hr⟩, ⟨%W', HW⟩, HS, HE⟩
  have hT : Scf.trips k0_t1_loop.lb k0_t1_loop.ub k0_t1_loop.st = 4 := trips_eq
  have hD' : Done c X1 X2 arg1 arg2 arg3 arg5 arg6 arg8 arg9 arg10 g1 g2 g3 g5 g6 g8 g9 4 fo := hT ▸ hD
  sl_exec
  sl_step
  isplitl [H1 H2 H3 H5 H6 H8 H9]
  · isplitl [H1]; · iexact H1
    isplitl [H2]; · iexact H2
    isplitl [H3]; · iexact H3
    isplitl [H5]; · iexact H5
    isplitl [H6]; · iexact H6
    isplitl [H8]; · iexact H8
    iexact H9
  isplitl [HO]
  · iexists _
    isplitl [HO]; · iexact HO
    ipureintro
    exact read_of_done (h := hD') ..
  isplitl [HR]; · iexists _; iexact HR
  isplitl [HW]; · iexists _; iexact HW
  isplitl [HS]
  · iapply (frees_end c X1 X2 _ hT)
    iexact HS
  iapply (homes_end c X1 X2 _ hT)
  iexact HE
end Run

end Cert.Mlp.Ring

end
-- ==== Proof.Mp.Bufs.lean ====
/-
  The ring's buffer as its 22 slots, and the two weights as the pieces the transfers move, four to a layer each.
-/
module

public import proofs.«01_k».proof.Proof.Mp.Body
public import Idealize.SL.BI.BigOpNat
public import Mathlib.Algebra.Order.Interval.Finset.Basic

@[expose] public section

set_option maxRecDepth 16384

noncomputable section

namespace Cert.Mlp.Ring

open Cert.Mlp Cert.Mlp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Ring
variable (c : Dev nD)

/-- Equal terms over a run of numbers, by the run's bounds. -/
theorem bigSep_Ico_congr {A B : ℕ → sProp 𝕄} {a b : ℕ} (h : ∀ g, a ≤ g → g < b → A g = B g) : bigSep (Finset.Ico a b) A = bigSep (Finset.Ico a b) B :=
  bigSep_congr fun g hg => h g (Finset.mem_Ico.mp hg).1 (Finset.mem_Ico.mp hg).2
theorem bigSep_both (s : Finset ℕ) (Φ Ψ : ℕ → sProp 𝕄) : iprop(bigSep s Φ ∗ bigSep s Ψ) = bigSep s (fun i => iprop(Φ i ∗ Ψ i)) := (bigSep_sep s Φ Ψ).symm
theorem bigSep_Ico_consecutive {a b d : ℕ} (hab : a ≤ b) (hbd : b ≤ d) (A : ℕ → sProp 𝕄) :
    bigSep (Finset.Ico a d) A = iprop(bigSep (Finset.Ico a b) A ∗ bigSep (Finset.Ico b d) A) := by
  rw [← Finset.Ico_union_Ico_eq_Ico hab hbd, bigSep_union (Finset.Ico_disjoint_Ico_consecutive a b d)]; rfl

theorem mem_slotSet (n : ℕ) (y : S22x1280x1280.Idx) :
    y ∈ (Rect.unit (s := S22x1280x1280) (slotOff n) S1x1280x1280.size (slotOff_inb n)).set ↔ (y 0).val = n % 22 := by
  rw [Rect.mem_set_unit]
  have h1 : (y 1).val < 1280 := (y 1).isLt
  have h2 : (y 2).val < 1280 := (y 2).isLt
  constructor
  · intro H; have a0 : n % 22 ≤ (y 0).val ∧ (y 0).val < n % 22 + 1 := H 0; omega
  · intro H i; fin_cases i
    · show n % 22 ≤ (y 0).val ∧ (y 0).val < n % 22 + 1; omega
    · show 0 ≤ (y 1).val ∧ (y 1).val < 0 + 1280; omega
    · show 0 ≤ (y 2).val ∧ (y 2).val < 0 + 1280; omega
theorem rslot_set (n : ℕ) : (rslot n : Memref sig .tc .vmem _ _).view.set = (Rect.unit (s := S22x1280x1280) (slotOff n) S1x1280x1280.size (slotOff_inb n)).set :=
  (View.set_reshape _ _).trans (View.set_slice_whole _ _)

theorem bigSep_fin (n : ℕ) (Ψ : ℕ → sProp 𝕄) : bigSep (Finset.univ : Finset (Fin n)) (fun b => Ψ b.val) = bigSep (Finset.Ico 0 n) Ψ := by
  have e : Finset.Ico 0 n = (Finset.univ : Finset (Fin n)).map Fin.valEmbedding := by
    ext x
    simp only [Finset.mem_Ico, Finset.mem_map, Finset.mem_univ, true_and, Fin.valEmbedding_apply]
    exact ⟨fun h => ⟨⟨x, h.2⟩, rfl⟩, fun ⟨b, hb⟩ => ⟨Nat.zero_le _, hb ▸ b.isLt⟩⟩
  rw [e, bigSep_map]; rfl

/-! ## The ring -/

def ringPart (b : Fin 22) : Finset (Idx (ringM.view.loc (c : Thread nD τ))) := Finset.univ.filter fun y : S22x1280x1280.Idx => (y 0).val = b.val
theorem ringPart_disj (b b' : Fin 22) (h : b ≠ b') : Disjoint (ringPart c b) (ringPart c b') := by
  rw [Finset.disjoint_left]; intro y hy hy'
  exact h (Fin.ext ((Finset.mem_filter.1 hy).2.symm.trans (Finset.mem_filter.1 hy').2))
theorem ringPart_cover : Finset.univ.biUnion (ringPart c) = Finset.univ := by
  ext y
  simp only [Finset.mem_biUnion, Finset.mem_univ, true_and, iff_true]
  exact ⟨⟨((y : S22x1280x1280.Idx) 0).val, ((y : S22x1280x1280.Idx) 0).isLt⟩, Finset.mem_filter.2 ⟨Finset.mem_univ _, rfl⟩⟩
theorem ringPart_eq (b : Fin 22) : ringPart c b = (rslot b.val : Memref sig .tc .vmem _ _).view.set := by
  rw [rslot_set]
  ext y
  refine Iff.trans ?_ (mem_slotSet b.val y).symm
  rw [Nat.mod_eq_of_lt b.isLt]
  exact Finset.mem_filter.trans (and_iff_right (Finset.mem_univ _))
/-- The ring's buffer at anything is its slots at anything, -/
theorem ring_split (f : Buf (Elt F) (ringM.view.loc (c : Thread nD τ))) :
    ((ringM.view.loc (c : Thread nD τ) ↦{fullShare} f) : sProp 𝕄) ⊢ bigSep (Finset.Ico 0 22) (fun n => iprop(∃ f, slotP c n f)) := by
  rw [Ring.pointsTo_blocks (ringPart c) (ringPart_disj c) (ringPart_cover c) f, ← bigSep_fin 22 (fun n => iprop(∃ f, slotP c n f))]
  refine bigSep_mono fun b _ => ?_
  rw [ringPart_eq]
  show _ ⊢ (iprop(∃ f, slotP c b.val f) : sProp 𝕄)
  iintro H; iexists f; iexact H
/-- and back. -/
theorem ring_join : bigSep (Finset.Ico 0 22) (fun n => iprop(∃ f, slotP c n f)) ⊢ (iprop(∃ f, ringM.view.loc (c : Thread nD τ) ↦{fullShare} f) : sProp 𝕄) := by
  rw [← bigSep_fin 22 (fun n => iprop(∃ f, slotP c n f))]
  refine BIBase.Entails.trans (bigSep_mono fun b _ => ?_) (Ring.pointsTo_blocks_join_exists (ringPart c) (ringPart_disj c) (ringPart_cover c) ringM.view.junk)
  rw [ringPart_eq]
  show (iprop(∃ f, slotP c b.val f) : sProp 𝕄) ⊢ _
  exact .rfl

end Ring

/-! ## The weights -/

section Weights
variable (c : Dev nD) (X1 : Buf (Elt F) (w1M.view.loc (c : Thread nD τ))) (X2 : Buf (Elt F) (w2M.view.loc (c : Thread nD τ)))

theorem sep_assoc_eq (P Q R : sProp 𝕄) : iprop((P ∗ Q) ∗ R) = iprop(P ∗ Q ∗ R) := equiv_iff.mp ⟨BI.sep_assoc, BI.sep_assoc'⟩
/-- A separating product over pairs is the iterated one. -/
theorem bigSep_product {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert a s ha ih =>
    have hdisj : Disjoint (({a} : Finset I) ×ˢ t) (s ×ˢ t) := Finset.disjoint_product.mpr (.inl (Finset.disjoint_singleton_left.mpr ha))
    rw [bigSep_insert ha, Finset.insert_eq, Finset.union_product, bigSep_union hdisj, ih, Finset.singleton_product, bigSep_map]
    rfl

/-- A layer's four pieces, one by one. -/
theorem four (Ψ : ℕ → sProp 𝕄) : bigSep (Finset.univ : Finset (Fin 4)) (fun b => Ψ b.val) = iprop(Ψ 0 ∗ Ψ 1 ∗ Ψ 2 ∗ Ψ 3) := by
  rw [bigSep_fin 4 Ψ]
  exact BI.bigSep_eq_bigSepL_of_eq [0, 1, 2, 3] (by decide) (by decide) Ψ

def part1 (b : Fin 4 × Fin 4) : Finset (Idx (w1M.view.loc (c : Thread nD τ))) :=
  Finset.univ.filter fun y : S4x1280x5120.Idx => (y 0).val = b.1.val ∧ (y 2).val / 1280 = b.2.val
theorem part1_disj (b b' : Fin 4 × Fin 4) (h : b ≠ b') : Disjoint (part1 c b) (part1 c b') := by
  rw [Finset.disjoint_left]; intro y hy hy'
  have a := (Finset.mem_filter.1 hy).2
  have a' := (Finset.mem_filter.1 hy').2
  exact h (Prod.ext (Fin.ext (a.1.symm.trans a'.1)) (Fin.ext (a.2.symm.trans a'.2)))
theorem part1_cover : Finset.univ.biUnion (part1 c) = Finset.univ := by
  ext y
  simp only [Finset.mem_biUnion, Finset.mem_univ, true_and, iff_true]
  have h2 : ((y : S4x1280x5120.Idx) 2).val < 5120 := ((y : S4x1280x5120.Idx) 2).isLt
  exact ⟨(⟨((y : S4x1280x5120.Idx) 0).val, ((y : S4x1280x5120.Idx) 0).isLt⟩, ⟨((y : S4x1280x5120.Idx) 2).val / 1280, by omega⟩),
    Finset.mem_filter.2 ⟨Finset.mem_univ _, rfl, rfl⟩⟩
theorem part1_eq (l i : Fin 4) : part1 c (l, i) = (w1p l.val i.val : Memref sig .tc .hbm _ _).view.set := by
  have e : (w1p l.val i.val : Memref sig .tc .hbm _ _).view.set = (Rect.unit (s := S4x1280x5120) (w1Off l.val i.val) S1x1280x1280.size (w1Off_inb l.val i.val)).set :=
    (View.set_reshape _ _).trans (View.set_slice_whole _ _)
  rw [e]
  ext y
  refine Iff.trans (Finset.mem_filter.trans (and_iff_right (Finset.mem_univ _))) (Iff.trans ?_ Rect.mem_set_unit.symm)
  have hl : l.val % 4 = l.val := Nat.mod_eq_of_lt l.isLt
  have hi : i.val % 4 = i.val := Nat.mod_eq_of_lt i.isLt
  have h1 : ((y : S4x1280x5120.Idx) 1).val < 1280 := ((y : S4x1280x5120.Idx) 1).isLt
  constructor
  · rintro ⟨H0, H2⟩ a
    have H0' : ((y : S4x1280x5120.Idx) 0).val = l.val := H0
    have H2' : ((y : S4x1280x5120.Idx) 2).val / 1280 = i.val := H2
    fin_cases a
    · show l.val % 4 ≤ ((y : S4x1280x5120.Idx) 0).val ∧ ((y : S4x1280x5120.Idx) 0).val < l.val % 4 + 1; omega
    · show 0 ≤ ((y : S4x1280x5120.Idx) 1).val ∧ ((y : S4x1280x5120.Idx) 1).val < 0 + 1280; omega
    · show 1280 * (i.val % 4) ≤ ((y : S4x1280x5120.Idx) 2).val ∧ ((y : S4x1280x5120.Idx) 2).val < 1280 * (i.val % 4) + 1280; omega
  · intro H
    have a0 : l.val % 4 ≤ ((y : S4x1280x5120.Idx) 0).val ∧ ((y : S4x1280x5120.Idx) 0).val < l.val % 4 + 1 := H 0
    have a2 : 1280 * (i.val % 4) ≤ ((y : S4x1280x5120.Idx) 2).val ∧ ((y : S4x1280x5120.Idx) 2).val < 1280 * (i.val % 4) + 1280 := H 2
    exact ⟨show ((y : S4x1280x5120.Idx) 0).val = l.val by omega, show ((y : S4x1280x5120.Idx) 2).val / 1280 = i.val by omega⟩
/-- The first weight whole is its pieces, layer by layer. -/
theorem w1_eq : ((w1M.view.loc (c : Thread nD τ) ↦{fullShare} X1) : sProp 𝕄)
    = bigSep (Finset.Ico 0 4) (fun l => iprop(homeP c (w1p l 0) X1 ∗ homeP c (w1p l 1) X1 ∗ homeP c (w1p l 2) X1 ∗ homeP c (w1p l 3) X1)) := by
  rw [Ring.pointsTo_blocks (part1 c) (part1_disj c) (part1_cover c) X1, ← Finset.univ_product_univ, bigSep_product,
    ← bigSep_fin 4 (fun l => iprop(homeP c (w1p l 0) X1 ∗ homeP c (w1p l 1) X1 ∗ homeP c (w1p l 2) X1 ∗ homeP c (w1p l 3) X1))]
  refine bigSep_congr fun l _ => ?_
  rw [← four (fun i => homeP c (w1p l.val i) X1)]
  refine bigSep_congr fun i _ => ?_
  rw [part1_eq]
  rfl

def part2 (b : Fin 4 × Fin 4) : Finset (Idx (w2M.view.loc (c : Thread nD τ))) :=
  Finset.univ.filter fun y : S4x5120x1280.Idx => (y 0).val = b.1.val ∧ (y 1).val / 1280 = b.2.val
theorem part2_disj (b b' : Fin 4 × Fin 4) (h : b ≠ b') : Disjoint (part2 c b) (part2 c b') := by
  rw [Finset.disjoint_left]; intro y hy hy'
  have a := (Finset.mem_filter.1 hy).2
  have a' := (Finset.mem_filter.1 hy').2
  exact h (Prod.ext (Fin.ext (a.1.symm.trans a'.1)) (Fin.ext (a.2.symm.trans a'.2)))
theorem part2_cover : Finset.univ.biUnion (part2 c) = Finset.univ := by
  ext y
  simp only [Finset.mem_biUnion, Finset.mem_univ, true_and, iff_true]
  have h2 : ((y : S4x5120x1280.Idx) 1).val < 5120 := ((y : S4x5120x1280.Idx) 1).isLt
  exact ⟨(⟨((y : S4x5120x1280.Idx) 0).val, ((y : S4x5120x1280.Idx) 0).isLt⟩, ⟨((y : S4x5120x1280.Idx) 1).val / 1280, by omega⟩),
    Finset.mem_filter.2 ⟨Finset.mem_univ _, rfl, rfl⟩⟩
theorem part2_eq (l i : Fin 4) : part2 c (l, i) = (w2p l.val i.val : Memref sig .tc .hbm _ _).view.set := by
  have e : (w2p l.val i.val : Memref sig .tc .hbm _ _).view.set = (Rect.unit (s := S4x5120x1280) (w2Off l.val i.val) S1x1280x1280.size (w2Off_inb l.val i.val)).set :=
    (View.set_reshape _ _).trans (View.set_slice_whole _ _)
  rw [e]
  ext y
  refine Iff.trans (Finset.mem_filter.trans (and_iff_right (Finset.mem_univ _))) (Iff.trans ?_ Rect.mem_set_unit.symm)
  have hl : l.val % 4 = l.val := Nat.mod_eq_of_lt l.isLt
  have hi : i.val % 4 = i.val := Nat.mod_eq_of_lt i.isLt
  have h1 : ((y : S4x5120x1280.Idx) 2).val < 1280 := ((y : S4x5120x1280.Idx) 2).isLt
  constructor
  · rintro ⟨H0, H2⟩ a
    have H0' : ((y : S4x5120x1280.Idx) 0).val = l.val := H0
    have H2' : ((y : S4x5120x1280.Idx) 1).val / 1280 = i.val := H2
    fin_cases a
    · show l.val % 4 ≤ ((y : S4x5120x1280.Idx) 0).val ∧ ((y : S4x5120x1280.Idx) 0).val < l.val % 4 + 1; omega
    · show 1280 * (i.val % 4) ≤ ((y : S4x5120x1280.Idx) 1).val ∧ ((y : S4x5120x1280.Idx) 1).val < 1280 * (i.val % 4) + 1280; omega
    · show 0 ≤ ((y : S4x5120x1280.Idx) 2).val ∧ ((y : S4x5120x1280.Idx) 2).val < 0 + 1280; omega
  · intro H
    have a0 : l.val % 4 ≤ ((y : S4x5120x1280.Idx) 0).val ∧ ((y : S4x5120x1280.Idx) 0).val < l.val % 4 + 1 := H 0
    have a2 : 1280 * (i.val % 4) ≤ ((y : S4x5120x1280.Idx) 1).val ∧ ((y : S4x5120x1280.Idx) 1).val < 1280 * (i.val % 4) + 1280 := H 1
    exact ⟨show ((y : S4x5120x1280.Idx) 0).val = l.val by omega, show ((y : S4x5120x1280.Idx) 1).val / 1280 = i.val by omega⟩
/-- The second weight whole is its pieces, layer by layer. -/
theorem w2_eq : ((w2M.view.loc (c : Thread nD τ) ↦{fullShare} X2) : sProp 𝕄)
    = bigSep (Finset.Ico 0 4) (fun l => iprop(homeP c (w2p l 0) X2 ∗ homeP c (w2p l 1) X2 ∗ homeP c (w2p l 2) X2 ∗ homeP c (w2p l 3) X2)) := by
  rw [Ring.pointsTo_blocks (part2 c) (part2_disj c) (part2_cover c) X2, ← Finset.univ_product_univ, bigSep_product,
    ← bigSep_fin 4 (fun l => iprop(homeP c (w2p l 0) X2 ∗ homeP c (w2p l 1) X2 ∗ homeP c (w2p l 2) X2 ∗ homeP c (w2p l 3) X2))]
  refine bigSep_congr fun l _ => ?_
  rw [← four (fun i => homeP c (w2p l.val i) X2)]
  refine bigSep_congr fun i _ => ?_
  rw [part2_eq]
  rfl

/-- Both weights whole are the layers' pieces. -/
theorem homes_all : iprop((w1M.view.loc (c : Thread nD τ) ↦{fullShare} X1) ∗ (w2M.view.loc (c : Thread nD τ) ↦{fullShare} X2)) = (bigSep (Finset.Ico 0 4) (homesP c X1 X2) : sProp 𝕄) := by
  rw [w1_eq, w2_eq, bigSep_both]
  refine bigSep_congr fun l _ => ?_
  rw [homesP_eq, sep_assoc_eq, sep_assoc_eq, sep_assoc_eq]
theorem homes_split : (bigSep (Finset.Ico 0 4) (homesP c X1 X2) : sProp 𝕄) = iprop(homesP c X1 X2 0 ∗ bigSep (Finset.Ico 1 4) (homesP c X1 X2)) := by
  rw [bigSep_Ico_consecutive (show 0 ≤ 1 by omega) (show 1 ≤ 4 by omega), bigSep_Ico_one 0]
end Weights

section Slots
variable (c : Dev nD)

theorem free_end : (bigSep (Finset.Ico 0 22) (freeP c) : sProp 𝕄) = iprop(bigSep (Finset.Ico 0 22) (fun n => iprop(∃ f, slotP c n f)) ∗ bigSep (Finset.Ico 0 22) (cellP c)) := by
  rw [bigSep_both]; rfl
/-- The slots free: the eight the transfers use, and the others. -/
theorem frees_eq : (bigSep (Finset.Ico 0 22) (freeP c) : sProp 𝕄) = iprop(bigSep (Finset.Ico 0 6) (freeP c) ∗ freesP c ∗ bigSep (Finset.Ico 14 22) (freeP c)) := by
  rw [bigSep_Ico_consecutive (show 0 ≤ 6 by omega) (show 6 ≤ 22 by omega), bigSep_Ico_consecutive (show 6 ≤ 14 by omega) (show 14 ≤ 22 by omega)]
  rw [show (bigSep (Finset.Ico 6 14) (freeP c) : sProp 𝕄) = freesP c from BI.bigSep_eq_bigSepL_of_eq [6, 7, 8, 9, 10, 11, 12, 13] (by decide) (by decide) (freeP c)]
/-- The ring's 22 semaphores. -/
abbrev osem0 : Fin 22 → SemLoc sig := fun j => SemLoc.dma (csm j.val).sem
theorem ownSemFacts0 : Pipeline.OwnSemFacts spec0 osem0 := by decide
theorem ownSems_eq : (Pipeline.ownSems0 (Ix := Unit) (Name := ℕ) (U := Pipeline.UD sig nD τ) (Lvl := ℕ) (Val := Elt F) (τ := τ) osem0 c : sProp 𝕄) = bigSep (Finset.Ico 0 22) (cellP c) :=
  bigSep_fin 22 (cellP c)
end Slots

end Cert.Mlp.Ring

end
-- ==== Proof.Mp.Run.lean ====
/-
  The launch: what the region finds and leaves, the body's obligation at its one grid point, the run of the program, its frame,
  and the result as a function of the arguments.
-/
module

public import proofs.«01_k».proof.Proof.Mp.Bufs
public import Idealize.ShloMosaic.Lib.Pipeline.FrameBody
public import Idealize.ShloMosaic.Lib.Pipeline.FrameSuffix
public import Idealize.ShloMosaic.Lib.Pipeline.Value

@[expose] public section

set_option maxRecDepth 16384

noncomputable section

namespace Cert.Mlp.Ring

open Cert.Mlp Cert.Mlp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays' contents when the region is entered. -/
abbrev V0 (c : Dev nD) : Valuation τ sig (Elt F) := StableHlo.after hostOps0 (fun b => m (c, b))

set_option maxHeartbeats 800000 in
/-- The host line before the region reduces to the region, with nothing after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] (by simp only [List.Forall]; exact hostOps0_sub)
    (by simp only [List.Forall]; exact hostOps0_fresh) main_chain

/-- The arrays the kernel moves itself: the two weights. -/
def H0 : Finset (Ref sig .tc) := {main_arg3, main_arg6}
theorem H0_sub : H0 ⊆ Pipeline.restRefs sig spec0 := by decide

/-- The contents the body leaves in its result's staging buffer. -/
def resAt (c : Dev nD) (t : Fin cfg0.N) : Vec F S4x10x1280 .f32 :=
  outF c (V m c main_arg3) (V m c main_arg6) (iblk m c 0 t) (iblk m c 1 t) (iblk m c 2 t) (iblk m c 3 t) (iblk m c 4 t) (iblk m c 5 t) (iblk m c 6 t)

/-- The pipeline's proof data: the operands as the host line leaves them, the result as the kernel computes it, the weights and
    the ring the kernel's own. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = resAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

theorem held_eq (c : Dev nD) : (bigSep H0 (fun b => (((c : Thread nD τ).loc b) ↦{fullShare} V m c b : sProp 𝕄)))
    = iprop((((c : Thread nD τ).loc main_arg3) ↦{fullShare} V m c main_arg3) ∗ (((c : Thread nD τ).loc main_arg6) ↦{fullShare} V m c main_arg6)) := by
  unfold H0
  rw [bigSep_insert (by decide), bigSep_singleton]
  rfl
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ bigSep (Finset.Ico 0 22) (cellP c)
        ∗ (((c : Thread nD τ).loc main_arg3) ↦{fullShare} V m c main_arg3) ∗ (((c : Thread nD τ).loc main_arg6) ↦{fullShare} V m c main_arg6)) := by
  rw [← ownSems_eq, ← scopedRest0_eq (Ix := Unit) (Val := Elt F) (Name := ℕ) (U := Pipeline.UD sig nD τ) (Lvl := ℕ) c, ← held_eq]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The weights whole, layer by layer, and back. -/
theorem homes_open (c : Dev nD) (X1 : Buf (Elt F) (w1M.view.loc (c : Thread nD τ))) (X2 : Buf (Elt F) (w2M.view.loc (c : Thread nD τ))) :
    iprop((w1M.view.loc (c : Thread nD τ) ↦{fullShare} X1) ∗ (w2M.view.loc (c : Thread nD τ) ↦{fullShare} X2))
      ⊢ (iprop(homesP c X1 X2 0 ∗ bigSep (Finset.Ico 1 4) (homesP c X1 X2)) : sProp 𝕄) := by
  rw [homes_all, homes_split]
theorem homes_join (c : Dev nD) (X1 : Buf (Elt F) (w1M.view.loc (c : Thread nD τ))) (X2 : Buf (Elt F) (w2M.view.loc (c : Thread nD τ))) :
    bigSep (Finset.Ico 0 4) (homesP c X1 X2)
      ⊢ (iprop((w1M.view.loc (c : Thread nD τ) ↦{fullShare} X1) ∗ (w2M.view.loc (c : Thread nD τ) ↦{fullShare} X2)) : sProp 𝕄) := by
  rw [homes_all]
theorem free_open (c : Dev nD) : iprop(bigSep (Finset.Ico 0 22) (fun n => iprop(∃ f, slotP c n f)) ∗ bigSep (Finset.Ico 0 22) (cellP c))
      ⊢ (iprop(bigSep (Finset.Ico 0 6) (freeP c) ∗ freesP c ∗ bigSep (Finset.Ico 14 22) (freeP c)) : sProp 𝕄) := by
  rw [← free_end, frees_eq]
theorem free_join (c : Dev nD) : (iprop(bigSep (Finset.Ico 0 6) (freeP c) ∗ freesP c ∗ bigSep (Finset.Ico 14 22) (freeP c)) : sProp 𝕄)
      ⊢ iprop(bigSep (Finset.Ico 0 22) (fun n => iprop(∃ f, slotP c n f)) ∗ bigSep (Finset.Ico 0 22) (cellP c)) := by
  rw [← free_end, frees_eq]
theorem rowM_set (c : Dev nD) (f : Buf (Elt F) (rowM.view.loc (c : Thread nD τ))) :
    ((rowM.view.loc (c : Thread nD τ) ↦[rowM.view.set]{fullShare} f) : sProp 𝕄) = (((c : Thread nD τ).loc cc0_scratch1) ↦{fullShare} f) := by
  rw [show (rowM : Memref sig .tc .vmem _ _).view.set = Finset.univ from (Memref.isWhole_whole cc0_scratch1).set_eq_univ]

set_option maxHeartbeats 1000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Pipeline.ΦD osem0 spec0 H0 (V m) c from rfl, show (dats m 0 c).Φ t.castSucc = Pipeline.ΦD osem0 spec0 H0 (V m) c from rfl, PhiD0_eq,
    after0_0, after0_1, after0_2, after0_3, after0_4, after0_5, after0_6, after0_7]
  simp only [before0_0, before0_1, before0_2, before0_3, before0_4, before0_5, before0_6]
  unfold Dat.owesAt Pipeline.owesWithin
  rw [show (dats m 0 c).owed t.castSucc = 0 from rfl, show (dats m 0 c).owed t.succ = 0 from rfl]
  unfold owns
  iintro ⟨⟨⟨⟨%fS, HS⟩, %fR, HR⟩, Hg, HC, HA⟩, ⟨%W, -, HW⟩, ⟨%d1, %g1, %e1, H1⟩, ⟨%d2, %g2, %e2, H2⟩, ⟨%d3, %g3, %e3, H3⟩, ⟨%d5, %g5, %e5, H5⟩, ⟨%d6, %g6, %e6, H6⟩, ⟨%d8, %g8, %e8, H8⟩, ⟨%d9, %g9, %e9, H9⟩, ⟨%dO, %gO, -, HO⟩⟩
  ihave HS := (ring_split c fS) $$ HS
  ihave HA := (homes_open c (V m c main_arg3) (V m c main_arg6)) $$ HA
  icases HA with ⟨HA0, HA1⟩
  ihave HF := (free_open c) $$ [HS HC]
  · isplitl [HS]; · iexact HS
    iexact HC
  icases HF with ⟨HFa, HF, HFb⟩
  iapply wp_wand_r
  isplitr [Hg HFa HFb]
  · iapply (bodyRun c (V m c main_arg3) (V m c main_arg6) (grid0.coords t) (st0_0 t) _ (st0_1 t) _ (st0_2 t) _ (st0_3 t) _ (st0_4 t) _ (st0_5 t) _ (st0_6 t) _ (st0_7 t) _ g1 g2 g3 g5 g6 g8 g9 gO fR)
    isplitl [H1 H2 H3 H5 H6 H8 H9]
    · isplitl [H1]; · iexact H1
      isplitl [H2]; · iexact H2
      isplitl [H3]; · iexact H3
      isplitl [H5]; · iexact H5
      isplitl [H6]; · iexact H6
      isplitl [H8]; · iexact H8
      iexact H9
    isplitl [HO]; · iexact HO
    isplitl [HR]; · iapply (entails_of_eq (rowM_set c fR).symm); iexact HR
    isplitl [HW]; · iexists W; iexact HW
    isplitl [HA0]; · iexact HA0
    isplitl [HF]; · iexact HF
    iexact HA1
  iintro %_ ⟨⟨H1, H2, H3, H5, H6, H8, H9⟩, ⟨%fo, HO, %eo⟩, ⟨%fR', HR⟩, ⟨%W', HW⟩, HF, HH⟩
  ihave HF := (free_join c) $$ [HFa HF HFb]
  · isplitl [HFa]; · iexact HFa
    isplitl [HF]; · iexact HF
    iexact HFb
  icases HF with ⟨HS, HC⟩
  ihave HS := (ring_join c) $$ HS
  isplitl [HS HR Hg HC HH]
  · isplitl [HS HR]
    · isplitl [HS]; · iexact HS
      iexists fR'
      iapply (entails_of_eq (rowM_set c fR'))
      iexact HR
    isplitl [Hg]; · iexact Hg
    isplitl [HC]; · iexact HC
    iapply (homes_join c (V m c main_arg3) (V m c main_arg6))
    iexact HH
  isplitl [HW]
  · iexists W'; isplitr; · ipureintro; exact fun _ _ => Or.inl trivial
    iexact HW
  isplitl [H1]; · iexists g1; isplitr; · ipureintro; exact e1
                  iexact H1
  isplitl [H2]; · iexists g2; isplitr; · ipureintro; exact e2
                  iexact H2
  isplitl [H3]; · iexists g3; isplitr; · ipureintro; exact e3
                  iexact H3
  isplitl [H5]; · iexists g5; isplitr; · ipureintro; exact e5
                  iexact H5
  isplitl [H6]; · iexists g6; isplitr; · ipureintro; exact e6
                  iexact H6
  isplitl [H8]; · iexists g8; isplitr; · ipureintro; exact e8
                  iexact H8
  isplitl [H9]; · iexists g9; isplitr; · ipureintro; exact e9
                  iexact H9
  iexists fo
  isplitr; swap; · iexact HO
  ipureintro
  rw [eo, e1, e2, e3, e5, e6, e8, e9]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, in the arrays the region leaves, with every semaphore counter back at zero. -/
theorem run_main : θ_run defs (onTc (τ := τ) (main (F := F))) (s₀ m ρ)
    (fun r => Pipeline.FramePost cfgs (dats m) 0 (Pipeline.afterTail₀ cfgs (dats m) 0 (V0 m) []) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := []) (hsub := fun _ h => absurd h List.not_mem_nil) (hfresh := fun _ h => absurd h List.not_mem_nil) (hkeep := fun _ h => absurd h List.not_mem_nil)
    (hmain := hmainD m Variants.none) (hA := A_eq m) (hin := fun _ => .rfl) (hout := fun _ => .rfl)

/-- A buffer the region does not stage ends as the region finds it. -/
theorem W_of (c : Dev nD) (b : Ref sig .tc) (ha : ∀ w, Pipeline.arrRef spec0 w ≠ b) :
    Pipeline.afterTail₀ cfgs (dats m) 0 (V0 m) [] c b = V m c b := by
  unfold Pipeline.afterTail₀
  show StableHlo.after [] _ (Proc.devRef .tc b) = _
  rw [StableHlo.after_nil, Pipeline.withArrays_of_ne _ c (V0 m c) _ b ha]

theorem kept (r : PUnit × MemSt nD τ sig (Elt F)) (h : Pipeline.FramePost cfgs (dats m) 0 (Pipeline.afterTail₀ cfgs (dats m) 0 (V0 m) []) r) (c : Dev nD)
    (b : Ref sig .tc) (hr : b ∈ Pipeline.restRefs sig spec0) (ha : ∀ w, Pipeline.arrRef spec0 w ≠ b)
    (hV : V m c b = m ((c : Thread nD τ).loc b)) : r.2.mem ((c : Thread nD τ).loc b) = m ((c : Thread nD τ).loc b) :=
  ((h c).2 b hr).trans ((W_of m c b ha).trans hV)

/-- The windows are whole arrays: an index of a block is the same index of its array. -/
theorem idx_zero : ∀ t : Fin cfg0.N, (win0_0.index t (0 : Fin 3) = 0 ∧ win0_0.index t (1 : Fin 3) = 0 ∧ win0_0.index t (2 : Fin 3) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) ∧ (win0_7.index t (0 : Fin 3) = 0 ∧ win0_7.index t (1 : Fin 3) = 0 ∧ win0_7.index t (2 : Fin 3) = 0) :=
  (by decide +kernel : ∀ t : Fin grid0.N, _)
theorem emb0_0 (t : Fin cfg0.N) (y : S4x10x1280.Idx) : ((cfg0.win 0).blk t).view.emb y = y := by
  obtain ⟨h0, h1, h2, h3, h4, h5, h6, h7⟩ := idx_zero t
  funext a; apply Fin.ext
  match a with
  | ⟨0, _⟩ => show win0_0.index t (0 : Fin 3) * 4 + 1 * (y 0).val = (y 0).val; omega
  | ⟨1, _⟩ => show win0_0.index t (1 : Fin 3) * 10 + 1 * (y 1).val = (y 1).val; omega
  | ⟨2, _⟩ => show win0_0.index t (2 : Fin 3) * 1280 + 1 * (y 2).val = (y 2).val; omega
theorem emb0_1 (t : Fin cfg0.N) (y : S4x1280.Idx) : ((cfg0.win 1).blk t).view.emb y = y := by
  obtain ⟨h0, h1, h2, h3, h4, h5, h6, h7⟩ := idx_zero t
  funext a; apply Fin.ext
  match a with
  | ⟨0, _⟩ => show win0_1.index t (0 : Fin 2) * 4 + 1 * (y 0).val = (y 0).val; omega
  | ⟨1, _⟩ => show win0_1.index t (1 : Fin 2) * 1280 + 1 * (y 1).val = (y 1).val; omega
theorem emb0_2 (t : Fin cfg0.N) (y : S4x1280.Idx) : ((cfg0.win 2).blk t).view.emb y = y := by
  obtain ⟨h0, h1, h2, h3, h4, h5, h6, h7⟩ := idx_zero t
  funext a; apply Fin.ext
  match a with
  | ⟨0, _⟩ => show win0_2.index t (0 : Fin 2) * 4 + 1 * (y 0).val = (y 0).val; omega
  | ⟨1, _⟩ => show win0_2.index t (1 : Fin 2) * 1280 + 1 * (y 1).val = (y 1).val; omega
theorem emb0_3 (t : Fin cfg0.N) (y : S4x5120.Idx) : ((cfg0.win 3).blk t).view.emb y = y := by
  obtain ⟨h0, h1, h2, h3, h4, h5, h6, h7⟩ := idx_zero t
  funext a; apply Fin.ext
  match a with
  | ⟨0, _⟩ => show win0_3.index t (0 : Fin 2) * 4 + 1 * (y 0).val = (y 0).val; omega
  | ⟨1, _⟩ => show win0_3.index t (1 : Fin 2) * 5120 + 1 * (y 1).val = (y 1).val; omega
theorem emb0_4 (t : Fin cfg0.N) (y : S4x5120.Idx) : ((cfg0.win 4).blk t).view.emb y = y := by
  obtain ⟨h0, h1, h2, h3, h4, h5, h6, h7⟩ := idx_zero t
  funext a; apply Fin.ext
  match a with
  | ⟨0, _⟩ => show win0_4.index t (0 : Fin 2) * 4 + 1 * (y 0).val = (y 0).val; omega
  | ⟨1, _⟩ => show win0_4.index t (1 : Fin 2) * 5120 + 1 * (y 1).val = (y 1).val; omega
theorem emb0_5 (t : Fin cfg0.N) (y : S4x1280.Idx) : ((cfg0.win 5).blk t).view.emb y = y := by
  obtain ⟨h0, h1, h2, h3, h4, h5, h6, h7⟩ := idx_zero t
  funext a; apply Fin.ext
  match a with
  | ⟨0, _⟩ => show win0_5.index t (0 : Fin 2) * 4 + 1 * (y 0).val = (y 0).val; omega
  | ⟨1, _⟩ => show win0_5.index t (1 : Fin 2) * 1280 + 1 * (y 1).val = (y 1).val; omega
theorem emb0_6 (t : Fin cfg0.N) (y : S4x1280.Idx) : ((cfg0.win 6).blk t).view.emb y = y := by
  obtain ⟨h0, h1, h2, h3, h4, h5, h6, h7⟩ := idx_zero t
  funext a; apply Fin.ext
  match a with
  | ⟨0, _⟩ => show win0_6.index t (0 : Fin 2) * 4 + 1 * (y 0).val = (y 0).val; omega
  | ⟨1, _⟩ => show win0_6.index t (1 : Fin 2) * 1280 + 1 * (y 1).val = (y 1).val; omega
theorem emb0_7 (t : Fin cfg0.N) (y : S4x10x1280.Idx) : ((cfg0.win 7).blk t).view.emb y = y := by
  obtain ⟨h0, h1, h2, h3, h4, h5, h6, h7⟩ := idx_zero t
  funext a; apply Fin.ext
  match a with
  | ⟨0, _⟩ => show win0_7.index t (0 : Fin 3) * 4 + 1 * (y 0).val = (y 0).val; omega
  | ⟨1, _⟩ => show win0_7.index t (1 : Fin 3) * 10 + 1 * (y 1).val = (y 1).val; omega
  | ⟨2, _⟩ => show win0_7.index t (2 : Fin 3) * 1280 + 1 * (y 2).val = (y 2).val; omega
theorem iblk_eq0 (c : Dev nD) (t : Fin cfg0.N) : iblk m c 0 t = V m c main_v0 := by
  funext y; show V m c main_v0 (((cfg0.win 0).blk t).view.emb y) = V m c main_v0 y; rw [emb0_0]
theorem iblk_eq1 (c : Dev nD) (t : Fin cfg0.N) : iblk m c 1 t = V m c main_arg1 := by
  funext y; show V m c main_arg1 (((cfg0.win 1).blk t).view.emb y) = V m c main_arg1 y; rw [emb0_1]
theorem iblk_eq2 (c : Dev nD) (t : Fin cfg0.N) : iblk m c 2 t = V m c main_arg2 := by
  funext y; show V m c main_arg2 (((cfg0.win 2).blk t).view.emb y) = V m c main_arg2 y; rw [emb0_2]
theorem iblk_eq3 (c : Dev nD) (t : Fin cfg0.N) : iblk m c 3 t = V m c main_arg4 := by
  funext y; show V m c main_arg4 (((cfg0.win 3).blk t).view.emb y) = V m c main_arg4 y; rw [emb0_3]
theorem iblk_eq4 (c : Dev nD) (t : Fin cfg0.N) : iblk m c 4 t = V m c main_arg5 := by
  funext y; show V m c main_arg5 (((cfg0.win 4).blk t).view.emb y) = V m c main_arg5 y; rw [emb0_4]
theorem iblk_eq5 (c : Dev nD) (t : Fin cfg0.N) : iblk m c 5 t = V m c main_arg7 := by
  funext y; show V m c main_arg7 (((cfg0.win 5).blk t).view.emb y) = V m c main_arg7 y; rw [emb0_5]
theorem iblk_eq6 (c : Dev nD) (t : Fin cfg0.N) : iblk m c 6 t = V m c main_arg8 := by
  funext y; show V m c main_arg8 (((cfg0.win 6).blk t).view.emb y) = V m c main_arg8 y; rw [emb0_6]

theorem idx_inj7 : ∀ t t' : Fin cfg0.N, win0_7.index t = win0_7.index t' → t = t' :=
  (by decide +kernel : ∀ t t' : Fin grid0.N, win0_7.index t = win0_7.index t' → t = t')

/-- The region's result array ends as its one grid point writes it. -/
theorem arr7 (c : Dev nD) : (dats m 0 c).arrAt 7 cfg0.N = resAt m c t0_0 := by
  have h := (dats m 0 c).read_blk_arrAt_eq_flushed 7
    (fun t t' _ _ hne => (cfg0.win 7).disjoint_blk fun h => hne (idx_inj7 t t' h)) cfg0.N t0_0 t0_0.isLt (flush0_7 t0_0)
  have hf : (dats m 0 c).flushed 7 t0_0 = (cfg0.win 7).cut (grid0.coords t0_0) (resAt m c t0_0) := by
    show (cfg0.win 7).cut (grid0.coords t0_0) ((dats m 0 c).after 7 t0_0) = _
    rw [after0_7]
  rw [hf] at h
  generalize (dats m 0 c).arrAt 7 cfg0.N = A at h ⊢
  generalize resAt m c t0_0 = B at h ⊢
  clear hf
  funext y
  have hy : A (((cfg0.win 7).blk t0_0).view.emb y) = B y := congrFun h y
  rw [emb0_7] at hy
  exact hy

/-- The run: the result of the arguments, the arguments as launched, the counters at zero. -/
theorem run : θ_run defs (onTc (τ := τ) (main (F := F))) ⟨m, fun _ => 0, ρ⟩ (fun r => (∀ c : Dev nD,
      r.2.mem ((c.tc : Thread nD τ).loc main_v1) = resAt (F := F) m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).1 7).trans (arr7 m c),
    kept m r h.1 c main_arg0 (Pipeline.mem_restRefs_of main_arg0 (by decide) (by decide)) (by decide) (V_main_arg0 m c),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    kept m r h.1 c main_arg3 (Pipeline.mem_restRefs_of main_arg3 (by decide) (by decide)) (by decide) (V_main_arg3 m c),
    ((h.1 c).1 3).trans (((dats m 0 c).arrAt_in 3 rfl _).trans ((A_eq m c 3).trans (V_main_arg4 m c))),
    ((h.1 c).1 4).trans (((dats m 0 c).arrAt_in 4 rfl _).trans ((A_eq m c 4).trans (V_main_arg5 m c))),
    kept m r h.1 c main_arg6 (Pipeline.mem_restRefs_of main_arg6 (by decide) (by decide)) (by decide) (V_main_arg6 m c),
    ((h.1 c).1 5).trans (((dats m 0 c).arrAt_in 5 rfl _).trans ((A_eq m c 5).trans (V_main_arg7 m c))),
    ((h.1 c).1 6).trans (((dats m 0 c).arrAt_in 6 rfl _).trans ((A_eq m c 6).trans (V_main_arg8 m c)))⟩, h.2⟩) (run_main m ρ)

end Cert.Mlp.Ring

end
-- ==== Proof.MpI.Twin.lean ====
/-
  The idealized program is the program itself at the extended reals: no operation of it is rewritten. So what is proved of the
  program's run, for every kind of numbers, is proved of it.
-/
module

public import proofs.«01_k».proof.Proof.Mp.Run
public import proofs.«01_k».proof.Proof.Gen.MlpIdeal.Launch
public import Idealize.ShloMosaic.PureOps.Ideal

@[expose] public section

set_option maxRecDepth 16384

noncomputable section

namespace Cert.MlpIdeal.Twin
open Cert.MlpIdeal
open Idealize.ShloMosaic Idealize.ShloMosaic.TcCoe Idealize.SL.Sem

theorem defs0_eq : (Cert.MlpIdeal.defs₀ (F := Ideal)) = Cert.Mlp.defs₀ (F := Ideal) := by
  unfold Cert.MlpIdeal.defs₀ Cert.Mlp.defs₀
  refine congrArg Defs.onTc ?_
  funext p x
  match p, x with
  | 0, (t, s) => rfl
theorem defs_eq : (Cert.MlpIdeal.defs (F := Ideal)) = Cert.Mlp.defs (F := Ideal) :=
  (congrArg (Pipeline.defs (Cert.Mlp.pcfgs (F := Ideal))) defs0_eq : Pipeline.defs (Cert.Mlp.pcfgs (F := Ideal)) Cert.MlpIdeal.defs₀ = _)

variable (m : (ℓ : Loc nD τ sig) → Buf (Elt Ideal) ℓ) (ρ : Dev nD → PrngReg)

/-- What the result holds. -/
def resid (c : Dev nD) : Vec Ideal S4x10x1280 .f32 := Cert.Mlp.Ring.resAt (F := Ideal) m c Cert.Mlp.Gen.t0_0

theorem run : θ_run defs (onTc (τ := τ) (main (F := Ideal))) ⟨m, fun _ => 0, ρ⟩ (fun r => (∀ c : Dev nD,
      r.2.mem ((c.tc : Thread nD τ).loc main_v1) = resid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.Mlp.Ring.run (F := Ideal) m ρ

end Cert.MlpIdeal.Twin

end
-- ==== Proof.MpI.Slot.lean ====
/-
  What a trip reads, entry by entry: a slot holds the piece of a weight its transfer brought, and the small operands' rows are
  the layer's.
-/
module

public import proofs.«01_k».proof.Proof.Mp.Run
public import Idealize.ShloMosaic.Lib.ValueLayout

@[expose] public section

set_option maxRecDepth 16384

noncomputable section

namespace Cert.Mlp.Ring

open Cert.Mlp Cert.Mlp.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]
variable (c : Dev nD)

theorem rslot_read (n : ℕ) (f : ringM.view.ty.Contents (Elt F)) (r d : Fin 1280) :
    (rslot n).view.read (Elt F) f (ix2 r d) = ringM.view.read (Elt F) f (ix3 (⟨n % 22, Nat.mod_lt _ (by decide)⟩ : Fin 22) r d) := by
  show ringM.view.read (Elt F) f ((Rect.unit (s := S22x1280x1280) (slotOff n) S1x1280x1280.size (slotOff_inb n)).emb (Shape.reshapeEquiv _ (ix2 r d))) = _
  rw [reshapeEquiv_ix2_1ab]
  refine congrArg (ringM.view.read (Elt F) f) ?_
  funext a; apply Fin.ext
  match a with
  | ⟨0, _⟩ => show n % 22 + 1 * 0 = n % 22; omega
  | ⟨1, _⟩ => show 0 + 1 * r.val = r.val; omega
  | ⟨2, _⟩ => show 0 + 1 * d.val = d.val; omega

/-- A piece of the first weight, entry by entry. -/
theorem pay1_at (X1 : Buf (Elt F) (w1M.view.loc (c : Thread nD τ))) (l i : ℕ) (hl : l < 4) (hi : i < 4) (r d : Fin 1280) (e : Fin 5120) (he : e.val = 1280 * i + d.val) :
    payM c (w1p l i) X1 (ix2 r d) = X1 (ix3 (⟨l, hl⟩ : Fin 4) r e) := by
  show X1 ((Rect.unit (s := S4x1280x5120) (w1Off l i) S1x1280x1280.size (w1Off_inb l i)).emb (Shape.reshapeEquiv _ (ix2 r d))) = _
  rw [reshapeEquiv_ix2_1ab]
  refine congrArg X1 ?_
  funext a; apply Fin.ext
  match a with
  | ⟨0, _⟩ => show l % 4 + 1 * 0 = l; omega
  | ⟨1, _⟩ => show 0 + 1 * r.val = r.val; omega
  | ⟨2, _⟩ => show 1280 * (i % 4) + 1 * d.val = e.val; omega
/-- A piece of the second. -/
theorem pay2_at (X2 : Buf (Elt F) (w2M.view.loc (c : Thread nD τ))) (l i : ℕ) (hl : l < 4) (hi : i < 4) (r d : Fin 1280) (e : Fin 5120) (he : e.val = 1280 * i + r.val) :
    payM c (w2p l i) X2 (ix2 r d) = X2 (ix3 (⟨l, hl⟩ : Fin 4) e d) := by
  show X2 ((Rect.unit (s := S4x5120x1280) (w2Off l i) S1x1280x1280.size (w2Off_inb l i)).emb (Shape.reshapeEquiv _ (ix2 r d))) = _
  rw [reshapeEquiv_ix2_1ab]
  refine congrArg X2 ?_
  funext a; apply Fin.ext
  match a with
  | ⟨0, _⟩ => show l % 4 + 1 * 0 = l; omega
  | ⟨1, _⟩ => show 1280 * (i % 4) + 1 * r.val = e.val; omega
  | ⟨2, _⟩ => show 0 + 1 * d.val = d.val; omega

/-- A slot holds the piece that landed in it. -/
theorem landV_at (M : Memref sig .tc .hbm S1280x1280 .i8) (X : Buf (Elt F) (M.view.loc (c : Thread nD τ))) (n : ℕ)
    (h : ∀ a, (![n, 0, 0] : Fin 3 → ℕ) a + S1x1280x1280.size a ≤ S22x1280x1280.size a) (r d : Fin 1280) :
    landV c M X (Rect.unit (s := S22x1280x1280) ![n, 0, 0] S1x1280x1280.size h) n (ix3 (0 : Fin 1) r d) = payM c M X (ix2 r d) := by
  have hn : n + 1 ≤ 22 := h 0
  have e : (Rect.unit (s := S22x1280x1280) ![n, 0, 0] S1x1280x1280.size h).toLoadRect.idx (ix3 (0 : Fin 1) r d) = ix3 (⟨n % 22, Nat.mod_lt _ (by decide)⟩ : Fin 22) r d := by
    funext a; apply Fin.ext
    match a with
    | ⟨0, _⟩ => show n + 1 * 0 = n % 22; omega
    | ⟨1, _⟩ => show 0 + 1 * r.val = r.val; omega
    | ⟨2, _⟩ => show 0 + 1 * d.val = d.val; omega
  unfold landV
  refine (congrArg (ringM.view.read (Elt F) _) e).trans ?_
  exact (rslot_read n _ r d).symm.trans (congrFun (View.read_writes_whole (rslot n).view _ (payM c M X)) (ix2 r d))

/-- The layer a trip computes. -/
abbrev ly (k : Fin k0_t1_loop.trips) : Fin 4 := ⟨k.val, lt_of_lt_of_eq k.isLt trips_eq⟩
theorem R1_ix (k : Fin k0_t1_loop.trips) (i : Fin 10) (d : Fin 1280) : (R1 k).toLoadRect.idx (ix3 (0 : Fin 1) i d) = ix3 (ly k) i d := by
  have h := k0_off1_eq k
  funext a; apply Fin.ext
  match a with
  | ⟨0, _⟩ => show k0_off1 k 0 + 1 * 0 = k.val; rw [h]; rfl
  | ⟨1, _⟩ => show k0_off1 k 1 + 1 * i.val = i.val; rw [h]; show 0 + 1 * i.val = i.val; omega
  | ⟨2, _⟩ => show k0_off1 k 2 + 1 * d.val = d.val; rw [h]; show 0 + 1 * d.val = d.val; omega
theorem R2_ix (k : Fin k0_t1_loop.trips) (d : Fin 1280) : (R2 k).toLoadRect.idx (ix2 (0 : Fin 1) d) = ix2 (ly k) d := by
  have h := k0_off2_eq k
  funext a; apply Fin.ext
  match a with
  | ⟨0, _⟩ => show k0_off2 k 0 + 1 * 0 = k.val; rw [h]; rfl
  | ⟨1, _⟩ => show k0_off2 k 1 + 1 * d.val = d.val; rw [h]; show 0 + 1 * d.val = d.val; omega
theorem R3_ix (k : Fin k0_t1_loop.trips) (e : Fin 5120) : (R3 k).toLoadRect.idx (ix2 (0 : Fin 1) e) = ix2 (ly k) e := by
  have h := k0_off3_eq k
  funext a; apply Fin.ext
  match a with
  | ⟨0, _⟩ => show k0_off3 k 0 + 1 * 0 = k.val; rw [h]; rfl
  | ⟨1, _⟩ => show k0_off3 k 1 + 1 * e.val = e.val; rw [h]; show 0 + 1 * e.val = e.val; omega

end Cert.Mlp.Ring

end
-- ==== Proof.MpI.Pure.lean ====
/-
  The MLP's payloads, the kernel's and the reference's, entry by entry over the extended reals; and the hidden columns' sum as
  the sum of its four chunks.
-/
module

public import proofs.«01_k».proof.Proof.HdI.Pure
public import proofs.«01_k».proof.Proof.Gen.Mlp.Skeleton
public import proofs.«01_k».proof.Proof.Gen.MlpRefIdeal.Skeleton
public import Idealize.ShloMosaic.Lib.Pointwise
public import Mathlib.Algebra.BigOperators.Fin

@[expose] public section

set_option maxRecDepth 16384

noncomputable section

namespace Cert.MlpPure
open Idealize.ShloMosaic
open Cert.HeadPure (lnRow)

/-- An integer weight as a number. -/
def num (w : BitVec 8) : EReal := (FloatOps.sitofp .bf16 w : Ideal .bf16)

/-- The activation. -/
def gelu (v : EReal) : EReal :=
  Ideal.ofBits .f32 0x3F000000#32 * v * (Ideal.ofBits .f32 0x3F800000#32 + (FloatOps.erf (v * Ideal.ofBits .f32 0x3F3504F3#32 : Ideal .f32) : Ideal .f32))

/-- A hidden column of the row `f`: its product with the column `w` of the first weight, scaled, shifted and activated. -/
def hid (f : Fin 1280 → EReal) (w : Fin 1280 → BitVec 8) (s t : EReal) : EReal := gelu ((∑ d, f d * num (w d)) * s + t)

/-- A layer's row at column `d`: the row, and the hidden columns' product with the second weight, scaled and shifted. -/
def lay (x g b : Fin 1280 → Ideal .f32) (w1 : Fin 1280 → Fin 5120 → BitVec 8) (s1 b1 : Fin 5120 → Ideal .f32) (w2 : Fin 5120 → Fin 1280 → BitVec 8)
    (s2 b2 : Fin 1280 → Ideal .f32) (d : Fin 1280) : EReal :=
  x d + ((∑ e, hid (lnRow x g b) (fun i => w1 i e) (s1 e) (b1 e) * num (w2 e d)) * s2 d + b2 d)

/-- The sum over the hidden columns, chunk by chunk. -/
theorem sum_chunks (G : Fin 5120 → EReal) :
    ∑ e, G e = (∑ e : Fin 1280, G ⟨e.val, by omega⟩) + (∑ e : Fin 1280, G ⟨1280 + e.val, by omega⟩) + (∑ e : Fin 1280, G ⟨2560 + e.val, by omega⟩)
      + ∑ e : Fin 1280, G ⟨3840 + e.val, by omega⟩ := by
  refine (Fin.sum_univ_add (a := 3840) (b := 1280) G).trans ?_
  refine congrArg₂ (· + ·) ?_ rfl
  refine (Fin.sum_univ_add (a := 2560) (b := 1280) _).trans ?_
  refine congrArg₂ (· + ·) ?_ rfl
  exact Fin.sum_univ_add (a := 1280) (b := 1280) _

section Kernel
open Cert.Mlp Cert.Mlp.Gen

theorem norm_at (X : Vec Ideal S16x1280 .f32) (g b : Vec Ideal S1x1280 .f32) (i : Fin 16) (d : Fin 1280) :
    k0_pay5 X g b (ix2 i d) = lnRow (fun e => X (ix2 i e)) (fun e => g (ix2 0 e)) (fun e => b (ix2 0 e)) d := by
  pointwise [k0_pay5, lnRow]
theorem hid4_at (h : FVec Ideal S16x1280 .bf16) (s b : Vec Ideal S1x5120 .f32) (w : Vec Ideal S1x1280x1280 .i8) (i : Fin 16) (e : Fin 1280) :
    k0_pay11 h s b w (ix2 i e) = hid (fun d => h (ix2 i d)) (fun d => w (ix3 0 d e)) (s (ix2 0 ⟨3840 + e.val, by omega⟩)) (b (ix2 0 ⟨3840 + e.val, by omega⟩)) := by
  pointwise [k0_pay11, hid, gelu, num]
theorem acc3_at (h : FVec Ideal S16x1280 .bf16) (s b : Vec Ideal S1x5120 .f32) (a : FVec Ideal S16x1280 .f32) (w v : Vec Ideal S1x1280x1280 .i8) (i : Fin 16) (d : Fin 1280) :
    k0_pay10 h s b a w v (ix2 i d) = a (ix2 i d) + ∑ e : Fin 1280, hid (fun d => h (ix2 i d)) (fun d => w (ix3 0 d e)) (s (ix2 0 ⟨2560 + e.val, by omega⟩)) (b (ix2 0 ⟨2560 + e.val, by omega⟩)) * num (v (ix3 0 e d)) := by
  pointwise [k0_pay10, hid, gelu, num]
theorem acc2_at (h : FVec Ideal S16x1280 .bf16) (s b : Vec Ideal S1x5120 .f32) (w v w' v' : Vec Ideal S1x1280x1280 .i8) (i : Fin 16) (d : Fin 1280) :
    k0_pay9 h s b k0_pay6 (k0_pay7 h s w) (k0_pay8 b) v w' v' (ix2 i d)
      = (∑ e : Fin 1280, hid (fun d => h (ix2 i d)) (fun d => w (ix3 0 d e)) (s (ix2 0 ⟨e.val, by omega⟩)) (b (ix2 0 ⟨e.val, by omega⟩)) * num (v (ix3 0 e d)))
        + ∑ e : Fin 1280, hid (fun d => h (ix2 i d)) (fun d => w' (ix3 0 d e)) (s (ix2 0 ⟨1280 + e.val, by omega⟩)) (b (ix2 0 ⟨1280 + e.val, by omega⟩)) * num (v' (ix3 0 e d)) := by
  pointwise [k0_pay9, k0_pay8, k0_pay7, k0_pay6, hid, gelu, num]
theorem pay3_at (a : FVec Ideal S16x1280 .f32) (h : FVec Ideal S16x1280 .bf16) (v : Vec Ideal S1x1280x1280 .i8) (x : Vec Ideal S16x1280 .f32) (s b : Vec Ideal S1x1280 .f32) (i : Fin 10) (d : Fin 1280) :
    k0_pay3 a h v x s b (ix3 0 i d) = x (ix2 (⟨i.val, by omega⟩ : Fin 16) d)
      + ((a (ix2 (⟨i.val, by omega⟩ : Fin 16) d) + ∑ e : Fin 1280, h (ix2 (⟨i.val, by omega⟩ : Fin 16) e) * num (v (ix3 0 e d))) * s (ix2 0 d) + b (ix2 0 d)) := by
  pointwise [k0_pay3, k0_pay1, num]
theorem pay4_at (x : Vec Ideal S1x10x1280 .f32) (i : Fin 10) (d : Fin 1280) : k0_pay4 x (ix2 i d) = x (ix3 0 i d) := by
  pointwise [k0_pay4]
end Kernel

section Reference
open Cert.MlpRefIdeal Cert.MlpRefIdeal.Gen

theorem ref_at (x : Vec Ideal S1x10x1280 .f32) (g b : Vec Ideal S1x1280 .f32) (w1 : Vec Ideal S1x1280x5120 .i8) (s1 b1 : Vec Ideal S1x5120 .f32)
    (w2 : Vec Ideal S1x5120x1280 .i8) (s2 b2 : Vec Ideal S1x1280 .f32) (i : Fin 10) (d : Fin 1280) :
    k0_pay4 (k0_pay2 x x g b w1) (k0_pay3 s1) b1 x w2 s2 b2 (ix3 0 i d)
      = lay (fun e => x (ix3 0 i e)) (fun e => g (ix2 0 e)) (fun e => b (ix2 0 e)) (fun j e => w1 (ix3 0 j e)) (fun e => s1 (ix2 0 e)) (fun e => b1 (ix2 0 e))
          (fun e j => w2 (ix3 0 e j)) (fun e => s2 (ix2 0 e)) (fun e => b2 (ix2 0 e)) d := by
  pointwise [k0_pay4, k0_pay3, k0_pay2, lay, hid, gelu, num, lnRow]
end Reference

end Cert.MlpPure

end
-- ==== Proof.MpI.Final.lean ====
/-
  What the region leaves in its result over the extended reals, entry by entry: each layer's rows.
-/
module

public import proofs.«01_k».proof.Proof.MpI.Slot
public import proofs.«01_k».proof.Proof.MpI.Pure
public import Idealize.ShloMosaic.Lib.StableHlo.RunRead

@[expose] public section

set_option maxRecDepth 16384

noncomputable section

namespace Cert.Mlp.Ring

open Cert.Mlp Cert.Mlp.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

open Cert.HeadPure (lnRow)
open Cert.MlpPure

section Pure
variable (c : Dev nD) (X1 : Buf (Elt Ideal) (w1M.view.loc (c : Thread nD τ))) (X2 : Buf (Elt Ideal) (w2M.view.loc (c : Thread nD τ)))
variable (x : Vec Ideal S4x10x1280 .f32) (g b : Vec Ideal S4x1280 .f32) (s1 b1 : Vec Ideal S4x5120 .f32) (s2 b2 : Vec Ideal S4x1280 .f32)
variable (k : Fin k0_t1_loop.trips) (r : Vec Ideal S16x1280 .f32) (i : Fin 10)

/-- The first ten of the sixteen rows are the layer's. -/
theorem inF_at (d : Fin 1280) : inF x k r (ix2 (⟨i.val, by omega⟩ : Fin 16) d) = x (ix3 (ly k) i d) := by
  unfold inF rowsF
  refine (dif_pos (show i.val < 10 from i.isLt)).trans ?_
  refine (pay4_at _ i d).trans ?_
  exact congrArg x (R1_ix k i d)

/-- The normalised row. -/
abbrev nrm : Fin 1280 → EReal := lnRow (fun e => x (ix3 (ly k) i e)) (fun e => g (ix2 (ly k) e)) (fun e => b (ix2 (ly k) e))

theorem normF_at (d : Fin 1280) : normF g b k (inF x k r) (ix2 (⟨i.val, by omega⟩ : Fin 16) d) = nrm x g b k i d := by
  unfold normF
  refine (norm_at _ _ _ _ _).trans ?_
  have h1 : (fun e => inF x k r (ix2 (⟨i.val, by omega⟩ : Fin 16) e)) = fun e => x (ix3 (ly k) i e) := funext fun e => inF_at x k r i e
  have h2 : (fun e => (fun y => g ((R2 k).toLoadRect.idx y)) (ix2 (0 : Fin 1) e)) = fun e => g (ix2 (ly k) e) := funext fun e => congrArg g (R2_ix k e)
  have h3 : (fun e => (fun y => b ((R2 k).toLoadRect.idx y)) (ix2 (0 : Fin 1) e)) = fun e => b (ix2 (ly k) e) := funext fun e => congrArg b (R2_ix k e)
  exact congr (congr (congr (congrArg lnRow h1) h2) h3) rfl

/-- A hidden column of the layer. -/
abbrev hidK (e : Fin 5120) : EReal := hid (nrm x g b k i) (fun j => X1 (ix3 (ly k) j e)) (s1 (ix2 (ly k) e)) (b1 (ix2 (ly k) e))

/-- A hidden column as the kernel computes it, from the slot of its chunk. -/
theorem hid_eq (j : ℕ) (hj : j < 4) (n : ℕ) (h : ∀ a, (![n, 0, 0] : Fin 3 → ℕ) a + S1x1280x1280.size a ≤ S22x1280x1280.size a) (e : Fin 1280) (e' : Fin 5120) (he : e'.val = 1280 * j + e.val) :
    hid (fun d => normF g b k (inF x k r) (ix2 (⟨i.val, by omega⟩ : Fin 16) d))
        (fun d => landV c (w1p k.val j) X1 (Rect.unit (s := S22x1280x1280) ![n, 0, 0] S1x1280x1280.size h) n (ix3 (0 : Fin 1) d e))
        (s1 ((R3 k).toLoadRect.idx (ix2 (0 : Fin 1) e'))) (b1 ((R3 k).toLoadRect.idx (ix2 (0 : Fin 1) e')))
      = hidK c X1 x g b s1 b1 k i e' := by
  have h1 : (fun d => normF g b k (inF x k r) (ix2 (⟨i.val, by omega⟩ : Fin 16) d)) = nrm x g b k i := funext fun d => normF_at x g b k r i d
  have h2 : (fun d => landV c (w1p k.val j) X1 (Rect.unit (s := S22x1280x1280) ![n, 0, 0] S1x1280x1280.size h) n (ix3 (0 : Fin 1) d e)) = fun d => X1 (ix3 (ly k) d e') :=
    funext fun d => (landV_at c _ _ n h d e).trans (pay1_at c X1 k.val j (ly k).isLt hj d e e' he)
  exact congr (congr (congr (congrArg hid h1) h2) (congrArg s1 (R3_ix k e'))) (congrArg b1 (R3_ix k e'))
/-- A row of the second weight, from the slot of its chunk. -/
theorem num_eq (j : ℕ) (hj : j < 4) (n : ℕ) (h : ∀ a, (![n, 0, 0] : Fin 3 → ℕ) a + S1x1280x1280.size a ≤ S22x1280x1280.size a) (e d : Fin 1280) (e' : Fin 5120) (he : e'.val = 1280 * j + e.val) :
    num (landV c (w2p k.val j) X2 (Rect.unit (s := S22x1280x1280) ![n, 0, 0] S1x1280x1280.size h) n (ix3 (0 : Fin 1) e d)) = num (X2 (ix3 (ly k) e' d)) :=
  congrArg num ((landV_at c _ _ n h e d).trans (pay2_at c X2 k.val j (ly k).isLt hj e d e' he))

/-- A hidden column's part of entry `d`. -/
abbrev trm (d : Fin 1280) (e : Fin 5120) : EReal := hidK c X1 x g b s1 b1 k i e * num (X2 (ix3 (ly k) e d))

theorem acc2F_at (d : Fin 1280) : acc2F c X1 X2 g b s1 b1 k (inF x k r) (ix2 (⟨i.val, by omega⟩ : Fin 16) d)
    = (∑ e : Fin 1280, trm c X1 X2 x g b s1 b1 k i d ⟨e.val, by omega⟩) + ∑ e : Fin 1280, trm c X1 X2 x g b s1 b1 k i d ⟨1280 + e.val, by omega⟩ := by
  unfold acc2F
  refine (acc2_at _ _ _ _ _ _ _ _ d).trans ?_
  exact congrArg₂ (· + ·)
    (Finset.sum_congr rfl fun e _ => congrArg₂ (· * ·) (hid_eq c X1 x g b s1 b1 k r i 0 (by omega) 6 _ e _ (by show e.val = 1280 * 0 + e.val; omega)) (num_eq c X2 k 0 (by omega) 10 _ e d _ (by show e.val = 1280 * 0 + e.val; omega)))
    (Finset.sum_congr rfl fun e _ => congrArg₂ (· * ·) (hid_eq c X1 x g b s1 b1 k r i 1 (by omega) 7 _ e _ rfl) (num_eq c X2 k 1 (by omega) 11 _ e d _ rfl))
theorem acc3F_at (d : Fin 1280) : acc3F c X1 X2 g b s1 b1 k (inF x k r) (ix2 (⟨i.val, by omega⟩ : Fin 16) d)
    = (∑ e : Fin 1280, trm c X1 X2 x g b s1 b1 k i d ⟨e.val, by omega⟩) + (∑ e : Fin 1280, trm c X1 X2 x g b s1 b1 k i d ⟨1280 + e.val, by omega⟩)
      + ∑ e : Fin 1280, trm c X1 X2 x g b s1 b1 k i d ⟨2560 + e.val, by omega⟩ := by
  unfold acc3F
  refine (acc3_at _ _ _ _ _ _ _ d).trans ?_
  exact congrArg₂ (· + ·) (acc2F_at c X1 X2 x g b s1 b1 k r i d)
    (Finset.sum_congr rfl fun e _ => congrArg₂ (· * ·) (hid_eq c X1 x g b s1 b1 k r i 2 (by omega) 8 _ e _ rfl) (num_eq c X2 k 2 (by omega) 12 _ e d _ rfl))

/-- What a trip stores, entry by entry: the layer's rows. -/
theorem layF_at (d : Fin 1280) : layF c X1 X2 g b s1 b1 s2 b2 k (inF x k r) (ix3 (0 : Fin 1) i d)
    = lay (fun e => x (ix3 (ly k) i e)) (fun e => g (ix2 (ly k) e)) (fun e => b (ix2 (ly k) e)) (fun j e => X1 (ix3 (ly k) j e)) (fun e => s1 (ix2 (ly k) e)) (fun e => b1 (ix2 (ly k) e))
        (fun e j => X2 (ix3 (ly k) e j)) (fun e => s2 (ix2 (ly k) e)) (fun e => b2 (ix2 (ly k) e)) d := by
  have hs : acc3F c X1 X2 g b s1 b1 k (inF x k r) (ix2 (⟨i.val, by omega⟩ : Fin 16) d)
      + (∑ e : Fin 1280, hid4F c X1 g b s1 b1 k (inF x k r) (ix2 (⟨i.val, by omega⟩ : Fin 16) e) * num (landV c (w2p k.val 3) X2 RS13 13 (ix3 (0 : Fin 1) e d)))
      = ∑ e : Fin 5120, trm c X1 X2 x g b s1 b1 k i d e := by
    rw [sum_chunks, acc3F_at c X1 X2 x g b s1 b1 k r i d]
    refine congrArg₂ (· + ·) rfl (Finset.sum_congr rfl fun e _ => congrArg₂ (· * ·) ?_ (num_eq c X2 k 3 (by omega) 13 _ e d _ rfl))
    unfold hid4F
    exact (hid4_at _ _ _ _ _ e).trans (hid_eq c X1 x g b s1 b1 k r i 3 (by omega) 9 _ e _ rfl)
  unfold layF
  refine (pay3_at _ _ _ _ _ _ i d).trans ?_
  exact congrArg₂ (· + ·) (inF_at x k r i d) (congrArg₂ (· + ·) (congrArg₂ (· * ·) hs (congrArg s2 (R2_ix k d))) (congrArg b2 (R2_ix k d)))

/-- The block the body leaves, entry by entry. -/
theorem outF_at (l : Fin 4) (d : Fin 1280) : outF c X1 X2 x g b s1 b1 s2 b2 (ix3 l i d)
    = lay (fun e => x (ix3 l i e)) (fun e => g (ix2 l e)) (fun e => b (ix2 l e)) (fun j e => X1 (ix3 l j e)) (fun e => s1 (ix2 l e)) (fun e => b1 (ix2 l e))
        (fun e j => X2 (ix3 l e j)) (fun e => s2 (ix2 l e)) (fun e => b2 (ix2 l e)) d := by
  unfold outF outK
  exact layF_at c X1 X2 x g b s1 b1 s2 b2 ⟨l.val, lt_of_lt_of_eq l.isLt trips_eq.symm⟩ _ i d
end Pure

variable (m : (ℓ : Loc nD τ sig) → Buf (Elt Ideal) ℓ)

theorem V_v0 (c : Dev nD) : V m c main_v0 = shapeCast S4x10x1280 (m ((c : Thread nD τ).loc main_arg0)) shapeCasts_S4x2x5x1x1280_S4x10x1280 := by
  show StableHlo.after _ _ (Proc.devRef .tc main_v0) = _
  after_reads_simp
  rfl

/-- The result, entry by entry over the arguments. -/
theorem resAt_at (c : Dev nD) (l : Fin 4) (i : Fin 10) (d : Fin 1280) :
    resAt (F := Ideal) m c t0_0 (ix3 l i d)
      = lay (fun e => shapeCast S4x10x1280 (m ((c : Thread nD τ).loc main_arg0)) shapeCasts_S4x2x5x1x1280_S4x10x1280 (ix3 l i e))
          (fun e => m ((c : Thread nD τ).loc main_arg1) (ix2 l e)) (fun e => m ((c : Thread nD τ).loc main_arg2) (ix2 l e))
          (fun j e => m ((c : Thread nD τ).loc main_arg3) (ix3 l j e)) (fun e => m ((c : Thread nD τ).loc main_arg4) (ix2 l e)) (fun e => m ((c : Thread nD τ).loc main_arg5) (ix2 l e))
          (fun e j => m ((c : Thread nD τ).loc main_arg6) (ix3 l e j)) (fun e => m ((c : Thread nD τ).loc main_arg7) (ix2 l e)) (fun e => m ((c : Thread nD τ).loc main_arg8) (ix2 l e)) d := by
  unfold resAt
  rw [iblk_eq0, iblk_eq1, iblk_eq2, iblk_eq3, iblk_eq4, iblk_eq5, iblk_eq6]
  refine (outF_at c _ _ _ _ _ _ _ _ _ i l d).trans ?_
  rw [V_v0, V_main_arg1, V_main_arg2, V_main_arg3, V_main_arg4, V_main_arg5, V_main_arg6, V_main_arg7, V_main_arg8]

end Cert.Mlp.Ring

end
-- ==== Proof.MpI.Ref.lean ====
/-
  What the reference leaves in its result over the extended reals, entry by entry.
-/
module

public import proofs.«01_k».proof.Proof.Gen.MlpRefIdeal.Value
public import proofs.«01_k».proof.Proof.MpI.Pure
public import Idealize.ShloMosaic.Lib.Pipeline.ValueKit.Tiles
public import Idealize.ShloMosaic.Lib.ValueLayout
public import Idealize.ShloMosaic.Lib.StableHlo.RunRead

@[expose] public section

set_option maxRecDepth 16384

noncomputable section

namespace Cert.MlpRefIdeal.Ref

open Cert.MlpRefIdeal Cert.MlpRefIdeal.Gen Cert.MlpPure
open Idealize.ShloMosaic hiding ix1 ix2 ix3
open Idealize.ShloMosaic.TcCoe Idealize.ShloMosaic.ValueIdx
open Idealize.ShloMosaic.Pipeline (Dat Cfg Window)

abbrev t0 : Fin cfg0.N := ⟨0, by decide⟩

section Slabs
variable (x0 : Vec Ideal S4x10x1280 .f32) (x1 x2 : Vec Ideal S4x1280 .f32) (x3 : Vec Ideal S4x1280x5120 .i8) (x4 x5 : Vec Ideal S4x5120 .f32) (x6 : Vec Ideal S4x5120x1280 .i8) (x7 x8 : Vec Ideal S4x1280 .f32)

/-- Every layer's rows. -/
def all : Vec Ideal S4x10x1280 .f32 := fun y =>
  lay (fun e => x0 (ix3 (y 0) (y 1) e)) (fun e => x1 (ix2 (y 0) e)) (fun e => x2 (ix2 (y 0) e)) (fun j e => x3 (ix3 (y 0) j e)) (fun e => x4 (ix2 (y 0) e)) (fun e => x5 (ix2 (y 0) e))
    (fun e j => x6 (ix3 (y 0) e j)) (fun e => x7 (ix2 (y 0) e)) (fun e => x8 (ix2 (y 0) e)) (y 2)

theorem off2 (l : ℕ) (l' : Fin 4) (hl : l'.val = l) {n : ℕ} (e : Fin n) : ∀ q : Fin 2, ((ix2 l' e) q : Nat) = (![l, 0] : Fin 2 → ℕ) q + ((ix2 (0 : Fin 1) e) q : Nat) := by
  intro q
  match q with
  | ⟨0, _⟩ => show l'.val = l + 0; omega
  | ⟨1, _⟩ => show e.val = 0 + e.val; omega
theorem off3 (l : ℕ) (l' : Fin 4) (hl : l'.val = l) {n k : ℕ} (i : Fin n) (e : Fin k) : ∀ q : Fin 3, ((ix3 l' i e) q : Nat) = (![l, 0, 0] : Fin 3 → ℕ) q + ((ix3 (0 : Fin 1) i e) q : Nat) := by
  intro q
  match q with
  | ⟨0, _⟩ => show l'.val = l + 0; omega
  | ⟨1, _⟩ => show i.val = 0 + i.val; omega
  | ⟨2, _⟩ => show e.val = 0 + e.val; omega

/-- A layer's payload, from the layer's rows of the arguments, holds the layer's rows. -/
theorem slab (l : ℕ) (h0 h1 h2 h3 h4) (y : S4x10x1280.Idx) :
    View.RectAt (Val := Elt Ideal) (e := .f32) y (Rect.unit (s := S4x10x1280) ![l, 0, 0] S1x10x1280.size h0)
      (k0_pay4 (F := Ideal) (k0_pay2 (View.ld x0 (Rect.unit (s := S4x10x1280) ![l, 0, 0] S1x10x1280.size h0)) (View.ld x0 (Rect.unit (s := S4x10x1280) ![l, 0, 0] S1x10x1280.size h0))
          (View.ld x1 (Rect.unit (s := S4x1280) ![l, 0] S1x1280.size h1)) (View.ld x2 (Rect.unit (s := S4x1280) ![l, 0] S1x1280.size h1)) (View.ld x3 (Rect.unit (s := S4x1280x5120) ![l, 0, 0] S1x1280x5120.size h2)))
        (k0_pay3 (View.ld x4 (Rect.unit (s := S4x5120) ![l, 0] S1x5120.size h3))) (View.ld x5 (Rect.unit (s := S4x5120) ![l, 0] S1x5120.size h3))
        (View.ld x0 (Rect.unit (s := S4x10x1280) ![l, 0, 0] S1x10x1280.size h0)) (View.ld x6 (Rect.unit (s := S4x5120x1280) ![l, 0, 0] S1x5120x1280.size h4))
        (View.ld x7 (Rect.unit (s := S4x1280) ![l, 0] S1x1280.size h1)) (View.ld x8 (Rect.unit (s := S4x1280) ![l, 0] S1x1280.size h1)))
      (all x0 x1 x2 x3 x4 x5 x6 x7 x8 y) := by
  intro z hz
  have hl : l + 1 ≤ 4 := h0 0
  have z0 : (z 0).val = 0 := by have h : (z 0).val < 1 := (z 0).isLt; omega
  have ez : z = ix3 (n0 := 1) (n1 := 10) (n2 := 1280) 0 (z 1) (z 2) := by
    funext a; apply Fin.ext
    match a with
    | ⟨0, _⟩ => exact z0
    | ⟨1, _⟩ => rfl
    | ⟨2, _⟩ => rfl
  have y0 : (y 0).val = l := by rw [← hz]; show l + 1 * (z 0).val = l; omega
  have y1 : y 1 = z 1 := by rw [← hz]; apply Fin.ext; show 0 + 1 * (z 1).val = (z 1).val; omega
  have y2 : y 2 = z 2 := by rw [← hz]; apply Fin.ext; show 0 + 1 * (z 2).val = (z 2).val; omega
  rw [ez]
  refine (ref_at _ _ _ _ _ _ _ _ _ (z 1) (z 2)).trans ?_
  unfold all
  rw [y1, y2]
  refine congr (congr (congr (congr (congr (congr (congr (congr (congr (congrArg lay ?_) ?_) ?_) ?_) ?_) ?_) ?_) ?_) ?_) rfl
  · exact funext fun e => View.ld_unit_apply_of x0 _ _ _ _ _ (off3 l (y 0) y0 (z 1) e)
  · exact funext fun e => View.ld_unit_apply_of x1 _ _ _ _ _ (off2 l (y 0) y0 e)
  · exact funext fun e => View.ld_unit_apply_of x2 _ _ _ _ _ (off2 l (y 0) y0 e)
  · exact funext fun j => funext fun e => View.ld_unit_apply_of x3 _ _ _ _ _ (off3 l (y 0) y0 j e)
  · exact funext fun e => View.ld_unit_apply_of x4 _ _ _ _ _ (off2 l (y 0) y0 e)
  · exact funext fun e => View.ld_unit_apply_of x5 _ _ _ _ _ (off2 l (y 0) y0 e)
  · exact funext fun e => funext fun j => View.ld_unit_apply_of x6 _ _ _ _ _ (off3 l (y 0) y0 e j)
  · exact funext fun e => View.ld_unit_apply_of x7 _ _ _ _ _ (off2 l (y 0) y0 e)
  · exact funext fun e => View.ld_unit_apply_of x8 _ _ _ _ _ (off2 l (y 0) y0 e)

/-- What the body stores is every layer's rows. -/
theorem out_eq : out0_9 (F := Ideal) x0 x1 x2 x3 x4 x5 x6 x7 x8 = all x0 x1 x2 x3 x4 x5 x6 x7 x8 := by
  funext y
  unfold_out out0_9
  refine View.canon_eq_of_allAt _ y _ (cover0_9 _ _ _ _ y) ?_
  refine View.allAt_cons _ _ _ ?_ (View.allAt_cons _ _ _ ?_ (View.allAt_cons _ _ _ ?_ (View.allAt_cons _ _ _ ?_ (View.allAt_nil _ _))))
  · exact slab x0 x1 x2 x3 x4 x5 x6 x7 x8 3 _ _ _ _ _ y
  · exact slab x0 x1 x2 x3 x4 x5 x6 x7 x8 2 _ _ _ _ _ y
  · exact slab x0 x1 x2 x3 x4 x5 x6 x7 x8 1 _ _ _ _ _ y
  · exact slab x0 x1 x2 x3 x4 x5 x6 x7 x8 0 _ _ _ _ _ y
end Slabs

variable {F : FTy → Type} [FloatOps F]
variable (m : (ℓ : Loc nD τ sig) → Buf (Elt F) ℓ) (c : Dev nD)

/-- The windows are whole arrays: a block's index is placed at itself. -/
theorem idx_facts : ∀ t : Fin cfg0.N, win0_0.index t (0 : Fin 3) = 0 ∧ win0_0.index t (1 : Fin 3) = 0 ∧ win0_0.index t (2 : Fin 3) = 0 ∧ win0_1.index t (0 : Fin 2) = 0 ∧ win0_1.index t (1 : Fin 2) = 0 ∧ win0_2.index t (0 : Fin 2) = 0 ∧ win0_2.index t (1 : Fin 2) = 0 ∧ win0_3.index t (0 : Fin 3) = 0 ∧ win0_3.index t (1 : Fin 3) = 0 ∧ win0_3.index t (2 : Fin 3) = 0 ∧ win0_4.index t (0 : Fin 2) = 0 ∧ win0_4.index t (1 : Fin 2) = 0 ∧ win0_5.index t (0 : Fin 2) = 0 ∧ win0_5.index t (1 : Fin 2) = 0 ∧ win0_6.index t (0 : Fin 3) = 0 ∧ win0_6.index t (1 : Fin 3) = 0 ∧ win0_6.index t (2 : Fin 3) = 0 ∧ win0_7.index t (0 : Fin 2) = 0 ∧ win0_7.index t (1 : Fin 2) = 0 ∧ win0_8.index t (0 : Fin 2) = 0 ∧ win0_8.index t (1 : Fin 2) = 0 ∧ win0_9.index t (0 : Fin 3) = 0 ∧ win0_9.index t (1 : Fin 3) = 0 ∧ win0_9.index t (2 : Fin 3) = 0 :=
  (by decide +kernel : ∀ t : Fin grid0.N, _)

theorem emb0 (y : S4x10x1280.Idx) : ((cfg0.win 0).blk t0).view.emb y = y := by
  obtain ⟨e0, e1, e2, _, _, _, _, _, _, _, _, _, _, _, _, _, _, _, _, _, _, _, _, _⟩ := idx_facts t0
  funext a; apply Fin.ext
  match a with
  | ⟨0, _⟩ => show win0_0.index t0 (0 : Fin 3) * 4 + 1 * (y 0).val = (y 0).val; omega
  | ⟨1, _⟩ => show win0_0.index t0 (1 : Fin 3) * 10 + 1 * (y 1).val = (y 1).val; omega
  | ⟨2, _⟩ => show win0_0.index t0 (2 : Fin 3) * 1280 + 1 * (y 2).val = (y 2).val; omega
theorem iblk_eq0 : iblk m c 0 t0 = V m c main_v0 := by
  funext y; show V m c main_v0 (((cfg0.win 0).blk t0).view.emb y) = V m c main_v0 y; rw [emb0]

theorem emb1 (y : S4x1280.Idx) : ((cfg0.win 1).blk t0).view.emb y = y := by
  obtain ⟨_, _, _, e0, e1, _, _, _, _, _, _, _, _, _, _, _, _, _, _, _, _, _, _, _⟩ := idx_facts t0
  funext a; apply Fin.ext
  match a with
  | ⟨0, _⟩ => show win0_1.index t0 (0 : Fin 2) * 4 + 1 * (y 0).val = (y 0).val; omega
  | ⟨1, _⟩ => show win0_1.index t0 (1 : Fin 2) * 1280 + 1 * (y 1).val = (y 1).val; omega
theorem iblk_eq1 : iblk m c 1 t0 = V m c main_arg1 := by
  funext y; show V m c main_arg1 (((cfg0.win 1).blk t0).view.emb y) = V m c main_arg1 y; rw [emb1]

theorem emb2 (y : S4x1280.Idx) : ((cfg0.win 2).blk t0).view.emb y = y := by
  obtain ⟨_, _, _, _, _, e0, e1, _, _, _, _, _, _, _, _, _, _, _, _, _, _, _, _, _⟩ := idx_facts t0
  funext a; apply Fin.ext
  match a with
  | ⟨0, _⟩ => show win0_2.index t0 (0 : Fin 2) * 4 + 1 * (y 0).val = (y 0).val; omega
  | ⟨1, _⟩ => show win0_2.index t0 (1 : Fin 2) * 1280 + 1 * (y 1).val = (y 1).val; omega
theorem iblk_eq2 : iblk m c 2 t0 = V m c main_arg2 := by
  funext y; show V m c main_arg2 (((cfg0.win 2).blk t0).view.emb y) = V m c main_arg2 y; rw [emb2]

theorem emb3 (y : S4x1280x5120.Idx) : ((cfg0.win 3).blk t0).view.emb y = y := by
  obtain ⟨_, _, _, _, _, _, _, e0, e1, e2, _, _, _, _, _, _, _, _, _, _, _, _, _, _⟩ := idx_facts t0
  funext a; apply Fin.ext
  match a with
  | ⟨0, _⟩ => show win0_3.index t0 (0 : Fin 3) * 4 + 1 * (y 0).val = (y 0).val; omega
  | ⟨1, _⟩ => show win0_3.index t0 (1 : Fin 3) * 1280 + 1 * (y 1).val = (y 1).val; omega
  | ⟨2, _⟩ => show win0_3.index t0 (2 : Fin 3) * 5120 + 1 * (y 2).val = (y 2).val; omega
theorem iblk_eq3 : iblk m c 3 t0 = V m c main_arg3 := by
  funext y; show V m c main_arg3 (((cfg0.win 3).blk t0).view.emb y) = V m c main_arg3 y; rw [emb3]

theorem emb4 (y : S4x5120.Idx) : ((cfg0.win 4).blk t0).view.emb y = y := by
  obtain ⟨_, _, _, _, _, _, _, _, _, _, e0, e1, _, _, _, _, _, _, _, _, _, _, _, _⟩ := idx_facts t0
  funext a; apply Fin.ext
  match a with
  | ⟨0, _⟩ => show win0_4.index t0 (0 : Fin 2) * 4 + 1 * (y 0).val = (y 0).val; omega
  | ⟨1, _⟩ => show win0_4.index t0 (1 : Fin 2) * 5120 + 1 * (y 1).val = (y 1).val; omega
theorem iblk_eq4 : iblk m c 4 t0 = V m c main_arg4 := by
  funext y; show V m c main_arg4 (((cfg0.win 4).blk t0).view.emb y) = V m c main_arg4 y; rw [emb4]

theorem emb5 (y : S4x5120.Idx) : ((cfg0.win 5).blk t0).view.emb y = y := by
  obtain ⟨_, _, _, _, _, _, _, _, _, _, _, _, e0, e1, _, _, _, _, _, _, _, _, _, _⟩ := idx_facts t0
  funext a; apply Fin.ext
  match a with
  | ⟨0, _⟩ => show win0_5.index t0 (0 : Fin 2) * 4 + 1 * (y 0).val = (y 0).val; omega
  | ⟨1, _⟩ => show win0_5.index t0 (1 : Fin 2) * 5120 + 1 * (y 1).val = (y 1).val; omega
theorem iblk_eq5 : iblk m c 5 t0 = V m c main_arg5 := by
  funext y; show V m c main_arg5 (((cfg0.win 5).blk t0).view.emb y) = V m c main_arg5 y; rw [emb5]

theorem emb6 (y : S4x5120x1280.Idx) : ((cfg0.win 6).blk t0).view.emb y = y := by
  obtain ⟨_, _, _, _, _, _, _, _, _, _, _, _, _, _, e0, e1, e2, _, _, _, _, _, _, _⟩ := idx_facts t0
  funext a; apply Fin.ext
  match a with
  | ⟨0, _⟩ => show win0_6.index t0 (0 : Fin 3) * 4 + 1 * (y 0).val = (y 0).val; omega
  | ⟨1, _⟩ => show win0_6.index t0 (1 : Fin 3) * 5120 + 1 * (y 1).val = (y 1).val; omega
  | ⟨2, _⟩ => show win0_6.index t0 (2 : Fin 3) * 1280 + 1 * (y 2).val = (y 2).val; omega
theorem iblk_eq6 : iblk m c 6 t0 = V m c main_arg6 := by
  funext y; show V m c main_arg6 (((cfg0.win 6).blk t0).view.emb y) = V m c main_arg6 y; rw [emb6]

theorem emb7 (y : S4x1280.Idx) : ((cfg0.win 7).blk t0).view.emb y = y := by
  obtain ⟨_, _, _, _, _, _, _, _, _, _, _, _, _, _, _, _, _, e0, e1, _, _, _, _, _⟩ := idx_facts t0
  funext a; apply Fin.ext
  match a with
  | ⟨0, _⟩ => show win0_7.index t0 (0 : Fin 2) * 4 + 1 * (y 0).val = (y 0).val; omega
  | ⟨1, _⟩ => show win0_7.index t0 (1 : Fin 2) * 1280 + 1 * (y 1).val = (y 1).val; omega
theorem iblk_eq7 : iblk m c 7 t0 = V m c main_arg7 := by
  funext y; show V m c main_arg7 (((cfg0.win 7).blk t0).view.emb y) = V m c main_arg7 y; rw [emb7]

theorem emb8 (y : S4x1280.Idx) : ((cfg0.win 8).blk t0).view.emb y = y := by
  obtain ⟨_, _, _, _, _, _, _, _, _, _, _, _, _, _, _, _, _, _, _, e0, e1, _, _, _⟩ := idx_facts t0
  funext a; apply Fin.ext
  match a with
  | ⟨0, _⟩ => show win0_8.index t0 (0 : Fin 2) * 4 + 1 * (y 0).val = (y 0).val; omega
  | ⟨1, _⟩ => show win0_8.index t0 (1 : Fin 2) * 1280 + 1 * (y 1).val = (y 1).val; omega
theorem iblk_eq8 : iblk m c 8 t0 = V m c main_arg8 := by
  funext y; show V m c main_arg8 (((cfg0.win 8).blk t0).view.emb y) = V m c main_arg8 y; rw [emb8]

theorem emb9 (y : S4x10x1280.Idx) : ((cfg0.win 9).blk t0).view.emb y = y := by
  obtain ⟨_, _, _, _, _, _, _, _, _, _, _, _, _, _, _, _, _, _, _, _, _, e0, e1, e2⟩ := idx_facts t0
  funext a; apply Fin.ext
  match a with
  | ⟨0, _⟩ => show win0_9.index t0 (0 : Fin 3) * 4 + 1 * (y 0).val = (y 0).val; omega
  | ⟨1, _⟩ => show win0_9.index t0 (1 : Fin 3) * 10 + 1 * (y 1).val = (y 1).val; omega
  | ⟨2, _⟩ => show win0_9.index t0 (2 : Fin 3) * 1280 + 1 * (y 2).val = (y 2).val; omega

theorem V_v0 : V m c main_v0 = shapeCast S4x10x1280 (m ((c : Thread nD τ).loc main_arg0)) shapeCasts_S4x2x5x1x1280_S4x10x1280 := by
  show StableHlo.after _ _ (Proc.devRef .tc main_v0) = _
  after_reads_simp
  rfl

/-- The array after the run. -/
theorem final_eq (m : (ℓ : Loc nD τ sig) → Buf (Elt Ideal) ℓ) : (dats m 0 c).arrAt 9 cfg0.N = all (V m c main_v0) (V m c main_arg1) (V m c main_arg2) (V m c main_arg3) (V m c main_arg4) (V m c main_arg5) (V m c main_arg6) (V m c main_arg7) (V m c main_arg8) := by
  have h := Cert.MlpRefIdeal.Value.blocks9 m c t0 rfl
  rw [Cert.MlpRefIdeal.Value.flushed9, iblk_eq0, iblk_eq1, iblk_eq2, iblk_eq3, iblk_eq4, iblk_eq5, iblk_eq6, iblk_eq7, iblk_eq8, out_eq] at h
  generalize (dats m 0 c).arrAt 9 cfg0.N = A at h ⊢
  generalize all (V m c main_v0) (V m c main_arg1) (V m c main_arg2) (V m c main_arg3) (V m c main_arg4) (V m c main_arg5) (V m c main_arg6) (V m c main_arg7) (V m c main_arg8) = B at h ⊢
  funext y
  have hy : A (((cfg0.win 9).blk t0).view.emb y) = B y := congrFun h y
  rw [emb9] at hy
  exact hy

/-- The result, entry by entry over the arguments. -/
theorem final_at (m : (ℓ : Loc nD τ sig) → Buf (Elt Ideal) ℓ) (l : Fin 4) (i : Fin 10) (d : Fin 1280) :
    (dats m 0 c).arrAt 9 cfg0.N (ix3 l i d)
      = lay (fun e => shapeCast S4x10x1280 (m ((c : Thread nD τ).loc main_arg0)) shapeCasts_S4x2x5x1x1280_S4x10x1280 (ix3 l i e))
          (fun e => m ((c : Thread nD τ).loc main_arg1) (ix2 l e)) (fun e => m ((c : Thread nD τ).loc main_arg2) (ix2 l e))
          (fun j e => m ((c : Thread nD τ).loc main_arg3) (ix3 l j e)) (fun e => m ((c : Thread nD τ).loc main_arg4) (ix2 l e)) (fun e => m ((c : Thread nD τ).loc main_arg5) (ix2 l e))
          (fun e j => m ((c : Thread nD τ).loc main_arg6) (ix3 l e j)) (fun e => m ((c : Thread nD τ).loc main_arg7) (ix2 l e)) (fun e => m ((c : Thread nD τ).loc main_arg8) (ix2 l e)) d := by
  refine (congrFun (final_eq c m) (ix3 l i d)).trans ?_
  unfold all
  rw [V_v0, V_main_arg1, V_main_arg2, V_main_arg3, V_main_arg4, V_main_arg5, V_main_arg6, V_main_arg7, V_main_arg8]

end Cert.MlpRefIdeal.Ref

end
-- ==== Proof.Kv.Names.lean ====
/-
  The names the body of the key and value projections goes by: slot `n` of the ring (`rslot n`, `n` read modulo 22), its DMA
  semaphore (`csm n`), and the 1280 columns `1280 i` on of layer `l`'s weight (`w1p l i`).
  Every slice the printed body takes, at a literal or at a loop trip, is one of these (`@[sl_canon]` equations), so that one
  proof of a trip serves all trips.
-/
module

public import proofs.«01_k».proof.Proof.Gen.Kv.Launch
public import proofs.«01_k».proof.Proof.Gen.Kv.Skeleton
public import proofs.«01_k».proof.Proof.Gen.Kv.Loops
public import proofs.«01_k».proof.Proof.Gen.Kv.Points
public import proofs.«01_k».proof.Proof.Gen.Kv.Frame
public import Idealize.ShloMosaic.Lib.Pipeline.FrameSuffix
public import Idealize.ShloMosaic.Lib.Ring
public import Idealize.ShloMosaic.Lib.Tactic

@[expose] public section

set_option maxRecDepth 16384

noncomputable section

namespace Cert.Kv.Ring

open Cert.Kv Cert.Kv.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev w1M : Memref sig .tc .hbm S4x1280x3840 .i8 := Memref.whole main_arg3
abbrev ringM : Memref sig .tc .vmem S22x1280x1280 .i8 := Memref.whole cc0_scratch0

abbrev slotOff (n : ℕ) : Fin 3 → ℕ := ![n % 22, 0, 0]
theorem slotOff_inb (n : ℕ) : ∀ a, slotOff n a + S1x1280x1280.size a ≤ S22x1280x1280.size a := by
  have h : n % 22 < 22 := Nat.mod_lt _ (by decide)
  intro a; fin_cases a
  · show n % 22 + 1 ≤ 22; omega
  · show 0 + 1280 ≤ 1280; omega
  · show 0 + 1280 ≤ 1280; omega
abbrev semOff (n : ℕ) : Fin 1 → ℕ := ![n % 22]
theorem semOff_inb (n : ℕ) : ∀ a, semOff n a + S1.size a ≤ S22.size a := by
  have h : n % 22 < 22 := Nat.mod_lt _ (by decide)
  intro a; fin_cases a; show n % 22 + 1 ≤ 22; omega
abbrev w1Off (l i : ℕ) : Fin 3 → ℕ := ![l % 4, 0, 1280 * (i % 3)]
theorem w1Off_inb (l i : ℕ) : ∀ a, w1Off l i a + S1x1280x1280.size a ≤ S4x1280x3840.size a := by
  have h : l % 4 < 4 := Nat.mod_lt _ (by decide)
  have h' : i % 3 < 3 := Nat.mod_lt _ (by decide)
  intro a; fin_cases a
  · show l % 4 + 1 ≤ 4; omega
  · show 0 + 1280 ≤ 1280; omega
  · show 1280 * (i % 3) + 1280 ≤ 3840; omega

/-- Slot `n` (modulo 22) of the ring. -/
def rslot (n : ℕ) : Memref sig .tc .vmem S1280x1280 .i8 :=
  (ringM.slice (Rect.unit (s := S22x1280x1280) (slotOff n) S1x1280x1280.size (slotOff_inb n)) (fun _ => rfl)).squeeze S1280x1280 squeezes_S1x1280x1280_S1280x1280
/-- Slot `n`'s DMA semaphore. -/
def csm (n : ℕ) : DmaSems sig S_ := (cc0_scratch2.slice (Rect.unit (s := S22) (semOff n) S1.size (semOff_inb n))).squeeze S_ squeezes_S1_S_
/-- Layer `l`'s weight, its 1280 columns from `1280 i` on. -/
def w1p (l i : ℕ) : Memref sig .tc .hbm S1280x1280 .i8 :=
  (w1M.slice (Rect.unit (s := S4x1280x3840) (w1Off l i) S1x1280x1280.size (w1Off_inb l i)) (fun _ => rfl)).squeeze S1280x1280 squeezes_S1x1280x1280_S1280x1280

instance (n : ℕ) : ClosedOff (slotOff n) := ⟨slotOff n, rfl⟩
instance (l i : ℕ) : ClosedOff (w1Off l i) := ⟨w1Off l i, rfl⟩

theorem csm_congr {off : Fin 1 → ℕ} {n : ℕ} (e : off = semOff n) (hh) :
    (cc0_scratch2.slice (Rect.unit (s := S22) off S1.size hh)).squeeze S_ squeezes_S1_S_ = csm n :=
  congrArg (fun A : DmaSems sig S1 => A.squeeze S_ squeezes_S1_S_) (SemArray.slice_unit_congr _ e _ _)
theorem rslot_congr {off : Fin 3 → ℕ} {n : ℕ} (e : off = slotOff n) (hh hs) :
    (ringM.slice (Rect.unit (s := S22x1280x1280) off S1x1280x1280.size hh) hs).squeeze S1280x1280 squeezes_S1x1280x1280_S1280x1280 = rslot n :=
  congrArg (fun M : Memref sig .tc .vmem S1x1280x1280 .i8 => M.squeeze S1280x1280 squeezes_S1x1280x1280_S1280x1280) (Memref.slice_unit_congr _ e _ _ _ _)
theorem w1p_congr {off : Fin 3 → ℕ} {l i : ℕ} (e : off = w1Off l i) (hh hs) :
    (w1M.slice (Rect.unit (s := S4x1280x3840) off S1x1280x1280.size hh) hs).squeeze S1280x1280 squeezes_S1x1280x1280_S1280x1280 = w1p l i :=
  congrArg (fun M : Memref sig .tc .hbm S1x1280x1280 .i8 => M.squeeze S1280x1280 squeezes_S1x1280x1280_S1280x1280) (Memref.slice_unit_congr _ e _ _ _ _)

/-- The literal slices: the ring's slots and semaphores, and layer 0's pieces. -/
@[sl_canon] theorem semL (n : ℕ) (hh) : (cc0_scratch2.slice (Rect.unit (s := S22) ![n] S1.size hh)).squeeze S_ squeezes_S1_S_ = csm n :=
  csm_congr (by have h : n + 1 ≤ 22 := hh 0; show ![n] = ![n % 22]; rw [Nat.mod_eq_of_lt (by omega)]) _
@[sl_canon] theorem slotL (n : ℕ) (hh hs) : (ringM.slice (Rect.unit (s := S22x1280x1280) ![n, 0, 0] S1x1280x1280.size hh) hs).squeeze S1280x1280 squeezes_S1x1280x1280_S1280x1280 = rslot n :=
  rslot_congr (by have h : n + 1 ≤ 22 := hh 0; show ![n, 0, 0] = ![n % 22, 0, 0]; rw [Nat.mod_eq_of_lt (by omega)]) _ _
theorem w1Off_zero (i o : ℕ) (ho : o = 1280 * (i % 3)) : ![0, 0, o] = w1Off 0 i := by subst ho; rfl
@[sl_canon] theorem w1L0 (hh hs) : (w1M.slice (Rect.unit (s := S4x1280x3840) ![0, 0, 0] S1x1280x1280.size hh) hs).squeeze S1280x1280 squeezes_S1x1280x1280_S1280x1280 = w1p 0 0 := w1p_congr (w1Off_zero 0 0 rfl) _ _
@[sl_canon] theorem w1L1 (hh hs) : (w1M.slice (Rect.unit (s := S4x1280x3840) ![0, 0, 1280] S1x1280x1280.size hh) hs).squeeze S1280x1280 squeezes_S1x1280x1280_S1280x1280 = w1p 0 1 := w1p_congr (w1Off_zero 1 1280 rfl) _ _
@[sl_canon] theorem w1L2 (hh hs) : (w1M.slice (Rect.unit (s := S4x1280x3840) ![0, 0, 2560] S1x1280x1280.size hh) hs).squeeze S1280x1280 squeezes_S1x1280x1280_S1280x1280 = w1p 0 2 := w1p_congr (w1Off_zero 2 2560 rfl) _ _

/-- A trip's slices: the next layer's pieces. -/
theorem w1Off_succ (k i o : ℕ) (hk : k + 1 + 1 ≤ 4) (ho : o = 1280 * (i % 3)) : ![k + 1, 0, o] = w1Off (k + 1) i := by
  subst ho; show ![k + 1, 0, _] = ![(k + 1) % 4, 0, _]; rw [Nat.mod_eq_of_lt (show k + 1 < 4 by omega)]
@[sl_canon] theorem w1K0 (k : Fin k0_t1_loop.trips) (hh hs) : (w1M.slice (Rect.unit (s := S4x1280x3840) (k0_off5 k) S1x1280x1280.size hh) hs).squeeze S1280x1280 squeezes_S1x1280x1280_S1280x1280 = w1p (k.val + 1) 0 :=
  w1p_congr ((k0_off5_eq k).trans (w1Off_succ k.val 0 _ (by have h := hh 0; rw [k0_off5_eq k] at h; exact h) rfl)) _ _
@[sl_canon] theorem w1K1 (k : Fin k0_t1_loop.trips) (hh hs) : (w1M.slice (Rect.unit (s := S4x1280x3840) (k0_off6 k) S1x1280x1280.size hh) hs).squeeze S1280x1280 squeezes_S1x1280x1280_S1280x1280 = w1p (k.val + 1) 1 :=
  w1p_congr ((k0_off6_eq k).trans (w1Off_succ k.val 1 _ (by have h := hh 0; rw [k0_off6_eq k] at h; exact h) rfl)) _ _
@[sl_canon] theorem w1K2 (k : Fin k0_t1_loop.trips) (hh hs) : (w1M.slice (Rect.unit (s := S4x1280x3840) (k0_off7 k) S1x1280x1280.size hh) hs).squeeze S1280x1280 squeezes_S1x1280x1280_S1280x1280 = w1p (k.val + 1) 2 :=
  w1p_congr ((k0_off7_eq k).trans (w1Off_succ k.val 2 _ (by have h := hh 0; rw [k0_off7_eq k] at h; exact h) rfl)) _ _

/-- The body's branch over the trip. -/
theorem cond1_iff : ∀ k : Fin k0_t1_loop.trips, k0_cond1 k = 1#1 ↔ k.val < 3 := by decide +kernel
theorem trips_eq : k0_t1_loop.trips = 4 := by decide +kernel

end Cert.Kv.Ring

end
-- ==== Proof.Kv.Quant.lean ====
/-
  The quantiser of the key and value projections, tile by tile: a tile of 128 lanes holds two heads, the lanes below 64 and
  those from 64 on. Its two maxima, their scales, its codes; then the codes of ten tiles side by side and the scales of
  twenty heads, a column each. What the body stores is these, of its keys and of its values.
-/
module

public import proofs.«01_k».proof.Proof.Gen.Kv.Skeleton

@[expose] public section

set_option maxRecDepth 65536

noncomputable section

namespace Cert.Kv.Ring

open Cert.Kv Cert.Kv.Gen
open Idealize.ShloMosaic

variable {F : FTy → Type} [FloatOps F]

abbrev zeroF : F .f32 := Scalar.ofBits .f32 0x00000000#32
/-- The lanes of a tile's second head, and the columns of the scales. -/
abbrev maskF : IVec S16x128 1 := k0_pay145
abbrev colsF : IVec S16x20 32 := iota .tc S16x20 32 [1] iota_S16x20_d1_w32

/-- Tile `t`: the 128 columns from `128 t` on. -/
theorem cut_slices : ∀ t : Fin 10, S16x1280.Slices ![0, 128 * t.val] S16x128 := by decide
def cutF (X : FVec F S16x1280 .f32) (t : Fin 10) : FVec F S16x128 .f32 := extractStridedSlice S16x128 ![0, 128 * t.val] X (cut_slices t)

section Tile
variable (m : IVec S16x128 1) (T : FVec F S16x128 .f32)
/-- The greatest magnitude over the first head's lanes, and over the second's. -/
def lowF : FVec F S16x1 .f32 :=
  shapeCast S16x1 (multiReduction .maximumf [1] S16 (select m (broadcast S16x128 zeroF) (absf T)) 0xFF800000#32 reduces_S16x128_S16 (.inl rfl) rfl) shapeCasts_S16_S16x1
def highF : FVec F S16x1 .f32 :=
  shapeCast S16x1 (multiReduction .maximumf [1] S16 (select m (absf T) (broadcast S16x128 zeroF)) 0xFF800000#32 reduces_S16x128_S16 (.inl rfl) rfl) shapeCasts_S16_S16x1
/-- The scale of a maximum. -/
def sclF (M : FVec F S16x1 .f32) : FVec F S16x1 .f32 :=
  select (cmpf .oeq M (broadcast S16x1 zeroF)) (broadcast S16x1 (Scalar.ofBits .f32 0x3F800000#32)) (divf M (broadcast S16x1 (Scalar.ofBits .f32 0x42FE0000#32)))
/-- The codes of a tile. -/
def codeF : FVec F S16x128 .f32 :=
  minimumf (broadcast S16x128 (Scalar.sitofp .f32 127#32)) (maximumf (broadcast S16x128 (Scalar.sitofp .f32 4294967169#32))
    (roundeven (divf T (select m
      (broadcastTo S16x128 (shapeCast S16x1 (sclF (highF m T)) shapeCasts_S16x1_S16x1) broadcasts_S16x1_S16x128)
      (broadcastTo S16x128 (shapeCast S16x1 (sclF (lowF m T)) shapeCasts_S16x1_S16x1) broadcasts_S16x1_S16x128)))))
end Tile

section All
variable (m : IVec S16x128 1) (X : FVec F S16x1280 .f32)
/-- The codes of the ten tiles side by side. -/
def codesF : FVec F S16x1280 .f32 :=
  concatenate S16x1280 1 [⟨S16x128, codeF m (cutF X 0)⟩, ⟨S16x128, codeF m (cutF X 1)⟩, ⟨S16x128, codeF m (cutF X 2)⟩, ⟨S16x128, codeF m (cutF X 3)⟩, ⟨S16x128, codeF m (cutF X 4)⟩, ⟨S16x128, codeF m (cutF X 5)⟩, ⟨S16x128, codeF m (cutF X 6)⟩, ⟨S16x128, codeF m (cutF X 7)⟩, ⟨S16x128, codeF m (cutF X 8)⟩, ⟨S16x128, codeF m (cutF X 9)⟩] concatenates_S16x128_S16x128_S16x128_S16x128_S16x128_S16x128_S16x128_S16x128_S16x128_S16x128_S16x1280_d1
/-- Head `n`'s scale: an even head is the first of its tile, an odd head the second. -/
def headF (n : ℕ) (hn : n < 20) : FVec F S16x1 .f32 :=
  match n % 2 with
  | 0 => sclF (lowF m (cutF X ⟨n / 2, by omega⟩))
  | _ => sclF (highF m (cutF X ⟨n / 2, by omega⟩))
/-- The scales of the first `n` heads, each in its column. -/
def sumF : (n : ℕ) → n ≤ 20 → FVec F S16x20 .f32
  | 0, _ => broadcast S16x20 zeroF
  | n + 1, hn => addf (sumF n (by omega)) (select (cmpi .eq colsF (broadcast S16x20 (BitVec.ofNat 32 n)))
      (broadcastTo S16x20 (shapeCast S16x1 (headF m X n (by omega)) shapeCasts_S16x1_S16x1) broadcasts_S16x1_S16x20) (broadcast S16x20 zeroF))
end All

/-- The ten rows of the codes, as stored, and the ten rows of the scales. -/
abbrev codes8 (X : FVec F S16x1280 .f32) : IVec S1x10x1280 8 := k0_pay129 (codesF maskF X)
abbrev scales8 (X : FVec F S16x1280 .f32) : FVec F S1x10x20 .f32 := k0_pay1 (sumF maskF X 20 le_rfl)

section Body
variable (h : FVec F S16x1280 .bf16) (sq : Vec F S1x3840 .f32) (w : Vec F S1x1280x1280 .i8) (bv : Vec F S1x1280 .f32)
/-- The keys' codes. -/
theorem kcodes_eq :
    (k0_pay129 (k0_pay67 k0_pay145 (k0_pay5 h sq w) (k0_pay11 k0_pay145 (k0_pay7 h sq w)) (k0_pay18 k0_pay145 (k0_pay12 (k0_pay5 h sq w)) (k0_pay14
      k0_pay145 (k0_pay5 h sq w)) (k0_pay15 k0_pay145 (k0_pay5 h sq w))) (k0_pay25 k0_pay145 (k0_pay19 (k0_pay5 h sq w)) (k0_pay21 k0_pay145 (k0_pay5
      h sq w)) (k0_pay22 k0_pay145 (k0_pay5 h sq w)) (k0_pay23 k0_pay145 (k0_pay5 h sq w)) (Scalar.ofBits .f32 0x42FE0000#32 : F .f32)) (k0_pay31
      (k0_pay30 k0_pay145 (k0_pay5 h sq w)) 4294967169#32) (k0_pay36 k0_pay145 (k0_pay5 h sq w)) (k0_pay42 k0_pay145 (k0_pay37 (k0_pay5 h sq w))
      (k0_pay38 (k0_pay5 h sq w)) (k0_pay39 k0_pay145 (k0_pay5 h sq w))) (k0_pay51 k0_pay145 (k0_pay43 (k0_pay5 h sq w)) (k0_pay45 k0_pay145 (k0_pay5
      h sq w)) (k0_pay46 k0_pay145 (k0_pay5 h sq w)) (k0_pay47 k0_pay145 (k0_pay5 h sq w)) k0_pay48) (k0_pay56 k0_pay145 (k0_pay52 (k0_pay5 h sq w))
      (k0_pay54 k0_pay145 (k0_pay5 h sq w)) (k0_pay55 k0_pay145 (k0_pay5 h sq w))) (k0_pay61 k0_pay145 (k0_pay5 h sq w)) k0_pay62))
      = codes8 (k0_pay5 h sq w) := rfl
/-- The values' codes. -/
theorem vcodes_eq :
    (k0_pay130 k0_pay145 (k0_pay74 k0_pay145 (k0_pay68 (k0_pay6 h sq w bv)) (k0_pay69 (k0_pay6 h sq w bv)) (k0_pay70 k0_pay145 (k0_pay6 h sq w bv))
      k0_pay71) (k0_pay80 k0_pay145 (k0_pay75 (k0_pay6 h sq w bv)) (k0_pay77 k0_pay145 (k0_pay6 h sq w bv)) (k0_pay78 k0_pay145 (k0_pay6 h sq w bv)))
      (k0_pay87 k0_pay145 (k0_pay81 (k0_pay6 h sq w bv)) (k0_pay85 k0_pay145 (k0_pay6 h sq w bv)) (k0_pay86 k0_pay145 (k0_pay6 h sq w bv))) (k0_pay92
      k0_pay145 (k0_pay6 h sq w bv)) (k0_pay97 k0_pay145 (k0_pay93 (k0_pay6 h sq w bv)) (k0_pay94 (k0_pay6 h sq w bv))) (k0_pay104 k0_pay145 (k0_pay98
      (k0_pay6 h sq w bv)) (k0_pay100 k0_pay145 (k0_pay6 h sq w bv)) (k0_pay101 k0_pay145 (k0_pay6 h sq w bv)) (Scalar.ofBits .f32 0x00000000#32 : F
      .f32)) (k0_pay112 k0_pay145 (k0_pay105 (k0_pay6 h sq w bv)) (k0_pay107 k0_pay145 (k0_pay6 h sq w bv)) (k0_pay108 k0_pay145 (k0_pay6 h sq w bv))
      (k0_pay109 k0_pay145 (k0_pay6 h sq w bv)) k0_pay110) (k0_pay118 (k0_pay117 k0_pay145 (k0_pay6 h sq w bv)) 4294967169#32 127#32) (k0_pay123
      k0_pay145 (k0_pay6 h sq w bv)) (k0_pay124 (k0_pay6 h sq w bv)) (k0_pay125 (k0_pay6 h sq w bv)) (k0_pay126 k0_pay145 (k0_pay6 h sq w bv)))
      = codes8 (k0_pay6 h sq w bv) := rfl
/-- The keys' scales. -/
theorem kscales_eq :
    (k0_pay1 (k0_pay138 (k0_pay136 colsF (k0_pay50 (k0_pay46 k0_pay145 (k0_pay5 h sq w))) (k0_pay54 k0_pay145 (k0_pay5 h sq w)) (k0_pay55 k0_pay145
      (k0_pay5 h sq w)) (k0_pay59 k0_pay145 (k0_pay5 h sq w)) (k0_pay60 k0_pay145 (k0_pay5 h sq w)) (k0_pay65 k0_pay145 (k0_pay5 h sq w)) (k0_pay134
      colsF (k0_pay29 k0_pay145 (k0_pay5 h sq w)) (k0_pay34 k0_pay145 (k0_pay5 h sq w)) (k0_pay35 k0_pay145 (k0_pay5 h sq w)) (k0_pay40 (k0_pay39
      k0_pay145 (k0_pay5 h sq w))) (k0_pay41 k0_pay145 (k0_pay38 (k0_pay5 h sq w))) (k0_pay49 (k0_pay45 k0_pay145 (k0_pay5 h sq w)) (k0_pay47
      k0_pay145 (k0_pay5 h sq w)) k0_pay48) (k0_pay131 colsF (k0_pay9 k0_pay145 (k0_pay7 h sq w)) (k0_pay10 k0_pay145 (k0_pay7 h sq w)) (k0_pay16
      (k0_pay14 k0_pay145 (k0_pay5 h sq w))) (k0_pay17 (k0_pay15 k0_pay145 (k0_pay5 h sq w))) (k0_pay22 k0_pay145 (k0_pay5 h sq w)) (k0_pay24
      (k0_pay21 k0_pay145 (k0_pay5 h sq w)) (k0_pay23 k0_pay145 (k0_pay5 h sq w)) (Scalar.ofBits .f32 0x42FE0000#32 : F .f32)) 0#32) (k0_pay132 colsF)
      (Scalar.ofBits .f32 0x00000000#32 : F .f32) (k0_pay133 (k0_pay28 k0_pay145 (k0_pay5 h sq w)))) k0_pay135) (k0_pay137 colsF (k0_pay66 k0_pay145
      (k0_pay5 h sq w)))))
      = scales8 (k0_pay5 h sq w) := rfl
/-- The values' scales. -/
theorem vscales_eq :
    (k0_pay2 (k0_pay142 colsF (k0_pay111 (k0_pay107 k0_pay145 (k0_pay6 h sq w bv)) (k0_pay109 k0_pay145 (k0_pay6 h sq w bv)) k0_pay110) (k0_pay115
      k0_pay145 (k0_pay6 h sq w bv)) (k0_pay116 k0_pay145 (k0_pay6 h sq w bv)) (k0_pay121 k0_pay145 (k0_pay6 h sq w bv)) (k0_pay122 k0_pay145 (k0_pay6
      h sq w bv)) (k0_pay127 (k0_pay126 k0_pay145 (k0_pay6 h sq w bv))) (k0_pay141 colsF (k0_pay90 k0_pay145 (k0_pay6 h sq w bv)) (k0_pay91 k0_pay145
      (k0_pay6 h sq w bv)) (k0_pay95 k0_pay145 (k0_pay94 (k0_pay6 h sq w bv))) (k0_pay96 k0_pay145 (k0_pay94 (k0_pay6 h sq w bv))) (k0_pay102
      (k0_pay100 k0_pay145 (k0_pay6 h sq w bv)) (Scalar.ofBits .f32 0x00000000#32 : F .f32)) (k0_pay103 (k0_pay101 k0_pay145 (k0_pay6 h sq w bv)))
      (k0_pay108 k0_pay145 (k0_pay6 h sq w bv)) (k0_pay139 colsF (k0_pay72 (k0_pay70 k0_pay145 (k0_pay6 h sq w bv))) (k0_pay73 k0_pay145 (k0_pay69
      (k0_pay6 h sq w bv)) k0_pay71) (k0_pay78 k0_pay145 (k0_pay6 h sq w bv)) (k0_pay79 (k0_pay77 k0_pay145 (k0_pay6 h sq w bv))) (k0_pay83 k0_pay145
      (k0_pay6 h sq w bv)) (k0_pay84 k0_pay145 (k0_pay6 h sq w bv))) (k0_pay140 colsF))) (k0_pay143 colsF) (Scalar.ofBits .f32 0x00000000#32 : F .f32)
      (k0_pay144 (k0_pay128 k0_pay145 (k0_pay125 (k0_pay6 h sq w bv)))))
      = scales8 (k0_pay6 h sq w bv) := rfl
end Body

end Cert.Kv.Ring

end
-- ==== Proof.Kv.State.lean ====
/-
  What one trip of the loop of the key and value projections holds, before and after: layer `k`. Before it the layer's three pieces of the weight are in
  flight into slots 0 to 2; it waits for them, computes the layer's keys and values, quantises them, stores their codes and
  scales, and issues the next layer's three pieces into the same slots.
-/
module

public import proofs.«01_k».proof.Proof.Kv.Names
public import proofs.«01_k».proof.Proof.Kv.Quant
public import Idealize.ShloMosaic.Lib.Pointwise.Index
public import Idealize.SL.BI.BigOpNat
public import Mathlib.Algebra.Order.Interval.Finset.Basic

@[expose] public section

set_option maxRecDepth 16384

noncomputable section

namespace Cert.Kv.Ring

open Cert.Kv Cert.Kv.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev 𝒱₀ : Variants := Variants.none

section Pieces
variable (c : Dev nD)

/-- What a slot of the ring may hold. -/
abbrev SB (n : ℕ) : Type := Buf (Elt F) ((rslot n).view.loc (c : Thread nD τ))
abbrev cellP (n : ℕ) : sProp 𝕄 := semVal ((c : Thread nD τ), SemLoc.dma (csm n).sem) 0
abbrev slotP (n : ℕ) (f : SB (F := F) c n) : sProp 𝕄 := (rslot n).view.loc (c : Thread nD τ) ↦[(rslot n).view.set]{fullShare} f
/-- Slot `n` free: held at anything, its semaphore at zero. -/
def freeP (n : ℕ) : sProp 𝕄 := iprop((∃ f, slotP c n f) ∗ cellP c n)

section One
variable (M : Memref sig .tc .hbm S1280x1280 .i8) (X : Buf (Elt F) (M.view.loc (c : Thread nD τ)))
/-- A piece of a weight at home. -/
abbrev homeP : sProp 𝕄 := M.view.loc (c : Thread nD τ) ↦[M.view.set]{fullShare} X
/-- The words of a piece. -/
abbrev payM : S1280x1280.Idx → Elt F .i8 := ReadAs.same.apply (M.view.read (Elt F) X)
/-- What the transfer of a piece leaves in slot `n`. -/
abbrev landed (n : ℕ) (f : SB (F := F) c n) : SB (F := F) c n := (rslot n).view.writes (Elt F) f [⟨Rect.whole S1280x1280, payM c M X⟩]
/-- A piece in flight into slot `n`. -/
abbrev flightR (n : ℕ) (f : SB (F := F) c n) : sProp 𝕄 :=
  Transfers.Flight countersEmb (c : Thread nD τ) (SemLoc.dma (csm n).sem) () 51200 iprop(slotP c n (landed c M X n f) ∗ homeP c M X)
/-- The same, over whatever the slot held. -/
def flightE (n : ℕ) : sProp 𝕄 := iprop(∃ f, flightR c M X n f)
theorem flight_intro (n : ℕ) (f : SB (F := F) c n) : flightR c M X n f ⊢ flightE c M X n := by
  unfold flightE
  iintro H
  iexists f
  iexact H
/-- A flight issued over what an earlier one left, as the run of a trip states it. -/
theorem flight_after (n : ℕ) (f : SB (F := F) c n) (w : S1280x1280.Idx → Elt F .i8) :
    Transfers.Flight countersEmb (c : Thread nD τ) (SemLoc.dma (csm n).sem) () 51200
          iprop(((rslot n).view.loc (c : Thread nD τ) ↦[(rslot n).view.set]{fullShare}
                  (rslot n).view.writes (Elt F) f [⟨Rect.whole S1280x1280, payM c M X⟩, ⟨Rect.whole S1280x1280, w⟩])
                ∗ homeP c M X) ⊢ flightE c M X n := by
  unfold flightE
  iintro H
  iexists (rslot n).view.writes (Elt F) f [⟨Rect.whole S1280x1280, w⟩]
  simp only [flightR, landed, slotP, View.writes]
  iexact H
/-- A slot as a trip reads it. -/
def landV (R : Rect S22x1280x1280) (n : ℕ) : R.shape.Idx → Elt F .i8 :=
  ringM.view.readAt (Elt F) R.toLoadRect (landed c M X n (rslot n).view.junk)
end One

variable (X1 : Buf (Elt F) (w1M.view.loc (c : Thread nD τ)))

/-- Layer `l`'s three pieces in flight. -/
def flightsP (l : ℕ) : sProp 𝕄 := iprop(flightE c (w1p l 0) X1 0 ∗ flightE c (w1p l 1) X1 1 ∗ flightE c (w1p l 2) X1 2)
/-- Layer `l`'s three pieces at home. -/
def homesP (l : ℕ) : sProp 𝕄 := iprop(homeP c (w1p l 0) X1 ∗ homeP c (w1p l 1) X1 ∗ homeP c (w1p l 2) X1)
theorem flightsP_eq (l : ℕ) : flightsP c X1 l = iprop(flightE c (w1p l 0) X1 0 ∗ flightE c (w1p l 1) X1 1 ∗ flightE c (w1p l 2) X1 2) := rfl
theorem flightsP_open (l : ℕ) : flightsP c X1 l = iprop((∃ f, flightR c (w1p l 0) X1 0 f) ∗ (∃ f, flightR c (w1p l 1) X1 1 f) ∗ (∃ f, flightR c (w1p l 2) X1 2 f)) := rfl
theorem homesP_eq (l : ℕ) : homesP c X1 l = iprop(homeP c (w1p l 0) X1 ∗ homeP c (w1p l 1) X1 ∗ homeP c (w1p l 2) X1) := rfl
/-- The three slots free. -/
def freesP : sProp 𝕄 := iprop(freeP c 0 ∗ freeP c 1 ∗ freeP c 2)
/-- The three slots before trip `k`. -/
def slotsP (k : ℕ) : sProp 𝕄 := if k < 4 then flightsP c X1 k else freesP c
/-- The layers at home before trip `k`: all but layer `k`. -/
def restP (k : ℕ) : sProp 𝕄 := iprop(bigSep (Finset.Ico 0 k) (homesP c X1) ∗ bigSep (Finset.Ico (k + 1) 4) (homesP c X1))
end Pieces

/-- The residual's rows, padded to 16. -/
abbrev rowM : Memref sig .tc .vmem S16x1280 .f32 := Memref.whole cc0_scratch1
abbrev R10 : Rect S16x1280 := Rect.unit (s := S16x1280) ![0, 0] S10x1280.size inb_S16x1280_S10x1280_0_0
abbrev R16 : Rect S16x1280 := Rect.unit (s := S16x1280) ![0, 0] S16x1280.size inb_S16x1280_S16x1280_0_0
/-- The rectangles a trip reads and writes: layer `k`'s rows of the residual, of the gains, of the scales. -/
abbrev R1 (k : Fin k0_t1_loop.trips) : Rect S4x10x1280 := Rect.unit (s := S4x10x1280) (k0_off1 k) S1x10x1280.size (k0_off1_inb k)
abbrev R2 (k : Fin k0_t1_loop.trips) : Rect S4x1280 := Rect.unit (s := S4x1280) (k0_off2 k) S1x1280.size (k0_off2_inb k)
abbrev R3 (k : Fin k0_t1_loop.trips) : Rect S4x3840 := Rect.unit (s := S4x3840) (k0_off3 k) S1x3840.size (k0_off3_inb k)
abbrev R4 (k : Fin k0_t1_loop.trips) : Rect S4x10x20 := Rect.unit (s := S4x10x20) (k0_off4 k) S1x10x20.size (k0_off4_inb k)
/-- The ring's slots a trip reads: the keys' columns and the values'. -/
abbrev RS1 : Rect S22x1280x1280 := Rect.unit (s := S22x1280x1280) ![1, 0, 0] S1x1280x1280.size inb_S22x1280x1280_S1x1280x1280_1_0_0
abbrev RS2 : Rect S22x1280x1280 := Rect.unit (s := S22x1280x1280) ![2, 0, 0] S1x1280x1280.size inb_S22x1280x1280_S1x1280x1280_2_0_0

section Pure
variable (c : Dev nD) (X1 : Buf (Elt F) (w1M.view.loc (c : Thread nD τ)))
variable (x : Vec F S4x10x1280 .f32) (g b : Vec F S4x1280 .f32) (sq : Vec F S4x3840 .f32) (bv : Vec F S4x1280 .f32)

/-- The 16 rows a layer works on: its ten rows of the residual above what the rows held before. -/
def rowsF (p : Vec F S10x1280 .f32) (r : Vec F S16x1280 .f32) : Vec F S16x1280 .f32 :=
  fun y => if h : (y 0).val < 10 then p (ix2 (n0 := 10) (n1 := 1280) ⟨(y 0).val, h⟩ (y 1)) else r y

variable (k : Fin k0_t1_loop.trips) (w : Vec F S16x1280 .f32)

/-- The normalised rows of layer `k`, their keys and their values. -/
def normF : FVec F S16x1280 .bf16 := k0_pay4 w (fun y => g ((R2 k).toLoadRect.idx y)) (fun y => b ((R2 k).toLoadRect.idx y))
def keyF : FVec F S16x1280 .f32 := k0_pay5 (normF g b k w) (fun y => sq ((R3 k).toLoadRect.idx y)) (landV c (w1p k.val 1) X1 RS1 1)
def valF : FVec F S16x1280 .f32 :=
  k0_pay6 (normF g b k w) (fun y => sq ((R3 k).toLoadRect.idx y)) (landV c (w1p k.val 2) X1 RS2 2) (fun y => bv ((R2 k).toLoadRect.idx y))

/-- The rows layer `k` works on, over what they held before. -/
def inF (r : Vec F S16x1280 .f32) : Vec F S16x1280 .f32 := rowsF (k0_pay3 (fun y => x ((R1 k).toLoadRect.idx y))) r
/-- The 16 rows before trip `n`: zeros before the first. -/
def stF : ℕ → Vec F S16x1280 .f32
  | 0 => k0_pay146
  | n + 1 => if h : n < k0_t1_loop.trips then inF x ⟨n, h⟩ (stF n) else stF n
theorem stF_succ : stF x (k.val + 1) = inF x k (stF x k.val) := by
  show (if h : k.val < k0_t1_loop.trips then _ else _) = _
  rw [dif_pos k.isLt]
/-- What trip `k` stores: the codes and the scales of the keys, of the values. -/
def kcK : IVec S1x10x1280 8 := codes8 (keyF c X1 g b sq k (inF x k (stF x k.val)))
def ksK : FVec F S1x10x20 .f32 := scales8 (keyF c X1 g b sq k (inF x k (stF x k.val)))
def vcK : IVec S1x10x1280 8 := codes8 (valF c X1 g b sq bv k (inF x k (stF x k.val)))
def vsK : FVec F S1x10x20 .f32 := scales8 (valF c X1 g b sq bv k (inF x k (stF x k.val)))
end Pure

/-- Reading the 16 rows after ten of them are stored. -/
theorem read_rows (c : Dev nD) (f : Buf (Elt F) (rowM.view.loc (c : Thread nD τ))) (p : Vec F S10x1280 .f32) :
    rowM.view.readAt (Elt F) R16.toLoadRect (rowM.view.writes (Elt F) f [⟨R10, p⟩]) = rowsF p (rowM.view.read (Elt F) f) := by
  funext y
  have hi : R16.toLoadRect.idx y = y := by
    funext a; apply Fin.ext
    refine a.cases ?_ (fun b => ?_)
    · show 0 + 1 * (y 0).val = (y 0).val; omega
    · obtain rfl : b = 0 := Subsingleton.elim _ _
      show 0 + 1 * (y 1).val = (y 1).val; omega
  show rowM.view.read (Elt F) (rowM.view.writes (Elt F) f [⟨R10, p⟩]) (R16.toLoadRect.idx y) = _
  rw [hi]
  unfold rowsF
  split
  · next h =>
    have he : y = R10.emb (ix2 (n0 := 10) (n1 := 1280) ⟨(y 0).val, h⟩ (y 1)) := by
      funext a; apply Fin.ext
      refine a.cases ?_ (fun b => ?_)
      · show (y 0).val = 0 + 1 * (y 0).val; omega
      · obtain rfl : b = 0 := Subsingleton.elim _ _
        show (y 1).val = 0 + 1 * (y 1).val; omega
    conv_lhs => rw [he]
    exact View.read_writes_cons_emb _ _ _ _ _ _
  · next h =>
    exact View.read_writes_cons_miss_of_axis _ _ _ _ _ 0 0 10 rfl rfl rfl (Or.inr (by omega))
/-- Reading them after all 16 are stored. -/
theorem read_all (c : Dev nD) (f : Buf (Elt F) (rowM.view.loc (c : Thread nD τ))) (w : Vec F S16x1280 .f32) (L) :
    rowM.view.read (Elt F) (rowM.view.writes (Elt F) f (⟨R16, w⟩ :: L)) = w := by
  funext y
  have he : y = R16.emb y := by
    funext a; apply Fin.ext
    refine a.cases ?_ (fun b => ?_)
    · show (y 0).val = 0 + 1 * (y 0).val; omega
    · obtain rfl : b = 0 := Subsingleton.elim _ _
      show (y 1).val = 0 + 1 * (y 1).val; omega
  conv_lhs => rw [he]
  exact View.read_writes_cons_emb _ _ _ _ _ _

/-- The 16 rows after ten of them are stored. -/
theorem read_rows' (c : Dev nD) (f : Buf (Elt F) (rowM.view.loc (c : Thread nD τ))) (p : Vec F S10x1280 .f32) :
    rowM.view.read (Elt F) (rowM.view.writes (Elt F) f [⟨R10, p⟩]) = rowsF p (rowM.view.read (Elt F) f) := by
  rw [← read_rows]
  funext y
  refine congrArg (rowM.view.read (Elt F) (rowM.view.writes (Elt F) f [⟨R10, p⟩])) ?_
  funext a; apply Fin.ext
  refine a.cases ?_ (fun b => ?_)
  · show (y 0).val = 0 + 1 * (y 0).val; omega
  · obtain rfl : b = 0 := Subsingleton.elim _ _
    show (y 1).val = 0 + 1 * (y 1).val; omega

/-- The layers before `k` are stored, of codes, -/
def DoneC (c : Dev nD) (M : Memref sig .tc .vmem S4x10x1280 .i8) (o : Fin k0_t1_loop.trips → IVec S1x10x1280 8) (k : ℕ) (fo : Buf (Elt F) (M.view.loc (c : Thread nD τ))) : Prop :=
  ∀ b : Fin k0_t1_loop.trips, b.val < k → ∀ x, M.view.read (Elt F) fo ((R1 b).emb x) = o b x
/-- and of scales. -/
def DoneS (c : Dev nD) (M : Memref sig .tc .vmem S4x10x20 .f32) (o : Fin k0_t1_loop.trips → FVec F S1x10x20 .f32) (k : ℕ) (fo : Buf (Elt F) (M.view.loc (c : Thread nD τ))) : Prop :=
  ∀ b : Fin k0_t1_loop.trips, b.val < k → ∀ x, M.view.read (Elt F) fo ((R4 b).emb x) = o b x
theorem DoneC.succ {c : Dev nD} {M : Memref sig .tc .vmem S4x10x1280 .i8} {o : Fin k0_t1_loop.trips → IVec S1x10x1280 8} (k : Fin k0_t1_loop.trips) {fo : Buf (Elt F) (M.view.loc (c : Thread nD τ))}
    (h : DoneC c M o k.val fo) (w : (R1 k).shape.Idx → Elt F .i8) (hw : w = o k) : DoneC c M o (k.val + 1) (M.view.writes (Elt F) fo [⟨R1 k, w⟩]) := by
  subst hw
  intro b hb x
  by_cases e : b = k
  · subst e; exact View.read_writes_cons_emb _ _ _ _ _ _
  · have hlt : b.val < k.val := by
      have : b.val ≠ k.val := fun h => e (Fin.ext h)
      omega
    refine (View.read_writes_cons_miss_of_axis _ _ _ _ _ 0 k.val 1 ?_ rfl rfl (Or.inl ?_)).trans (h b hlt x)
    · show k0_off1 k 0 = _; rw [k0_off1_eq k]; rfl
    · have hx : (x 0).val < 1 := (x 0).isLt
      show k0_off1 b 0 + 1 * (x 0).val < _
      rw [k0_off1_eq b]; show b.val + 1 * (x 0).val < _; omega
theorem DoneS.succ {c : Dev nD} {M : Memref sig .tc .vmem S4x10x20 .f32} {o : Fin k0_t1_loop.trips → FVec F S1x10x20 .f32} (k : Fin k0_t1_loop.trips) {fo : Buf (Elt F) (M.view.loc (c : Thread nD τ))}
    (h : DoneS c M o k.val fo) (w : (R4 k).shape.Idx → Elt F .f32) (hw : w = o k) : DoneS c M o (k.val + 1) (M.view.writes (Elt F) fo [⟨R4 k, w⟩]) := by
  subst hw
  intro b hb x
  by_cases e : b = k
  · subst e; exact View.read_writes_cons_emb _ _ _ _ _ _
  · have hlt : b.val < k.val := by
      have : b.val ≠ k.val := fun h => e (Fin.ext h)
      omega
    refine (View.read_writes_cons_miss_of_axis _ _ _ _ _ 0 k.val 1 ?_ rfl rfl (Or.inl ?_)).trans (h b hlt x)
    · show k0_off4 k 0 = _; rw [k0_off4_eq k]; rfl
    · have hx : (x 0).val < 1 := (x 0).isLt
      show k0_off4 b 0 + 1 * (x 0).val < _
      rw [k0_off4_eq b]; show b.val + 1 * (x 0).val < _; omega

section Trip
variable (c : Dev nD) (X1 : Buf (Elt F) (w1M.view.loc (c : Thread nD τ))) (i : grid0.Coords)
  (arg1 : Memref sig .tc .vmem S4x10x1280 .f32) (harg1 : arg1.IsWhole) (arg2 : Memref sig .tc .vmem S4x1280 .f32) (harg2 : arg2.IsWhole) (arg3 : Memref sig .tc .vmem S4x1280 .f32) (harg3 : arg3.IsWhole) (arg5 : Memref sig .tc .vmem S4x3840 .f32) (harg5 : arg5.IsWhole) (arg6 : Memref sig .tc .vmem S4x1280 .f32) (harg6 : arg6.IsWhole) (arg7 : Memref sig .tc .vmem S4x10x1280 .i8) (harg7 : arg7.IsWhole) (arg8 : Memref sig .tc .vmem S4x10x20 .f32) (harg8 : arg8.IsWhole) (arg9 : Memref sig .tc .vmem S4x10x1280 .i8) (harg9 : arg9.IsWhole) (arg10 : Memref sig .tc .vmem S4x10x20 .f32) (harg10 : arg10.IsWhole)

abbrev tripG (k : Fin k0_t1_loop.trips) : Prog (TpuEff nD τ sig (Elt F) Λ₀ .tc) Unit :=
  k0_t1_body (F := F) i arg1 harg1 arg2 harg2 arg3 harg3 w1M (Memref.isWhole_whole _) arg5 harg5 arg6 harg6 arg7 harg7 arg8 harg8 arg9 harg9 arg10 harg10 ringM (Memref.isWhole_whole _) rowM (Memref.isWhole_whole _) cc0_scratch2 k0_pay145 colsF 0#32 1#32 k ()

variable (g1 : Buf (Elt F) (arg1.view.loc (c : Thread nD τ))) (g2 : Buf (Elt F) (arg2.view.loc (c : Thread nD τ))) (g3 : Buf (Elt F) (arg3.view.loc (c : Thread nD τ))) (g5 : Buf (Elt F) (arg5.view.loc (c : Thread nD τ))) (g6 : Buf (Elt F) (arg6.view.loc (c : Thread nD τ)))

/-- The inputs the loop reads. -/
abbrev insP : sProp 𝕄 :=
  iprop((arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg5.view.loc (c : Thread nD τ) ↦[arg5.view.set]{fullShare} g5) ∗ (arg6.view.loc (c : Thread nD τ) ↦[arg6.view.set]{fullShare} g6))
/-- A block of a result the loop writes. -/
abbrev oP {s : Shape} {e : EltTy} (M : Memref sig .tc .vmem s e) (fo : Buf (Elt F) (M.view.loc (c : Thread nD τ))) : sProp 𝕄 := M.view.loc (c : Thread nD τ) ↦[M.view.set]{fullShare} fo
/-- The 16 rows. -/
abbrev rP (fr : Buf (Elt F) (rowM.view.loc (c : Thread nD τ))) : sProp 𝕄 := rowM.view.loc (c : Thread nD τ) ↦[rowM.view.set]{fullShare} fr

/-- What trip `k` stores, of the operands as staged. -/
abbrev kcV (k : Fin k0_t1_loop.trips) : IVec S1x10x1280 8 := kcK c X1 (arg1.view.read (Elt F) g1) (arg2.view.read (Elt F) g2) (arg3.view.read (Elt F) g3) (arg5.view.read (Elt F) g5) k
abbrev ksV (k : Fin k0_t1_loop.trips) : FVec F S1x10x20 .f32 := ksK c X1 (arg1.view.read (Elt F) g1) (arg2.view.read (Elt F) g2) (arg3.view.read (Elt F) g3) (arg5.view.read (Elt F) g5) k
abbrev vcV (k : Fin k0_t1_loop.trips) : IVec S1x10x1280 8 := vcK c X1 (arg1.view.read (Elt F) g1) (arg2.view.read (Elt F) g2) (arg3.view.read (Elt F) g3) (arg5.view.read (Elt F) g5) (arg6.view.read (Elt F) g6) k
abbrev vsV (k : Fin k0_t1_loop.trips) : FVec F S1x10x20 .f32 := vsK c X1 (arg1.view.read (Elt F) g1) (arg2.view.read (Elt F) g2) (arg3.view.read (Elt F) g3) (arg5.view.read (Elt F) g5) (arg6.view.read (Elt F) g6) k

/-- The rows trip `k` reads. -/
theorem in_eq (k : Fin k0_t1_loop.trips) (fr : Buf (Elt F) (rowM.view.loc (c : Thread nD τ))) (hr : rowM.view.read (Elt F) fr = stF (arg1.view.read (Elt F) g1) k.val) :
    rowM.view.readAt (Elt F) R16.toLoadRect (rowM.view.writes (Elt F) fr [⟨R10, k0_pay3 (arg1.view.readAt (Elt F) (R1 k).toLoadRect g1)⟩])
      = inF (arg1.view.read (Elt F) g1) k (stF (arg1.view.read (Elt F) g1) k.val) := by
  rw [read_rows, hr]; rfl
/-- The rows it leaves. -/
theorem out_eq (k : Fin k0_t1_loop.trips) (fr : Buf (Elt F) (rowM.view.loc (c : Thread nD τ))) (hr : rowM.view.read (Elt F) fr = stF (arg1.view.read (Elt F) g1) k.val) :
    rowM.view.read (Elt F) (rowM.view.writes (Elt F) fr [⟨R10, k0_pay3 (arg1.view.readAt (Elt F) (R1 k).toLoadRect g1)⟩])
      = stF (arg1.view.read (Elt F) g1) (k.val + 1) := by
  rw [read_rows', hr, stF_succ]; rfl

/-- The resources before trip `k`. -/
def invAt (k : ℕ) : sProp 𝕄 :=
  iprop(insP c arg1 arg2 arg3 arg5 arg6 g1 g2 g3 g5 g6 ∗ (∃ fo, oP c arg7 fo ∗ ⌜DoneC c arg7 (kcV c X1 arg1 arg2 arg3 arg5 g1 g2 g3 g5) k fo⌝) ∗ (∃ fo, oP c arg8 fo ∗ ⌜DoneS c arg8 (ksV c X1 arg1 arg2 arg3 arg5 g1 g2 g3 g5) k fo⌝) ∗ (∃ fo, oP c arg9 fo ∗ ⌜DoneC c arg9 (vcV c X1 arg1 arg2 arg3 arg5 arg6 g1 g2 g3 g5 g6) k fo⌝) ∗ (∃ fo, oP c arg10 fo ∗ ⌜DoneS c arg10 (vsV c X1 arg1 arg2 arg3 arg5 arg6 g1 g2 g3 g5 g6) k fo⌝)
    ∗ (∃ fr, rP c fr ∗ ⌜rowM.view.read (Elt F) fr = stF (arg1.view.read (Elt F) g1) k⌝)
    ∗ (∃ W, owes (c : Thread nD τ) 0 W) ∗ slotsP c X1 k ∗ restP c X1 k)

theorem restP_out (k : ℕ) (hk : k < 3) : restP c X1 k = (iprop(bigSep (Finset.Ico 0 k) (homesP c X1) ∗ homesP c X1 (k + 1) ∗ bigSep (Finset.Ico (k + 1 + 1) 4) (homesP c X1)) : sProp 𝕄) := by
  unfold restP
  rw [show Finset.Ico (k + 1) 4 = insert (k + 1) (Finset.Ico (k + 1 + 1) 4) by ext x; simp only [Finset.mem_Ico, Finset.mem_insert]; omega, bigSep_insert (by simp)]
  rfl
theorem restP_in (k : ℕ) : restP c X1 (k + 1) = (iprop((homesP c X1 k ∗ bigSep (Finset.Ico 0 k) (homesP c X1)) ∗ bigSep (Finset.Ico (k + 1 + 1) 4) (homesP c X1)) : sProp 𝕄) := by
  unfold restP
  rw [show Finset.Ico 0 (k + 1) = insert k (Finset.Ico 0 k) by ext x; simp only [Finset.mem_Ico, Finset.mem_insert]; omega, bigSep_insert (by simp)]
  rfl

end Trip

end Cert.Kv.Ring

end
-- ==== Proof.Kv.Trip.lean ====
/-
  One trip of the loop of the key and value projections: layer `k`. Before it the layer's three pieces of the weight are in
  flight into slots 0 to 2; it waits for them, computes the layer's keys and values, quantises them, stores their codes and
  scales, and issues the next layer's three pieces into the same slots.
-/
module

public import proofs.«01_k».proof.Proof.Kv.State

@[expose] public section

set_option maxRecDepth 16384

noncomputable section

namespace Cert.Kv.Ring

open Cert.Kv Cert.Kv.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Trip
variable (c : Dev nD) (X1 : Buf (Elt F) (w1M.view.loc (c : Thread nD τ))) (i : grid0.Coords)
  (arg1 : Memref sig .tc .vmem S4x10x1280 .f32) (harg1 : arg1.IsWhole) (arg2 : Memref sig .tc .vmem S4x1280 .f32) (harg2 : arg2.IsWhole) (arg3 : Memref sig .tc .vmem S4x1280 .f32) (harg3 : arg3.IsWhole) (arg5 : Memref sig .tc .vmem S4x3840 .f32) (harg5 : arg5.IsWhole) (arg6 : Memref sig .tc .vmem S4x1280 .f32) (harg6 : arg6.IsWhole) (arg7 : Memref sig .tc .vmem S4x10x1280 .i8) (harg7 : arg7.IsWhole) (arg8 : Memref sig .tc .vmem S4x10x20 .f32) (harg8 : arg8.IsWhole) (arg9 : Memref sig .tc .vmem S4x10x1280 .i8) (harg9 : arg9.IsWhole) (arg10 : Memref sig .tc .vmem S4x10x20 .f32) (harg10 : arg10.IsWhole)

variable (g1 : Buf (Elt F) (arg1.view.loc (c : Thread nD τ))) (g2 : Buf (Elt F) (arg2.view.loc (c : Thread nD τ))) (g3 : Buf (Elt F) (arg3.view.loc (c : Thread nD τ))) (g5 : Buf (Elt F) (arg5.view.loc (c : Thread nD τ))) (g6 : Buf (Elt F) (arg6.view.loc (c : Thread nD τ)))

set_option maxHeartbeats 2000000 in
/-- A trip that issues the next layer's transfers. -/
theorem trip_lt (k : Fin k0_t1_loop.trips) (hk : k.val < 3) :
    invAt c X1 arg1 arg2 arg3 arg5 arg6 arg7 arg8 arg9 arg10 g1 g2 g3 g5 g6 k.val
      ⊢ wp frame (wpE (defs₀ (F := F)) 𝒱₀ (c : Thread nD τ) none) Set.univ (tripG i arg1 harg1 arg2 harg2 arg3 harg3 arg5 harg5 arg6 harg6 arg7 harg7 arg8 harg8 arg9 harg9 arg10 harg10 k) (fun _ => invAt c X1 arg1 arg2 arg3 arg5 arg6 arg7 arg8 arg9 arg10 g1 g2 g3 g5 g6 (k.val + 1)) := by
  have h1 : k0_cond1 k = 1#1 := (cond1_iff k).2 hk
  unfold invAt
  rw [restP_out c X1 k.val hk, restP_in c X1 k.val, show slotsP c X1 k.val = (flightsP c X1 k.val : sProp 𝕄) from if_pos (by omega),
    show slotsP c X1 (k.val + 1) = (flightsP c X1 (k.val + 1) : sProp 𝕄) from if_pos (by omega)]
  rw [flightsP_open c X1 k.val, homesP_eq c X1 k.val, homesP_eq c X1 (k.val + 1), flightsP_eq c X1 (k.val + 1)]
  iintro ⟨⟨H1, H2, H3, H5, H6⟩, ⟨%o7, O7, %D7⟩, ⟨%o8, O8, %D8⟩, ⟨%o9, O9, %D9⟩, ⟨%o10, O10, %D10⟩, ⟨%fr, HR, %hr⟩, ⟨%W, HW⟩, HF, HB, HH, HE⟩
  icases HF with ⟨⟨%f0, F0⟩, ⟨%f1, F1⟩, ⟨%f2, F2⟩⟩
  icases HH with ⟨A0, A1, A2⟩
  dsimp only [tripG]
  sl_unfold [k0_t1_body]
  sl_exec
  sl_step
  isplitl [H1 H2 H3 H5 H6]
  · isplitl [H1]; · iexact H1
    isplitl [H2]; · iexact H2
    isplitl [H3]; · iexact H3
    isplitl [H5]; · iexact H5
    iexact H6
  isplitl [O7]
  · iexists _
    isplitl [O7]; · iexact O7
    ipureintro
    exact DoneC.succ k D7 _ ((kcodes_eq _ _ _).trans (congrArg (fun r => codes8 (keyF c X1 (arg2.view.read (Elt F) g2) (arg3.view.read (Elt F) g3) (arg5.view.read (Elt F) g5) k r)) (in_eq c arg1 g1 k fr hr)))
  isplitl [O8]
  · iexists _
    isplitl [O8]; · iexact O8
    ipureintro
    exact DoneS.succ k D8 _ ((kscales_eq _ _ _).trans (congrArg (fun r => scales8 (keyF c X1 (arg2.view.read (Elt F) g2) (arg3.view.read (Elt F) g3) (arg5.view.read (Elt F) g5) k r)) (in_eq c arg1 g1 k fr hr)))
  isplitl [O9]
  · iexists _
    isplitl [O9]; · iexact O9
    ipureintro
    exact DoneC.succ k D9 _ ((vcodes_eq _ _ _ _).trans (congrArg (fun r => codes8 (valF c X1 (arg2.view.read (Elt F) g2) (arg3.view.read (Elt F) g3) (arg5.view.read (Elt F) g5) (arg6.view.read (Elt F) g6) k r)) (in_eq c arg1 g1 k fr hr)))
  isplitl [O10]
  · iexists _
    isplitl [O10]; · iexact O10
    ipureintro
    exact DoneS.succ k D10 _ ((vscales_eq _ _ _ _).trans (congrArg (fun r => scales8 (valF c X1 (arg2.view.read (Elt F) g2) (arg3.view.read (Elt F) g3) (arg5.view.read (Elt F) g5) (arg6.view.read (Elt F) g6) k r)) (in_eq c arg1 g1 k fr hr)))
  isplitl [HR]
  · iexists _
    isplitl [HR]; · iexact HR
    ipureintro
    exact out_eq c arg1 g1 k fr hr
  isplitl [HW]; · iexists _; iexact HW
  isplitl [F0 F1 F2]
  · isplitl [F0]; · iapply flight_after; iexact F0
    isplitl [F1]; · iapply flight_after; iexact F1
    iapply flight_after; iexact F2
  isplitr [HE]
  · isplitr [HB]
    · isplitl [F0_src]; · iexact F0_src
      isplitl [F1_src]; · iexact F1_src
      iexact F2_src
    iexact HB
  iexact HE

set_option maxHeartbeats 2000000 in
/-- The last trip: nothing is issued any more. -/
theorem trip_3 (k : Fin k0_t1_loop.trips) (hk : k.val = 3) :
    invAt c X1 arg1 arg2 arg3 arg5 arg6 arg7 arg8 arg9 arg10 g1 g2 g3 g5 g6 k.val
      ⊢ wp frame (wpE (defs₀ (F := F)) 𝒱₀ (c : Thread nD τ) none) Set.univ (tripG i arg1 harg1 arg2 harg2 arg3 harg3 arg5 harg5 arg6 harg6 arg7 harg7 arg8 harg8 arg9 harg9 arg10 harg10 k) (fun _ => invAt c X1 arg1 arg2 arg3 arg5 arg6 arg7 arg8 arg9 arg10 g1 g2 g3 g5 g6 (k.val + 1)) := by
  have h1 : ¬ k0_cond1 k = 1#1 := fun h => by have := (cond1_iff k).1 h; omega
  unfold invAt
  rw [restP_in c X1 k.val, show slotsP c X1 k.val = (flightsP c X1 k.val : sProp 𝕄) from if_pos (by omega),
    show slotsP c X1 (k.val + 1) = (freesP c : sProp 𝕄) from if_neg (by omega), show restP c X1 k.val = (iprop(bigSep (Finset.Ico 0 k.val) (homesP c X1) ∗ bigSep (Finset.Ico (k.val + 1) 4) (homesP c X1)) : sProp 𝕄) from rfl,
    show Finset.Ico (k.val + 1 + 1) 4 = Finset.Ico (k.val + 1) 4 by rw [Finset.Ico_eq_empty_of_le (by omega), Finset.Ico_eq_empty_of_le (by omega)],
    flightsP_open c X1 k.val, homesP_eq c X1 k.val]
  unfold freesP freeP
  iintro ⟨⟨H1, H2, H3, H5, H6⟩, ⟨%o7, O7, %D7⟩, ⟨%o8, O8, %D8⟩, ⟨%o9, O9, %D9⟩, ⟨%o10, O10, %D10⟩, ⟨%fr, HR, %hr⟩, ⟨%W, HW⟩, HF, HB, HE⟩
  icases HF with ⟨⟨%f0, F0⟩, ⟨%f1, F1⟩, ⟨%f2, F2⟩⟩
  dsimp only [tripG]
  sl_unfold [k0_t1_body]
  sl_exec
  sl_step
  isplitl [H1 H2 H3 H5 H6]
  · isplitl [H1]; · iexact H1
    isplitl [H2]; · iexact H2
    isplitl [H3]; · iexact H3
    isplitl [H5]; · iexact H5
    iexact H6
  isplitl [O7]
  · iexists _
    isplitl [O7]; · iexact O7
    ipureintro
    exact DoneC.succ k D7 _ ((kcodes_eq _ _ _).trans (congrArg (fun r => codes8 (keyF c X1 (arg2.view.read (Elt F) g2) (arg3.view.read (Elt F) g3) (arg5.view.read (Elt F) g5) k r)) (in_eq c arg1 g1 k fr hr)))
  isplitl [O8]
  · iexists _
    isplitl [O8]; · iexact O8
    ipureintro
    exact DoneS.succ k D8 _ ((kscales_eq _ _ _).trans (congrArg (fun r => scales8 (keyF c X1 (arg2.view.read (Elt F) g2) (arg3.view.read (Elt F) g3) (arg5.view.read (Elt F) g5) k r)) (in_eq c arg1 g1 k fr hr)))
  isplitl [O9]
  · iexists _
    isplitl [O9]; · iexact O9
    ipureintro
    exact DoneC.succ k D9 _ ((vcodes_eq _ _ _ _).trans (congrArg (fun r => codes8 (valF c X1 (arg2.view.read (Elt F) g2) (arg3.view.read (Elt F) g3) (arg5.view.read (Elt F) g5) (arg6.view.read (Elt F) g6) k r)) (in_eq c arg1 g1 k fr hr)))
  isplitl [O10]
  · iexists _
    isplitl [O10]; · iexact O10
    ipureintro
    exact DoneS.succ k D10 _ ((vscales_eq _ _ _ _).trans (congrArg (fun r => scales8 (valF c X1 (arg2.view.read (Elt F) g2) (arg3.view.read (Elt F) g3) (arg5.view.read (Elt F) g5) (arg6.view.read (Elt F) g6) k r)) (in_eq c arg1 g1 k fr hr)))
  isplitl [HR]
  · iexists _
    isplitl [HR]; · iexact HR
    ipureintro
    exact out_eq c arg1 g1 k fr hr
  isplitl [HW]; · iexists _; iexact HW
  isplitl [F0_dst F0 F1_dst F1 F2_dst F2]
  · isplitl [F0_dst F0]
    · isplitl [F0_dst]; · iexists _; iexact F0_dst
      iexact F0
    isplitl [F1_dst F1]
    · isplitl [F1_dst]; · iexists _; iexact F1_dst
      iexact F1
    isplitl [F2_dst]; · iexists _; iexact F2_dst
    iexact F2
  isplitr [HE]
  · isplitr [HB]
    · isplitl [F0_src]; · iexact F0_src
      isplitl [F1_src]; · iexact F1_src
      iexact F2_src
    iexact HB
  iexact HE

/-- A trip of the loop: from the resources before it to those before the next. -/
theorem trip_step (k : Fin k0_t1_loop.trips) :
    invAt c X1 arg1 arg2 arg3 arg5 arg6 arg7 arg8 arg9 arg10 g1 g2 g3 g5 g6 k.val
      ⊢ wp frame (wpE (defs₀ (F := F)) 𝒱₀ (c : Thread nD τ) none) Set.univ (tripG i arg1 harg1 arg2 harg2 arg3 harg3 arg5 harg5 arg6 harg6 arg7 harg7 arg8 harg8 arg9 harg9 arg10 harg10 k) (fun _ => invAt c X1 arg1 arg2 arg3 arg5 arg6 arg7 arg8 arg9 arg10 g1 g2 g3 g5 g6 (k.val + 1)) := by
  have hb : k.val < 4 := lt_of_lt_of_eq k.isLt trips_eq
  rcases (by omega : k.val < 3 ∨ k.val = 3) with h | h
  · exact trip_lt c X1 i arg1 harg1 arg2 harg2 arg3 harg3 arg5 harg5 arg6 harg6 arg7 harg7 arg8 harg8 arg9 harg9 arg10 harg10 g1 g2 g3 g5 g6 k h
  · exact trip_3 c X1 i arg1 harg1 arg2 harg2 arg3 harg3 arg5 harg5 arg6 harg6 arg7 harg7 arg8 harg8 arg9 harg9 arg10 harg10 g1 g2 g3 g5 g6 k h
end Trip

end Cert.Kv.Ring

end
-- ==== Proof.Kv.Body.lean ====
/-
  The body: the first three transfers, the zeros, the loop over the layers (`trip_step`). What it leaves in the results' blocks
  is a function of the weight and of the staged operands.
-/
module

public import proofs.«01_k».proof.Proof.Kv.Trip
public import Idealize.ShloMosaic.Lib.Pointwise.Index
public import Idealize.SL.BI.BigOpNat
public import Mathlib.Algebra.Order.Interval.Finset.Basic

@[expose] public section

set_option maxRecDepth 16384

noncomputable section

namespace Cert.Kv.Ring

open Cert.Kv Cert.Kv.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Four trips' blocks as one, layer by layer: of codes, of scales. -/
def allC (o : Fin k0_t1_loop.trips → IVec S1x10x1280 8) : Vec F S4x10x1280 .i8 :=
  fun y => o ⟨(y 0).val, lt_of_lt_of_eq (y 0).isLt trips_eq.symm⟩ (ix3 (n0 := 1) (n1 := 10) (n2 := 1280) 0 (y 1) (y 2))
def allS (o : Fin k0_t1_loop.trips → FVec F S1x10x20 .f32) : Vec F S4x10x20 .f32 :=
  fun y => o ⟨(y 0).val, lt_of_lt_of_eq (y 0).isLt trips_eq.symm⟩ (ix3 (n0 := 1) (n1 := 10) (n2 := 20) 0 (y 1) (y 2))
theorem DoneC.all {c : Dev nD} {M : Memref sig .tc .vmem S4x10x1280 .i8} {o : Fin k0_t1_loop.trips → IVec S1x10x1280 8} {fo : Buf (Elt F) (M.view.loc (c : Thread nD τ))} (h : DoneC c M o 4 fo) :
    M.view.read (Elt F) fo = allC (F := F) o := by
  funext y
  have hy : (y 0).val < 4 := (y 0).isLt
  have hb := h ⟨(y 0).val, lt_of_lt_of_eq (y 0).isLt trips_eq.symm⟩ hy (ix3 (n0 := 1) (n1 := 10) (n2 := 1280) 0 (y 1) (y 2))
  refine Eq.trans (congrArg (M.view.read (Elt F) fo) ?_) hb
  funext a
  apply Fin.ext
  match a with
  | ⟨0, _⟩ => show (y 0).val = k0_off1 (⟨(y 0).val, lt_of_lt_of_eq (y 0).isLt trips_eq.symm⟩ : Fin k0_t1_loop.trips) 0 + 1 * 0; rw [k0_off1_eq]; rfl
  | ⟨1, _⟩ => show (y 1).val = k0_off1 (⟨(y 0).val, lt_of_lt_of_eq (y 0).isLt trips_eq.symm⟩ : Fin k0_t1_loop.trips) 1 + 1 * (y 1).val; rw [k0_off1_eq]; show (y 1).val = 0 + 1 * (y 1).val; omega
  | ⟨2, _⟩ => show (y 2).val = k0_off1 (⟨(y 0).val, lt_of_lt_of_eq (y 0).isLt trips_eq.symm⟩ : Fin k0_t1_loop.trips) 2 + 1 * (y 2).val; rw [k0_off1_eq]; show (y 2).val = 0 + 1 * (y 2).val; omega
theorem DoneS.all {c : Dev nD} {M : Memref sig .tc .vmem S4x10x20 .f32} {o : Fin k0_t1_loop.trips → FVec F S1x10x20 .f32} {fo : Buf (Elt F) (M.view.loc (c : Thread nD τ))} (h : DoneS c M o 4 fo) :
    M.view.read (Elt F) fo = allS o := by
  funext y
  have hy : (y 0).val < 4 := (y 0).isLt
  have hb := h ⟨(y 0).val, lt_of_lt_of_eq (y 0).isLt trips_eq.symm⟩ hy (ix3 (n0 := 1) (n1 := 10) (n2 := 20) 0 (y 1) (y 2))
  refine Eq.trans (congrArg (M.view.read (Elt F) fo) ?_) hb
  funext a
  apply Fin.ext
  match a with
  | ⟨0, _⟩ => show (y 0).val = k0_off4 (⟨(y 0).val, lt_of_lt_of_eq (y 0).isLt trips_eq.symm⟩ : Fin k0_t1_loop.trips) 0 + 1 * 0; rw [k0_off4_eq]; rfl
  | ⟨1, _⟩ => show (y 1).val = k0_off4 (⟨(y 0).val, lt_of_lt_of_eq (y 0).isLt trips_eq.symm⟩ : Fin k0_t1_loop.trips) 1 + 1 * (y 1).val; rw [k0_off4_eq]; show (y 1).val = 0 + 1 * (y 1).val; omega
  | ⟨2, _⟩ => show (y 2).val = k0_off4 (⟨(y 0).val, lt_of_lt_of_eq (y 0).isLt trips_eq.symm⟩ : Fin k0_t1_loop.trips) 2 + 1 * (y 2).val; rw [k0_off4_eq]; show (y 2).val = 0 + 1 * (y 2).val; omega

section Run
variable (c : Dev nD) (X1 : Buf (Elt F) (w1M.view.loc (c : Thread nD τ))) (i : grid0.Coords)
  (arg1 : Memref sig .tc .vmem S4x10x1280 .f32) (harg1 : arg1.IsWhole) (arg2 : Memref sig .tc .vmem S4x1280 .f32) (harg2 : arg2.IsWhole) (arg3 : Memref sig .tc .vmem S4x1280 .f32) (harg3 : arg3.IsWhole) (arg5 : Memref sig .tc .vmem S4x3840 .f32) (harg5 : arg5.IsWhole) (arg6 : Memref sig .tc .vmem S4x1280 .f32) (harg6 : arg6.IsWhole) (arg7 : Memref sig .tc .vmem S4x10x1280 .i8) (harg7 : arg7.IsWhole) (arg8 : Memref sig .tc .vmem S4x10x20 .f32) (harg8 : arg8.IsWhole) (arg9 : Memref sig .tc .vmem S4x10x1280 .i8) (harg9 : arg9.IsWhole) (arg10 : Memref sig .tc .vmem S4x10x20 .f32) (harg10 : arg10.IsWhole)
variable (g1 : Buf (Elt F) (arg1.view.loc (c : Thread nD τ))) (g2 : Buf (Elt F) (arg2.view.loc (c : Thread nD τ))) (g3 : Buf (Elt F) (arg3.view.loc (c : Thread nD τ))) (g5 : Buf (Elt F) (arg5.view.loc (c : Thread nD τ))) (g6 : Buf (Elt F) (arg6.view.loc (c : Thread nD τ)))

theorem entails_of_eq {P Q : sProp 𝕄} (e : P = Q) : P ⊢ Q := e ▸ .rfl
theorem frees_end (n : ℕ) (hn : n = 4) : (slotsP c X1 n : sProp 𝕄) ⊢ iprop(((∃ f, slotP c 0 f) ∗ cellP c 0) ∗ ((∃ f, slotP c 1 f) ∗ cellP c 1) ∗ ((∃ f, slotP c 2 f) ∗ cellP c 2)) := by
  subst hn
  exact entails_of_eq (if_neg (by omega))
theorem homes_start : (bigSep (Finset.Ico 1 4) (homesP c X1) : sProp 𝕄) ⊢ restP c X1 0 := by
  unfold restP
  rw [Finset.Ico_self, bigSep_empty]
  exact entails_of_eq (emp_sep_eq'' _).symm
theorem homes_end (n : ℕ) (hn : n = 4) : (restP c X1 n : sProp 𝕄) ⊢ bigSep (Finset.Ico 0 4) (homesP c X1) := by
  subst hn
  unfold restP
  iintro ⟨H, _⟩
  iexact H

set_option maxHeartbeats 2000000 in
theorem bodyRun (go7 : Buf (Elt F) (arg7.view.loc (c : Thread nD τ))) (go8 : Buf (Elt F) (arg8.view.loc (c : Thread nD τ))) (go9 : Buf (Elt F) (arg9.view.loc (c : Thread nD τ))) (go10 : Buf (Elt F) (arg10.view.loc (c : Thread nD τ))) (gR : Buf (Elt F) (rowM.view.loc (c : Thread nD τ))) :
    iprop(insP c arg1 arg2 arg3 arg5 arg6 g1 g2 g3 g5 g6 ∗ oP c arg7 go7 ∗ oP c arg8 go8 ∗ oP c arg9 go9 ∗ oP c arg10 go10 ∗ rP c gR ∗ (∃ W, owes (c : Thread nD τ) 0 W)
      ∗ homesP c X1 0 ∗ freesP c ∗ bigSep (Finset.Ico 1 4) (homesP c X1))
      ⊢ wp frame (wpE (defs₀ (F := F)) 𝒱₀ (c : Thread nD τ) none) Set.univ
          (cc0_decoder_step (F := F) i arg1 harg1 arg2 harg2 arg3 harg3 w1M (Memref.isWhole_whole _) arg5 harg5 arg6 harg6 arg7 harg7 arg8 harg8 arg9 harg9 arg10 harg10 ringM (Memref.isWhole_whole _) rowM (Memref.isWhole_whole _) cc0_scratch2)
          (fun _ => iprop(insP c arg1 arg2 arg3 arg5 arg6 g1 g2 g3 g5 g6 ∗ (∃ fo, oP c arg7 fo ∗ ⌜arg7.view.read (Elt F) fo = allC (kcV c X1 arg1 arg2 arg3 arg5 g1 g2 g3 g5)⌝) ∗ (∃ fo, oP c arg8 fo ∗ ⌜arg8.view.read (Elt F) fo = allS (ksV c X1 arg1 arg2 arg3 arg5 g1 g2 g3 g5)⌝) ∗ (∃ fo, oP c arg9 fo ∗ ⌜arg9.view.read (Elt F) fo = allC (vcV c X1 arg1 arg2 arg3 arg5 arg6 g1 g2 g3 g5 g6)⌝) ∗ (∃ fo, oP c arg10 fo ∗ ⌜arg10.view.read (Elt F) fo = allS (vsV c X1 arg1 arg2 arg3 arg5 arg6 g1 g2 g3 g5 g6)⌝)
            ∗ (∃ f, rP c f) ∗ (∃ W, owes (c : Thread nD τ) 0 W) ∗ freesP c ∗ bigSep (Finset.Ico 0 4) (homesP c X1))) := by
  rw [homesP_eq c X1 0]
  unfold freesP freeP
  iintro ⟨⟨H1, H2, H3, H5, H6⟩, O7, O8, O9, O10, HR, ⟨%W, HW⟩, ⟨A0, A1, A2⟩, ⟨⟨⟨%f0, B0⟩, C0⟩, ⟨⟨%f1, B1⟩, C1⟩, ⟨⟨%f2, B2⟩, C2⟩⟩, HE⟩
  sl_unfold [cc0_decoder_step]
  sl_exec
  sl_for (fun k _ => invAt c X1 arg1 arg2 arg3 arg5 arg6 arg7 arg8 arg9 arg10 g1 g2 g3 g5 g6 k) $$ [H1 H2 H3 H5 H6 O7 O8 O9 O10 HR HW HE C0 C1 C2]
  case region => exact fun k acc => trip_step c X1 i arg1 harg1 arg2 harg2 arg3 harg3 arg5 harg5 arg6 harg6 arg7 harg7 arg8 harg8 arg9 harg9 arg10 harg10 g1 g2 g3 g5 g6 k
  · unfold invAt
    isplitl [H1 H2 H3 H5 H6]
    · isplitl [H1]; · iexact H1
      isplitl [H2]; · iexact H2
      isplitl [H3]; · iexact H3
      isplitl [H5]; · iexact H5
      iexact H6
    isplitl [O7]
    · iexists go7
      isplitl [O7]; · iexact O7
      ipureintro; exact fun b hb => absurd hb (Nat.not_lt_zero _)
    isplitl [O8]
    · iexists go8
      isplitl [O8]; · iexact O8
      ipureintro; exact fun b hb => absurd hb (Nat.not_lt_zero _)
    isplitl [O9]
    · iexists go9
      isplitl [O9]; · iexact O9
      ipureintro; exact fun b hb => absurd hb (Nat.not_lt_zero _)
    isplitl [O10]
    · iexists go10
      isplitl [O10]; · iexact O10
      ipureintro; exact fun b hb => absurd hb (Nat.not_lt_zero _)
    isplitl [HR]
    · iexists _
      isplitl [HR]; · iexact HR
      ipureintro; exact read_all c _ _ _
    isplitl [HW]; · iexists _; iexact HW
    irw [show slotsP c X1 0 = (flightsP c X1 0 : sProp 𝕄) from if_pos (by omega), flightsP_eq c X1 0]
    isplitl [C0 C1 C2]
    · isplitl [C0]; · iapply flight_intro; iexact C0
      isplitl [C1]; · iapply flight_intro; iexact C1
      iapply flight_intro; iexact C2
    iapply (homes_start c X1)
    iexact HE
  iintro %acc HI
  unfold invAt
  icases HI with ⟨⟨H1, H2, H3, H5, H6⟩, ⟨%o7, O7, %D7⟩, ⟨%o8, O8, %D8⟩, ⟨%o9, O9, %D9⟩, ⟨%o10, O10, %D10⟩, ⟨%fr, HR, %hr⟩, ⟨%W', HW⟩, HS, HE⟩
  have hT : Scf.trips k0_t1_loop.lb k0_t1_loop.ub k0_t1_loop.st = 4 := trips_eq
  sl_exec
  sl_step
  isplitl [H1 H2 H3 H5 H6]
  · isplitl [H1]; · iexact H1
    isplitl [H2]; · iexact H2
    isplitl [H3]; · iexact H3
    isplitl [H5]; · iexact H5
    iexact H6
  isplitl [O7]
  · iexists _
    isplitl [O7]; · iexact O7
    ipureintro
    exact DoneC.all (hT ▸ D7)
  isplitl [O8]
  · iexists _
    isplitl [O8]; · iexact O8
    ipureintro
    exact DoneS.all (hT ▸ D8)
  isplitl [O9]
  · iexists _
    isplitl [O9]; · iexact O9
    ipureintro
    exact DoneC.all (hT ▸ D9)
  isplitl [O10]
  · iexists _
    isplitl [O10]; · iexact O10
    ipureintro
    exact DoneS.all (hT ▸ D10)
  isplitl [HR]; · iexists _; iexact HR
  isplitl [HW]; · iexists _; iexact HW
  isplitl [HS]
  · iapply (frees_end c X1 _ hT)
    iexact HS
  iapply (homes_end c X1 _ hT)
  iexact HE
end Run

end Cert.Kv.Ring

end
-- ==== Proof.Kv.Bufs.lean ====
/-
  The ring's buffer as its 22 slots, and the weight as the pieces the transfers move, three to a layer.
-/
module

public import proofs.«01_k».proof.Proof.Kv.Body
public import Idealize.SL.BI.BigOpNat
public import Mathlib.Algebra.Order.Interval.Finset.Basic

@[expose] public section

set_option maxRecDepth 16384

noncomputable section

namespace Cert.Kv.Ring

open Cert.Kv Cert.Kv.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Ring
variable (c : Dev nD)

/-- Equal terms over a run of numbers, by the run's bounds. -/
theorem bigSep_Ico_congr {A B : ℕ → sProp 𝕄} {a b : ℕ} (h : ∀ g, a ≤ g → g < b → A g = B g) : bigSep (Finset.Ico a b) A = bigSep (Finset.Ico a b) B :=
  bigSep_congr fun g hg => h g (Finset.mem_Ico.mp hg).1 (Finset.mem_Ico.mp hg).2
theorem bigSep_both (s : Finset ℕ) (Φ Ψ : ℕ → sProp 𝕄) : iprop(bigSep s Φ ∗ bigSep s Ψ) = bigSep s (fun i => iprop(Φ i ∗ Ψ i)) := (bigSep_sep s Φ Ψ).symm
theorem bigSep_Ico_consecutive {a b d : ℕ} (hab : a ≤ b) (hbd : b ≤ d) (A : ℕ → sProp 𝕄) :
    bigSep (Finset.Ico a d) A = iprop(bigSep (Finset.Ico a b) A ∗ bigSep (Finset.Ico b d) A) := by
  rw [← Finset.Ico_union_Ico_eq_Ico hab hbd, bigSep_union (Finset.Ico_disjoint_Ico_consecutive a b d)]; rfl

theorem mem_slotSet (n : ℕ) (y : S22x1280x1280.Idx) :
    y ∈ (Rect.unit (s := S22x1280x1280) (slotOff n) S1x1280x1280.size (slotOff_inb n)).set ↔ (y 0).val = n % 22 := by
  rw [Rect.mem_set_unit]
  have h1 : (y 1).val < 1280 := (y 1).isLt
  have h2 : (y 2).val < 1280 := (y 2).isLt
  constructor
  · intro H; have a0 : n % 22 ≤ (y 0).val ∧ (y 0).val < n % 22 + 1 := H 0; omega
  · intro H i; fin_cases i
    · show n % 22 ≤ (y 0).val ∧ (y 0).val < n % 22 + 1; omega
    · show 0 ≤ (y 1).val ∧ (y 1).val < 0 + 1280; omega
    · show 0 ≤ (y 2).val ∧ (y 2).val < 0 + 1280; omega
theorem rslot_set (n : ℕ) : (rslot n : Memref sig .tc .vmem _ _).view.set = (Rect.unit (s := S22x1280x1280) (slotOff n) S1x1280x1280.size (slotOff_inb n)).set :=
  (View.set_reshape _ _).trans (View.set_slice_whole _ _)

theorem bigSep_fin (n : ℕ) (Ψ : ℕ → sProp 𝕄) : bigSep (Finset.univ : Finset (Fin n)) (fun b => Ψ b.val) = bigSep (Finset.Ico 0 n) Ψ := by
  have e : Finset.Ico 0 n = (Finset.univ : Finset (Fin n)).map Fin.valEmbedding := by
    ext x
    simp only [Finset.mem_Ico, Finset.mem_map, Finset.mem_univ, true_and, Fin.valEmbedding_apply]
    exact ⟨fun h => ⟨⟨x, h.2⟩, rfl⟩, fun ⟨b, hb⟩ => ⟨Nat.zero_le _, hb ▸ b.isLt⟩⟩
  rw [e, bigSep_map]; rfl

/-! ## The ring -/

def ringPart (b : Fin 22) : Finset (Idx (ringM.view.loc (c : Thread nD τ))) := Finset.univ.filter fun y : S22x1280x1280.Idx => (y 0).val = b.val
theorem ringPart_disj (b b' : Fin 22) (h : b ≠ b') : Disjoint (ringPart c b) (ringPart c b') := by
  rw [Finset.disjoint_left]; intro y hy hy'
  exact h (Fin.ext ((Finset.mem_filter.1 hy).2.symm.trans (Finset.mem_filter.1 hy').2))
theorem ringPart_cover : Finset.univ.biUnion (ringPart c) = Finset.univ := by
  ext y
  simp only [Finset.mem_biUnion, Finset.mem_univ, true_and, iff_true]
  exact ⟨⟨((y : S22x1280x1280.Idx) 0).val, ((y : S22x1280x1280.Idx) 0).isLt⟩, Finset.mem_filter.2 ⟨Finset.mem_univ _, rfl⟩⟩
theorem ringPart_eq (b : Fin 22) : ringPart c b = (rslot b.val : Memref sig .tc .vmem _ _).view.set := by
  rw [rslot_set]
  ext y
  refine Iff.trans ?_ (mem_slotSet b.val y).symm
  rw [Nat.mod_eq_of_lt b.isLt]
  exact Finset.mem_filter.trans (and_iff_right (Finset.mem_univ _))
/-- The ring's buffer at anything is its slots at anything, -/
theorem ring_split (f : Buf (Elt F) (ringM.view.loc (c : Thread nD τ))) :
    ((ringM.view.loc (c : Thread nD τ) ↦{fullShare} f) : sProp 𝕄) ⊢ bigSep (Finset.Ico 0 22) (fun n => iprop(∃ f, slotP c n f)) := by
  rw [Ring.pointsTo_blocks (ringPart c) (ringPart_disj c) (ringPart_cover c) f, ← bigSep_fin 22 (fun n => iprop(∃ f, slotP c n f))]
  refine bigSep_mono fun b _ => ?_
  rw [ringPart_eq]
  show _ ⊢ (iprop(∃ f, slotP c b.val f) : sProp 𝕄)
  iintro H; iexists f; iexact H
/-- and back. -/
theorem ring_join : bigSep (Finset.Ico 0 22) (fun n => iprop(∃ f, slotP c n f)) ⊢ (iprop(∃ f, ringM.view.loc (c : Thread nD τ) ↦{fullShare} f) : sProp 𝕄) := by
  rw [← bigSep_fin 22 (fun n => iprop(∃ f, slotP c n f))]
  refine BIBase.Entails.trans (bigSep_mono fun b _ => ?_) (Ring.pointsTo_blocks_join_exists (ringPart c) (ringPart_disj c) (ringPart_cover c) ringM.view.junk)
  rw [ringPart_eq]
  show (iprop(∃ f, slotP c b.val f) : sProp 𝕄) ⊢ _
  exact .rfl

end Ring

/-! ## The weights -/

section Weights
variable (c : Dev nD) (X1 : Buf (Elt F) (w1M.view.loc (c : Thread nD τ)))

theorem sep_assoc_eq (P Q R : sProp 𝕄) : iprop((P ∗ Q) ∗ R) = iprop(P ∗ Q ∗ R) := equiv_iff.mp ⟨BI.sep_assoc, BI.sep_assoc'⟩
/-- A separating product over pairs is the iterated one. -/
theorem bigSep_product {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert a s ha ih =>
    have hdisj : Disjoint (({a} : Finset I) ×ˢ t) (s ×ˢ t) := Finset.disjoint_product.mpr (.inl (Finset.disjoint_singleton_left.mpr ha))
    rw [bigSep_insert ha, Finset.insert_eq, Finset.union_product, bigSep_union hdisj, ih, Finset.singleton_product, bigSep_map]
    rfl

/-- A layer's three pieces, one by one. -/
theorem three (Ψ : ℕ → sProp 𝕄) : bigSep (Finset.univ : Finset (Fin 3)) (fun b => Ψ b.val) = iprop(Ψ 0 ∗ Ψ 1 ∗ Ψ 2) := by
  rw [bigSep_fin 3 Ψ]
  exact BI.bigSep_eq_bigSepL_of_eq [0, 1, 2] (by decide) (by decide) Ψ

def part1 (b : Fin 4 × Fin 3) : Finset (Idx (w1M.view.loc (c : Thread nD τ))) :=
  Finset.univ.filter fun y : S4x1280x3840.Idx => (y 0).val = b.1.val ∧ (y 2).val / 1280 = b.2.val
theorem part1_disj (b b' : Fin 4 × Fin 3) (h : b ≠ b') : Disjoint (part1 c b) (part1 c b') := by
  rw [Finset.disjoint_left]; intro y hy hy'
  have a := (Finset.mem_filter.1 hy).2
  have a' := (Finset.mem_filter.1 hy').2
  exact h (Prod.ext (Fin.ext (a.1.symm.trans a'.1)) (Fin.ext (a.2.symm.trans a'.2)))
theorem part1_cover : Finset.univ.biUnion (part1 c) = Finset.univ := by
  ext y
  simp only [Finset.mem_biUnion, Finset.mem_univ, true_and, iff_true]
  have h2 : ((y : S4x1280x3840.Idx) 2).val < 3840 := ((y : S4x1280x3840.Idx) 2).isLt
  exact ⟨(⟨((y : S4x1280x3840.Idx) 0).val, ((y : S4x1280x3840.Idx) 0).isLt⟩, ⟨((y : S4x1280x3840.Idx) 2).val / 1280, by omega⟩),
    Finset.mem_filter.2 ⟨Finset.mem_univ _, rfl, rfl⟩⟩
theorem part1_eq (l : Fin 4) (i : Fin 3) : part1 c (l, i) = (w1p l.val i.val : Memref sig .tc .hbm _ _).view.set := by
  have e : (w1p l.val i.val : Memref sig .tc .hbm _ _).view.set = (Rect.unit (s := S4x1280x3840) (w1Off l.val i.val) S1x1280x1280.size (w1Off_inb l.val i.val)).set :=
    (View.set_reshape _ _).trans (View.set_slice_whole _ _)
  rw [e]
  ext y
  refine Iff.trans (Finset.mem_filter.trans (and_iff_right (Finset.mem_univ _))) (Iff.trans ?_ Rect.mem_set_unit.symm)
  have hl : l.val % 4 = l.val := Nat.mod_eq_of_lt l.isLt
  have hi : i.val % 3 = i.val := Nat.mod_eq_of_lt i.isLt
  have h1 : ((y : S4x1280x3840.Idx) 1).val < 1280 := ((y : S4x1280x3840.Idx) 1).isLt
  constructor
  · rintro ⟨H0, H2⟩ a
    have H0' : ((y : S4x1280x3840.Idx) 0).val = l.val := H0
    have H2' : ((y : S4x1280x3840.Idx) 2).val / 1280 = i.val := H2
    fin_cases a
    · show l.val % 4 ≤ ((y : S4x1280x3840.Idx) 0).val ∧ ((y : S4x1280x3840.Idx) 0).val < l.val % 4 + 1; omega
    · show 0 ≤ ((y : S4x1280x3840.Idx) 1).val ∧ ((y : S4x1280x3840.Idx) 1).val < 0 + 1280; omega
    · show 1280 * (i.val % 3) ≤ ((y : S4x1280x3840.Idx) 2).val ∧ ((y : S4x1280x3840.Idx) 2).val < 1280 * (i.val % 3) + 1280; omega
  · intro H
    have a0 : l.val % 4 ≤ ((y : S4x1280x3840.Idx) 0).val ∧ ((y : S4x1280x3840.Idx) 0).val < l.val % 4 + 1 := H 0
    have a2 : 1280 * (i.val % 3) ≤ ((y : S4x1280x3840.Idx) 2).val ∧ ((y : S4x1280x3840.Idx) 2).val < 1280 * (i.val % 3) + 1280 := H 2
    exact ⟨show ((y : S4x1280x3840.Idx) 0).val = l.val by omega, show ((y : S4x1280x3840.Idx) 2).val / 1280 = i.val by omega⟩
/-- The weight whole is its pieces, layer by layer. -/
theorem w1_eq : ((w1M.view.loc (c : Thread nD τ) ↦{fullShare} X1) : sProp 𝕄)
    = bigSep (Finset.Ico 0 4) (fun l => iprop(homeP c (w1p l 0) X1 ∗ homeP c (w1p l 1) X1 ∗ homeP c (w1p l 2) X1)) := by
  rw [Ring.pointsTo_blocks (part1 c) (part1_disj c) (part1_cover c) X1, ← Finset.univ_product_univ, bigSep_product,
    ← bigSep_fin 4 (fun l => iprop(homeP c (w1p l 0) X1 ∗ homeP c (w1p l 1) X1 ∗ homeP c (w1p l 2) X1))]
  refine bigSep_congr fun l _ => ?_
  rw [← three (fun i => homeP c (w1p l.val i) X1)]
  refine bigSep_congr fun i _ => ?_
  rw [part1_eq]
  rfl

/-- The weight whole is the layers' pieces. -/
theorem homes_all : (w1M.view.loc (c : Thread nD τ) ↦{fullShare} X1) = (bigSep (Finset.Ico 0 4) (homesP c X1) : sProp 𝕄) := w1_eq c X1
theorem homes_split : (bigSep (Finset.Ico 0 4) (homesP c X1) : sProp 𝕄) = iprop(homesP c X1 0 ∗ bigSep (Finset.Ico 1 4) (homesP c X1)) := by
  rw [bigSep_Ico_consecutive (show 0 ≤ 1 by omega) (show 1 ≤ 4 by omega), bigSep_Ico_one 0]
end Weights

section Slots
variable (c : Dev nD)

theorem free_end : (bigSep (Finset.Ico 0 22) (freeP c) : sProp 𝕄) = iprop(bigSep (Finset.Ico 0 22) (fun n => iprop(∃ f, slotP c n f)) ∗ bigSep (Finset.Ico 0 22) (cellP c)) := by
  rw [bigSep_both]; rfl
/-- The slots free: the three the transfers use, and the others. -/
theorem frees_eq : (bigSep (Finset.Ico 0 22) (freeP c) : sProp 𝕄) = iprop(freesP c ∗ bigSep (Finset.Ico 3 22) (freeP c)) := by
  rw [bigSep_Ico_consecutive (show 0 ≤ 3 by omega) (show 3 ≤ 22 by omega)]
  rw [show (bigSep (Finset.Ico 0 3) (freeP c) : sProp 𝕄) = freesP c from BI.bigSep_eq_bigSepL_of_eq [0, 1, 2] (by decide) (by decide) (freeP c)]
/-- The ring's 22 semaphores. -/
abbrev osem0 : Fin 22 → SemLoc sig := fun j => SemLoc.dma (csm j.val).sem
theorem ownSemFacts0 : Pipeline.OwnSemFacts spec0 osem0 := by decide
theorem ownSems_eq : (Pipeline.ownSems0 (Ix := Unit) (Name := ℕ) (U := Pipeline.UD sig nD τ) (Lvl := ℕ) (Val := Elt F) (τ := τ) osem0 c : sProp 𝕄) = bigSep (Finset.Ico 0 22) (cellP c) :=
  bigSep_fin 22 (cellP c)
end Slots

end Cert.Kv.Ring

end
-- ==== Proof.Kv.Run.lean ====
/-
  The launch: what the region finds and leaves, the body's obligation at its one grid point, the run of the program, its frame,
  and the results as functions of the arguments.
-/
module

public import proofs.«01_k».proof.Proof.Kv.Bufs
public import Idealize.ShloMosaic.Lib.Pipeline.FrameBody
public import Idealize.ShloMosaic.Lib.Pipeline.FrameSuffix
public import Idealize.ShloMosaic.Lib.Pipeline.Value

@[expose] public section

set_option maxRecDepth 16384

noncomputable section

namespace Cert.Kv.Ring

open Cert.Kv Cert.Kv.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays' contents when the region is entered. -/
abbrev V0 (c : Dev nD) : Valuation τ sig (Elt F) := StableHlo.after hostOps0 (fun b => m (c, b))

set_option maxHeartbeats 800000 in
/-- The host line before the region reduces to the region, with nothing after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] (by simp only [List.Forall]; exact hostOps0_sub)
    (by simp only [List.Forall]; exact hostOps0_fresh) main_chain

/-- The arrays the kernel moves itself: the weight. -/
def H0 : Finset (Ref sig .tc) := {main_arg3}
theorem H0_sub : H0 ⊆ Pipeline.restRefs sig spec0 := by decide

/-- The contents the body leaves in its results' staging buffers: codes and scales of the keys, of the values. -/
def resAt5 (c : Dev nD) (t : Fin cfg0.N) : Vec F S4x10x1280 .i8 := allC (kcK c (V m c main_arg3) (iblk m c 0 t) (iblk m c 1 t) (iblk m c 2 t) (iblk m c 3 t))
def resAt6 (c : Dev nD) (t : Fin cfg0.N) : Vec F S4x10x20 .f32 := allS (ksK c (V m c main_arg3) (iblk m c 0 t) (iblk m c 1 t) (iblk m c 2 t) (iblk m c 3 t))
def resAt7 (c : Dev nD) (t : Fin cfg0.N) : Vec F S4x10x1280 .i8 := allC (vcK c (V m c main_arg3) (iblk m c 0 t) (iblk m c 1 t) (iblk m c 2 t) (iblk m c 3 t) (iblk m c 4 t))
def resAt8 (c : Dev nD) (t : Fin cfg0.N) : Vec F S4x10x20 .f32 := allS (vsK c (V m c main_arg3) (iblk m c 0 t) (iblk m c 1 t) (iblk m c 2 t) (iblk m c 3 t) (iblk m c 4 t))

/-- The pipeline's proof data: the operands as the host line leaves them, the results as the kernel computes them, the weight and
    the ring the kernel's own. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resAt5 m c t
    | ⟨6, _⟩ => resAt6 m c t
    | ⟨7, _⟩ => resAt7 m c t
    | ⟨8, _⟩ => resAt8 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = resAt5 m c t := by dsimp only [dats]
theorem after0_6 (c : Dev nD) (t : Fin cfg0.N) : (dats m 0 c).after 6 t = resAt6 m c t := by dsimp only [dats]
theorem after0_7 (c : Dev nD) (t : Fin cfg0.N) : (dats m 0 c).after 7 t = resAt7 m c t := by dsimp only [dats]
theorem after0_8 (c : Dev nD) (t : Fin cfg0.N) : (dats m 0 c).after 8 t = resAt8 m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

theorem held_eq (c : Dev nD) : (bigSep H0 (fun b => (((c : Thread nD τ).loc b) ↦{fullShare} V m c b : sProp 𝕄))) = (((c : Thread nD τ).loc main_arg3) ↦{fullShare} V m c main_arg3) := by
  unfold H0
  rw [bigSep_singleton]
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (∃ r, prngReg c r) ∗ bigSep (Finset.Ico 0 22) (cellP c)
        ∗ (((c : Thread nD τ).loc main_arg3) ↦{fullShare} V m c main_arg3)) := by
  rw [← ownSems_eq, ← scopedRest0_eq (Ix := Unit) (Val := Elt F) (Name := ℕ) (U := Pipeline.UD sig nD τ) (Lvl := ℕ) c, ← held_eq]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The weight whole, layer by layer, and back. -/
theorem homes_open (c : Dev nD) (X1 : Buf (Elt F) (w1M.view.loc (c : Thread nD τ))) :
    (w1M.view.loc (c : Thread nD τ) ↦{fullShare} X1)
      ⊢ (iprop(homesP c X1 0 ∗ bigSep (Finset.Ico 1 4) (homesP c X1)) : sProp 𝕄) := by
  rw [homes_all, homes_split]
theorem homes_join (c : Dev nD) (X1 : Buf (Elt F) (w1M.view.loc (c : Thread nD τ))) :
    bigSep (Finset.Ico 0 4) (homesP c X1)
      ⊢ (w1M.view.loc (c : Thread nD τ) ↦{fullShare} X1 : sProp 𝕄) := by
  rw [homes_all]
theorem free_open (c : Dev nD) : iprop(bigSep (Finset.Ico 0 22) (fun n => iprop(∃ f, slotP c n f)) ∗ bigSep (Finset.Ico 0 22) (cellP c))
      ⊢ (iprop(freesP c ∗ bigSep (Finset.Ico 3 22) (freeP c)) : sProp 𝕄) := by
  rw [← free_end, frees_eq]
theorem free_join (c : Dev nD) : (iprop(freesP c ∗ bigSep (Finset.Ico 3 22) (freeP c)) : sProp 𝕄)
      ⊢ iprop(bigSep (Finset.Ico 0 22) (fun n => iprop(∃ f, slotP c n f)) ∗ bigSep (Finset.Ico 0 22) (cellP c)) := by
  rw [← free_end, frees_eq]
theorem rowM_set (c : Dev nD) (f : Buf (Elt F) (rowM.view.loc (c : Thread nD τ))) :
    ((rowM.view.loc (c : Thread nD τ) ↦[rowM.view.set]{fullShare} f) : sProp 𝕄) = (((c : Thread nD τ).loc cc0_scratch1) ↦{fullShare} f) := by
  rw [show (rowM : Memref sig .tc .vmem _ _).view.set = Finset.univ from (Memref.isWhole_whole cc0_scratch1).set_eq_univ]

set_option maxHeartbeats 1000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Pipeline.ΦD osem0 spec0 H0 (V m) c from rfl, show (dats m 0 c).Φ t.castSucc = Pipeline.ΦD osem0 spec0 H0 (V m) c from rfl, PhiD0_eq,
    after0_0, after0_1, after0_2, after0_3, after0_4, after0_5, after0_6, after0_7, after0_8]
  simp only [before0_0, before0_1, before0_2, before0_3, before0_4]
  unfold Dat.owesAt Pipeline.owesWithin
  rw [show (dats m 0 c).owed t.castSucc = 0 from rfl, show (dats m 0 c).owed t.succ = 0 from rfl]
  unfold owns
  iintro ⟨⟨⟨⟨%fS, HS⟩, %fR, HR⟩, Hg, HC, HA⟩, ⟨%W, -, HW⟩, ⟨%d1, %g1, %e1, H1⟩, ⟨%d2, %g2, %e2, H2⟩, ⟨%d3, %g3, %e3, H3⟩, ⟨%d5, %g5, %e5, H5⟩, ⟨%d6, %g6, %e6, H6⟩, ⟨%d7, %go7, -, O7⟩, ⟨%d8, %go8, -, O8⟩, ⟨%d9, %go9, -, O9⟩, ⟨%d10, %go10, -, O10⟩⟩
  ihave HS := (ring_split c fS) $$ HS
  ihave HA := (homes_open c (V m c main_arg3)) $$ HA
  icases HA with ⟨HA0, HA1⟩
  ihave HF := (free_open c) $$ [HS HC]
  · isplitl [HS]; · iexact HS
    iexact HC
  icases HF with ⟨HF, HFb⟩
  iapply wp_wand_r
  isplitr [Hg HFb]
  · iapply (bodyRun c (V m c main_arg3) (grid0.coords t) (st0_0 t) _ (st0_1 t) _ (st0_2 t) _ (st0_3 t) _ (st0_4 t) _ (st0_5 t) _ (st0_6 t) _ (st0_7 t) _ (st0_8 t) _ g1 g2 g3 g5 g6 go7 go8 go9 go10 fR)
    isplitl [H1 H2 H3 H5 H6]
    · isplitl [H1]; · iexact H1
      isplitl [H2]; · iexact H2
      isplitl [H3]; · iexact H3
      isplitl [H5]; · iexact H5
      iexact H6
    isplitl [O7]; · iexact O7
    isplitl [O8]; · iexact O8
    isplitl [O9]; · iexact O9
    isplitl [O10]; · iexact O10
    isplitl [HR]; · iapply (entails_of_eq (rowM_set c fR).symm); iexact HR
    isplitl [HW]; · iexists W; iexact HW
    isplitl [HA0]; · iexact HA0
    isplitl [HF]; · iexact HF
    iexact HA1
  iintro %_ ⟨⟨H1, H2, H3, H5, H6⟩, ⟨%o7, O7, %e7⟩, ⟨%o8, O8, %e8⟩, ⟨%o9, O9, %e9⟩, ⟨%o10, O10, %e10⟩, ⟨%fR', HR⟩, ⟨%W', HW⟩, HF, HH⟩
  ihave HF := (free_join c) $$ [HF HFb]
  · isplitl [HF]; · iexact HF
    iexact HFb
  icases HF with ⟨HS, HC⟩
  ihave HS := (ring_join c) $$ HS
  isplitl [HS HR Hg HC HH]
  · isplitl [HS HR]
    · isplitl [HS]; · iexact HS
      iexists fR'
      iapply (entails_of_eq (rowM_set c fR'))
      iexact HR
    isplitl [Hg]; · iexact Hg
    isplitl [HC]; · iexact HC
    iapply (homes_join c (V m c main_arg3))
    iexact HH
  isplitl [HW]
  · iexists W'; isplitr; · ipureintro; exact fun _ _ => Or.inl trivial
    iexact HW
  isplitl [H1]; · iexists g1; isplitr; · ipureintro; exact e1
                  iexact H1
  isplitl [H2]; · iexists g2; isplitr; · ipureintro; exact e2
                  iexact H2
  isplitl [H3]; · iexists g3; isplitr; · ipureintro; exact e3
                  iexact H3
  isplitl [H5]; · iexists g5; isplitr; · ipureintro; exact e5
                  iexact H5
  isplitl [H6]; · iexists g6; isplitr; · ipureintro; exact e6
                  iexact H6
  isplitl [O7]
  · iexists o7
    isplitr; swap; · iexact O7
    ipureintro
    refine e7.trans ?_
    change allC (kcK c (V m c main_arg3) ((st0_0 t).view.read (Elt F) g1) ((st0_1 t).view.read (Elt F) g2) ((st0_2 t).view.read (Elt F) g3) ((st0_3 t).view.read (Elt F) g5)) = _
    rw [e1, e2, e3, e5]; rfl
  isplitl [O8]
  · iexists o8
    isplitr; swap; · iexact O8
    ipureintro
    refine e8.trans ?_
    change allS (ksK c (V m c main_arg3) ((st0_0 t).view.read (Elt F) g1) ((st0_1 t).view.read (Elt F) g2) ((st0_2 t).view.read (Elt F) g3) ((st0_3 t).view.read (Elt F) g5)) = _
    rw [e1, e2, e3, e5]; rfl
  isplitl [O9]
  · iexists o9
    isplitr; swap; · iexact O9
    ipureintro
    refine e9.trans ?_
    change allC (vcK c (V m c main_arg3) ((st0_0 t).view.read (Elt F) g1) ((st0_1 t).view.read (Elt F) g2) ((st0_2 t).view.read (Elt F) g3) ((st0_3 t).view.read (Elt F) g5) ((st0_4 t).view.read (Elt F) g6)) = _
    rw [e1, e2, e3, e5, e6]; rfl
  iexists o10
  isplitr; swap; · iexact O10
  ipureintro
  refine e10.trans ?_
  change allS (vsK c (V m c main_arg3) ((st0_0 t).view.read (Elt F) g1) ((st0_1 t).view.read (Elt F) g2) ((st0_2 t).view.read (Elt F) g3) ((st0_3 t).view.read (Elt F) g5) ((st0_4 t).view.read (Elt F) g6)) = _
  rw [e1, e2, e3, e5, e6]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, in the arrays the region leaves, with every semaphore counter back at zero. -/
theorem run_main : θ_run defs (onTc (τ := τ) (main (F := F))) (s₀ m ρ)
    (fun r => Pipeline.FramePost cfgs (dats m) 0 (Pipeline.afterTail₀ cfgs (dats m) 0 (V0 m) []) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := []) (hsub := fun _ h => absurd h List.not_mem_nil) (hfresh := fun _ h => absurd h List.not_mem_nil) (hkeep := fun _ h => absurd h List.not_mem_nil)
    (hmain := hmainD m Variants.none) (hA := A_eq m) (hin := fun _ => .rfl) (hout := fun _ => .rfl)

/-- A buffer the region does not stage ends as the region finds it. -/
theorem W_of (c : Dev nD) (b : Ref sig .tc) (ha : ∀ w, Pipeline.arrRef spec0 w ≠ b) :
    Pipeline.afterTail₀ cfgs (dats m) 0 (V0 m) [] c b = V m c b := by
  unfold Pipeline.afterTail₀
  show StableHlo.after [] _ (Proc.devRef .tc b) = _
  rw [StableHlo.after_nil, Pipeline.withArrays_of_ne _ c (V0 m c) _ b ha]

theorem kept (r : PUnit × MemSt nD τ sig (Elt F)) (h : Pipeline.FramePost cfgs (dats m) 0 (Pipeline.afterTail₀ cfgs (dats m) 0 (V0 m) []) r) (c : Dev nD)
    (b : Ref sig .tc) (hr : b ∈ Pipeline.restRefs sig spec0) (ha : ∀ w, Pipeline.arrRef spec0 w ≠ b)
    (hV : V m c b = m ((c : Thread nD τ).loc b)) : r.2.mem ((c : Thread nD τ).loc b) = m ((c : Thread nD τ).loc b) :=
  ((h c).2 b hr).trans ((W_of m c b ha).trans hV)

/-- The windows are whole arrays: an index of a block is the same index of its array. -/
theorem idx_zero : ∀ t : Fin cfg0.N, (win0_0.index t (0 : Fin 3) = 0 ∧ win0_0.index t (1 : Fin 3) = 0 ∧ win0_0.index t (2 : Fin 3) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 3) = 0 ∧ win0_5.index t (1 : Fin 3) = 0 ∧ win0_5.index t (2 : Fin 3) = 0) ∧ (win0_6.index t (0 : Fin 3) = 0 ∧ win0_6.index t (1 : Fin 3) = 0 ∧ win0_6.index t (2 : Fin 3) = 0) ∧ (win0_7.index t (0 : Fin 3) = 0 ∧ win0_7.index t (1 : Fin 3) = 0 ∧ win0_7.index t (2 : Fin 3) = 0) ∧ (win0_8.index t (0 : Fin 3) = 0 ∧ win0_8.index t (1 : Fin 3) = 0 ∧ win0_8.index t (2 : Fin 3) = 0) :=
  (by decide +kernel : ∀ t : Fin grid0.N, _)
theorem emb0_0 (t : Fin cfg0.N) (y : S4x10x1280.Idx) : ((cfg0.win 0).blk t).view.emb y = y := by
  obtain ⟨h0, h1, h2, h3, h4, h5, h6, h7, h8⟩ := idx_zero t
  funext a; apply Fin.ext
  match a with
  | ⟨0, _⟩ => show win0_0.index t (0 : Fin 3) * 4 + 1 * (y 0).val = (y 0).val; omega
  | ⟨1, _⟩ => show win0_0.index t (1 : Fin 3) * 10 + 1 * (y 1).val = (y 1).val; omega
  | ⟨2, _⟩ => show win0_0.index t (2 : Fin 3) * 1280 + 1 * (y 2).val = (y 2).val; omega
theorem emb0_1 (t : Fin cfg0.N) (y : S4x1280.Idx) : ((cfg0.win 1).blk t).view.emb y = y := by
  obtain ⟨h0, h1, h2, h3, h4, h5, h6, h7, h8⟩ := idx_zero t
  funext a; apply Fin.ext
  match a with
  | ⟨0, _⟩ => show win0_1.index t (0 : Fin 2) * 4 + 1 * (y 0).val = (y 0).val; omega
  | ⟨1, _⟩ => show win0_1.index t (1 : Fin 2) * 1280 + 1 * (y 1).val = (y 1).val; omega
theorem emb0_2 (t : Fin cfg0.N) (y : S4x1280.Idx) : ((cfg0.win 2).blk t).view.emb y = y := by
  obtain ⟨h0, h1, h2, h3, h4, h5, h6, h7, h8⟩ := idx_zero t
  funext a; apply Fin.ext
  match a with
  | ⟨0, _⟩ => show win0_2.index t (0 : Fin 2) * 4 + 1 * (y 0).val = (y 0).val; omega
  | ⟨1, _⟩ => show win0_2.index t (1 : Fin 2) * 1280 + 1 * (y 1).val = (y 1).val; omega
theorem emb0_3 (t : Fin cfg0.N) (y : S4x3840.Idx) : ((cfg0.win 3).blk t).view.emb y = y := by
  obtain ⟨h0, h1, h2, h3, h4, h5, h6, h7, h8⟩ := idx_zero t
  funext a; apply Fin.ext
  match a with
  | ⟨0, _⟩ => show win0_3.index t (0 : Fin 2) * 4 + 1 * (y 0).val = (y 0).val; omega
  | ⟨1, _⟩ => show win0_3.index t (1 : Fin 2) * 3840 + 1 * (y 1).val = (y 1).val; omega
theorem emb0_4 (t : Fin cfg0.N) (y : S4x1280.Idx) : ((cfg0.win 4).blk t).view.emb y = y := by
  obtain ⟨h0, h1, h2, h3, h4, h5, h6, h7, h8⟩ := idx_zero t
  funext a; apply Fin.ext
  match a with
  | ⟨0, _⟩ => show win0_4.index t (0 : Fin 2) * 4 + 1 * (y 0).val = (y 0).val; omega
  | ⟨1, _⟩ => show win0_4.index t (1 : Fin 2) * 1280 + 1 * (y 1).val = (y 1).val; omega
theorem emb0_5 (t : Fin cfg0.N) (y : S4x10x1280.Idx) : ((cfg0.win 5).blk t).view.emb y = y := by
  obtain ⟨h0, h1, h2, h3, h4, h5, h6, h7, h8⟩ := idx_zero t
  funext a; apply Fin.ext
  match a with
  | ⟨0, _⟩ => show win0_5.index t (0 : Fin 3) * 4 + 1 * (y 0).val = (y 0).val; omega
  | ⟨1, _⟩ => show win0_5.index t (1 : Fin 3) * 10 + 1 * (y 1).val = (y 1).val; omega
  | ⟨2, _⟩ => show win0_5.index t (2 : Fin 3) * 1280 + 1 * (y 2).val = (y 2).val; omega
theorem emb0_6 (t : Fin cfg0.N) (y : S4x10x20.Idx) : ((cfg0.win 6).blk t).view.emb y = y := by
  obtain ⟨h0, h1, h2, h3, h4, h5, h6, h7, h8⟩ := idx_zero t
  funext a; apply Fin.ext
  match a with
  | ⟨0, _⟩ => show win0_6.index t (0 : Fin 3) * 4 + 1 * (y 0).val = (y 0).val; omega
  | ⟨1, _⟩ => show win0_6.index t (1 : Fin 3) * 10 + 1 * (y 1).val = (y 1).val; omega
  | ⟨2, _⟩ => show win0_6.index t (2 : Fin 3) * 20 + 1 * (y 2).val = (y 2).val; omega
theorem emb0_7 (t : Fin cfg0.N) (y : S4x10x1280.Idx) : ((cfg0.win 7).blk t).view.emb y = y := by
  obtain ⟨h0, h1, h2, h3, h4, h5, h6, h7, h8⟩ := idx_zero t
  funext a; apply Fin.ext
  match a with
  | ⟨0, _⟩ => show win0_7.index t (0 : Fin 3) * 4 + 1 * (y 0).val = (y 0).val; omega
  | ⟨1, _⟩ => show win0_7.index t (1 : Fin 3) * 10 + 1 * (y 1).val = (y 1).val; omega
  | ⟨2, _⟩ => show win0_7.index t (2 : Fin 3) * 1280 + 1 * (y 2).val = (y 2).val; omega
theorem emb0_8 (t : Fin cfg0.N) (y : S4x10x20.Idx) : ((cfg0.win 8).blk t).view.emb y = y := by
  obtain ⟨h0, h1, h2, h3, h4, h5, h6, h7, h8⟩ := idx_zero t
  funext a; apply Fin.ext
  match a with
  | ⟨0, _⟩ => show win0_8.index t (0 : Fin 3) * 4 + 1 * (y 0).val = (y 0).val; omega
  | ⟨1, _⟩ => show win0_8.index t (1 : Fin 3) * 10 + 1 * (y 1).val = (y 1).val; omega
  | ⟨2, _⟩ => show win0_8.index t (2 : Fin 3) * 20 + 1 * (y 2).val = (y 2).val; omega
theorem iblk_eq0 (c : Dev nD) (t : Fin cfg0.N) : iblk m c 0 t = V m c main_v0 := by
  funext y; show V m c main_v0 (((cfg0.win 0).blk t).view.emb y) = V m c main_v0 y; rw [emb0_0]
theorem iblk_eq1 (c : Dev nD) (t : Fin cfg0.N) : iblk m c 1 t = V m c main_arg1 := by
  funext y; show V m c main_arg1 (((cfg0.win 1).blk t).view.emb y) = V m c main_arg1 y; rw [emb0_1]
theorem iblk_eq2 (c : Dev nD) (t : Fin cfg0.N) : iblk m c 2 t = V m c main_arg2 := by
  funext y; show V m c main_arg2 (((cfg0.win 2).blk t).view.emb y) = V m c main_arg2 y; rw [emb0_2]
theorem iblk_eq3 (c : Dev nD) (t : Fin cfg0.N) : iblk m c 3 t = V m c main_arg4 := by
  funext y; show V m c main_arg4 (((cfg0.win 3).blk t).view.emb y) = V m c main_arg4 y; rw [emb0_3]
theorem iblk_eq4 (c : Dev nD) (t : Fin cfg0.N) : iblk m c 4 t = V m c main_arg5 := by
  funext y; show V m c main_arg5 (((cfg0.win 4).blk t).view.emb y) = V m c main_arg5 y; rw [emb0_4]

theorem idx_inj5 : ∀ t t' : Fin cfg0.N, win0_5.index t = win0_5.index t' → t = t' :=
  (by decide +kernel : ∀ t t' : Fin grid0.N, win0_5.index t = win0_5.index t' → t = t')
theorem idx_inj6 : ∀ t t' : Fin cfg0.N, win0_6.index t = win0_6.index t' → t = t' :=
  (by decide +kernel : ∀ t t' : Fin grid0.N, win0_6.index t = win0_6.index t' → t = t')
theorem idx_inj7 : ∀ t t' : Fin cfg0.N, win0_7.index t = win0_7.index t' → t = t' :=
  (by decide +kernel : ∀ t t' : Fin grid0.N, win0_7.index t = win0_7.index t' → t = t')
theorem idx_inj8 : ∀ t t' : Fin cfg0.N, win0_8.index t = win0_8.index t' → t = t' :=
  (by decide +kernel : ∀ t t' : Fin grid0.N, win0_8.index t = win0_8.index t' → t = t')

/-- The region's result arrays end as its one grid point writes them. -/
theorem arr5 (c : Dev nD) : (dats m 0 c).arrAt 5 cfg0.N = resAt5 m c t0_0 := by
  have h := (dats m 0 c).read_blk_arrAt_eq_flushed 5
    (fun t t' _ _ hne => (cfg0.win 5).disjoint_blk fun h => hne (idx_inj5 t t' h)) cfg0.N t0_0 t0_0.isLt (flush0_5 t0_0)
  have hf : (dats m 0 c).flushed 5 t0_0 = (cfg0.win 5).cut (grid0.coords t0_0) (resAt5 m c t0_0) := by
    show (cfg0.win 5).cut (grid0.coords t0_0) ((dats m 0 c).after 5 t0_0) = _
    rw [after0_5]
  rw [hf] at h
  generalize (dats m 0 c).arrAt 5 cfg0.N = A at h ⊢
  generalize resAt5 m c t0_0 = B at h ⊢
  clear hf
  funext y
  have hy : A (((cfg0.win 5).blk t0_0).view.emb y) = B y := congrFun h y
  rw [emb0_5] at hy
  exact hy

theorem arr6 (c : Dev nD) : (dats m 0 c).arrAt 6 cfg0.N = resAt6 m c t0_0 := by
  have h := (dats m 0 c).read_blk_arrAt_eq_flushed 6
    (fun t t' _ _ hne => (cfg0.win 6).disjoint_blk fun h => hne (idx_inj6 t t' h)) cfg0.N t0_0 t0_0.isLt (flush0_6 t0_0)
  have hf : (dats m 0 c).flushed 6 t0_0 = (cfg0.win 6).cut (grid0.coords t0_0) (resAt6 m c t0_0) := by
    show (cfg0.win 6).cut (grid0.coords t0_0) ((dats m 0 c).after 6 t0_0) = _
    rw [after0_6]
  rw [hf] at h
  generalize (dats m 0 c).arrAt 6 cfg0.N = A at h ⊢
  generalize resAt6 m c t0_0 = B at h ⊢
  clear hf
  funext y
  have hy : A (((cfg0.win 6).blk t0_0).view.emb y) = B y := congrFun h y
  rw [emb0_6] at hy
  exact hy

theorem arr7 (c : Dev nD) : (dats m 0 c).arrAt 7 cfg0.N = resAt7 m c t0_0 := by
  have h := (dats m 0 c).read_blk_arrAt_eq_flushed 7
    (fun t t' _ _ hne => (cfg0.win 7).disjoint_blk fun h => hne (idx_inj7 t t' h)) cfg0.N t0_0 t0_0.isLt (flush0_7 t0_0)
  have hf : (dats m 0 c).flushed 7 t0_0 = (cfg0.win 7).cut (grid0.coords t0_0) (resAt7 m c t0_0) := by
    show (cfg0.win 7).cut (grid0.coords t0_0) ((dats m 0 c).after 7 t0_0) = _
    rw [after0_7]
  rw [hf] at h
  generalize (dats m 0 c).arrAt 7 cfg0.N = A at h ⊢
  generalize resAt7 m c t0_0 = B at h ⊢
  clear hf
  funext y
  have hy : A (((cfg0.win 7).blk t0_0).view.emb y) = B y := congrFun h y
  rw [emb0_7] at hy
  exact hy

theorem arr8 (c : Dev nD) : (dats m 0 c).arrAt 8 cfg0.N = resAt8 m c t0_0 := by
  have h := (dats m 0 c).read_blk_arrAt_eq_flushed 8
    (fun t t' _ _ hne => (cfg0.win 8).disjoint_blk fun h => hne (idx_inj8 t t' h)) cfg0.N t0_0 t0_0.isLt (flush0_8 t0_0)
  have hf : (dats m 0 c).flushed 8 t0_0 = (cfg0.win 8).cut (grid0.coords t0_0) (resAt8 m c t0_0) := by
    show (cfg0.win 8).cut (grid0.coords t0_0) ((dats m 0 c).after 8 t0_0) = _
    rw [after0_8]
  rw [hf] at h
  generalize (dats m 0 c).arrAt 8 cfg0.N = A at h ⊢
  generalize resAt8 m c t0_0 = B at h ⊢
  clear hf
  funext y
  have hy : A (((cfg0.win 8).blk t0_0).view.emb y) = B y := congrFun h y
  rw [emb0_8] at hy
  exact hy

/-- The run: the results of the arguments, the arguments as launched, the counters at zero. -/
theorem run : θ_run defs (onTc (τ := τ) (main (F := F))) ⟨m, fun _ => 0, ρ⟩ (fun r => (∀ c : Dev nD,
      r.2.mem ((c.tc : Thread nD τ).loc main_v1_0) = resAt5 (F := F) m c t0_0
      ∧ r.2.mem ((c.tc : Thread nD τ).loc main_v1_1) = resAt6 (F := F) m c t0_0
      ∧ r.2.mem ((c.tc : Thread nD τ).loc main_v1_2) = resAt7 (F := F) m c t0_0
      ∧ r.2.mem ((c.tc : Thread nD τ).loc main_v1_3) = resAt8 (F := F) m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).1 5).trans (arr5 m c), ((h.1 c).1 6).trans (arr6 m c), ((h.1 c).1 7).trans (arr7 m c), ((h.1 c).1 8).trans (arr8 m c),
    kept m r h.1 c main_arg0 (Pipeline.mem_restRefs_of main_arg0 (by decide) (by decide)) (by decide) (V_main_arg0 m c),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    kept m r h.1 c main_arg3 (Pipeline.mem_restRefs_of main_arg3 (by decide) (by decide)) (by decide) (V_main_arg3 m c),
    ((h.1 c).1 3).trans (((dats m 0 c).arrAt_in 3 rfl _).trans ((A_eq m c 3).trans (V_main_arg4 m c))),
    ((h.1 c).1 4).trans (((dats m 0 c).arrAt_in 4 rfl _).trans ((A_eq m c 4).trans (V_main_arg5 m c)))⟩, h.2⟩) (run_main m ρ)

end Cert.Kv.Ring

end
-- ==== Proof.KvV.Twin.lean ====
/-
  The idealized program is the program itself at the extended reals: no operation of it is rewritten. So what is proved of the
  program's run, for every kind of numbers, is proved of it.
-/
module

public import proofs.«01_k».proof.Proof.Kv.Run
public import proofs.«01_k».proof.Proof.Gen.KvIdeal.Launch
public import Idealize.ShloMosaic.PureOps.Ideal

@[expose] public section

set_option maxRecDepth 16384

noncomputable section

namespace Cert.KvIdeal.Twin
open Cert.KvIdeal
open Idealize.ShloMosaic Idealize.ShloMosaic.TcCoe Idealize.SL.Sem

theorem defs0_eq : (Cert.KvIdeal.defs₀ (F := Ideal)) = Cert.Kv.defs₀ (F := Ideal) := by
  unfold Cert.KvIdeal.defs₀ Cert.Kv.defs₀
  refine congrArg Defs.onTc ?_
  funext p x
  match p, x with
  | 0, (t, s) => rfl
theorem defs_eq : (Cert.KvIdeal.defs (F := Ideal)) = Cert.Kv.defs (F := Ideal) :=
  (congrArg (Pipeline.defs (Cert.Kv.pcfgs (F := Ideal))) defs0_eq : Pipeline.defs (Cert.Kv.pcfgs (F := Ideal)) Cert.KvIdeal.defs₀ = _)

variable (m : (ℓ : Loc nD τ sig) → Buf (Elt Ideal) ℓ) (ρ : Dev nD → PrngReg)

/-- What the four results hold. -/
def kcO (c : Dev nD) : Vec Ideal S4x10x1280 .i8 := Cert.Kv.Ring.resAt5 (F := Ideal) m c Cert.Kv.Gen.t0_0
def ksO (c : Dev nD) : Vec Ideal S4x10x20 .f32 := Cert.Kv.Ring.resAt6 (F := Ideal) m c Cert.Kv.Gen.t0_0
def vcO (c : Dev nD) : Vec Ideal S4x10x1280 .i8 := Cert.Kv.Ring.resAt7 (F := Ideal) m c Cert.Kv.Gen.t0_0
def vsO (c : Dev nD) : Vec Ideal S4x10x20 .f32 := Cert.Kv.Ring.resAt8 (F := Ideal) m c Cert.Kv.Gen.t0_0

theorem run : θ_run defs (onTc (τ := τ) (main (F := Ideal))) ⟨m, fun _ => 0, ρ⟩ (fun r => (∀ c : Dev nD,
      r.2.mem ((c.tc : Thread nD τ).loc main_v1_0) = kcO m c
      ∧ r.2.mem ((c.tc : Thread nD τ).loc main_v1_1) = ksO m c
      ∧ r.2.mem ((c.tc : Thread nD τ).loc main_v1_2) = vcO m c
      ∧ r.2.mem ((c.tc : Thread nD τ).loc main_v1_3) = vsO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.Kv.Ring.run (F := Ideal) m ρ

end Cert.KvIdeal.Twin

end
-- ==== Proof.KvV.Pure.lean ====
/-
  What the payloads of the key and value program and of its reference hold over the extended reals, index by index: the
  projections of a normalised row, and the quantiser, of a row's heads. A head's scale is its greatest magnitude over 127,
  or 1; a column's code is the column over its head's scale, rounded and clipped. The kernel takes a head's maximum over the
  128 lanes of its tile, the other head's lanes as zeros.
-/
module

public import proofs.«01_k».proof.Proof.HdI.Pure
public import proofs.«01_k».proof.Proof.Kv.Quant
public import proofs.«01_k».proof.Proof.Gen.KvRefIdeal.Skeleton
public import Idealize.ShloMosaic.Lib.Pointwise
public import Idealize.ShloMosaic.Lib.ValueLayout

@[expose] public section

set_option maxRecDepth 16384

noncomputable section

namespace Cert.KvPure
open Idealize.ShloMosaic
open Cert.HeadPure (lnRow)

/-- A weight as the product takes it. -/
def num (w : BitVec 8) : EReal := (FloatOps.sitofp .bf16 w : Ideal .bf16)
/-- A magnitude. -/
def mag (x : EReal) : EReal := (FloatOps.absf (x : Ideal .f32) : Ideal .f32)
/-- A projected column: a normalised row against a column of the weight, scaled. -/
def proj (h : Fin 1280 → EReal) (w : Fin 1280 → BitVec 8) (s : EReal) : EReal := (∑ d, h d * num (w d)) * s
/-- The greatest magnitude of a head's 64 columns. -/
def top (v : Fin 64 → EReal) : EReal := Finset.univ.fold max (Ideal.ofBits .f32 0xFF800000#32) fun j => mag (v j)
/-- The scale of a greatest magnitude. -/
def scl (M : EReal) : EReal := if M = 0 then 1 else Ideal.div M (Ideal.ofBits .f32 0x42FE0000#32)
/-- A column over its head's scale, rounded and clipped. -/
def clip (x s : EReal) : EReal :=
  min (((127#32).toInt : ℝ) : EReal) (max (((4294967169#32).toInt : ℝ) : EReal) (Ideal.liftRound Ideal.roundHalfEven (Ideal.div x s)))
/-- Its code. -/
def code (x : EReal) : BitVec 8 := FloatOps.fptosi (F := Ideal) (φ := .f32) 8 x
/-- A row's head `n`, its scale, and the code of a column. -/
def headOf (X : Fin 1280 → EReal) (n : ℕ) (hn : n < 20) : Fin 64 → EReal := fun j => X ⟨n * 64 + j.val, by omega⟩
def rowScale (X : Fin 1280 → EReal) (n : ℕ) (hn : n < 20) : EReal := scl (top (headOf X n hn))
def rowCode (X : Fin 1280 → EReal) (d : Fin 1280) : BitVec 8 := code (clip (X d) (rowScale X (d.val / 64) (by omega)))

/-- The keys and the values of layer `l`'s row `i`: columns 1280 on and 2560 on of the weight. -/
def keyAt (x : (⟨3, ![4, 10, 1280]⟩ : Shape).Idx → EReal) (g b : (⟨2, ![4, 1280]⟩ : Shape).Idx → EReal) (w : (⟨3, ![4, 1280, 3840]⟩ : Shape).Idx → BitVec 8)
    (s : (⟨2, ![4, 3840]⟩ : Shape).Idx → EReal) (l : Fin 4) (i : Fin 10) (d : Fin 1280) : EReal :=
  proj (lnRow (fun e => x (ix3 l i e)) (fun e => g (ix2 l e)) (fun e => b (ix2 l e))) (fun e => w (ix3 l e ⟨1280 + d.val, by omega⟩)) (s (ix2 l ⟨1280 + d.val, by omega⟩))
def valAt (x : (⟨3, ![4, 10, 1280]⟩ : Shape).Idx → EReal) (g b : (⟨2, ![4, 1280]⟩ : Shape).Idx → EReal) (w : (⟨3, ![4, 1280, 3840]⟩ : Shape).Idx → BitVec 8)
    (s : (⟨2, ![4, 3840]⟩ : Shape).Idx → EReal) (bv : (⟨2, ![4, 1280]⟩ : Shape).Idx → EReal) (l : Fin 4) (i : Fin 10) (d : Fin 1280) : EReal :=
  proj (lnRow (fun e => x (ix3 l i e)) (fun e => g (ix2 l e)) (fun e => b (ix2 l e))) (fun e => w (ix3 l e ⟨2560 + d.val, by omega⟩)) (s (ix2 l ⟨2560 + d.val, by omega⟩))
    + bv (ix2 l d)

theorem mag_nonneg (x : EReal) : 0 ≤ mag x := by
  have h : mag x = max x (-x) := rfl
  rw [h]
  rcases le_total 0 x with h0 | h0
  · exact le_max_of_le_left h0
  · exact le_max_of_le_right (EReal.neg_nonneg.mpr h0)

/-- A maximum over 128 lanes of which all but a head's 64 are zeros is the head's. -/
theorem fold_lanes (f : Fin 128 → EReal) (v : Fin 64 → EReal) (e : Fin 64 → Fin 128) (he : ∀ j, f (e j) = mag (v j))
    (h : ∀ x, f x = 0 ∨ ∃ j, x = e j) : Finset.univ.fold max (Ideal.ofBits .f32 0xFF800000#32) f = top v := by
  unfold top
  apply le_antisymm
  · refine (Finset.fold_max_le _).mpr ⟨(Finset.le_fold_max _).mpr (Or.inl le_rfl), fun x _ => ?_⟩
    refine (Finset.le_fold_max _).mpr (Or.inr ?_)
    rcases h x with h0 | ⟨j, rfl⟩
    · exact ⟨0, Finset.mem_univ _, h0.le.trans (mag_nonneg _)⟩
    · exact ⟨j, Finset.mem_univ _, (he j).le⟩
  · refine (Finset.fold_max_le _).mpr ⟨(Finset.le_fold_max _).mpr (Or.inl le_rfl), fun j _ => ?_⟩
    exact (Finset.le_fold_max _).mpr (Or.inr ⟨e j, Finset.mem_univ _, (he j).ge⟩)

section Kernel
open Cert.Kv Cert.Kv.Gen Cert.Kv.Ring

theorem norm_at (X : Vec Ideal S16x1280 .f32) (g b : Vec Ideal S1x1280 .f32) (i : Fin 16) (d : Fin 1280) :
    k0_pay4 X g b (ix2 i d) = lnRow (fun e => X (ix2 i e)) (fun e => g (ix2 0 e)) (fun e => b (ix2 0 e)) d := by
  pointwise [k0_pay4, lnRow]
theorem key_at (h : FVec Ideal S16x1280 .bf16) (sq : Vec Ideal S1x3840 .f32) (w : Vec Ideal S1x1280x1280 .i8) (i : Fin 16) (d : Fin 1280) :
    k0_pay5 h sq w (ix2 i d) = proj (fun e => h (ix2 i e)) (fun e => w (ix3 0 e d)) (sq (ix2 0 ⟨1280 + d.val, by omega⟩)) := by
  pointwise [k0_pay5, proj, num]
theorem val_at (h : FVec Ideal S16x1280 .bf16) (sq : Vec Ideal S1x3840 .f32) (w : Vec Ideal S1x1280x1280 .i8) (bv : Vec Ideal S1x1280 .f32) (i : Fin 16) (d : Fin 1280) :
    k0_pay6 h sq w bv (ix2 i d) = proj (fun e => h (ix2 i e)) (fun e => w (ix3 0 e d)) (sq (ix2 0 ⟨2560 + d.val, by omega⟩)) + bv (ix2 0 d) := by
  pointwise [k0_pay6, proj, num]
theorem pay3_at (x : Vec Ideal S1x10x1280 .f32) (i : Fin 10) (d : Fin 1280) : k0_pay3 x (ix2 i d) = x (ix3 0 i d) := by
  pointwise [k0_pay3]

/-- A lane's mask. -/
theorem mask_eq (x : ℕ) (hx : x < 128) : IntOp.cmpi .sge (BitVec.ofNat 32 x) 64#32 = if 64 ≤ x then 1#1 else 0#1 := by
  have h : ∀ x : Fin 128, IntOp.cmpi .sge (BitVec.ofNat 32 x.val) 64#32 = if 64 ≤ x.val then 1#1 else 0#1 := by decide
  exact h ⟨x, hx⟩

theorem low_at (T : FVec Ideal S16x128 .f32) (i : Fin 16) : lowF maskF T (ix2 i 0) = top (fun j => T (ix2 i (⟨j.val, by omega⟩ : Fin 128))) := by
  have h : lowF maskF T (ix2 i 0) = Finset.fold max (Ideal.ofBits .f32 0xFF800000#32)
      (fun x : Fin 128 => Scalar.select (IntOp.cmpi .sge (BitVec.ofNat 32 x.val) 64#32) (0 : EReal) (mag (T (ix2 i x)))) Finset.univ := by
    pointwise [lowF, maskF, k0_pay145, zeroF, mag]
  refine h.trans (fold_lanes _ _ (fun j => ⟨j.val, by omega⟩) (fun j => ?_) (fun x => ?_))
  · have hj : ¬ 64 ≤ j.val := by omega
    show Scalar.select (IntOp.cmpi .sge (BitVec.ofNat 32 j.val) 64#32) _ _ = _
    rw [mask_eq j.val (by omega), if_neg hj]; rfl
  · by_cases hx : 64 ≤ x.val
    · left; rw [mask_eq x.val x.isLt, if_pos hx]; rfl
    · right; exact ⟨⟨x.val, by omega⟩, rfl⟩
theorem high_at (T : FVec Ideal S16x128 .f32) (i : Fin 16) : highF maskF T (ix2 i 0) = top (fun j => T (ix2 i (⟨64 + j.val, by omega⟩ : Fin 128))) := by
  have h : highF maskF T (ix2 i 0) = Finset.fold max (Ideal.ofBits .f32 0xFF800000#32)
      (fun x : Fin 128 => Scalar.select (IntOp.cmpi .sge (BitVec.ofNat 32 x.val) 64#32) (mag (T (ix2 i x))) (0 : EReal)) Finset.univ := by
    pointwise [highF, maskF, k0_pay145, zeroF, mag]
  refine h.trans (fold_lanes _ _ (fun j => ⟨64 + j.val, by omega⟩) (fun j => ?_) (fun x => ?_))
  · have hj : 64 ≤ 64 + j.val := by omega
    show Scalar.select (IntOp.cmpi .sge (BitVec.ofNat 32 (64 + j.val)) 64#32) _ _ = _
    rw [mask_eq (64 + j.val) (by omega), if_pos hj]; rfl
  · by_cases hx : 64 ≤ x.val
    · right; exact ⟨⟨x.val - 64, by omega⟩, Fin.ext (by show x.val = 64 + (x.val - 64); omega)⟩
    · left; rw [mask_eq x.val x.isLt, if_neg hx]; rfl
theorem scl_at (M : FVec Ideal S16x1 .f32) (i : Fin 16) : sclF M (ix2 i 0) = scl (M (ix2 i 0)) := by
  pointwise [sclF, zeroF, scl]
theorem cut_at (X : FVec Ideal S16x1280 .f32) (t : Fin 10) (i : Fin 16) (j : Fin 128) : cutF X t (ix2 i j) = X (ix2 i ⟨128 * t.val + j.val, by omega⟩) := by
  pointwise [cutF]

section Row
variable (X : FVec Ideal S16x1280 .f32) (i : Fin 16)
/-- Row `i`. -/
abbrev rowX : Fin 1280 → EReal := fun e => X (ix2 i e)

/-- The two heads of tile `t`. -/
theorem low_head (t : Fin 10) (n : ℕ) (hn : n < 20) (e : n = 2 * t.val) : sclF (lowF maskF (cutF X t)) (ix2 i 0) = rowScale (rowX X i) n hn := by
  refine (scl_at _ i).trans (congrArg scl ((low_at _ i).trans (congrArg top (funext fun j => ?_))))
  exact (cut_at X t i _).trans (congrArg (rowX X i) (Fin.ext (by show 128 * t.val + j.val = n * 64 + j.val; omega)))
theorem high_head (t : Fin 10) (n : ℕ) (hn : n < 20) (e : n = 2 * t.val + 1) : sclF (highF maskF (cutF X t)) (ix2 i 0) = rowScale (rowX X i) n hn := by
  refine (scl_at _ i).trans (congrArg scl ((high_at _ i).trans (congrArg top (funext fun j => ?_))))
  exact (cut_at X t i _).trans (congrArg (rowX X i) (Fin.ext (by show 128 * t.val + (64 + j.val) = n * 64 + j.val; omega)))
theorem head_at (n : ℕ) (hn : n < 20) : headF maskF X n hn (ix2 i 0) = rowScale (rowX X i) n hn := by
  unfold headF
  rcases Nat.mod_two_eq_zero_or_one n with h | h
  · rw [h]; exact low_head X i _ n hn (by show n = 2 * (n / 2); omega)
  · rw [h]; exact high_head X i _ n hn (by show n = 2 * (n / 2) + 1; omega)

/-- A tile's codes, before they are narrowed. -/
theorem tile_at (t : Fin 10) (j : Fin 128) (d : Fin 1280) (hd : d.val = 128 * t.val + j.val) :
    codeF maskF (cutF X t) (ix2 i j) = clip (X (ix2 i d)) (rowScale (rowX X i) (d.val / 64) (by omega)) := by
  have h : codeF maskF (cutF X t) (ix2 i j) = clip (cutF X t (ix2 i j))
      (Scalar.select (IntOp.cmpi .sge (BitVec.ofNat 32 j.val) 64#32) (sclF (highF maskF (cutF X t)) (ix2 i 0)) (sclF (lowF maskF (cutF X t)) (ix2 i 0))) := by
    pointwise [codeF, maskF, k0_pay145, clip]
  refine h.trans (congrArg₂ clip ((cut_at X t i j).trans (congrArg (rowX X i) (Fin.ext hd.symm))) ?_)
  rw [mask_eq j.val j.isLt]
  by_cases hj : 64 ≤ j.val
  · rw [if_pos hj]; exact high_head X i t _ _ (by omega)
  · rw [if_neg hj]; exact low_head X i t _ _ (by omega)
theorem codes_at (d : Fin 1280) : codesF maskF X (ix2 i d) = clip (X (ix2 i d)) (rowScale (rowX X i) (d.val / 64) (by omega)) := by
  refine (Idealize.ShloMosaic.concatenate_ofFn_apply (s₁ := S16x128) (t := S16x1280) 1 (fun t : Fin 10 => codeF maskF (cutF X t)) _ rfl 128 rfl (ix2 i d)
    (⟨d.val / 128, by omega⟩ : Fin 10) rfl (ix2 i (⟨d.val % 128, Nat.mod_lt _ (by decide)⟩ : Fin 128)) rfl ?_).trans ?_
  · intro b hb
    match b with
    | ⟨0, _⟩ => rfl
    | ⟨1, _⟩ => exact absurd rfl hb
  · exact tile_at X i _ _ d (by show d.val = 128 * (d.val / 128) + d.val % 128; omega)
/-- The scales of the first `n` heads: of the others zero. -/
theorem sum_at (n : ℕ) (hn : n ≤ 20) (h : Fin 20) : sumF maskF X n hn (ix2 i h) = if h.val < n then rowScale (rowX X i) h.val h.isLt else 0 := by
  induction n with
  | zero =>
    refine Eq.trans ?_ (if_neg (by omega)).symm
    pointwise [sumF, zeroF]
  | succ n ih =>
    have hs : sumF maskF X (n + 1) hn (ix2 i h) = sumF maskF X n (by omega) (ix2 i h)
        + Scalar.select (IntOp.cmpi .eq (BitVec.ofNat 32 h.val) (BitVec.ofNat 32 n)) (headF maskF X n (by omega) (ix2 i 0)) (0 : EReal) := by
      pointwise [sumF, colsF, zeroF]
    have hc : IntOp.cmpi .eq (BitVec.ofNat 32 h.val) (BitVec.ofNat 32 n) = if h.val = n then 1#1 else 0#1 := by
      have key : ∀ a b : Fin 20, IntOp.cmpi .eq (BitVec.ofNat 32 a.val) (BitVec.ofNat 32 b.val) = if a.val = b.val then 1#1 else 0#1 := by decide
      exact key h ⟨n, by omega⟩
    rw [hs, ih, hc]
    by_cases he : h.val = n
    · rw [if_pos he, if_neg (by omega), if_pos (by omega)]
      refine (zero_add _).trans ((head_at X i n (by omega)).trans ?_)
      subst he; rfl
    · rw [if_neg he]
      refine (add_zero _).trans ?_
      by_cases hl : h.val < n
      · rw [if_pos hl, if_pos (by omega)]
      · rw [if_neg hl, if_neg (by omega)]
end Row

/-- What is stored of the rows `X`: their codes and their scales. -/
theorem codes8_at (X : FVec Ideal S16x1280 .f32) (i : Fin 10) (d : Fin 1280) :
    codes8 X (ix3 0 i d) = rowCode (fun e => X (ix2 (⟨i.val, by omega⟩ : Fin 16) e)) d := by
  have h : codes8 X (ix3 0 i d) = code (codesF maskF X (ix2 (⟨i.val, by omega⟩ : Fin 16) d)) := by
    pointwise [codes8, k0_pay129, code]
  exact h.trans (congrArg code (codes_at X _ d))
theorem scales8_at (X : FVec Ideal S16x1280 .f32) (i : Fin 10) (n : Fin 20) :
    scales8 X (ix3 0 i n) = rowScale (fun e => X (ix2 (⟨i.val, by omega⟩ : Fin 16) e)) n.val n.isLt := by
  have h : scales8 X (ix3 0 i n) = sumF maskF X 20 le_rfl (ix2 (⟨i.val, by omega⟩ : Fin 16) n) := by
    pointwise [scales8, k0_pay1]
  exact h.trans ((sum_at X _ 20 le_rfl n).trans (if_pos n.isLt))
end Kernel

section Reference
open Cert.KvRefIdeal Cert.KvRefIdeal.Gen

variable (x : Vec Ideal S1x10x1280 .f32) (g b : Vec Ideal S1x1280 .f32) (w : Vec Ideal S1x1280x3840 .i8) (s : Vec Ideal S1x3840 .f32) (bv : Vec Ideal S1x1280 .f32)

/-- A row's keys and values in the reference. -/
def keyR (i : Fin 10) (d : Fin 1280) : EReal :=
  proj (lnRow (fun e => x (ix3 0 i e)) (fun e => g (ix2 0 e)) (fun e => b (ix2 0 e))) (fun e => w (ix3 0 e ⟨1280 + d.val, by omega⟩)) (s (ix2 0 ⟨1280 + d.val, by omega⟩))
def valR (i : Fin 10) (d : Fin 1280) : EReal :=
  proj (lnRow (fun e => x (ix3 0 i e)) (fun e => g (ix2 0 e)) (fun e => b (ix2 0 e))) (fun e => w (ix3 0 e ⟨2560 + d.val, by omega⟩)) (s (ix2 0 ⟨2560 + d.val, by omega⟩)) + bv (ix2 0 d)

/-- What a layer of the reference stores: the keys' codes and scales, the values' codes and scales. -/
def kcR : IVec S1x10x1280 8 := k0_pay14 (k0_pay8 (k0_pay3 x x g b w) (k0_pay4 s))
def ksR : FVec Ideal S1x10x20 .f32 := k0_pay9 (k0_pay3 x x g b w) (k0_pay4 s)
def vcR : IVec S1x10x1280 8 := k0_pay15 (k0_pay12 (k0_pay3 x x g b w) (k0_pay4 s) bv)
def vsR : FVec Ideal S1x10x20 .f32 := k0_pay13 (k0_pay11 (k0_pay3 x x g b w) (k0_pay4 s) bv)

theorem prod_at (i : Fin 10) (e : Fin 3840) : k0_pay3 x x g b w (ix2 i e) * k0_pay4 s (ix2 i e)
    = proj (lnRow (fun e => x (ix3 0 i e)) (fun e => g (ix2 0 e)) (fun e => b (ix2 0 e))) (fun d => w (ix3 0 d e)) (s (ix2 0 e)) := by
  pointwise [k0_pay3, k0_pay4, proj, num, lnRow]

section Heads
variable (A B : FVec Ideal S10x3840 .f32) (i : Fin 10)
theorem codeK_at (d : Fin 1280) : k0_pay14 (k0_pay8 A B) (ix3 0 i d)
    = rowCode (fun e => A (ix2 i ⟨1280 + e.val, by omega⟩) * B (ix2 i ⟨1280 + e.val, by omega⟩)) d := by
  pointwise [k0_pay14, k0_pay8, k0_pay7, k0_pay6, k0_pay5, rowCode, rowScale, headOf, code, clip, scl, top, mag]
theorem sclK_at (n : Fin 20) : k0_pay9 A B (ix3 0 i n)
    = rowScale (fun e => A (ix2 i ⟨1280 + e.val, by omega⟩) * B (ix2 i ⟨1280 + e.val, by omega⟩)) n.val n.isLt := by
  pointwise [k0_pay9, k0_pay7, k0_pay6, k0_pay5, rowScale, headOf, scl, top, mag]
theorem codeV_at (d : Fin 1280) : k0_pay15 (k0_pay12 A B bv) (ix3 0 i d)
    = rowCode (fun e => A (ix2 i ⟨2560 + e.val, by omega⟩) * B (ix2 i ⟨2560 + e.val, by omega⟩) + bv (ix2 0 e)) d := by
  pointwise [k0_pay15, k0_pay12, k0_pay11, k0_pay10, k0_pay5, rowCode, rowScale, headOf, code, clip, scl, top, mag]
theorem sclV_at (n : Fin 20) : k0_pay13 (k0_pay11 A B bv) (ix3 0 i n)
    = rowScale (fun e => A (ix2 i ⟨2560 + e.val, by omega⟩) * B (ix2 i ⟨2560 + e.val, by omega⟩) + bv (ix2 0 e)) n.val n.isLt := by
  pointwise [k0_pay13, k0_pay11, k0_pay10, k0_pay5, rowScale, headOf, scl, top, mag]
end Heads

variable (i : Fin 10)
theorem kcR_at (d : Fin 1280) : kcR x g b w s (ix3 0 i d) = rowCode (keyR x g b w s i) d := by
  unfold kcR
  exact (codeK_at _ _ i d).trans (congrArg (fun X => rowCode X d) (funext fun e => prod_at x g b w s i _))
theorem ksR_at (n : Fin 20) : ksR x g b w s (ix3 0 i n) = rowScale (keyR x g b w s i) n.val n.isLt := by
  unfold ksR
  exact (sclK_at _ _ i n).trans (congrArg (fun X => rowScale X n.val n.isLt) (funext fun e => prod_at x g b w s i _))
theorem vcR_at (d : Fin 1280) : vcR x g b w s bv (ix3 0 i d) = rowCode (valR x g b w s bv i) d := by
  unfold vcR
  exact (codeV_at bv _ _ i d).trans (congrArg (fun X => rowCode X d) (funext fun e => congrArg₂ (· + ·) (prod_at x g b w s i _) rfl))
theorem vsR_at (n : Fin 20) : vsR x g b w s bv (ix3 0 i n) = rowScale (valR x g b w s bv i) n.val n.isLt := by
  unfold vsR
  exact (sclV_at bv _ _ i n).trans (congrArg (fun X => rowScale X n.val n.isLt) (funext fun e => congrArg₂ (· + ·) (prod_at x g b w s i _) rfl))
end Reference

end Cert.KvPure

end
-- ==== Proof.KvV.Final.lean ====
/-
  The four results of the key and value program over the extended reals, entry by entry over its arguments. A slot holds the
  piece of the weight its transfer brought, the small operands' rows are the layer's, and the first ten of the sixteen rows
  are the layer's rows of the residual.
-/
module

public import proofs.«01_k».proof.Proof.Kv.Run
public import proofs.«01_k».proof.Proof.KvV.Pure
public import Idealize.ShloMosaic.Lib.ValueLayout
public import Idealize.ShloMosaic.Lib.StableHlo.RunRead

@[expose] public section

set_option maxRecDepth 16384

noncomputable section

namespace Cert.Kv.Ring

open Cert.Kv Cert.Kv.Gen
open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

open Cert.HeadPure (lnRow)
open Cert.KvPure

section Slot
variable {F : FTy → Type} [FloatOps F]
variable (c : Dev nD)

theorem rslot_read (n : ℕ) (f : ringM.view.ty.Contents (Elt F)) (r d : Fin 1280) :
    (rslot n).view.read (Elt F) f (ix2 r d) = ringM.view.read (Elt F) f (ix3 (⟨n % 22, Nat.mod_lt _ (by decide)⟩ : Fin 22) r d) := by
  show ringM.view.read (Elt F) f ((Rect.unit (s := S22x1280x1280) (slotOff n) S1x1280x1280.size (slotOff_inb n)).emb (Shape.reshapeEquiv _ (ix2 r d))) = _
  rw [reshapeEquiv_ix2_1ab]
  refine congrArg (ringM.view.read (Elt F) f) ?_
  funext a; apply Fin.ext
  match a with
  | ⟨0, _⟩ => show n % 22 + 1 * 0 = n % 22; omega
  | ⟨1, _⟩ => show 0 + 1 * r.val = r.val; omega
  | ⟨2, _⟩ => show 0 + 1 * d.val = d.val; omega

/-- A piece of the weight, entry by entry. -/
theorem pay1_at (X1 : Buf (Elt F) (w1M.view.loc (c : Thread nD τ))) (l i : ℕ) (hl : l < 4) (hi : i < 3) (r d : Fin 1280) (e : Fin 3840) (he : e.val = 1280 * i + d.val) :
    payM c (w1p l i) X1 (ix2 r d) = X1 (ix3 (⟨l, hl⟩ : Fin 4) r e) := by
  show X1 ((Rect.unit (s := S4x1280x3840) (w1Off l i) S1x1280x1280.size (w1Off_inb l i)).emb (Shape.reshapeEquiv _ (ix2 r d))) = _
  rw [reshapeEquiv_ix2_1ab]
  refine congrArg X1 ?_
  funext a; apply Fin.ext
  match a with
  | ⟨0, _⟩ => show l % 4 + 1 * 0 = l; omega
  | ⟨1, _⟩ => show 0 + 1 * r.val = r.val; omega
  | ⟨2, _⟩ => show 1280 * (i % 3) + 1 * d.val = e.val; omega

/-- A slot holds the piece that landed in it. -/
theorem landV_at (M : Memref sig .tc .hbm S1280x1280 .i8) (X : Buf (Elt F) (M.view.loc (c : Thread nD τ))) (n : ℕ)
    (h : ∀ a, (![n, 0, 0] : Fin 3 → ℕ) a + S1x1280x1280.size a ≤ S22x1280x1280.size a) (r d : Fin 1280) :
    landV c M X (Rect.unit (s := S22x1280x1280) ![n, 0, 0] S1x1280x1280.size h) n (ix3 (0 : Fin 1) r d) = payM c M X (ix2 r d) := by
  have hn : n + 1 ≤ 22 := h 0
  have e : (Rect.unit (s := S22x1280x1280) ![n, 0, 0] S1x1280x1280.size h).toLoadRect.idx (ix3 (0 : Fin 1) r d) = ix3 (⟨n % 22, Nat.mod_lt _ (by decide)⟩ : Fin 22) r d := by
    funext a; apply Fin.ext
    match a with
    | ⟨0, _⟩ => show n + 1 * 0 = n % 22; omega
    | ⟨1, _⟩ => show 0 + 1 * r.val = r.val; omega
    | ⟨2, _⟩ => show 0 + 1 * d.val = d.val; omega
  unfold landV
  refine (congrArg (ringM.view.read (Elt F) _) e).trans ?_
  exact (rslot_read n _ r d).symm.trans (congrFun (View.read_writes_whole (rslot n).view _ (payM c M X)) (ix2 r d))

/-- The layer a trip computes. -/
abbrev ly (k : Fin k0_t1_loop.trips) : Fin 4 := ⟨k.val, lt_of_lt_of_eq k.isLt trips_eq⟩
theorem R1_ix (k : Fin k0_t1_loop.trips) (i : Fin 10) (d : Fin 1280) : (R1 k).toLoadRect.idx (ix3 (0 : Fin 1) i d) = ix3 (ly k) i d := by
  have h := k0_off1_eq k
  funext a; apply Fin.ext
  match a with
  | ⟨0, _⟩ => show k0_off1 k 0 + 1 * 0 = k.val; rw [h]; rfl
  | ⟨1, _⟩ => show k0_off1 k 1 + 1 * i.val = i.val; rw [h]; show 0 + 1 * i.val = i.val; omega
  | ⟨2, _⟩ => show k0_off1 k 2 + 1 * d.val = d.val; rw [h]; show 0 + 1 * d.val = d.val; omega
theorem R2_ix (k : Fin k0_t1_loop.trips) (d : Fin 1280) : (R2 k).toLoadRect.idx (ix2 (0 : Fin 1) d) = ix2 (ly k) d := by
  have h := k0_off2_eq k
  funext a; apply Fin.ext
  match a with
  | ⟨0, _⟩ => show k0_off2 k 0 + 1 * 0 = k.val; rw [h]; rfl
  | ⟨1, _⟩ => show k0_off2 k 1 + 1 * d.val = d.val; rw [h]; show 0 + 1 * d.val = d.val; omega
theorem R3_ix (k : Fin k0_t1_loop.trips) (e : Fin 3840) : (R3 k).toLoadRect.idx (ix2 (0 : Fin 1) e) = ix2 (ly k) e := by
  have h := k0_off3_eq k
  funext a; apply Fin.ext
  match a with
  | ⟨0, _⟩ => show k0_off3 k 0 + 1 * 0 = k.val; rw [h]; rfl
  | ⟨1, _⟩ => show k0_off3 k 1 + 1 * e.val = e.val; rw [h]; show 0 + 1 * e.val = e.val; omega
end Slot

section Pure
variable (c : Dev nD) (X1 : Buf (Elt Ideal) (w1M.view.loc (c : Thread nD τ)))
variable (x : Vec Ideal S4x10x1280 .f32) (g b : Vec Ideal S4x1280 .f32) (sq : Vec Ideal S4x3840 .f32) (bv : Vec Ideal S4x1280 .f32)
variable (k : Fin k0_t1_loop.trips) (r : Vec Ideal S16x1280 .f32) (i : Fin 10)

/-- The first ten of the sixteen rows are the layer's. -/
theorem inF_at (d : Fin 1280) : inF x k r (ix2 (⟨i.val, by omega⟩ : Fin 16) d) = x (ix3 (ly k) i d) := by
  unfold inF rowsF
  refine (dif_pos (show i.val < 10 from i.isLt)).trans ?_
  refine (pay3_at _ i d).trans ?_
  exact congrArg x (R1_ix k i d)

theorem normF_at (d : Fin 1280) : normF g b k (inF x k r) (ix2 (⟨i.val, by omega⟩ : Fin 16) d)
    = lnRow (fun e => x (ix3 (ly k) i e)) (fun e => g (ix2 (ly k) e)) (fun e => b (ix2 (ly k) e)) d := by
  unfold normF
  refine (norm_at _ _ _ _ _).trans ?_
  have h1 : (fun e => inF x k r (ix2 (⟨i.val, by omega⟩ : Fin 16) e)) = fun e => x (ix3 (ly k) i e) := funext fun e => inF_at x k r i e
  have h2 : (fun e => (fun y => g ((R2 k).toLoadRect.idx y)) (ix2 (0 : Fin 1) e)) = fun e => g (ix2 (ly k) e) := funext fun e => congrArg g (R2_ix k e)
  have h3 : (fun e => (fun y => b ((R2 k).toLoadRect.idx y)) (ix2 (0 : Fin 1) e)) = fun e => b (ix2 (ly k) e) := funext fun e => congrArg b (R2_ix k e)
  exact congr (congr (congr (congrArg lnRow h1) h2) h3) rfl

/-- A column of a slot is the column of the layer's weight. -/
theorem slot_col (j : ℕ) (hj : j < 3) (n : ℕ) (h : ∀ a, (![n, 0, 0] : Fin 3 → ℕ) a + S1x1280x1280.size a ≤ S22x1280x1280.size a) (d : Fin 1280) (e : Fin 3840) (he : e.val = 1280 * j + d.val) :
    (fun q => landV c (w1p k.val j) X1 (Rect.unit (s := S22x1280x1280) ![n, 0, 0] S1x1280x1280.size h) n (ix3 (0 : Fin 1) q d)) = fun q => X1 (ix3 (ly k) q e) :=
  funext fun q => (landV_at c _ _ n h q d).trans (pay1_at c X1 k.val j (ly k).isLt hj q d e he)

theorem keyF_at (d : Fin 1280) : keyF c X1 g b sq k (inF x k r) (ix2 (⟨i.val, by omega⟩ : Fin 16) d) = keyAt x g b X1 sq (ly k) i d := by
  unfold keyF keyAt
  refine (key_at _ _ _ _ d).trans ?_
  exact congr (congr (congrArg proj (funext fun e => normF_at x g b k r i e)) (slot_col c X1 k 1 (by omega) 1 _ d _ rfl)) (congrArg sq (R3_ix k _))
theorem valF_at (d : Fin 1280) : valF c X1 g b sq bv k (inF x k r) (ix2 (⟨i.val, by omega⟩ : Fin 16) d) = valAt x g b X1 sq bv (ly k) i d := by
  unfold valF valAt
  refine (val_at _ _ _ _ _ d).trans ?_
  exact congrArg₂ (· + ·) (congr (congr (congrArg proj (funext fun e => normF_at x g b k r i e)) (slot_col c X1 k 2 (by omega) 2 _ d _ rfl)) (congrArg sq (R3_ix k _)))
    (congrArg bv (R2_ix k d))

theorem kcK_at (d : Fin 1280) : kcK c X1 x g b sq k (ix3 (0 : Fin 1) i d) = rowCode (keyAt x g b X1 sq (ly k) i) d := by
  unfold kcK
  exact (codes8_at _ i d).trans (congrArg (fun X => rowCode X d) (funext fun e => keyF_at c X1 x g b sq k _ i e))
theorem ksK_at (n : Fin 20) : ksK c X1 x g b sq k (ix3 (0 : Fin 1) i n) = rowScale (keyAt x g b X1 sq (ly k) i) n.val n.isLt := by
  unfold ksK
  exact (scales8_at _ i n).trans (congrArg (fun X => rowScale X n.val n.isLt) (funext fun e => keyF_at c X1 x g b sq k _ i e))
theorem vcK_at (d : Fin 1280) : vcK c X1 x g b sq bv k (ix3 (0 : Fin 1) i d) = rowCode (valAt x g b X1 sq bv (ly k) i) d := by
  unfold vcK
  exact (codes8_at _ i d).trans (congrArg (fun X => rowCode X d) (funext fun e => valF_at c X1 x g b sq bv k _ i e))
theorem vsK_at (n : Fin 20) : vsK c X1 x g b sq bv k (ix3 (0 : Fin 1) i n) = rowScale (valAt x g b X1 sq bv (ly k) i) n.val n.isLt := by
  unfold vsK
  exact (scales8_at _ i n).trans (congrArg (fun X => rowScale X n.val n.isLt) (funext fun e => valF_at c X1 x g b sq bv k _ i e))
end Pure

variable (m : (ℓ : Loc nD τ sig) → Buf (Elt Ideal) ℓ) (c : Dev nD)

theorem V_v0 : V m c main_v0 = shapeCast S4x10x1280 (m ((c : Thread nD τ).loc main_arg0)) shapeCasts_S4x2x5x1x1280_S4x10x1280 := by
  show StableHlo.after _ _ (Proc.devRef .tc main_v0) = _
  after_reads_simp
  rfl

/-- The keys and the values of the program's arguments. -/
abbrev keyM : Fin 4 → Fin 10 → Fin 1280 → EReal :=
  keyAt (shapeCast S4x10x1280 (m ((c : Thread nD τ).loc main_arg0)) shapeCasts_S4x2x5x1x1280_S4x10x1280) (m ((c : Thread nD τ).loc main_arg1)) (m ((c : Thread nD τ).loc main_arg2))
    (m ((c : Thread nD τ).loc main_arg3)) (m ((c : Thread nD τ).loc main_arg4))
abbrev valM : Fin 4 → Fin 10 → Fin 1280 → EReal :=
  valAt (shapeCast S4x10x1280 (m ((c : Thread nD τ).loc main_arg0)) shapeCasts_S4x2x5x1x1280_S4x10x1280) (m ((c : Thread nD τ).loc main_arg1)) (m ((c : Thread nD τ).loc main_arg2))
    (m ((c : Thread nD τ).loc main_arg3)) (m ((c : Thread nD τ).loc main_arg4)) (m ((c : Thread nD τ).loc main_arg5))

variable (l : Fin 4) (i : Fin 10)
abbrev tr : Fin k0_t1_loop.trips := ⟨l.val, lt_of_lt_of_eq l.isLt trips_eq.symm⟩
theorem res5_at (d : Fin 1280) : resAt5 (F := Ideal) m c t0_0 (ix3 l i d) = rowCode (keyM m c l i) d := by
  unfold resAt5
  rw [iblk_eq0, iblk_eq1, iblk_eq2, iblk_eq3]
  refine (kcK_at c _ _ _ _ _ (tr l) i d).trans ?_
  rw [V_v0, V_main_arg1, V_main_arg2, V_main_arg3, V_main_arg4]
theorem res6_at (n : Fin 20) : resAt6 (F := Ideal) m c t0_0 (ix3 l i n) = rowScale (keyM m c l i) n.val n.isLt := by
  unfold resAt6
  rw [iblk_eq0, iblk_eq1, iblk_eq2, iblk_eq3]
  refine (ksK_at c _ _ _ _ _ (tr l) i n).trans ?_
  rw [V_v0, V_main_arg1, V_main_arg2, V_main_arg3, V_main_arg4]
theorem res7_at (d : Fin 1280) : resAt7 (F := Ideal) m c t0_0 (ix3 l i d) = rowCode (valM m c l i) d := by
  unfold resAt7
  rw [iblk_eq0, iblk_eq1, iblk_eq2, iblk_eq3, iblk_eq4]
  refine (vcK_at c _ _ _ _ _ _ (tr l) i d).trans ?_
  rw [V_v0, V_main_arg1, V_main_arg2, V_main_arg3, V_main_arg4, V_main_arg5]
theorem res8_at (n : Fin 20) : resAt8 (F := Ideal) m c t0_0 (ix3 l i n) = rowScale (valM m c l i) n.val n.isLt := by
  unfold resAt8
  rw [iblk_eq0, iblk_eq1, iblk_eq2, iblk_eq3, iblk_eq4]
  refine (vsK_at c _ _ _ _ _ _ (tr l) i n).trans ?_
  rw [V_v0, V_main_arg1, V_main_arg2, V_main_arg3, V_main_arg4, V_main_arg5]

end Cert.Kv.Ring

end
-- ==== Proof.KvV.Ref.lean ====
/-
  What the reference of the key and value program leaves in its four results over the extended reals, entry by entry. Its body
  computes layer after layer, and stores a layer's rows of each result.
-/
module

public import proofs.«01_k».proof.Proof.Gen.KvRefIdeal.Value
public import proofs.«01_k».proof.Proof.KvV.Pure
public import Idealize.ShloMosaic.Lib.Pipeline.ValueKit.Tiles
public import Idealize.ShloMosaic.Lib.ValueLayout
public import Idealize.ShloMosaic.Lib.StableHlo.RunRead

@[expose] public section

set_option maxRecDepth 16384

noncomputable section

namespace Cert.KvRefIdeal.Ref

open Cert.KvRefIdeal Cert.KvRefIdeal.Gen Cert.KvPure
open Idealize.ShloMosaic hiding ix1 ix2 ix3
open Idealize.ShloMosaic.TcCoe Idealize.ShloMosaic.ValueIdx
open Idealize.ShloMosaic.Pipeline (Dat Cfg Window)
open Cert.HeadPure (lnRow)

abbrev t0 : Fin cfg0.N := ⟨0, by decide⟩

theorem off2 (l : ℕ) (l' : Fin 4) (hl : l'.val = l) {n : ℕ} (e : Fin n) : ∀ q : Fin 2, ((ix2 l' e) q : Nat) = (![l, 0] : Fin 2 → ℕ) q + ((ix2 (0 : Fin 1) e) q : Nat) := by
  intro q
  match q with
  | ⟨0, _⟩ => show l'.val = l + 0; omega
  | ⟨1, _⟩ => show e.val = 0 + e.val; omega
theorem off3 (l : ℕ) (l' : Fin 4) (hl : l'.val = l) {n k : ℕ} (i : Fin n) (e : Fin k) : ∀ q : Fin 3, ((ix3 l' i e) q : Nat) = (![l, 0, 0] : Fin 3 → ℕ) q + ((ix3 (0 : Fin 1) i e) q : Nat) := by
  intro q
  match q with
  | ⟨0, _⟩ => show l'.val = l + 0; omega
  | ⟨1, _⟩ => show i.val = 0 + i.val; omega
  | ⟨2, _⟩ => show e.val = 0 + e.val; omega

/-- Ten rows stored at layer `l` are that layer's rows of the whole. -/
theorem slab {n : ℕ} {e : EltTy} (R : Fin 4 → Fin 10 → Fin n → Elt Ideal e) (l : ℕ) (hl : l < 4) (h0)
    (p : (⟨3, ![1, 10, n]⟩ : Shape).Idx → Elt Ideal e) (hp : ∀ i d, p (ix3 (0 : Fin 1) i d) = R ⟨l, hl⟩ i d) (y : (⟨3, ![4, 10, n]⟩ : Shape).Idx) :
    View.RectAt (Val := Elt Ideal) (e := e) y (Rect.unit (s := ⟨3, ![4, 10, n]⟩) ![l, 0, 0] ![1, 10, n] h0) p (R (y 0) (y 1) (y 2)) := by
  intro z hz
  have z0 : (z 0).val = 0 := by have h : (z 0).val < 1 := (z 0).isLt; omega
  have ez : z = ix3 (n0 := 1) (n1 := 10) (n2 := n) 0 (z 1) (z 2) := by
    funext a; apply Fin.ext
    match a with
    | ⟨0, _⟩ => exact z0
    | ⟨1, _⟩ => rfl
    | ⟨2, _⟩ => rfl
  have y0 : y 0 = (⟨l, hl⟩ : Fin 4) := by rw [← hz]; apply Fin.ext; show l + 1 * (z 0).val = l; omega
  have y1 : y 1 = z 1 := by rw [← hz]; apply Fin.ext; show 0 + 1 * (z 1).val = (z 1).val; omega
  have y2 : y 2 = z 2 := by rw [← hz]; apply Fin.ext; show 0 + 1 * (z 2).val = (z 2).val; omega
  rw [ez, y0, y1, y2]
  exact hp (z 1) (z 2)

section Slabs
variable (x0 : Vec Ideal S4x10x1280 .f32) (x1 x2 : Vec Ideal S4x1280 .f32) (x3 : Vec Ideal S4x1280x3840 .i8) (x4 : Vec Ideal S4x3840 .f32) (x5 : Vec Ideal S4x1280 .f32)

/-- Layer `l`'s rows of the arguments. -/
abbrev L0 (l : ℕ) (h : ∀ d, ![l, 0, 0] d + S1x10x1280.size d ≤ S4x10x1280.size d) : Vec Ideal S1x10x1280 .f32 := View.ld x0 (Rect.unit (s := S4x10x1280) ![l, 0, 0] S1x10x1280.size h)
abbrev L1 (x : Vec Ideal S4x1280 .f32) (l : ℕ) (h : ∀ d, ![l, 0] d + S1x1280.size d ≤ S4x1280.size d) : Vec Ideal S1x1280 .f32 := View.ld x (Rect.unit (s := S4x1280) ![l, 0] S1x1280.size h)
abbrev L3 (l : ℕ) (h : ∀ d, ![l, 0, 0] d + S1x1280x3840.size d ≤ S4x1280x3840.size d) : Vec Ideal S1x1280x3840 .i8 := View.ld x3 (Rect.unit (s := S4x1280x3840) ![l, 0, 0] S1x1280x3840.size h)
abbrev L4 (l : ℕ) (h : ∀ d, ![l, 0] d + S1x3840.size d ≤ S4x3840.size d) : Vec Ideal S1x3840 .f32 := View.ld x4 (Rect.unit (s := S4x3840) ![l, 0] S1x3840.size h)

section Layer
variable (l : ℕ) (hl : l < 4) (h0) (h1) (h3) (h4) (i : Fin 10)
theorem proj_eq (e : Fin 3840) :
    proj (lnRow (fun e => L0 x0 l h0 (ix3 0 i e)) (fun e => L1 x1 l h1 (ix2 0 e)) (fun e => L1 x2 l h1 (ix2 0 e))) (fun d => L3 x3 l h3 (ix3 0 d e)) (L4 x4 l h4 (ix2 0 e))
      = proj (lnRow (fun e => x0 (ix3 (⟨l, hl⟩ : Fin 4) i e)) (fun e => x1 (ix2 (⟨l, hl⟩ : Fin 4) e)) (fun e => x2 (ix2 (⟨l, hl⟩ : Fin 4) e)))
          (fun d => x3 (ix3 (⟨l, hl⟩ : Fin 4) d e)) (x4 (ix2 (⟨l, hl⟩ : Fin 4) e)) := by
  refine congr (congr (congrArg proj (congr (congr (congrArg lnRow ?_) ?_) ?_)) ?_) ?_
  · exact funext fun e => View.ld_unit_apply_of x0 _ _ _ _ _ (off3 l ⟨l, hl⟩ rfl i e)
  · exact funext fun e => View.ld_unit_apply_of x1 _ _ _ _ _ (off2 l ⟨l, hl⟩ rfl e)
  · exact funext fun e => View.ld_unit_apply_of x2 _ _ _ _ _ (off2 l ⟨l, hl⟩ rfl e)
  · exact funext fun d => View.ld_unit_apply_of x3 _ _ _ _ _ (off3 l ⟨l, hl⟩ rfl d e)
  · exact View.ld_unit_apply_of x4 _ _ _ _ _ (off2 l ⟨l, hl⟩ rfl e)
theorem key_eq : keyR (L0 x0 l h0) (L1 x1 l h1) (L1 x2 l h1) (L3 x3 l h3) (L4 x4 l h4) i = keyAt x0 x1 x2 x3 x4 ⟨l, hl⟩ i :=
  funext fun d => proj_eq x0 x1 x2 x3 x4 l hl h0 h1 h3 h4 i _
theorem val_eq : valR (L0 x0 l h0) (L1 x1 l h1) (L1 x2 l h1) (L3 x3 l h3) (L4 x4 l h4) (L1 x5 l h1) i = valAt x0 x1 x2 x3 x4 x5 ⟨l, hl⟩ i :=
  funext fun d => congrArg₂ (· + ·) (proj_eq x0 x1 x2 x3 x4 l hl h0 h1 h3 h4 i _) (View.ld_unit_apply_of x5 _ _ _ _ _ (off2 l ⟨l, hl⟩ rfl d))
end Layer

/-- The four results, whole. -/
def kcAll : Vec Ideal S4x10x1280 .i8 := fun y => rowCode (keyAt x0 x1 x2 x3 x4 (y 0) (y 1)) (y 2)
def ksAll : Vec Ideal S4x10x20 .f32 := fun y => rowScale (keyAt x0 x1 x2 x3 x4 (y 0) (y 1)) (y 2).val (y 2).isLt
def vcAll : Vec Ideal S4x10x1280 .i8 := fun y => rowCode (valAt x0 x1 x2 x3 x4 x5 (y 0) (y 1)) (y 2)
def vsAll : Vec Ideal S4x10x20 .f32 := fun y => rowScale (valAt x0 x1 x2 x3 x4 x5 (y 0) (y 1)) (y 2).val (y 2).isLt

/-- A layer's payload, from the layer's rows of the arguments, holds the layer's rows of the result. -/
theorem kc_slab (l : ℕ) (hl : l < 4) (h0 h1 h3 h4) (p) (hp : p = kcR (L0 x0 l h0) (L1 x1 l h1) (L1 x2 l h1) (L3 x3 l h3) (L4 x4 l h4)) (y : S4x10x1280.Idx) :
    View.RectAt (Val := Elt Ideal) (e := .i8) y (Rect.unit (s := S4x10x1280) ![l, 0, 0] S1x10x1280.size h0) p (kcAll x0 x1 x2 x3 x4 y) := by
  subst hp
  exact slab (e := .i8) (fun l i d => rowCode (keyAt x0 x1 x2 x3 x4 l i) d) l hl h0 _
    (fun i d => (kcR_at _ _ _ _ _ i d).trans (congrArg (fun X => rowCode X d) (key_eq x0 x1 x2 x3 x4 l hl h0 h1 h3 h4 i))) y
theorem ks_slab (l : ℕ) (hl : l < 4) (h0 h1 h3 h4 h) (p) (hp : p = ksR (L0 x0 l h0) (L1 x1 l h1) (L1 x2 l h1) (L3 x3 l h3) (L4 x4 l h4)) (y : S4x10x20.Idx) :
    View.RectAt (Val := Elt Ideal) (e := .f32) y (Rect.unit (s := S4x10x20) ![l, 0, 0] S1x10x20.size h) p (ksAll x0 x1 x2 x3 x4 y) := by
  subst hp
  exact slab (e := .f32) (fun l i d => rowScale (keyAt x0 x1 x2 x3 x4 l i) d.val d.isLt) l hl h _
    (fun i n => (ksR_at _ _ _ _ _ i n).trans (congrArg (fun X => rowScale X n.val n.isLt) (key_eq x0 x1 x2 x3 x4 l hl h0 h1 h3 h4 i))) y
theorem vc_slab (l : ℕ) (hl : l < 4) (h0 h1 h3 h4) (p) (hp : p = vcR (L0 x0 l h0) (L1 x1 l h1) (L1 x2 l h1) (L3 x3 l h3) (L4 x4 l h4) (L1 x5 l h1)) (y : S4x10x1280.Idx) :
    View.RectAt (Val := Elt Ideal) (e := .i8) y (Rect.unit (s := S4x10x1280) ![l, 0, 0] S1x10x1280.size h0) p (vcAll x0 x1 x2 x3 x4 x5 y) := by
  subst hp
  exact slab (e := .i8) (fun l i d => rowCode (valAt x0 x1 x2 x3 x4 x5 l i) d) l hl h0 _
    (fun i d => (vcR_at _ _ _ _ _ _ i d).trans (congrArg (fun X => rowCode X d) (val_eq x0 x1 x2 x3 x4 x5 l hl h0 h1 h3 h4 i))) y
theorem vs_slab (l : ℕ) (hl : l < 4) (h0 h1 h3 h4 h) (p) (hp : p = vsR (L0 x0 l h0) (L1 x1 l h1) (L1 x2 l h1) (L3 x3 l h3) (L4 x4 l h4) (L1 x5 l h1)) (y : S4x10x20.Idx) :
    View.RectAt (Val := Elt Ideal) (e := .f32) y (Rect.unit (s := S4x10x20) ![l, 0, 0] S1x10x20.size h) p (vsAll x0 x1 x2 x3 x4 x5 y) := by
  subst hp
  exact slab (e := .f32) (fun l i d => rowScale (valAt x0 x1 x2 x3 x4 x5 l i) d.val d.isLt) l hl h _
    (fun i n => (vsR_at _ _ _ _ _ _ i n).trans (congrArg (fun X => rowScale X n.val n.isLt) (val_eq x0 x1 x2 x3 x4 x5 l hl h0 h1 h3 h4 i))) y

/-- What the body stores is every layer's rows. -/
theorem kc_out : out0_6 (F := Ideal) x0 x1 x2 x3 x4 x5 = kcAll x0 x1 x2 x3 x4 := by
  funext y
  unfold_out out0_6
  refine View.canon_eq_of_allAt _ y _ (cover0_6 _ _ _ _ y) ?_
  refine View.allAt_cons _ _ _ ?_ (View.allAt_cons _ _ _ ?_ (View.allAt_cons _ _ _ ?_ (View.allAt_cons _ _ _ ?_ (View.allAt_nil _ _))))
  · exact kc_slab x0 x1 x2 x3 x4 3 (by decide) inb_S4x10x1280_S1x10x1280_3_0_0 inb_S4x1280_S1x1280_3_0 inb_S4x1280x3840_S1x1280x3840_3_0_0 inb_S4x3840_S1x3840_3_0 _ rfl y
  · exact kc_slab x0 x1 x2 x3 x4 2 (by decide) inb_S4x10x1280_S1x10x1280_2_0_0 inb_S4x1280_S1x1280_2_0 inb_S4x1280x3840_S1x1280x3840_2_0_0 inb_S4x3840_S1x3840_2_0 _ rfl y
  · exact kc_slab x0 x1 x2 x3 x4 1 (by decide) inb_S4x10x1280_S1x10x1280_1_0_0 inb_S4x1280_S1x1280_1_0 inb_S4x1280x3840_S1x1280x3840_1_0_0 inb_S4x3840_S1x3840_1_0 _ rfl y
  · exact kc_slab x0 x1 x2 x3 x4 0 (by decide) inb_S4x10x1280_S1x10x1280_0_0_0 inb_S4x1280_S1x1280_0_0 inb_S4x1280x3840_S1x1280x3840_0_0_0 inb_S4x3840_S1x3840_0_0 _ rfl y
theorem ks_out : out0_7 (F := Ideal) x0 x1 x2 x3 x4 x5 = ksAll x0 x1 x2 x3 x4 := by
  funext y
  unfold_out out0_7
  refine View.canon_eq_of_allAt _ y _ (cover0_7 _ _ _ _ y) ?_
  refine View.allAt_cons _ _ _ ?_ (View.allAt_cons _ _ _ ?_ (View.allAt_cons _ _ _ ?_ (View.allAt_cons _ _ _ ?_ (View.allAt_nil _ _))))
  · exact ks_slab x0 x1 x2 x3 x4 3 (by decide) inb_S4x10x1280_S1x10x1280_3_0_0 inb_S4x1280_S1x1280_3_0 inb_S4x1280x3840_S1x1280x3840_3_0_0 inb_S4x3840_S1x3840_3_0 inb_S4x10x20_S1x10x20_3_0_0 _ rfl y
  · exact ks_slab x0 x1 x2 x3 x4 2 (by decide) inb_S4x10x1280_S1x10x1280_2_0_0 inb_S4x1280_S1x1280_2_0 inb_S4x1280x3840_S1x1280x3840_2_0_0 inb_S4x3840_S1x3840_2_0 inb_S4x10x20_S1x10x20_2_0_0 _ rfl y
  · exact ks_slab x0 x1 x2 x3 x4 1 (by decide) inb_S4x10x1280_S1x10x1280_1_0_0 inb_S4x1280_S1x1280_1_0 inb_S4x1280x3840_S1x1280x3840_1_0_0 inb_S4x3840_S1x3840_1_0 inb_S4x10x20_S1x10x20_1_0_0 _ rfl y
  · exact ks_slab x0 x1 x2 x3 x4 0 (by decide) inb_S4x10x1280_S1x10x1280_0_0_0 inb_S4x1280_S1x1280_0_0 inb_S4x1280x3840_S1x1280x3840_0_0_0 inb_S4x3840_S1x3840_0_0 inb_S4x10x20_S1x10x20_0_0_0 _ rfl y
theorem vc_out : out0_8 (F := Ideal) x0 x1 x2 x3 x4 x5 = vcAll x0 x1 x2 x3 x4 x5 := by
  funext y
  unfold_out out0_8
  refine View.canon_eq_of_allAt _ y _ (cover0_8 _ _ _ _ y) ?_
  refine View.allAt_cons _ _ _ ?_ (View.allAt_cons _ _ _ ?_ (View.allAt_cons _ _ _ ?_ (View.allAt_cons _ _ _ ?_ (View.allAt_nil _ _))))
  · exact vc_slab x0 x1 x2 x3 x4 x5 3 (by decide) inb_S4x10x1280_S1x10x1280_3_0_0 inb_S4x1280_S1x1280_3_0 inb_S4x1280x3840_S1x1280x3840_3_0_0 inb_S4x3840_S1x3840_3_0 _ rfl y
  · exact vc_slab x0 x1 x2 x3 x4 x5 2 (by decide) inb_S4x10x1280_S1x10x1280_2_0_0 inb_S4x1280_S1x1280_2_0 inb_S4x1280x3840_S1x1280x3840_2_0_0 inb_S4x3840_S1x3840_2_0 _ rfl y
  · exact vc_slab x0 x1 x2 x3 x4 x5 1 (by decide) inb_S4x10x1280_S1x10x1280_1_0_0 inb_S4x1280_S1x1280_1_0 inb_S4x1280x3840_S1x1280x3840_1_0_0 inb_S4x3840_S1x3840_1_0 _ rfl y
  · exact vc_slab x0 x1 x2 x3 x4 x5 0 (by decide) inb_S4x10x1280_S1x10x1280_0_0_0 inb_S4x1280_S1x1280_0_0 inb_S4x1280x3840_S1x1280x3840_0_0_0 inb_S4x3840_S1x3840_0_0 _ rfl y
theorem vs_out : out0_9 (F := Ideal) x0 x1 x2 x3 x4 x5 = vsAll x0 x1 x2 x3 x4 x5 := by
  funext y
  unfold_out out0_9
  refine View.canon_eq_of_allAt _ y _ (cover0_9 _ _ _ _ y) ?_
  refine View.allAt_cons _ _ _ ?_ (View.allAt_cons _ _ _ ?_ (View.allAt_cons _ _ _ ?_ (View.allAt_cons _ _ _ ?_ (View.allAt_nil _ _))))
  · exact vs_slab x0 x1 x2 x3 x4 x5 3 (by decide) inb_S4x10x1280_S1x10x1280_3_0_0 inb_S4x1280_S1x1280_3_0 inb_S4x1280x3840_S1x1280x3840_3_0_0 inb_S4x3840_S1x3840_3_0 inb_S4x10x20_S1x10x20_3_0_0 _ rfl y
  · exact vs_slab x0 x1 x2 x3 x4 x5 2 (by decide) inb_S4x10x1280_S1x10x1280_2_0_0 inb_S4x1280_S1x1280_2_0 inb_S4x1280x3840_S1x1280x3840_2_0_0 inb_S4x3840_S1x3840_2_0 inb_S4x10x20_S1x10x20_2_0_0 _ rfl y
  · exact vs_slab x0 x1 x2 x3 x4 x5 1 (by decide) inb_S4x10x1280_S1x10x1280_1_0_0 inb_S4x1280_S1x1280_1_0 inb_S4x1280x3840_S1x1280x3840_1_0_0 inb_S4x3840_S1x3840_1_0 inb_S4x10x20_S1x10x20_1_0_0 _ rfl y
  · exact vs_slab x0 x1 x2 x3 x4 x5 0 (by decide) inb_S4x10x1280_S1x10x1280_0_0_0 inb_S4x1280_S1x1280_0_0 inb_S4x1280x3840_S1x1280x3840_0_0_0 inb_S4x3840_S1x3840_0_0 inb_S4x10x20_S1x10x20_0_0_0 _ rfl y
end Slabs

variable {F : FTy → Type} [FloatOps F]
variable (m : (ℓ : Loc nD τ sig) → Buf (Elt F) ℓ) (c : Dev nD)

/-! The windows are whole arrays: a block's index is placed at itself. -/
theorem emb0 (y : S4x10x1280.Idx) : ((cfg0.win 0).blk t0).view.emb y = y :=
  funext fun a => Fin.ext ((cfg0.win 0).rect_emb_val_of_index_zero t0 a ((by decide +kernel : ∀ a, win0_0.index t0 a = 0) a) y)
theorem emb1 (y : S4x1280.Idx) : ((cfg0.win 1).blk t0).view.emb y = y :=
  funext fun a => Fin.ext ((cfg0.win 1).rect_emb_val_of_index_zero t0 a ((by decide +kernel : ∀ a, win0_1.index t0 a = 0) a) y)
theorem emb2 (y : S4x1280.Idx) : ((cfg0.win 2).blk t0).view.emb y = y :=
  funext fun a => Fin.ext ((cfg0.win 2).rect_emb_val_of_index_zero t0 a ((by decide +kernel : ∀ a, win0_2.index t0 a = 0) a) y)
theorem emb3 (y : S4x1280x3840.Idx) : ((cfg0.win 3).blk t0).view.emb y = y :=
  funext fun a => Fin.ext ((cfg0.win 3).rect_emb_val_of_index_zero t0 a ((by decide +kernel : ∀ a, win0_3.index t0 a = 0) a) y)
theorem emb4 (y : S4x3840.Idx) : ((cfg0.win 4).blk t0).view.emb y = y :=
  funext fun a => Fin.ext ((cfg0.win 4).rect_emb_val_of_index_zero t0 a ((by decide +kernel : ∀ a, win0_4.index t0 a = 0) a) y)
theorem emb5 (y : S4x1280.Idx) : ((cfg0.win 5).blk t0).view.emb y = y :=
  funext fun a => Fin.ext ((cfg0.win 5).rect_emb_val_of_index_zero t0 a ((by decide +kernel : ∀ a, win0_5.index t0 a = 0) a) y)
theorem emb6 (y : S4x10x1280.Idx) : ((cfg0.win 6).blk t0).view.emb y = y :=
  funext fun a => Fin.ext ((cfg0.win 6).rect_emb_val_of_index_zero t0 a ((by decide +kernel : ∀ a, win0_6.index t0 a = 0) a) y)
theorem emb7 (y : S4x10x20.Idx) : ((cfg0.win 7).blk t0).view.emb y = y :=
  funext fun a => Fin.ext ((cfg0.win 7).rect_emb_val_of_index_zero t0 a ((by decide +kernel : ∀ a, win0_7.index t0 a = 0) a) y)
theorem emb8 (y : S4x10x1280.Idx) : ((cfg0.win 8).blk t0).view.emb y = y :=
  funext fun a => Fin.ext ((cfg0.win 8).rect_emb_val_of_index_zero t0 a ((by decide +kernel : ∀ a, win0_8.index t0 a = 0) a) y)
theorem emb9 (y : S4x10x20.Idx) : ((cfg0.win 9).blk t0).view.emb y = y :=
  funext fun a => Fin.ext ((cfg0.win 9).rect_emb_val_of_index_zero t0 a ((by decide +kernel : ∀ a, win0_9.index t0 a = 0) a) y)
theorem iblk_eq0 : iblk m c 0 t0 = V m c main_v0 := funext fun y => congrArg (V m c main_v0) (emb0 y)
theorem iblk_eq1 : iblk m c 1 t0 = V m c main_arg1 := funext fun y => congrArg (V m c main_arg1) (emb1 y)
theorem iblk_eq2 : iblk m c 2 t0 = V m c main_arg2 := funext fun y => congrArg (V m c main_arg2) (emb2 y)
theorem iblk_eq3 : iblk m c 3 t0 = V m c main_arg3 := funext fun y => congrArg (V m c main_arg3) (emb3 y)
theorem iblk_eq4 : iblk m c 4 t0 = V m c main_arg4 := funext fun y => congrArg (V m c main_arg4) (emb4 y)
theorem iblk_eq5 : iblk m c 5 t0 = V m c main_arg5 := funext fun y => congrArg (V m c main_arg5) (emb5 y)

theorem V_v0 : V m c main_v0 = shapeCast S4x10x1280 (m ((c : Thread nD τ).loc main_arg0)) shapeCasts_S4x2x5x1x1280_S4x10x1280 := by
  show StableHlo.after _ _ (Proc.devRef .tc main_v0) = _
  after_reads_simp
  rfl

section Final
variable (m : (ℓ : Loc nD τ sig) → Buf (Elt Ideal) ℓ)
abbrev keyM : Fin 4 → Fin 10 → Fin 1280 → EReal :=
  keyAt (shapeCast S4x10x1280 (m ((c : Thread nD τ).loc main_arg0)) shapeCasts_S4x2x5x1x1280_S4x10x1280) (m ((c : Thread nD τ).loc main_arg1)) (m ((c : Thread nD τ).loc main_arg2))
    (m ((c : Thread nD τ).loc main_arg3)) (m ((c : Thread nD τ).loc main_arg4))
abbrev valM : Fin 4 → Fin 10 → Fin 1280 → EReal :=
  valAt (shapeCast S4x10x1280 (m ((c : Thread nD τ).loc main_arg0)) shapeCasts_S4x2x5x1x1280_S4x10x1280) (m ((c : Thread nD τ).loc main_arg1)) (m ((c : Thread nD τ).loc main_arg2))
    (m ((c : Thread nD τ).loc main_arg3)) (m ((c : Thread nD τ).loc main_arg4)) (m ((c : Thread nD τ).loc main_arg5))

/-! The arrays after the run, entry by entry over the arguments. -/
theorem kc_at (l : Fin 4) (i : Fin 10) (n : Fin 1280) : (dats m 0 c).arrAt 6 cfg0.N (ix3 l i n) = rowCode (keyM c m l i) n := by
  have h := Cert.KvRefIdeal.Value.blocks6 m c t0 rfl
  rw [Cert.KvRefIdeal.Value.flushed6, iblk_eq0, iblk_eq1, iblk_eq2, iblk_eq3, iblk_eq4, iblk_eq5, kc_out] at h
  have hB : kcAll (V m c main_v0) (V m c main_arg1) (V m c main_arg2) (V m c main_arg3) (V m c main_arg4) (ix3 l i n) = rowCode (keyM c m l i) n := by
    unfold kcAll
    rw [V_v0, V_main_arg1, V_main_arg2, V_main_arg3, V_main_arg4]
  refine Eq.trans ?_ hB
  generalize (dats m 0 c).arrAt 6 cfg0.N = A at h ⊢
  generalize kcAll (V m c main_v0) (V m c main_arg1) (V m c main_arg2) (V m c main_arg3) (V m c main_arg4) = B at h ⊢
  have hy : A (((cfg0.win 6).blk t0).view.emb (ix3 l i n)) = B (ix3 l i n) := congrFun h (ix3 l i n)
  rw [emb6] at hy
  exact hy
theorem ks_at (l : Fin 4) (i : Fin 10) (n : Fin 20) : (dats m 0 c).arrAt 7 cfg0.N (ix3 l i n) = rowScale (keyM c m l i) n.val n.isLt := by
  have h := Cert.KvRefIdeal.Value.blocks7 m c t0 rfl
  rw [Cert.KvRefIdeal.Value.flushed7, iblk_eq0, iblk_eq1, iblk_eq2, iblk_eq3, iblk_eq4, iblk_eq5, ks_out] at h
  have hB : ksAll (V m c main_v0) (V m c main_arg1) (V m c main_arg2) (V m c main_arg3) (V m c main_arg4) (ix3 l i n) = rowScale (keyM c m l i) n.val n.isLt := by
    unfold ksAll
    rw [V_v0, V_main_arg1, V_main_arg2, V_main_arg3, V_main_arg4]
  refine Eq.trans ?_ hB
  generalize (dats m 0 c).arrAt 7 cfg0.N = A at h ⊢
  generalize ksAll (V m c main_v0) (V m c main_arg1) (V m c main_arg2) (V m c main_arg3) (V m c main_arg4) = B at h ⊢
  have hy : A (((cfg0.win 7).blk t0).view.emb (ix3 l i n)) = B (ix3 l i n) := congrFun h (ix3 l i n)
  rw [emb7] at hy
  exact hy
theorem vc_at (l : Fin 4) (i : Fin 10) (n : Fin 1280) : (dats m 0 c).arrAt 8 cfg0.N (ix3 l i n) = rowCode (valM c m l i) n := by
  have h := Cert.KvRefIdeal.Value.blocks8 m c t0 rfl
  rw [Cert.KvRefIdeal.Value.flushed8, iblk_eq0, iblk_eq1, iblk_eq2, iblk_eq3, iblk_eq4, iblk_eq5, vc_out] at h
  have hB : vcAll (V m c main_v0) (V m c main_arg1) (V m c main_arg2) (V m c main_arg3) (V m c main_arg4) (V m c main_arg5) (ix3 l i n) = rowCode (valM c m l i) n := by
    unfold vcAll
    rw [V_v0, V_main_arg1, V_main_arg2, V_main_arg3, V_main_arg4, V_main_arg5]
  refine Eq.trans ?_ hB
  generalize (dats m 0 c).arrAt 8 cfg0.N = A at h ⊢
  generalize vcAll (V m c main_v0) (V m c main_arg1) (V m c main_arg2) (V m c main_arg3) (V m c main_arg4) (V m c main_arg5) = B at h ⊢
  have hy : A (((cfg0.win 8).blk t0).view.emb (ix3 l i n)) = B (ix3 l i n) := congrFun h (ix3 l i n)
  rw [emb8] at hy
  exact hy
theorem vs_at (l : Fin 4) (i : Fin 10) (n : Fin 20) : (dats m 0 c).arrAt 9 cfg0.N (ix3 l i n) = rowScale (valM c m l i) n.val n.isLt := by
  have h := Cert.KvRefIdeal.Value.blocks9 m c t0 rfl
  rw [Cert.KvRefIdeal.Value.flushed9, iblk_eq0, iblk_eq1, iblk_eq2, iblk_eq3, iblk_eq4, iblk_eq5, vs_out] at h
  have hB : vsAll (V m c main_v0) (V m c main_arg1) (V m c main_arg2) (V m c main_arg3) (V m c main_arg4) (V m c main_arg5) (ix3 l i n) = rowScale (valM c m l i) n.val n.isLt := by
    unfold vsAll
    rw [V_v0, V_main_arg1, V_main_arg2, V_main_arg3, V_main_arg4, V_main_arg5]
  refine Eq.trans ?_ hB
  generalize (dats m 0 c).arrAt 9 cfg0.N = A at h ⊢
  generalize vsAll (V m c main_v0) (V m c main_arg1) (V m c main_arg2) (V m c main_arg3) (V m c main_arg4) (V m c main_arg5) = B at h ⊢
  have hy : A (((cfg0.win 9).blk t0).view.emb (ix3 l i n)) = B (ix3 l i n) := congrFun h (ix3 l i n)
  rw [emb9] at hy
  exact hy
end Final

end Cert.KvRefIdeal.Ref

end
-- ==== Proof.lean ====
/-
  The proof of `Cert.Claim`: the two frames of the logits head are its launch (Proof/Hd/Run.lean), which Proof/HdI/Twin.lean
  reads over the idealized program; the reference's is the generated one, and the two results agree entry by entry
  (Proof/HdI/Final.lean, Proof/HdI/Ref.lean). Likewise of the MLP (Proof/Mp/Run.lean, Proof/MpI/) and of the keys and values
  (Proof/Kv/Run.lean, Proof/KvV/).
-/
module

public import proofs.«01_k».proof.Defs
public import proofs.«01_k».proof.Proof.Gen.HeadRefIdeal.Value
public import proofs.«01_k».proof.Proof.Hd.Run
public import proofs.«01_k».proof.Proof.Gen.HeadIdeal.Launch
public import proofs.«01_k».proof.Proof.HdI.Twin
public import proofs.«01_k».proof.Proof.HdI.Final
public import proofs.«01_k».proof.Proof.HdI.Ref
public import proofs.«01_k».proof.Proof.Gen.MlpRefIdeal.Value
public import proofs.«01_k».proof.Proof.Mp.Run
public import proofs.«01_k».proof.Proof.Gen.MlpIdeal.Launch
public import proofs.«01_k».proof.Proof.MpI.Twin
public import proofs.«01_k».proof.Proof.MpI.Final
public import proofs.«01_k».proof.Proof.MpI.Ref
public import proofs.«01_k».proof.Proof.Gen.KvIdeal.Launch
public import proofs.«01_k».proof.Proof.Gen.KvRefIdeal.Value
public import proofs.«01_k».proof.Proof.Kv.Run
public import proofs.«01_k».proof.Proof.KvV.Twin
public import proofs.«01_k».proof.Proof.KvV.Final
public import proofs.«01_k».proof.Proof.KvV.Ref
public import Idealize.ShloMosaic.Adequacy
public import Idealize.ShloMosaic.Init

@[expose] public section

noncomputable section

namespace Cert.Proof

open Idealize.ShloMosaic hiding ix1 ix2 ix3
open Idealize.ShloMosaic.ValueIdx Idealize.SL.Sem Idealize.ShloMosaic.TcCoe

/-- From equal arguments the two programs leave equal results. -/
theorem results_eq (m : (ℓ : Loc Cert.HeadIdeal.nD Cert.HeadIdeal.τ Cert.HeadIdeal.sig) → Buf (Elt Ideal) ℓ)
    (m' : (ℓ : Loc Cert.HeadRefIdeal.nD Cert.HeadRefIdeal.τ Cert.HeadRefIdeal.sig) → Buf (Elt Ideal) ℓ) (c : Dev Cert.HeadIdeal.nD)
    (h0 : m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0))
    (h1 : m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1))
    (h2 : m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2))
    (h3 : m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3))
    (h4 : m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4))
    (h5 : m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) :
    (Cert.HeadRefIdeal.Gen.dats (F := Ideal) m' 0 c).arrAt 6 Cert.HeadRefIdeal.cfg0.N = Cert.HeadIdeal.Twin.logits m c := by
  funext y
  have hy : y = ix2 (n0 := 10) (n1 := 51866) (y 0) (y 1) := by
    funext a; match a with
    | ⟨0, _⟩ => rfl
    | ⟨1, _⟩ => rfl
  rw [hy]
  refine (Cert.HeadRefIdeal.Ref.final_at m' c (y 0) (y 1)).trans ((Cert.Head.Ring.resF_at m c (y 0) (y 1)).trans ?_).symm
  rw [h0, h1, h2, h3, h4, h5]

/-- The same of the MLP's two programs. -/
theorem mlp_results_eq (m : (ℓ : Loc Cert.MlpIdeal.nD Cert.MlpIdeal.τ Cert.MlpIdeal.sig) → Buf (Elt Ideal) ℓ)
    (m' : (ℓ : Loc Cert.MlpRefIdeal.nD Cert.MlpRefIdeal.τ Cert.MlpRefIdeal.sig) → Buf (Elt Ideal) ℓ) (c : Dev Cert.MlpIdeal.nD)
    (h0 : m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0))
    (h1 : m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1))
    (h2 : m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2))
    (h3 : m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3))
    (h4 : m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4))
    (h5 : m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5))
    (h6 : m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6))
    (h7 : m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7))
    (h8 : m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) :
    (Cert.MlpRefIdeal.Gen.dats (F := Ideal) m' 0 c).arrAt 9 Cert.MlpRefIdeal.cfg0.N = Cert.MlpIdeal.Twin.resid m c := by
  funext y
  have hy : y = ix3 (n0 := 4) (n1 := 10) (n2 := 1280) (y 0) (y 1) (y 2) := by
    funext a; match a with
    | ⟨0, _⟩ => rfl
    | ⟨1, _⟩ => rfl
    | ⟨2, _⟩ => rfl
  rw [hy]
  refine (Cert.MlpRefIdeal.Ref.final_at c m' (y 0) (y 1) (y 2)).trans ((Cert.Mlp.Ring.resAt_at m c (y 0) (y 1) (y 2)).trans ?_).symm
  rw [h0, h1, h2, h3, h4, h5, h6, h7, h8]

/-- The keys and the values the two programs of the third slice quantise are the same of equal arguments. -/
theorem kv_rows_eq (m : (ℓ : Loc Cert.KvIdeal.nD Cert.KvIdeal.τ Cert.KvIdeal.sig) → Buf (Elt Ideal) ℓ)
    (m' : (ℓ : Loc Cert.KvRefIdeal.nD Cert.KvRefIdeal.τ Cert.KvRefIdeal.sig) → Buf (Elt Ideal) ℓ) (c : Dev Cert.KvIdeal.nD)
    (h0 : m' ((c.tc : Thread Cert.KvRefIdeal.nD Cert.KvRefIdeal.τ).loc Cert.KvRefIdeal.main_arg0) = m ((c.tc : Thread Cert.KvIdeal.nD Cert.KvIdeal.τ).loc Cert.KvIdeal.main_arg0))
    (h1 : m' ((c.tc : Thread Cert.KvRefIdeal.nD Cert.KvRefIdeal.τ).loc Cert.KvRefIdeal.main_arg1) = m ((c.tc : Thread Cert.KvIdeal.nD Cert.KvIdeal.τ).loc Cert.KvIdeal.main_arg1))
    (h2 : m' ((c.tc : Thread Cert.KvRefIdeal.nD Cert.KvRefIdeal.τ).loc Cert.KvRefIdeal.main_arg2) = m ((c.tc : Thread Cert.KvIdeal.nD Cert.KvIdeal.τ).loc Cert.KvIdeal.main_arg2))
    (h3 : m' ((c.tc : Thread Cert.KvRefIdeal.nD Cert.KvRefIdeal.τ).loc Cert.KvRefIdeal.main_arg3) = m ((c.tc : Thread Cert.KvIdeal.nD Cert.KvIdeal.τ).loc Cert.KvIdeal.main_arg3))
    (h4 : m' ((c.tc : Thread Cert.KvRefIdeal.nD Cert.KvRefIdeal.τ).loc Cert.KvRefIdeal.main_arg4) = m ((c.tc : Thread Cert.KvIdeal.nD Cert.KvIdeal.τ).loc Cert.KvIdeal.main_arg4))
    (h5 : m' ((c.tc : Thread Cert.KvRefIdeal.nD Cert.KvRefIdeal.τ).loc Cert.KvRefIdeal.main_arg5) = m ((c.tc : Thread Cert.KvIdeal.nD Cert.KvIdeal.τ).loc Cert.KvIdeal.main_arg5)) :
    Cert.KvRefIdeal.Ref.keyM c m' = Cert.Kv.Ring.keyM m c ∧ Cert.KvRefIdeal.Ref.valM c m' = Cert.Kv.Ring.valM m c := by
  unfold Cert.KvRefIdeal.Ref.keyM Cert.KvRefIdeal.Ref.valM
  rw [h0, h1, h2, h3, h4, h5]
  exact ⟨rfl, rfl⟩

/-- So their four results are equal: the keys' codes and scales, the values' codes and scales. -/
theorem kv_results_eq (m : (ℓ : Loc Cert.KvIdeal.nD Cert.KvIdeal.τ Cert.KvIdeal.sig) → Buf (Elt Ideal) ℓ)
    (m' : (ℓ : Loc Cert.KvRefIdeal.nD Cert.KvRefIdeal.τ Cert.KvRefIdeal.sig) → Buf (Elt Ideal) ℓ) (c : Dev Cert.KvIdeal.nD)
    (hK : Cert.KvRefIdeal.Ref.keyM c m' = Cert.Kv.Ring.keyM m c) (hV : Cert.KvRefIdeal.Ref.valM c m' = Cert.Kv.Ring.valM m c) :
    (Cert.KvRefIdeal.Gen.dats (F := Ideal) m' 0 c).arrAt 6 Cert.KvRefIdeal.cfg0.N = Cert.KvIdeal.Twin.kcO m c
      ∧ (Cert.KvRefIdeal.Gen.dats (F := Ideal) m' 0 c).arrAt 7 Cert.KvRefIdeal.cfg0.N = Cert.KvIdeal.Twin.ksO m c
      ∧ (Cert.KvRefIdeal.Gen.dats (F := Ideal) m' 0 c).arrAt 8 Cert.KvRefIdeal.cfg0.N = Cert.KvIdeal.Twin.vcO m c
      ∧ (Cert.KvRefIdeal.Gen.dats (F := Ideal) m' 0 c).arrAt 9 Cert.KvRefIdeal.cfg0.N = Cert.KvIdeal.Twin.vsO m c := by
  have hy {n : ℕ} (y : (⟨3, ![4, 10, n]⟩ : Shape).Idx) : y = ix3 (n0 := 4) (n1 := 10) (n2 := n) (y 0) (y 1) (y 2) := by
    funext a; match a with
    | ⟨0, _⟩ => rfl
    | ⟨1, _⟩ => rfl
    | ⟨2, _⟩ => rfl
  refine ⟨?_, ?_, ?_, ?_⟩
  · funext (y : (⟨3, ![4, 10, 1280]⟩ : Shape).Idx)
    rw [hy y]
    exact (Cert.KvRefIdeal.Ref.kc_at c m' (y 0) (y 1) (y 2)).trans ((congrArg (fun (X : Fin 4 → Fin 10 → Fin 1280 → EReal) => Cert.KvPure.rowCode (X (y 0) (y 1)) (y 2)) hK).trans
      (Cert.Kv.Ring.res5_at m c (y 0) (y 1) (y 2)).symm)
  · funext (y : (⟨3, ![4, 10, 20]⟩ : Shape).Idx)
    rw [hy y]
    exact (Cert.KvRefIdeal.Ref.ks_at c m' (y 0) (y 1) (y 2)).trans ((congrArg (fun (X : Fin 4 → Fin 10 → Fin 1280 → EReal) => Cert.KvPure.rowScale (X (y 0) (y 1)) (y 2).val (y 2).isLt) hK).trans
      (Cert.Kv.Ring.res6_at m c (y 0) (y 1) (y 2)).symm)
  · funext (y : (⟨3, ![4, 10, 1280]⟩ : Shape).Idx)
    rw [hy y]
    exact (Cert.KvRefIdeal.Ref.vc_at c m' (y 0) (y 1) (y 2)).trans ((congrArg (fun (X : Fin 4 → Fin 10 → Fin 1280 → EReal) => Cert.KvPure.rowCode (X (y 0) (y 1)) (y 2)) hV).trans
      (Cert.Kv.Ring.res7_at m c (y 0) (y 1) (y 2)).symm)
  · funext (y : (⟨3, ![4, 10, 20]⟩ : Shape).Idx)
    rw [hy y]
    exact (Cert.KvRefIdeal.Ref.vs_at c m' (y 0) (y 1) (y 2)).trans ((congrArg (fun (X : Fin 4 → Fin 10 → Fin 1280 → EReal) => Cert.KvPure.rowScale (X (y 0) (y 1)) (y 2).val (y 2).isLt) hV).trans
      (Cert.Kv.Ring.res8_at m c (y 0) (y 1) (y 2)).symm)

theorem claim : Cert.Claim :=
  ⟨Cert.Head.Gen.facts, Cert.HeadIdeal.Gen.facts, Cert.HeadRefIdeal.Gen.facts, Cert.Mlp.Gen.facts, Cert.MlpIdeal.Gen.facts, Cert.MlpRefIdeal.Gen.facts,
    Cert.Kv.Gen.facts, Cert.KvIdeal.Gen.facts, Cert.KvRefIdeal.Gen.facts,
    fun m ρ _ => (θ_run _ _ _).mono (fun _ h => ⟨fun c => (h.1 c).2, h.2⟩) (Cert.Head.Ring.run m ρ),
    fun m ρ _ => (θ_run _ _ _).mono (fun _ h => ⟨fun c => (h.1 c).2, h.2⟩) (Cert.HeadIdeal.Twin.run m ρ),
    fun m ρ _ => Cert.HeadRefIdeal.Gen.frame m ρ,
    fun m ρ _ => (θ_run _ _ _).mono (fun _ h => ⟨fun c => (h.1 c).2, h.2⟩) (Cert.Mlp.Ring.run m ρ),
    fun m ρ _ => (θ_run _ _ _).mono (fun _ h => ⟨fun c => (h.1 c).2, h.2⟩) (Cert.MlpIdeal.Twin.run m ρ),
    fun m ρ _ => Cert.MlpRefIdeal.Gen.frame m ρ,
    fun m ρ _ => (θ_run _ _ _).mono (fun _ h => ⟨fun c => (h.1 c).2.2.2.2, h.2⟩) (Cert.Kv.Ring.run m ρ),
    fun m ρ _ => (θ_run _ _ _).mono (fun _ h => ⟨fun c => (h.1 c).2.2.2.2, h.2⟩) (Cert.KvIdeal.Twin.run m ρ),
    fun m ρ _ => Cert.KvRefIdeal.Gen.frame m ρ,
    trivial,
    fun m ρ m' ρ' _ hargs => ⟨fun c => Cert.HeadIdeal.Twin.logits m c,
      (θ_run _ _ _).mono (fun _ h => h.1) (Cert.HeadIdeal.Twin.run m ρ),
      (θ_run _ _ _).mono (fun _ h c => ⟨(h c).1.trans (by
          obtain ⟨h0, h1, h2, h3, h4, h5⟩ := hargs c
          exact results_eq m m' c h0 h1 h2 h3 h4 h5), (h c).2⟩) (Cert.HeadRefIdeal.Value.run_blocks m' ρ')⟩,
    trivial,
    fun m ρ m' ρ' _ hargs => ⟨fun c => Cert.MlpIdeal.Twin.resid m c,
      (θ_run _ _ _).mono (fun _ h => h.1) (Cert.MlpIdeal.Twin.run m ρ),
      (θ_run _ _ _).mono (fun _ h c => ⟨(h c).1.trans (by
          obtain ⟨h0, h1, h2, h3, h4, h5, h6, h7, h8⟩ := hargs c
          exact mlp_results_eq m m' c h0 h1 h2 h3 h4 h5 h6 h7 h8), (h c).2⟩) (Cert.MlpRefIdeal.Value.run_blocks m' ρ')⟩,
    trivial,
    fun m ρ m' ρ' _ hargs => ⟨fun c => Cert.KvIdeal.Twin.kcO m c, fun c => Cert.KvIdeal.Twin.ksO m c, fun c => Cert.KvIdeal.Twin.vcO m c,
      fun c => Cert.KvIdeal.Twin.vsO m c,
      (θ_run _ _ _).mono (fun _ h => h.1) (Cert.KvIdeal.Twin.run m ρ),
      (θ_run _ _ _).mono (fun _ h c => by
          obtain ⟨h0, h1, h2, h3, h4, h5⟩ := hargs c
          obtain ⟨hK, hV⟩ := kv_rows_eq m m' c h0 h1 h2 h3 h4 h5
          obtain ⟨e6, e7, e8, e9⟩ := kv_results_eq m m' c hK hV
          obtain ⟨r6, r7, r8, r9, hr⟩ := h c
          exact ⟨r6.trans e6, r7.trans e7, r8.trans e8, r9.trans e9, hr⟩) (Cert.KvRefIdeal.Value.run_blocks m' ρ')⟩⟩

end Cert.Proof

end
